-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def preserves_Kernel_KernelIdeal : Prop :=
  True

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)) (v1 : (c : Dev Cert.FfnIdeal.nD) → Buf (Elt Ideal) ((c.tc : Thread Cert.FfnIdeal.nD Cert.FfnIdeal.τ).loc Cert.FfnIdeal.main_v3)) (v2 : (c : Dev Cert.FfnIdeal.nD) → Buf (Elt Ideal) ((c.tc : Thread Cert.FfnIdeal.nD Cert.FfnIdeal.τ).loc Cert.FfnIdeal.main_v4)) (v3 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_v3) = v1 c
          ∧ r.2.mem ((c.tc : Thread Cert.FfnIdeal.nD Cert.FfnIdeal.τ).loc Cert.FfnIdeal.main_v4) = v2 c
          ∧ r.2.mem ((c.tc : Thread Cert.FfnIdeal.nD Cert.FfnIdeal.τ).loc Cert.FfnIdeal.main_v1) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_v20) = v1 c
          ∧ r.2.mem ((c.tc : Thread Cert.FfnRefIdeal.nD Cert.FfnRefIdeal.τ).loc Cert.FfnRefIdeal.main_v16) = v2 c
          ∧ r.2.mem ((c.tc : Thread Cert.FfnRefIdeal.nD Cert.FfnRefIdeal.τ).loc Cert.FfnRefIdeal.main_v11) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Norm_NormIdeal : Prop :=
  IdealRules.named_const.Statement Cert.NormIdeal.κ "alpha" .f32 0x3FD744FD#32 ((Real.sqrt (Real.sqrt 8) : ℝ) : EReal)

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v0_1)) (v1 : (c : Dev Cert.NormIdeal.nD) → Buf (Elt Ideal) ((c.tc : Thread Cert.NormIdeal.nD Cert.NormIdeal.τ).loc Cert.NormIdeal.main_v0_2)) (v2 : (c : Dev Cert.NormIdeal.nD) → Buf (Elt Ideal) ((c.tc : Thread Cert.NormIdeal.nD Cert.NormIdeal.τ).loc Cert.NormIdeal.main_v1_0)) (v3 : (c : Dev Cert.NormIdeal.nD) → Buf (Elt Ideal) ((c.tc : Thread Cert.NormIdeal.nD Cert.NormIdeal.τ).loc Cert.NormIdeal.main_v1_1)) (v4 : (c : Dev Cert.NormIdeal.nD) → Buf (Elt Ideal) ((c.tc : Thread Cert.NormIdeal.nD Cert.NormIdeal.τ).loc Cert.NormIdeal.main_v1_2)) (v5 : (c : Dev Cert.NormIdeal.nD) → Buf (Elt Ideal) ((c.tc : Thread Cert.NormIdeal.nD Cert.NormIdeal.τ).loc Cert.NormIdeal.main_v1_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_1) = v0 c
          ∧ r.2.mem ((c.tc : Thread Cert.NormIdeal.nD Cert.NormIdeal.τ).loc Cert.NormIdeal.main_v0_2) = v1 c
          ∧ r.2.mem ((c.tc : Thread Cert.NormIdeal.nD Cert.NormIdeal.τ).loc Cert.NormIdeal.main_v1_0) = v2 c
          ∧ r.2.mem ((c.tc : Thread Cert.NormIdeal.nD Cert.NormIdeal.τ).loc Cert.NormIdeal.main_v1_1) = v3 c
          ∧ r.2.mem ((c.tc : Thread Cert.NormIdeal.nD Cert.NormIdeal.τ).loc Cert.NormIdeal.main_v1_2) = v4 c
          ∧ r.2.mem ((c.tc : Thread Cert.NormIdeal.nD Cert.NormIdeal.τ).loc Cert.NormIdeal.main_v1_3) = v5 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v73) = v1 c
          ∧ r.2.mem ((c.tc : Thread Cert.NormRefIdeal.nD Cert.NormRefIdeal.τ).loc Cert.NormRefIdeal.main_v72) = v2 c
          ∧ r.2.mem ((c.tc : Thread Cert.NormRefIdeal.nD Cert.NormRefIdeal.τ).loc Cert.NormRefIdeal.main_v74) = v3 c
          ∧ r.2.mem ((c.tc : Thread Cert.NormRefIdeal.nD Cert.NormRefIdeal.τ).loc Cert.NormRefIdeal.main_v42) = v4 c
          ∧ r.2.mem ((c.tc : Thread Cert.NormRefIdeal.nD Cert.NormRefIdeal.τ).loc Cert.NormRefIdeal.main_v39) = v5 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v0)) (v1 : (c : Dev Cert.ProjIdeal.nD) → Buf (Elt Ideal) ((c.tc : Thread Cert.ProjIdeal.nD Cert.ProjIdeal.τ).loc Cert.ProjIdeal.main_v3)) (v2 : (c : Dev Cert.ProjIdeal.nD) → Buf (Elt Ideal) ((c.tc : Thread Cert.ProjIdeal.nD Cert.ProjIdeal.τ).loc Cert.ProjIdeal.main_v4)) (v3 : (c : Dev Cert.ProjIdeal.nD) → Buf (Elt Ideal) ((c.tc : Thread Cert.ProjIdeal.nD Cert.ProjIdeal.τ).loc Cert.ProjIdeal.main_v1)) (v4 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_v3) = v1 c
          ∧ r.2.mem ((c.tc : Thread Cert.ProjIdeal.nD Cert.ProjIdeal.τ).loc Cert.ProjIdeal.main_v4) = v2 c
          ∧ r.2.mem ((c.tc : Thread Cert.ProjIdeal.nD Cert.ProjIdeal.τ).loc Cert.ProjIdeal.main_v1) = v3 c
          ∧ r.2.mem ((c.tc : Thread Cert.ProjIdeal.nD Cert.ProjIdeal.τ).loc Cert.ProjIdeal.main_v2) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_v5) = v1 c
          ∧ r.2.mem ((c.tc : Thread Cert.ProjRefIdeal.nD Cert.ProjRefIdeal.τ).loc Cert.ProjRefIdeal.main_v14) = v2 c
          ∧ r.2.mem ((c.tc : Thread Cert.ProjRefIdeal.nD Cert.ProjRefIdeal.τ).loc Cert.ProjRefIdeal.main_v12) = v3 c
          ∧ r.2.mem ((c.tc : Thread Cert.ProjRefIdeal.nD Cert.ProjRefIdeal.τ).loc Cert.ProjRefIdeal.main_v13) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Mix_MixIdeal : Prop :=
  IdealRules.named_const.Statement Cert.MixIdeal.κ "alpha" .f32 0x3FD744FD#32 ((Real.sqrt (Real.sqrt 8) : ℝ) : EReal)

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0_1)) (v1 : (c : Dev Cert.MixIdeal.nD) → Buf (Elt Ideal) ((c.tc : Thread Cert.MixIdeal.nD Cert.MixIdeal.τ).loc Cert.MixIdeal.main_v0_2)) (v2 : (c : Dev Cert.MixIdeal.nD) → Buf (Elt Ideal) ((c.tc : Thread Cert.MixIdeal.nD Cert.MixIdeal.τ).loc Cert.MixIdeal.main_v1_0)) (v3 : (c : Dev Cert.MixIdeal.nD) → Buf (Elt Ideal) ((c.tc : Thread Cert.MixIdeal.nD Cert.MixIdeal.τ).loc Cert.MixIdeal.main_v1_1)) (v4 : (c : Dev Cert.MixIdeal.nD) → Buf (Elt Ideal) ((c.tc : Thread Cert.MixIdeal.nD Cert.MixIdeal.τ).loc Cert.MixIdeal.main_v1_2)) (v5 : (c : Dev Cert.MixIdeal.nD) → Buf (Elt Ideal) ((c.tc : Thread Cert.MixIdeal.nD Cert.MixIdeal.τ).loc Cert.MixIdeal.main_v1_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_1) = v0 c
          ∧ r.2.mem ((c.tc : Thread Cert.MixIdeal.nD Cert.MixIdeal.τ).loc Cert.MixIdeal.main_v0_2) = v1 c
          ∧ r.2.mem ((c.tc : Thread Cert.MixIdeal.nD Cert.MixIdeal.τ).loc Cert.MixIdeal.main_v1_0) = v2 c
          ∧ r.2.mem ((c.tc : Thread Cert.MixIdeal.nD Cert.MixIdeal.τ).loc Cert.MixIdeal.main_v1_1) = v3 c
          ∧ r.2.mem ((c.tc : Thread Cert.MixIdeal.nD Cert.MixIdeal.τ).loc Cert.MixIdeal.main_v1_2) = v4 c
          ∧ r.2.mem ((c.tc : Thread Cert.MixIdeal.nD Cert.MixIdeal.τ).loc Cert.MixIdeal.main_v1_3) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v34) = v0 c
          ∧ r.2.mem ((c.tc : Thread Cert.MixRefIdeal.nD Cert.MixRefIdeal.τ).loc Cert.MixRefIdeal.main_v69) = v1 c
          ∧ r.2.mem ((c.tc : Thread Cert.MixRefIdeal.nD Cert.MixRefIdeal.τ).loc Cert.MixRefIdeal.main_v68) = v2 c
          ∧ r.2.mem ((c.tc : Thread Cert.MixRefIdeal.nD Cert.MixRefIdeal.τ).loc Cert.MixRefIdeal.main_v70) = v3 c
          ∧ r.2.mem ((c.tc : Thread Cert.MixRefIdeal.nD Cert.MixRefIdeal.τ).loc Cert.MixRefIdeal.main_v40) = v4 c
          ∧ r.2.mem ((c.tc : Thread Cert.MixRefIdeal.nD Cert.MixRefIdeal.τ).loc Cert.MixRefIdeal.main_v37) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hNorm : Cert.Norm.Facts) (hNormIdeal : Cert.NormIdeal.Facts) (hNormRefIdeal : Cert.NormRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hPre_finite : Cert.Pre_finite.Facts) (hPre_finite_norm : Cert.Pre_finite_norm.Facts) (hPre_finite_mix : Cert.Pre_finite_mix.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ preserves_Kernel_KernelIdeal
    ∧ preserves_Ffn_FfnIdeal
    ∧ algebraic_FfnIdeal_FfnRefIdeal_pre_finite (hFfnIdeal := hFfnIdeal) (hFfnRefIdeal := hFfnRefIdeal) (hPre_finite := hPre_finite)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal_pre_finite_mix (hMixIdeal := hMixIdeal) (hMixRefIdeal := hMixRefIdeal) (hPre_finite_mix := hPre_finite_mix)
-- ==== Pre_finite.lean ====
abbrev S4160x1024 : Shape := ⟨2, ![4160, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S4160x1024 : S_.BroadcastsInDim S4160x1024 (![] : Fin 0 → Fin S4160x1024.rank)
  reducesTo_S4160x1024_S_d0_1 : S4160x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v16 : IVec S_ 1) (main_v17 : FVec F S4160x1024 .f32) : IVec S_ 1 :=
  let main_v18 : FVec F S4160x1024 .f32 := Host.absf main_v17
  let main_cst_4 : FVec F S_ .f32 := constant S_ .f32 0x7F800000#32
  let main_v19 : FVec F S4160x1024 .f32 := broadcastInDim S4160x1024 ![] bcast_S_S4160x1024 main_cst_4
  let main_v20 : IVec S4160x1024 1 := cmpf .olt main_v18 main_v19
  let main_c_5 : IVec S_ 1 := constantI S_ 1 1#1
  let main_v21 : IVec S_ 1 := (fun x v => Host.reduce IntOp.andi x v reducesTo_S4160x1024_S_d0_1 h_S_) main_v20 main_c_5
  let main_v22 : IVec S_ 1 := andi main_v16 main_v21
  main_v22

def fn {F : FTy → Type} [FloatOps F] (main_arg0 : FVec F S4160x1024 .bf16) (main_arg1 : FVec F S1024x2816 .bf16) (main_arg2 : FVec F S1024x2816 .bf16) (main_arg3 : FVec F S2816x1024 .bf16) (main_arg4 : FVec F S4160x1024 .bf16) (main_arg5 : FVec F S4160x1024 .f32) : IVec S_ 1 :=
  let main_v0 : FVec F S4160x1024 .f32 := (extf .f32 · bitsLt_bf16_f32) main_arg0
  let main_v1 : FVec F S4160x1024 .f32 := Host.absf main_v0
  let main_cst : FVec F S_ .f32 := constant S_ .f32 0x7F800000#32
  let main_v2 : FVec F S4160x1024 .f32 := broadcastInDim S4160x1024 ![] bcast_S_S4160x1024 main_cst
  let main_v3 : IVec S4160x1024 1 := cmpf .olt main_v1 main_v2
  let main_c : IVec S_ 1 := constantI S_ 1 1#1
  let main_v4 : IVec S_ 1 := (fun x v => Host.reduce IntOp.andi x v reducesTo_S4160x1024_S_d0_1 h_S_) main_v3 main_c
  let main_v5 : FVec F S1024x2816 .f32 := (extf .f32 · bitsLt_bf16_f32) main_arg2
  let main_v6 : FVec F S1024x2816 .f32 := Host.absf main_v5
  let main_cst_0 : FVec F S_ .f32 := constant S_ .f32 0x7F800000#32
  let main_v7 : FVec F S1024x2816 .f32 := broadcastInDim S1024x2816 ![] bcast_S_S1024x2816 main_cst_0
  let main_v8 : IVec S1024x2816 1 := cmpf .olt main_v6 main_v7
  let main_c_1 : IVec S_ 1 := constantI S_ 1 1#1
  let main_v9 : IVec S_ 1 := (fun x v => Host.reduce IntOp.andi x v reducesTo_S1024x2816_S_d0_1 h_S_) main_v8 main_c_1
  let main_v10 : IVec S_ 1 := andi main_v4 main_v9
  let main_v11 : FVec F S2816x1024 .f32 := (extf .f32 · bitsLt_bf16_f32) main_arg3
  let main_v12 : FVec F S2816x1024 .f32 := Host.absf main_v11
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  let main_c_3 : IVec S_ 1 := constantI S_ 1 1#1
  let main_v15 : IVec S_ 1 := (fun x v => Host.reduce IntOp.andi x v reducesTo_S2816x1024_S_d0_1 h_S_) main_v14 main_c_3
  let main_v16 : IVec S_ 1 := andi main_v10 main_v15
  let main_v17 : FVec F S4160x1024 .f32 := (extf .f32 · bitsLt_bf16_f32) main_arg4
  fn_part1 (F := F) main_v16 main_v17
-- ==== Pre_finite_mix.lean ====
abbrev S4160x1024 : Shape := ⟨2, ![4160, 1024]⟩
abbrev S1024x1024 : Shape := ⟨2, ![1024, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S4160x1024 : S_.BroadcastsInDim S4160x1024 (![] : Fin 0 → Fin S4160x1024.rank)
  reducesTo_S4160x1024_S_d0_1 : S4160x1024.ReducesTo [0, 1] S_

variable [Facts]

def fn {F : FTy → Type} [FloatOps F] (main_arg0 : FVec F S4160x1024 .bf16) (main_arg1 : FVec F S1024x1024 .bf16) (main_arg2 : FVec F S4160x1024 .f32) (main_arg3 : FVec F S1x1024 .f32) (main_arg4 : FVec F S1x1024 .f32) (main_arg5 : FVec F S4160x1024 .f32) : IVec S_ 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S4160x1024 .f32 := Host.absf main_arg5
  let main_cst_0 : FVec F S_ .f32 := constant S_ .f32 0x7F800000#32
  let main_v5 : FVec F S4160x1024 .f32 := broadcastInDim S4160x1024 ![] bcast_S_S4160x1024 main_cst_0
  let main_v6 : IVec S4160x1024 1 := cmpf .olt main_v4 main_v5
  let main_c_1 : IVec S_ 1 := constantI S_ 1 1#1
  let main_v7 : IVec S_ 1 := (fun x v => Host.reduce IntOp.andi x v reducesTo_S4160x1024_S_d0_1 h_S_) main_v6 main_c_1
  let main_v8 : IVec S_ 1 := andi main_v3 main_v7
  main_v8
-- ==== Pre_finite_norm.lean ====
abbrev S4160x2816 : Shape := ⟨2, ![4160, 2816]⟩
abbrev S2816x1024 : Shape := ⟨2, ![2816, 1024]⟩
abbrev S4160x1024 : Shape := ⟨2, ![4160, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S4160x1024 : S_.BroadcastsInDim S4160x1024 (![] : Fin 0 → Fin S4160x1024.rank)
  reducesTo_S4160x1024_S_d0_1 : S4160x1024.ReducesTo [0, 1] S_

variable [Facts]

def fn {F : FTy → Type} [FloatOps F] (main_arg0 : FVec F S4160x2816 .bf16) (main_arg1 : FVec F S2816x1024 .bf16) (main_arg2 : FVec F S4160x1024 .f32) (main_arg3 : FVec F S1x1024 .f32) (main_arg4 : FVec F S1x1024 .f32) (main_arg5 : FVec F S4160x1024 .f32) : IVec S_ 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S4160x1024 .f32 := Host.absf main_arg5
  let main_cst_0 : FVec F S_ .f32 := constant S_ .f32 0x7F800000#32
  let main_v5 : FVec F S4160x1024 .f32 := broadcastInDim S4160x1024 ![] bcast_S_S4160x1024 main_cst_0
  let main_v6 : IVec S4160x1024 1 := cmpf .olt main_v4 main_v5
  let main_c_1 : IVec S_ 1 := constantI S_ 1 1#1
  let main_v7 : IVec S_ 1 := (fun x v => Host.reduce IntOp.andi x v reducesTo_S4160x1024_S_d0_1 h_S_) main_v6 main_c_1
  let main_v8 : IVec S_ 1 := andi main_v3 main_v7
  main_v8
-- ==== Kernel.lean ====
abbrev S4160x1792 : Shape := ⟨2, ![4160, 1792]⟩
abbrev S4160x2944 : Shape := ⟨2, ![4160, 2944]⟩
abbrev S4160x1024 : Shape := ⟨2, ![4160, 1024]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x256 : Shape := ⟨2, ![1, 256]⟩
abbrev S4160x256 : Shape := ⟨2, ![4160, 256]⟩
abbrev S832x256 : Shape := ⟨2, ![832, 256]⟩
abbrev S8x256 : Shape := ⟨2, ![8, 256]⟩
abbrev S840x256 : Shape := ⟨2, ![840, 256]⟩

abbrev nBuf : Space → Nat
  | .hbm => 109
  | .vmem => 46
  | .smem => 0
  | _ => 0

abbrev bufTy : (tb : Table) → Fin (tcTables nBuf tb) → BufTy
  | .hbm, ⟨0, _⟩ => ⟨S4160x1792, .f32⟩
  | .hbm, ⟨1, _⟩ => ⟨S4160x2944, .f32⟩
  | .hbm, ⟨2, _⟩ => ⟨S4160x1024, .f32⟩
  | .hbm, ⟨3, _⟩ => ⟨S4x64x64, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256x256, .f32⟩
  | .hbm, ⟨10, _⟩ => ⟨S1x64x64, .f32⟩
  | .hbm, ⟨11, _⟩ => ⟨S64x64, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S256x256, .f32⟩
  | .hbm, ⟨18, _⟩ => ⟨S1x64x64, .f32⟩
  | .hbm, ⟨19, _⟩ => ⟨S64x64, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S256x256, .f32⟩
  | .hbm, ⟨26, _⟩ => ⟨S1x64x64, .f32⟩
  | .hbm, ⟨27, _⟩ => ⟨S64x64, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S256x256, .f32⟩
  | .hbm, ⟨34, _⟩ => ⟨S1x64x64, .f32⟩
  | .hbm, ⟨35, _⟩ => ⟨S64x64, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S256x256, .f32⟩
  | .hbm, ⟨42, _⟩ => ⟨S1x256, .f32⟩
  | .hbm, ⟨43, _⟩ => ⟨S_, .f32⟩
  | .hbm, ⟨44, _⟩ => ⟨S256x256, .f32⟩
  | .hbm, ⟨45, _⟩ => ⟨S1x64x64, .f32⟩
  | .hbm, ⟨46, _⟩ => ⟨S64x64, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S256x256, .f32⟩
  | .hbm, ⟨53, _⟩ => ⟨S1x64x64, .f32⟩
  | .hbm, ⟨54, _⟩ => ⟨S64x64, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S256x256, .f32⟩
  | .hbm, ⟨61, _⟩ => ⟨S1x64x64, .f32⟩
  | .hbm, ⟨62, _⟩ => ⟨S64x64, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S256x256, .f32⟩
  | .hbm, ⟨69, _⟩ => ⟨S1x64x64, .f32⟩
  | .hbm, ⟨70, _⟩ => ⟨S64x64, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S256x256, .f32⟩
  | .hbm, ⟨77, _⟩ => ⟨S1x256, .f32⟩
  | .hbm, ⟨78, _⟩ => ⟨S1x256, .f32⟩
  | .hbm, ⟨79, _⟩ => ⟨S4160x256, .bf16⟩
  | .hbm, ⟨80, _⟩ => ⟨S4160x256, .f32⟩
  | .hbm, ⟨81, _⟩ => ⟨S4160x256, .f32⟩
  | .hbm, ⟨82, _⟩ => ⟨S4160x256, .bf16⟩
  | .hbm, ⟨83, _⟩ => ⟨S256x256, .f32⟩
  | .hbm, ⟨84, _⟩ => ⟨S1x256, .f32⟩
  | .hbm, ⟨85, _⟩ => ⟨S256x256, .f32⟩
  | .hbm, ⟨86, _⟩ => ⟨S1x256, .f32⟩
  | .hbm, ⟨87, _⟩ => ⟨S1x256, .f32⟩
  | .hbm, ⟨88, _⟩ => ⟨S64x64, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S1x64x64, .f32⟩
  | .hbm, ⟨93, _⟩ => ⟨S1x64x64, .f32⟩
  | .hbm, ⟨94, _⟩ => ⟨S1x64x64, .f32⟩
  | .hbm, ⟨95, _⟩ => ⟨S1x64x64, .f32⟩
  | .hbm, ⟨96, _⟩ => ⟨S4x64x64, .f32⟩
  | .hbm, ⟨97, _⟩ => ⟨S256, .f32⟩
  | .hbm, ⟨98, _⟩ => ⟨S64x64, .f32⟩
  | .hbm, ⟨99, _⟩ => ⟨S64x64, .f32⟩
  | .hbm, ⟨100, _⟩ => ⟨S64x64, .f32⟩
  | .hbm, ⟨101, _⟩ => ⟨S64x64, .f32⟩
  | .hbm, ⟨102, _⟩ => ⟨S1x64x64, .f32⟩
  | .hbm, ⟨103, _⟩ => ⟨S1x64x64, .f32⟩
  | .hbm, ⟨104, _⟩ => ⟨S1x64x64, .f32⟩
  | .hbm, ⟨105, _⟩ => ⟨S1x64x64, .f32⟩
  | .hbm, ⟨106, _⟩ => ⟨S4x64x64, .f32⟩
  | .hbm, ⟨107, _⟩ => ⟨S256, .f32⟩
  | .hbm, ⟨108, _⟩ => ⟨S256, .f32⟩
  | .local _ .vmem, ⟨0, _⟩ => ⟨S832x256, .f32⟩
  | .local _ .vmem, ⟨1, _⟩ => ⟨S832x256, .f32⟩
  | .local _ .vmem, ⟨2, _⟩ => ⟨S832x256, .f32⟩
  | .local _ .vmem, ⟨3, _⟩ => ⟨S832x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S832x256, .bf16⟩
  | .local _ .vmem, ⟨10, _⟩ => ⟨S832x256, .bf16⟩
  | .local _ .vmem, ⟨11, _⟩ => ⟨S832x256, .f32⟩
  | .local _ .vmem, ⟨12, _⟩ => ⟨S832x256, .f32⟩
  | .local _ .vmem, ⟨13, _⟩ => ⟨S832x256, .f32⟩
  | .local _ .vmem, ⟨14, _⟩ => ⟨S832x256, .f32⟩
  | .local _ .vmem, ⟨15, _⟩ => ⟨S8x256, .f32⟩
  | .local _ .vmem, ⟨16, _⟩ => ⟨S832x256, .f32⟩
  | .local _ .vmem, ⟨17, _⟩ => ⟨S832x256, .f32⟩
  | .local _ .vmem, ⟨18, _⟩ => ⟨S832x256, .f32⟩
  | .local _ .vmem, ⟨19, _⟩ => ⟨S832x256, .f32⟩
  | .local _ .vmem, ⟨20, _⟩ => ⟨S832x256, .f32⟩
  | .local _ .vmem, ⟨21, _⟩ => ⟨S832x256, .f32⟩
  | .local _ .vmem, ⟨22, _⟩ => ⟨S8x256, .f32⟩
  | .local _ .vmem, ⟨23, _⟩ => ⟨S8x256, .f32⟩
  | .local _ .vmem, ⟨24, _⟩ => ⟨S832x256, .f32⟩
  | .local _ .vmem, ⟨25, _⟩ => ⟨S832x256, .f32⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S1x256, .f32⟩
  | .local _ .vmem, ⟨31, _⟩ => ⟨S832x256, .f32⟩
  | .local _ .vmem, ⟨32, _⟩ => ⟨S832x256, .f32⟩
  | .local _ .vmem, ⟨33, _⟩ => ⟨S832x256, .bf16⟩
  | .local _ .vmem, ⟨34, _⟩ => ⟨S832x256, .bf16⟩
  | .local _ .vmem, ⟨35, _⟩ => ⟨S256x256, .f32⟩
  | .local _ .vmem, ⟨36, _⟩ => ⟨S1x256, .f32⟩
  | .local _ .vmem, ⟨37, _⟩ => ⟨S256x256, .f32⟩
  | .local _ .vmem, ⟨38, _⟩ => ⟨S1x256, .f32⟩
  | .local _ .vmem, ⟨39, _⟩ => ⟨S1x256, .f32⟩
  | .local _ .vmem, ⟨40, _⟩ => ⟨S832x256, .f32⟩
  | .local _ .vmem, ⟨41, _⟩ => ⟨S832x256, .f32⟩
  | .local _ .vmem, ⟨42, _⟩ => ⟨S832x256, .f32⟩
  | .local _ .vmem, ⟨43, _⟩ => ⟨S832x256, .f32⟩
  | .local _ .vmem, ⟨44, _⟩ => ⟨S840x256, .f32⟩
  | .local _ .vmem, ⟨45, _⟩ => ⟨S8x256, .f32⟩
  | _, _ => ⟨S4160x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_c_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_c_11 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_14 : Ref sig .tc := ⟨.hbm, 71, rfl⟩
abbrev main_v47 : Ref sig .tc := ⟨.hbm, 72, rfl⟩
abbrev main_c_15 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53_0 : Ref sig .tc := ⟨.hbm, 79, rfl⟩
abbrev main_v53_1 : Ref sig .tc := ⟨.hbm, 80, rfl⟩
abbrev main_v54_0 : Ref sig .tc := ⟨.hbm, 81, rfl⟩
abbrev main_v54_1 : Ref sig .tc := ⟨.hbm, 82, rfl⟩
abbrev main_v54_2 : Ref sig .tc := ⟨.hbm, 83, rfl⟩
abbrev main_v54_3 : Ref sig .tc := ⟨.hbm, 84, rfl⟩
abbrev main_v54_4 : Ref sig .tc := ⟨.hbm, 85, rfl⟩
abbrev main_v54_5 : Ref sig .tc := ⟨.hbm, 86, rfl⟩
abbrev main_v54_6 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc1_stg13_0 : Ref sig .tc := ⟨.vmem, 36, rfl⟩
abbrev cc1_stg14_0 : Ref sig .tc := ⟨.vmem, 37, rfl⟩
abbrev cc1_stg15_0 : Ref sig .tc := ⟨.vmem, 38, rfl⟩
abbrev cc1_stg16_0 : Ref sig .tc := ⟨.vmem, 39, rfl⟩
abbrev cc1_scratch0 : Ref sig .tc := ⟨.vmem, 40, rfl⟩
abbrev cc1_scratch1 : Ref sig .tc := ⟨.vmem, 41, rfl⟩
abbrev cc1_scratch2 : Ref sig .tc := ⟨.vmem, 42, rfl⟩
abbrev cc1_scratch3 : Ref sig .tc := ⟨.vmem, 43, rfl⟩
abbrev cc1_scratch4 : Ref sig .tc := ⟨.vmem, 44, rfl⟩
abbrev cc1_scratch5 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem13_0 : DmaSem sig := 33
abbrev cc1_sem14_0 : DmaSem sig := 34
abbrev cc1_sem15_0 : DmaSem sig := 35
abbrev cc1_sem16_0 : DmaSem sig := 36

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32_31 : BitVec 32 := 0#32
  let c832_i32 : BitVec 32 := 832#32
  let v75 : BitVec 32 := Scalar.addi c0_i32_31 c832_i32
  let c1_i32 : BitVec 32 := 1#32
  ⟨c0_i32_31, v75, c1_i32⟩
def k0_off1 (k0_t1 : Fin k0_t1_loop.trips) : Fin 2 → Nat :=
  let c0_i32_31 : BitVec 32 := 0#32
  let c1_i32 : BitVec 32 := 1#32
  let arg13 : BitVec 32 := Scf.iv c0_i32_31 c1_i32 k0_t1
  let v99 : Index := Scalar.indexCast arg13
  let c0_45 : Index := 0#32
  ![v99.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S832x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S832x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

@[reducible] def k1_t1_loop : Scf.Loop 32 :=
  let c0_i32_62 : BitVec 32 := 0#32
  let c832_i32 : BitVec 32 := 832#32
  let v144 : BitVec 32 := Scalar.addi c0_i32_62 c832_i32
  let c1_i32 : BitVec 32 := 1#32
  ⟨c0_i32_62, v144, c1_i32⟩
def k1_off1 (k1_t1 : Fin k1_t1_loop.trips) : Fin 2 → Nat :=
  let c831_i32 : BitVec 32 := 831#32
  let c0_i32_62 : BitVec 32 := 0#32
  let c1_i32 : BitVec 32 := 1#32
  let arg24 : BitVec 32 := Scf.iv c0_i32_62 c1_i32 k1_t1
  let v225 : BitVec 32 := Scalar.subi c831_i32 arg24
  let v226 : Index := Scalar.indexCast v225
  let c0_106 : Index := 0#32
  ![v226.toNat, 0]
def k1_off2 (k1_t1 : Fin k1_t1_loop.trips) : Fin 2 → Nat :=
  let c831_i32 : BitVec 32 := 831#32
  let c0_i32_62 : BitVec 32 := 0#32
  let c1_i32 : BitVec 32 := 1#32
  let arg24 : BitVec 32 := Scf.iv c0_i32_62 c1_i32 k1_t1
  let v225 : BitVec 32 := Scalar.subi c831_i32 arg24
  let c7_i32 : BitVec 32 := 7#32
  let v233 : BitVec 32 := Scalar.addi v225 c7_i32
  let v234 : Index := Scalar.indexCast v233
  let c0_108 : Index := 0#32
  ![v234.toNat, 0]
def cc1_transform_0 (i : grid1.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c4_i32 : BitVec 32 := 4#32
  let v0 : BitVec 32 := Scalar.subi c4_i32 arg0
  let c7_i32 : BitVec 32 := 7#32
  let c0_i32 : BitVec 32 := 0#32
  ![v0.toNat, c7_i32.toNat]

def cc1_transform_2 (i : grid1.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c4_i32 : BitVec 32 := 4#32
  let v0 : BitVec 32 := Scalar.subi c4_i32 arg0
  let c104_i32 : BitVec 32 := 104#32
  let v1 : BitVec 32 := Scalar.muli v0 c104_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_4 (i : grid1.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S832x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S832x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S832x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S832x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S832x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S832x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S256x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]
-- ==== Ffn.lean ====
abbrev S4160x1024 : Shape := ⟨2, ![4160, 1024]⟩
abbrev S1024x2816 : Shape := ⟨2, ![1024, 2816]⟩
abbrev S2816x1024 : Shape := ⟨2, ![2816, 1024]⟩
abbrev S4160x2816 : Shape := ⟨2, ![4160, 2816]⟩
abbrev S832x1024 : Shape := ⟨2, ![832, 1024]⟩
abbrev S1024x1408 : Shape := ⟨2, ![1024, 1408]⟩
abbrev S832x1408 : Shape := ⟨2, ![832, 1408]⟩
abbrev S1408x1024 : Shape := ⟨2, ![1408, 1024]⟩
abbrev S832x2816 : Shape := ⟨2, ![832, 2816]⟩

abbrev nBuf : Space → Nat
  | .hbm => 15
  | .vmem => 52
  | .smem => 0
  | _ => 0

abbrev bufTy : (tb : Table) → Fin (tcTables nBuf tb) → BufTy
  | .hbm, ⟨0, _⟩ => ⟨S4160x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S4160x1024, .bf16⟩
  | .hbm, ⟨5, _⟩ => ⟨S4160x1024, .f32⟩
  | .hbm, ⟨6, _⟩ => ⟨S4160x2816, .bf16⟩
  | .hbm, ⟨7, _⟩ => ⟨S4160x2816, .bf16⟩
  | .hbm, ⟨8, _⟩ => ⟨S4160x2816, .bf16⟩
  | .hbm, ⟨9, _⟩ => ⟨S2816x1024, .f32⟩
  | .hbm, ⟨10, _⟩ => ⟨S4160x2816, .bf16⟩
  | .hbm, ⟨11, _⟩ => ⟨S4160x2816, .bf16⟩
  | .hbm, ⟨12, _⟩ => ⟨S1024x2816, .f32⟩
  | .hbm, ⟨13, _⟩ => ⟨S1024x2816, .f32⟩
  | .hbm, ⟨14, _⟩ => ⟨S4160x1024, .f32⟩
  | .local _ .vmem, ⟨0, _⟩ => ⟨S832x1024, .bf16⟩
  | .local _ .vmem, ⟨1, _⟩ => ⟨S832x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S832x1408, .bf16⟩
  | .local _ .vmem, ⟨7, _⟩ => ⟨S832x1408, .bf16⟩
  | .local _ .vmem, ⟨8, _⟩ => ⟨S832x1408, .bf16⟩
  | .local _ .vmem, ⟨9, _⟩ => ⟨S832x1408, .bf16⟩
  | .local _ .vmem, ⟨10, _⟩ => ⟨S832x1408, .bf16⟩
  | .local _ .vmem, ⟨11, _⟩ => ⟨S832x1408, .bf16⟩
  | .local _ .vmem, ⟨12, _⟩ => ⟨S832x1408, .bf16⟩
  | .local _ .vmem, ⟨13, _⟩ => ⟨S832x1408, .bf16⟩
  | .local _ .vmem, ⟨14, _⟩ => ⟨S832x1024, .bf16⟩
  | .local _ .vmem, ⟨15, _⟩ => ⟨S832x1024, .bf16⟩
  | .local _ .vmem, ⟨16, _⟩ => ⟨S1408x1024, .f32⟩
  | .local _ .vmem, ⟨17, _⟩ => ⟨S1408x1024, .f32⟩
  | .local _ .vmem, ⟨18, _⟩ => ⟨S832x1024, .bf16⟩
  | .local _ .vmem, ⟨19, _⟩ => ⟨S832x1024, .bf16⟩
  | .local _ .vmem, ⟨20, _⟩ => ⟨S1408x1024, .bf16⟩
  | .local _ .vmem, ⟨21, _⟩ => ⟨S1408x1024, .bf16⟩
  | .local _ .vmem, ⟨22, _⟩ => ⟨S832x1408, .bf16⟩
  | .local _ .vmem, ⟨23, _⟩ => ⟨S832x1408, .bf16⟩
  | .local _ .vmem, ⟨24, _⟩ => ⟨S832x1408, .bf16⟩
  | .local _ .vmem, ⟨25, _⟩ => ⟨S832x1408, .bf16⟩
  | .local _ .vmem, ⟨26, _⟩ => ⟨S832x1408, .bf16⟩
  | .local _ .vmem, ⟨27, _⟩ => ⟨S832x1408, .bf16⟩
  | .local _ .vmem, ⟨28, _⟩ => ⟨S832x1408, .bf16⟩
  | .local _ .vmem, ⟨29, _⟩ => ⟨S832x1408, .bf16⟩
  | .local _ .vmem, ⟨30, _⟩ => ⟨S832x1024, .bf16⟩
  | .local _ .vmem, ⟨31, _⟩ => ⟨S832x1024, .bf16⟩
  | .local _ .vmem, ⟨32, _⟩ => ⟨S832x1408, .bf16⟩
  | .local _ .vmem, ⟨33, _⟩ => ⟨S832x1408, .bf16⟩
  | .local _ .vmem, ⟨34, _⟩ => ⟨S1024x1408, .f32⟩
  | .local _ .vmem, ⟨35, _⟩ => ⟨S1024x1408, .f32⟩
  | .local _ .vmem, ⟨36, _⟩ => ⟨S832x1024, .bf16⟩
  | .local _ .vmem, ⟨37, _⟩ => ⟨S832x1024, .bf16⟩
  | .local _ .vmem, ⟨38, _⟩ => ⟨S832x1408, .bf16⟩
  | .local _ .vmem, ⟨39, _⟩ => ⟨S832x1408, .bf16⟩
  | .local _ .vmem, ⟨40, _⟩ => ⟨S1024x1408, .f32⟩
  | .local _ .vmem, ⟨41, _⟩ => ⟨S1024x1408, .f32⟩
  | .local _ .vmem, ⟨42, _⟩ => ⟨S832x2816, .bf16⟩
  | .local _ .vmem, ⟨43, _⟩ => ⟨S832x2816, .bf16⟩
  | .local _ .vmem, ⟨44, _⟩ => ⟨S832x2816, .bf16⟩
  | .local _ .vmem, ⟨45, _⟩ => ⟨S832x2816, .bf16⟩
  | .local _ .vmem, ⟨46, _⟩ => ⟨S1024x2816, .bf16⟩
  | .local _ .vmem, ⟨47, _⟩ => ⟨S1024x2816, .bf16⟩
  | .local _ .vmem, ⟨48, _⟩ => ⟨S832x1024, .f32⟩
  | .local _ .vmem, ⟨49, _⟩ => ⟨S832x1024, .f32⟩
  | .local _ .vmem, ⟨50, _⟩ => ⟨S832x1024, .f32⟩
  | .local _ .vmem, ⟨51, _⟩ => ⟨S832x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc5_stg5_0 : Ref sig .tc := ⟨.vmem, 50, rfl⟩
abbrev cc5_stg5_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem4_1 : DmaSem sig := 49
abbrev cc5_sem5_0 : DmaSem sig := 50
abbrev cc5_sem5_1 : DmaSem sig := 51

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S832x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S832x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S832x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 1, 5], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S832x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S832x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1408x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![2, 5], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S832x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S832x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S832x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S832x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S832x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨3, ![1, 2, 5], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S832x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S832x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 5], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S832x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S832x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S832x2816 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S832x2816 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1024x2816 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x2816 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S832x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S832x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]
-- ==== FfnRefIdeal.lean ====
abbrev S4160x1024 : Shape := ⟨2, ![4160, 1024]⟩
abbrev S1024x2816 : Shape := ⟨2, ![1024, 2816]⟩
abbrev S2816x1024 : Shape := ⟨2, ![2816, 1024]⟩
abbrev S4160x2816 : Shape := ⟨2, ![4160, 2816]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S4160x1024, .bf16⟩
  | .hbm, ⟨5, _⟩ => ⟨S4160x1024, .f32⟩
  | .hbm, ⟨6, _⟩ => ⟨S4160x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S4160x2816, .f32⟩
  | .hbm, ⟨11, _⟩ => ⟨S4160x2816, .f32⟩
  | .hbm, ⟨12, _⟩ => ⟨S4160x2816, .f32⟩
  | .hbm, ⟨13, _⟩ => ⟨S_, .f32⟩
  | .hbm, ⟨14, _⟩ => ⟨S4160x2816, .f32⟩
  | .hbm, ⟨15, _⟩ => ⟨S4160x2816, .f32⟩
  | .hbm, ⟨16, _⟩ => ⟨S_, .f32⟩
  | .hbm, ⟨17, _⟩ => ⟨S4160x2816, .f32⟩
  | .hbm, ⟨18, _⟩ => ⟨S4160x2816, .f32⟩
  | .hbm, ⟨19, _⟩ => ⟨S_, .f32⟩
  | .hbm, ⟨20, _⟩ => ⟨S4160x2816, .f32⟩
  | .hbm, ⟨21, _⟩ => ⟨S4160x2816, .f32⟩
  | .hbm, ⟨22, _⟩ => ⟨S4160x2816, .f32⟩
  | .hbm, ⟨23, _⟩ => ⟨S4160x2816, .f32⟩
  | .hbm, ⟨24, _⟩ => ⟨S4160x2816, .f32⟩
  | .hbm, ⟨25, _⟩ => ⟨S4160x2816, .f32⟩
  | .hbm, ⟨26, _⟩ => ⟨S4160x1024, .f32⟩
  | .hbm, ⟨27, _⟩ => ⟨S4160x1024, .f32⟩
  | .hbm, ⟨28, _⟩ => ⟨S1024x2816, .f32⟩
  | .hbm, ⟨29, _⟩ => ⟨S2816x1024, .f32⟩
  | .hbm, ⟨30, _⟩ => ⟨S4160x2816, .f32⟩
  | .hbm, ⟨31, _⟩ => ⟨S4160x2816, .f32⟩
  | .hbm, ⟨32, _⟩ => ⟨S4160x2816, .f32⟩
  | .hbm, ⟨33, _⟩ => ⟨S2816x1024, .f32⟩
  | .hbm, ⟨34, _⟩ => ⟨S1024x2816, .f32⟩
  | .hbm, ⟨35, _⟩ => ⟨S4160x1024, .f32⟩
  | .hbm, ⟨36, _⟩ => ⟨S4160x2816, .f32⟩
  | .hbm, ⟨37, _⟩ => ⟨S4160x2816, .f32⟩
  | .hbm, ⟨38, _⟩ => ⟨S4160x2816, .f32⟩
  | .hbm, ⟨39, _⟩ => ⟨S4160x2816, .f32⟩
  | .hbm, ⟨40, _⟩ => ⟨S2816x1024, .f32⟩
  | .hbm, ⟨41, _⟩ => ⟨S1024x2816, .f32⟩
  | .hbm, ⟨42, _⟩ => ⟨S4160x1024, .f32⟩
  | .hbm, ⟨43, _⟩ => ⟨S4160x1024, .f32⟩
  | .hbm, ⟨44, _⟩ => ⟨S4160x1024, .f32⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v5_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v5_1 : Ref sig .tc := ⟨.hbm, 22, rfl⟩
abbrev main_v5_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Norm.lean ====
abbrev S4160x2816 : Shape := ⟨2, ![4160, 2816]⟩
abbrev S2816x1024 : Shape := ⟨2, ![2816, 1024]⟩
abbrev S4160x1024 : Shape := ⟨2, ![4160, 1024]⟩
abbrev S1x1024 : Shape := ⟨2, ![1, 1024]⟩
abbrev S832x2816 : Shape := ⟨2, ![832, 2816]⟩
abbrev S832x1024 : Shape := ⟨2, ![832, 1024]⟩
abbrev S832 : Shape := ⟨1, ![832]⟩
abbrev S832x1 : Shape := ⟨2, ![832, 1]⟩
abbrev S1024 : Shape := ⟨1, ![1024]⟩

abbrev nBuf : Space → Nat
  | .hbm => 13
  | .vmem => 24
  | .smem => 0
  | _ => 0

abbrev bufTy : (tb : Table) → Fin (tcTables nBuf tb) → BufTy
  | .hbm, ⟨0, _⟩ => ⟨S4160x2816, .bf16⟩
  | .hbm, ⟨1, _⟩ => ⟨S2816x1024, .bf16⟩
  | .hbm, ⟨2, _⟩ => ⟨S4160x1024, .f32⟩
  | .hbm, ⟨3, _⟩ => ⟨S1x1024, .f32⟩
  | .hbm, ⟨4, _⟩ => ⟨S1x1024, .f32⟩
  | .hbm, ⟨5, _⟩ => ⟨S4160x1024, .f32⟩
  | .hbm, ⟨6, _⟩ => ⟨S4160x1024, .f32⟩
  | .hbm, ⟨7, _⟩ => ⟨S4160x1024, .f32⟩
  | .hbm, ⟨8, _⟩ => ⟨S4160x1024, .bf16⟩
  | .hbm, ⟨9, _⟩ => ⟨S4160x1024, .f32⟩
  | .hbm, ⟨10, _⟩ => ⟨S4160x1024, .bf16⟩
  | .hbm, ⟨11, _⟩ => ⟨S1x1024, .f32⟩
  | .hbm, ⟨12, _⟩ => ⟨S1x1024, .f32⟩
  | .local _ .vmem, ⟨0, _⟩ => ⟨S832x2816, .bf16⟩
  | .local _ .vmem, ⟨1, _⟩ => ⟨S832x2816, .bf16⟩
  | .local _ .vmem, ⟨2, _⟩ => ⟨S2816x1024, .bf16⟩
  | .local _ .vmem, ⟨3, _⟩ => ⟨S832x1024, .f32⟩
  | .local _ .vmem, ⟨4, _⟩ => ⟨S832x1024, .f32⟩
  | .local _ .vmem, ⟨5, _⟩ => ⟨S1x1024, .f32⟩
  | .local _ .vmem, ⟨6, _⟩ => ⟨S1x1024, .f32⟩
  | .local _ .vmem, ⟨7, _⟩ => ⟨S832x1024, .f32⟩
  | .local _ .vmem, ⟨8, _⟩ => ⟨S832x1024, .f32⟩
  | .local _ .vmem, ⟨9, _⟩ => ⟨S832x1024, .f32⟩
  | .local _ .vmem, ⟨10, _⟩ => ⟨S832x1024, .f32⟩
  | .local _ .vmem, ⟨11, _⟩ => ⟨S832x1024, .bf16⟩
  | .local _ .vmem, ⟨12, _⟩ => ⟨S832x1024, .bf16⟩
  | .local _ .vmem, ⟨13, _⟩ => ⟨S832x1024, .f32⟩
  | .local _ .vmem, ⟨14, _⟩ => ⟨S832x1024, .f32⟩
  | .local _ .vmem, ⟨15, _⟩ => ⟨S832x1024, .f32⟩
  | .local _ .vmem, ⟨16, _⟩ => ⟨S832x1024, .f32⟩
  | .local _ .vmem, ⟨17, _⟩ => ⟨S1x1024, .f32⟩
  | .local _ .vmem, ⟨18, _⟩ => ⟨S832x1024, .f32⟩
  | .local _ .vmem, ⟨19, _⟩ => ⟨S832x1024, .f32⟩
  | .local _ .vmem, ⟨20, _⟩ => ⟨S832x1024, .bf16⟩
  | .local _ .vmem, ⟨21, _⟩ => ⟨S832x1024, .bf16⟩
  | .local _ .vmem, ⟨22, _⟩ => ⟨S1x1024, .f32⟩
  | .local _ .vmem, ⟨23, _⟩ => ⟨S1x1024, .f32⟩
  | _, _ => ⟨S4160x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S832x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S832x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S832x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S832x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S832x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S832x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== NormIdeal.lean ====
variable {F : FTy → Type} [FloatOps F] [Named F]
def κ : String → Option EReal := fun
  | "alpha" => some ((Real.sqrt (Real.sqrt 8) : ℝ) : EReal)
  | _ => none
-- ==== NormRefIdeal.lean ====
abbrev S4160x2816 : Shape := ⟨2, ![4160, 2816]⟩
abbrev S2816x1024 : Shape := ⟨2, ![2816, 1024]⟩
abbrev S4160x1024 : Shape := ⟨2, ![4160, 1024]⟩
abbrev S1x1024 : Shape := ⟨2, ![1, 1024]⟩
abbrev S_ : Shape := ⟨0, ![]⟩
abbrev S4160 : Shape := ⟨1, ![4160]⟩
abbrev S4160x1 : Shape := ⟨2, ![4160, 1]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S4160x2816, .bf16⟩
  | .hbm, ⟨1, _⟩ => ⟨S2816x1024, .bf16⟩
  | .hbm, ⟨2, _⟩ => ⟨S4160x1024, .f32⟩
  | .hbm, ⟨3, _⟩ => ⟨S1x1024, .f32⟩
  | .hbm, ⟨4, _⟩ => ⟨S1x1024, .f32⟩
  | .hbm, ⟨5, _⟩ => ⟨S4160x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4160x2816, .f32⟩
  | .hbm, ⟨10, _⟩ => ⟨S2816x1024, .f32⟩
  | .hbm, ⟨11, _⟩ => ⟨S4160x1024, .f32⟩
  | .hbm, ⟨12, _⟩ => ⟨S4160x1024, .f32⟩
  | .hbm, ⟨13, _⟩ => ⟨S4160x1024, .f32⟩
  | .hbm, ⟨14, _⟩ => ⟨S_, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S_, .f32⟩
  | .hbm, ⟨19, _⟩ => ⟨S4160, .f32⟩
  | .hbm, ⟨20, _⟩ => ⟨S4160x1, .f32⟩
  | .hbm, ⟨21, _⟩ => ⟨S_, .f32⟩
  | .hbm, ⟨22, _⟩ => ⟨S4160x1, .f32⟩
  | .hbm, ⟨23, _⟩ => ⟨S4160x1, .f32⟩
  | .hbm, ⟨24, _⟩ => ⟨S4160x1024, .f32⟩
  | .hbm, ⟨25, _⟩ => ⟨S4160x1024, .f32⟩
  | .hbm, ⟨26, _⟩ => ⟨S4160x1024, .f32⟩
  | .hbm, ⟨27, _⟩ => ⟨S_, .f32⟩
  | .hbm, ⟨28, _⟩ => ⟨S4160x1024, .f32⟩
  | .hbm, ⟨29, _⟩ => ⟨S4160x1024, .f32⟩
  | .hbm, ⟨30, _⟩ => ⟨S_, .f32⟩
  | .hbm, ⟨31, _⟩ => ⟨S4160, .f32⟩
  | .hbm, ⟨32, _⟩ => ⟨S4160x1, .f32⟩
  | .hbm, ⟨33, _⟩ => ⟨S_, .f32⟩
  | .hbm, ⟨34, _⟩ => ⟨S4160x1, .f32⟩
  | .hbm, ⟨35, _⟩ => ⟨S4160x1, .f32⟩
  | .hbm, ⟨36, _⟩ => ⟨S4160x1024, .f32⟩
  | .hbm, ⟨37, _⟩ => ⟨S4160x1024, .f32⟩
  | .hbm, ⟨38, _⟩ => ⟨S_, .f32⟩
  | .hbm, ⟨39, _⟩ => ⟨S4160x1, .f32⟩
  | .hbm, ⟨40, _⟩ => ⟨S4160x1, .f32⟩
  | .hbm, ⟨41, _⟩ => ⟨S4160x1, .f32⟩
  | .hbm, ⟨42, _⟩ => ⟨S4160x1, .f32⟩
  | .hbm, ⟨43, _⟩ => ⟨S_, .f32⟩
  | .hbm, ⟨44, _⟩ => ⟨S4160x1, .f32⟩
  | .hbm, ⟨45, _⟩ => ⟨S4160x1, .f32⟩
  | .hbm, ⟨46, _⟩ => ⟨S4160x1024, .f32⟩
  | .hbm, ⟨47, _⟩ => ⟨S4160x1024, .f32⟩
  | .hbm, ⟨48, _⟩ => ⟨S4160x1024, .f32⟩
  | .hbm, ⟨49, _⟩ => ⟨S4160x1024, .f32⟩
  | .hbm, ⟨50, _⟩ => ⟨S4160x1024, .f32⟩
  | .hbm, ⟨51, _⟩ => ⟨S4160x1024, .f32⟩
  | .hbm, ⟨52, _⟩ => ⟨S4160x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4160x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4160x1024, .f32⟩
  | .hbm, ⟨61, _⟩ => ⟨S4160x1024, .f32⟩
  | .hbm, ⟨62, _⟩ => ⟨S4160x1024, .f32⟩
  | .hbm, ⟨63, _⟩ => ⟨S_, .f32⟩
  | .hbm, ⟨64, _⟩ => ⟨S4160, .f32⟩
  | .hbm, ⟨65, _⟩ => ⟨S4160x1, .f32⟩
  | .hbm, ⟨66, _⟩ => ⟨S4160x1024, .f32⟩
  | .hbm, ⟨67, _⟩ => ⟨S4160x1024, .f32⟩
  | .hbm, ⟨68, _⟩ => ⟨S4160x1, .f32⟩
  | .hbm, ⟨69, _⟩ => ⟨S4160x1024, .f32⟩
  | .hbm, ⟨70, _⟩ => ⟨S_, .f32⟩
  | .hbm, ⟨71, _⟩ => ⟨S4160, .f32⟩
  | .hbm, ⟨72, _⟩ => ⟨S4160x1, .f32⟩
  | .hbm, ⟨73, _⟩ => ⟨S_, .f32⟩
  | .hbm, ⟨74, _⟩ => ⟨S4160x1, .f32⟩
  | .hbm, ⟨75, _⟩ => ⟨S4160x1, .f32⟩
  | .hbm, ⟨76, _⟩ => ⟨S_, .f32⟩
  | .hbm, ⟨77, _⟩ => ⟨S4160, .f32⟩
  | .hbm, ⟨78, _⟩ => ⟨S4160x1024, .f32⟩
  | .hbm, ⟨79, _⟩ => ⟨S4160x1024, .f32⟩
  | .hbm, ⟨80, _⟩ => ⟨S4160x1024, .f32⟩
  | .hbm, ⟨81, _⟩ => ⟨S_, .f32⟩
  | .hbm, ⟨82, _⟩ => ⟨S4160, .f32⟩
  | .hbm, ⟨83, _⟩ => ⟨S4160x1, .f32⟩
  | .hbm, ⟨84, _⟩ => ⟨S4160x1024, .f32⟩
  | .hbm, ⟨85, _⟩ => ⟨S4160x1, .f32⟩
  | .hbm, ⟨86, _⟩ => ⟨S_, .f32⟩
  | .hbm, ⟨87, _⟩ => ⟨S4160x1, .f32⟩
  | .hbm, ⟨88, _⟩ => ⟨S4160x1, .f32⟩
  | .hbm, ⟨89, _⟩ => ⟨S_, .f32⟩
  | .hbm, ⟨90, _⟩ => ⟨S4160, .f32⟩
  | .hbm, ⟨91, _⟩ => ⟨S4160x1024, .f32⟩
  | .hbm, ⟨92, _⟩ => ⟨S4160x1024, .f32⟩
  | .hbm, ⟨93, _⟩ => ⟨S_, .f32⟩
  | .hbm, ⟨94, _⟩ => ⟨S4160x1024, .f32⟩
  | .hbm, ⟨95, _⟩ => ⟨S4160x1024, .f32⟩
  | .hbm, ⟨96, _⟩ => ⟨S4160x1024, .f32⟩
  | .hbm, ⟨97, _⟩ => ⟨S4160x1024, .f32⟩
  | .hbm, ⟨98, _⟩ => ⟨S4160x1024, .bf16⟩
  | .hbm, ⟨99, _⟩ => ⟨S4160x1024, .bf16⟩
  | _, _ => ⟨S4160x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_15 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== Proj.lean ====
abbrev S4160x1024 : Shape := ⟨2, ![4160, 1024]⟩
abbrev S1024x2944 : Shape := ⟨2, ![1024, 2944]⟩
abbrev S4160x2944 : Shape := ⟨2, ![4160, 2944]⟩
abbrev S1024x1024 : Shape := ⟨2, ![1024, 1024]⟩
abbrev S832x1024 : Shape := ⟨2, ![832, 1024]⟩
abbrev S832x2944 : Shape := ⟨2, ![832, 2944]⟩

abbrev nBuf : Space → Nat
  | .hbm => 12
  | .vmem => 27
  | .smem => 0
  | _ => 0

abbrev bufTy : (tb : Table) → Fin (tcTables nBuf tb) → BufTy
  | .hbm, ⟨0, _⟩ => ⟨S4160x1024, .bf16⟩
  | .hbm, ⟨1, _⟩ => ⟨S1024x2944, .bf16⟩
  | .hbm, ⟨2, _⟩ => ⟨S4160x2944, .bf16⟩
  | .hbm, ⟨3, _⟩ => ⟨S4160x1024, .f32⟩
  | .hbm, ⟨4, _⟩ => ⟨S4160x1024, .bf16⟩
  | .hbm, ⟨5, _⟩ => ⟨S1024x1024, .bf16⟩
  | .hbm, ⟨6, _⟩ => ⟨S4160x1024, .bf16⟩
  | .hbm, ⟨7, _⟩ => ⟨S4160x2944, .f32⟩
  | .hbm, ⟨8, _⟩ => ⟨S1024x1024, .f32⟩
  | .hbm, ⟨9, _⟩ => ⟨S4160x1024, .f32⟩
  | .hbm, ⟨10, _⟩ => ⟨S1024x2944, .f32⟩
  | .hbm, ⟨11, _⟩ => ⟨S4160x1024, .f32⟩
  | .local _ .vmem, ⟨0, _⟩ => ⟨S832x1024, .bf16⟩
  | .local _ .vmem, ⟨1, _⟩ => ⟨S832x1024, .bf16⟩
  | .local _ .vmem, ⟨2, _⟩ => ⟨S1024x2944, .bf16⟩
  | .local _ .vmem, ⟨3, _⟩ => ⟨S832x2944, .f32⟩
  | .local _ .vmem, ⟨4, _⟩ => ⟨S832x2944, .f32⟩
  | .local _ .vmem, ⟨5, _⟩ => ⟨S832x1024, .bf16⟩
  | .local _ .vmem, ⟨6, _⟩ => ⟨S832x1024, .bf16⟩
  | .local _ .vmem, ⟨7, _⟩ => ⟨S832x1024, .bf16⟩
  | .local _ .vmem, ⟨8, _⟩ => ⟨S832x1024, .bf16⟩
  | .local _ .vmem, ⟨9, _⟩ => ⟨S1024x1024, .f32⟩
  | .local _ .vmem, ⟨10, _⟩ => ⟨S832x1024, .bf16⟩
  | .local _ .vmem, ⟨11, _⟩ => ⟨S832x1024, .bf16⟩
  | .local _ .vmem, ⟨12, _⟩ => ⟨S1024x1024, .bf16⟩
  | .local _ .vmem, ⟨13, _⟩ => ⟨S832x1024, .f32⟩
  | .local _ .vmem, ⟨14, _⟩ => ⟨S832x1024, .f32⟩
  | .local _ .vmem, ⟨15, _⟩ => ⟨S832x1024, .bf16⟩
  | .local _ .vmem, ⟨16, _⟩ => ⟨S832x1024, .bf16⟩
  | .local _ .vmem, ⟨17, _⟩ => ⟨S832x2944, .bf16⟩
  | .local _ .vmem, ⟨18, _⟩ => ⟨S832x2944, .bf16⟩
  | .local _ .vmem, ⟨19, _⟩ => ⟨S1024x2944, .f32⟩
  | .local _ .vmem, ⟨20, _⟩ => ⟨S832x2944, .bf16⟩
  | .local _ .vmem, ⟨21, _⟩ => ⟨S832x2944, .bf16⟩
  | .local _ .vmem, ⟨22, _⟩ => ⟨S1024x2944, .bf16⟩
  | .local _ .vmem, ⟨23, _⟩ => ⟨S832x1024, .f32⟩
  | .local _ .vmem, ⟨24, _⟩ => ⟨S832x1024, .f32⟩
  | .local _ .vmem, ⟨25, _⟩ => ⟨S832x1024, .f32⟩
  | .local _ .vmem, ⟨26, _⟩ => ⟨S832x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc4_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc4_sem3_0 : DmaSem sig := 25
abbrev cc4_sem3_1 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 1, 5], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S832x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S832x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S832x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S832x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![1, 1, 5], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S832x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S832x2944 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1024x2944 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S832x2944 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x2944 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S832x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S832x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== ProjRefIdeal.lean ====
abbrev S4160x1024 : Shape := ⟨2, ![4160, 1024]⟩
abbrev S1024x2944 : Shape := ⟨2, ![1024, 2944]⟩
abbrev S4160x2944 : Shape := ⟨2, ![4160, 2944]⟩
abbrev S1024x1024 : Shape := ⟨2, ![1024, 1024]⟩
abbrev S2944x1024 : Shape := ⟨2, ![2944, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S1024x2944, .bf16⟩
  | .hbm, ⟨2, _⟩ => ⟨S4160x2944, .bf16⟩
  | .hbm, ⟨3, _⟩ => ⟨S4160x1024, .f32⟩
  | .hbm, ⟨4, _⟩ => ⟨S4160x1024, .bf16⟩
  | .hbm, ⟨5, _⟩ => ⟨S1024x1024, .bf16⟩
  | .hbm, ⟨6, _⟩ => ⟨S4160x1024, .bf16⟩
  | .hbm, ⟨7, _⟩ => ⟨S4160x1024, .f32⟩
  | .hbm, ⟨8, _⟩ => ⟨S1024x2944, .f32⟩
  | .hbm, ⟨9, _⟩ => ⟨S4160x2944, .f32⟩
  | .hbm, ⟨10, _⟩ => ⟨S4160x2944, .f32⟩
  | .hbm, ⟨11, _⟩ => ⟨S2944x1024, .f32⟩
  | .hbm, ⟨12, _⟩ => ⟨S1024x2944, .f32⟩
  | .hbm, ⟨13, _⟩ => ⟨S4160x1024, .f32⟩
  | .hbm, ⟨14, _⟩ => ⟨S4160x1024, .f32⟩
  | .hbm, ⟨15, _⟩ => ⟨S1024x1024, .f32⟩
  | .hbm, ⟨16, _⟩ => ⟨S4160x1024, .f32⟩
  | .hbm, ⟨17, _⟩ => ⟨S4160x1024, .f32⟩
  | .hbm, ⟨18, _⟩ => ⟨S1024x1024, .f32⟩
  | .hbm, ⟨19, _⟩ => ⟨S1024x1024, .f32⟩
  | .hbm, ⟨20, _⟩ => ⟨S4160x1024, .f32⟩
  | .hbm, ⟨21, _⟩ => ⟨S4160x1024, .f32⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Mix.lean ====
abbrev S4160x1024 : Shape := ⟨2, ![4160, 1024]⟩
abbrev S1024x1024 : Shape := ⟨2, ![1024, 1024]⟩
abbrev S1x1024 : Shape := ⟨2, ![1, 1024]⟩
abbrev S832x1024 : Shape := ⟨2, ![832, 1024]⟩
abbrev S832 : Shape := ⟨1, ![832]⟩
abbrev S832x1 : Shape := ⟨2, ![832, 1]⟩
abbrev S1024 : Shape := ⟨1, ![1024]⟩

abbrev nBuf : Space → Nat
  | .hbm => 13
  | .vmem => 24
  | .smem => 0
  | _ => 0

abbrev bufTy : (tb : Table) → Fin (tcTables nBuf tb) → BufTy
  | .hbm, ⟨0, _⟩ => ⟨S4160x1024, .bf16⟩
  | .hbm, ⟨1, _⟩ => ⟨S1024x1024, .bf16⟩
  | .hbm, ⟨2, _⟩ => ⟨S4160x1024, .f32⟩
  | .hbm, ⟨3, _⟩ => ⟨S1x1024, .f32⟩
  | .hbm, ⟨4, _⟩ => ⟨S1x1024, .f32⟩
  | .hbm, ⟨5, _⟩ => ⟨S4160x1024, .f32⟩
  | .hbm, ⟨6, _⟩ => ⟨S4160x1024, .f32⟩
  | .hbm, ⟨7, _⟩ => ⟨S4160x1024, .f32⟩
  | .hbm, ⟨8, _⟩ => ⟨S4160x1024, .bf16⟩
  | .hbm, ⟨9, _⟩ => ⟨S4160x1024, .f32⟩
  | .hbm, ⟨10, _⟩ => ⟨S4160x1024, .bf16⟩
  | .hbm, ⟨11, _⟩ => ⟨S1x1024, .f32⟩
  | .hbm, ⟨12, _⟩ => ⟨S1x1024, .f32⟩
  | .local _ .vmem, ⟨0, _⟩ => ⟨S832x1024, .bf16⟩
  | .local _ .vmem, ⟨1, _⟩ => ⟨S832x1024, .bf16⟩
  | .local _ .vmem, ⟨2, _⟩ => ⟨S1024x1024, .bf16⟩
  | .local _ .vmem, ⟨3, _⟩ => ⟨S832x1024, .f32⟩
  | .local _ .vmem, ⟨4, _⟩ => ⟨S832x1024, .f32⟩
  | .local _ .vmem, ⟨5, _⟩ => ⟨S1x1024, .f32⟩
  | .local _ .vmem, ⟨6, _⟩ => ⟨S1x1024, .f32⟩
  | .local _ .vmem, ⟨7, _⟩ => ⟨S832x1024, .f32⟩
  | .local _ .vmem, ⟨8, _⟩ => ⟨S832x1024, .f32⟩
  | .local _ .vmem, ⟨9, _⟩ => ⟨S832x1024, .f32⟩
  | .local _ .vmem, ⟨10, _⟩ => ⟨S832x1024, .f32⟩
  | .local _ .vmem, ⟨11, _⟩ => ⟨S832x1024, .bf16⟩
  | .local _ .vmem, ⟨12, _⟩ => ⟨S832x1024, .bf16⟩
  | .local _ .vmem, ⟨13, _⟩ => ⟨S832x1024, .f32⟩
  | .local _ .vmem, ⟨14, _⟩ => ⟨S832x1024, .f32⟩
  | .local _ .vmem, ⟨15, _⟩ => ⟨S832x1024, .f32⟩
  | .local _ .vmem, ⟨16, _⟩ => ⟨S832x1024, .f32⟩
  | .local _ .vmem, ⟨17, _⟩ => ⟨S1x1024, .f32⟩
  | .local _ .vmem, ⟨18, _⟩ => ⟨S832x1024, .f32⟩
  | .local _ .vmem, ⟨19, _⟩ => ⟨S832x1024, .f32⟩
  | .local _ .vmem, ⟨20, _⟩ => ⟨S832x1024, .bf16⟩
  | .local _ .vmem, ⟨21, _⟩ => ⟨S832x1024, .bf16⟩
  | .local _ .vmem, ⟨22, _⟩ => ⟨S1x1024, .f32⟩
  | .local _ .vmem, ⟨23, _⟩ => ⟨S1x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S832x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S832x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S832x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S832x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S832x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S832x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== MixIdeal.lean ====
variable {F : FTy → Type} [FloatOps F] [Named F]
def κ : String → Option EReal := fun
  | "alpha" => some ((Real.sqrt (Real.sqrt 8) : ℝ) : EReal)
  | _ => none
-- ==== MixRefIdeal.lean ====
abbrev S4160x1024 : Shape := ⟨2, ![4160, 1024]⟩
abbrev S1024x1024 : Shape := ⟨2, ![1024, 1024]⟩
abbrev S1x1024 : Shape := ⟨2, ![1, 1024]⟩
abbrev S_ : Shape := ⟨0, ![]⟩
abbrev S4160 : Shape := ⟨1, ![4160]⟩
abbrev S4160x1 : Shape := ⟨2, ![4160, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S1024x1024, .bf16⟩
  | .hbm, ⟨2, _⟩ => ⟨S4160x1024, .f32⟩
  | .hbm, ⟨3, _⟩ => ⟨S1x1024, .f32⟩
  | .hbm, ⟨4, _⟩ => ⟨S1x1024, .f32⟩
  | .hbm, ⟨5, _⟩ => ⟨S4160x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4160x1024, .f32⟩
  | .hbm, ⟨10, _⟩ => ⟨S1024x1024, .f32⟩
  | .hbm, ⟨11, _⟩ => ⟨S4160x1024, .f32⟩
  | .hbm, ⟨12, _⟩ => ⟨S4160x1024, .f32⟩
  | .hbm, ⟨13, _⟩ => ⟨S4160x1024, .f32⟩
  | .hbm, ⟨14, _⟩ => ⟨S4160x1024, .f32⟩
  | .hbm, ⟨15, _⟩ => ⟨S_, .f32⟩
  | .hbm, ⟨16, _⟩ => ⟨S4160, .f32⟩
  | .hbm, ⟨17, _⟩ => ⟨S4160x1, .f32⟩
  | .hbm, ⟨18, _⟩ => ⟨S_, .f32⟩
  | .hbm, ⟨19, _⟩ => ⟨S4160x1, .f32⟩
  | .hbm, ⟨20, _⟩ => ⟨S4160x1, .f32⟩
  | .hbm, ⟨21, _⟩ => ⟨S4160x1024, .f32⟩
  | .hbm, ⟨22, _⟩ => ⟨S4160x1024, .f32⟩
  | .hbm, ⟨23, _⟩ => ⟨S4160x1024, .f32⟩
  | .hbm, ⟨24, _⟩ => ⟨S_, .f32⟩
  | .hbm, ⟨25, _⟩ => ⟨S4160x1024, .f32⟩
  | .hbm, ⟨26, _⟩ => ⟨S4160x1024, .f32⟩
  | .hbm, ⟨27, _⟩ => ⟨S_, .f32⟩
  | .hbm, ⟨28, _⟩ => ⟨S4160, .f32⟩
  | .hbm, ⟨29, _⟩ => ⟨S4160x1, .f32⟩
  | .hbm, ⟨30, _⟩ => ⟨S_, .f32⟩
  | .hbm, ⟨31, _⟩ => ⟨S4160x1, .f32⟩
  | .hbm, ⟨32, _⟩ => ⟨S4160x1, .f32⟩
  | .hbm, ⟨33, _⟩ => ⟨S4160x1024, .f32⟩
  | .hbm, ⟨34, _⟩ => ⟨S4160x1024, .f32⟩
  | .hbm, ⟨35, _⟩ => ⟨S_, .f32⟩
  | .hbm, ⟨36, _⟩ => ⟨S4160x1, .f32⟩
  | .hbm, ⟨37, _⟩ => ⟨S4160x1, .f32⟩
  | .hbm, ⟨38, _⟩ => ⟨S4160x1, .f32⟩
  | .hbm, ⟨39, _⟩ => ⟨S4160x1, .f32⟩
  | .hbm, ⟨40, _⟩ => ⟨S_, .f32⟩
  | .hbm, ⟨41, _⟩ => ⟨S4160x1, .f32⟩
  | .hbm, ⟨42, _⟩ => ⟨S4160x1, .f32⟩
  | .hbm, ⟨43, _⟩ => ⟨S4160x1024, .f32⟩
  | .hbm, ⟨44, _⟩ => ⟨S4160x1024, .f32⟩
  | .hbm, ⟨45, _⟩ => ⟨S4160x1024, .f32⟩
  | .hbm, ⟨46, _⟩ => ⟨S4160x1024, .f32⟩
  | .hbm, ⟨47, _⟩ => ⟨S4160x1024, .f32⟩
  | .hbm, ⟨48, _⟩ => ⟨S4160x1024, .f32⟩
  | .hbm, ⟨49, _⟩ => ⟨S4160x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4160x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4160x1024, .f32⟩
  | .hbm, ⟨58, _⟩ => ⟨S4160x1024, .f32⟩
  | .hbm, ⟨59, _⟩ => ⟨S4160x1024, .f32⟩
  | .hbm, ⟨60, _⟩ => ⟨S_, .f32⟩
  | .hbm, ⟨61, _⟩ => ⟨S4160, .f32⟩
  | .hbm, ⟨62, _⟩ => ⟨S4160x1, .f32⟩
  | .hbm, ⟨63, _⟩ => ⟨S4160x1024, .f32⟩
  | .hbm, ⟨64, _⟩ => ⟨S4160x1024, .f32⟩
  | .hbm, ⟨65, _⟩ => ⟨S4160x1, .f32⟩
  | .hbm, ⟨66, _⟩ => ⟨S4160x1024, .f32⟩
  | .hbm, ⟨67, _⟩ => ⟨S_, .f32⟩
  | .hbm, ⟨68, _⟩ => ⟨S4160, .f32⟩
  | .hbm, ⟨69, _⟩ => ⟨S4160x1, .f32⟩
  | .hbm, ⟨70, _⟩ => ⟨S_, .f32⟩
  | .hbm, ⟨71, _⟩ => ⟨S4160x1, .f32⟩
  | .hbm, ⟨72, _⟩ => ⟨S4160x1, .f32⟩
  | .hbm, ⟨73, _⟩ => ⟨S_, .f32⟩
  | .hbm, ⟨74, _⟩ => ⟨S4160, .f32⟩
  | .hbm, ⟨75, _⟩ => ⟨S4160x1024, .f32⟩
  | .hbm, ⟨76, _⟩ => ⟨S4160x1024, .f32⟩
  | .hbm, ⟨77, _⟩ => ⟨S4160x1024, .f32⟩
  | .hbm, ⟨78, _⟩ => ⟨S_, .f32⟩
  | .hbm, ⟨79, _⟩ => ⟨S4160, .f32⟩
  | .hbm, ⟨80, _⟩ => ⟨S4160x1, .f32⟩
  | .hbm, ⟨81, _⟩ => ⟨S4160x1024, .f32⟩
  | .hbm, ⟨82, _⟩ => ⟨S4160x1, .f32⟩
  | .hbm, ⟨83, _⟩ => ⟨S_, .f32⟩
  | .hbm, ⟨84, _⟩ => ⟨S4160x1, .f32⟩
  | .hbm, ⟨85, _⟩ => ⟨S4160x1, .f32⟩
  | .hbm, ⟨86, _⟩ => ⟨S_, .f32⟩
  | .hbm, ⟨87, _⟩ => ⟨S4160, .f32⟩
  | .hbm, ⟨88, _⟩ => ⟨S4160x1024, .f32⟩
  | .hbm, ⟨89, _⟩ => ⟨S4160x1024, .f32⟩
  | .hbm, ⟨90, _⟩ => ⟨S4160x1024, .f32⟩
  | .hbm, ⟨91, _⟩ => ⟨S4160x1024, .f32⟩
  | .hbm, ⟨92, _⟩ => ⟨S4160x1024, .bf16⟩
  | .hbm, ⟨93, _⟩ => ⟨S4160x1024, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_cst_15 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Proof.FwdLoop.lean ====
/- The recurrence of the forward region: one tile's 832 rows, read from the two scratch buffers and written to the
   tile of h, as a recursion on rows and as the invariant of the region's counted loop. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.ValueIdxCore
public import Idealize.ShloMosaic.Lib.Pipeline.Value

@[expose] public section

set_option maxRecDepth 8192

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

/-- Row `k` of a tile, as a one-row vector. -/
def rowOf (A : Vec F S832x256 .f32) (k : ℕ) : Vec F S1x256 .f32 :=
  fun j => A (ix2 ⟨k % 832, Nat.mod_lt _ (by decide)⟩ (j 1))

/-- The recurrence's value before row `k` of a tile: `h ← a·h + b` from `c0`. -/
def fwdC (A B : Vec F S832x256 .f32) (c0 : Vec F S1x256 .f32) : ℕ → Vec F S1x256 .f32
  | 0 => c0
  | k + 1 => k0_pay15 (fwdC A B c0 k) (rowOf A k) (rowOf B k)

/-- The tile of h: row `t` is the recurrence's value after that row. -/
def fwdH (A B : Vec F S832x256 .f32) (c0 : Vec F S1x256 .f32) : Vec F S832x256 .f32 :=
  fun y => fwdC A B c0 ((y 0).val + 1) (ix2 0 (y 1))

theorem window_row (A : Vec F S832x256 .f32) (k : ℕ) (hk : k < 832)
    (inb : ∀ a, (![k, 0] : Fin 2 → ℕ) a + S1x256.size a ≤ S832x256.size a) :
    VecWindow.window (s := S832x256) A ![k, 0] S1x256.size inb = rowOf A k := by
  funext j
  unfold VecWindow.window rowOf
  congr 1
  funext a
  apply Fin.ext
  match a with
  | ⟨0, _⟩ =>
    have : ((j : S1x256.Idx) 0).val = 0 := by have := idx2_lt0 (n0 := 1) (n1 := 256) j; omega
    show k + 1 * ((j : S1x256.Idx) 0).val = k % 832
    rw [this, Nat.mod_eq_of_lt hk]; omega
  | ⟨1, _⟩ =>
    show 0 + 1 * ((j : S1x256.Idx) 1).val = ((j : S1x256.Idx) 1).val
    omega

local notation "𝕄G" => MT nD τ sig Unit (Elt F) ℕ (UR sig nD τ) ℕ

section Loop
variable (c : Dev nD) (E : Set ℕ) (i : grid0.Coords) (arg1 : Memref sig .tc .vmem S832x256 .f32) (harg1 : arg1.IsWhole) (arg2 : Memref sig .tc .vmem S832x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S832x256 .bf16) (harg8 : arg8.IsWhole) (arg9 : Memref sig .tc .vmem S832x256 .f32) (harg9 : arg9.IsWhole) (arg10 : Memref sig .tc .vmem S832x256 .f32) (harg10 : arg10.IsWhole) (arg11 : Memref sig .tc .vmem S832x256 .f32) (harg11 : arg11.IsWhole) (arg12 : Memref sig .tc .vmem S8x256 .f32) (harg12 : arg12.IsWhole) (v3 : Vec F S832x256 .f32) (v21 : FVec F S832x256 .f32) (v23 : FVec F S832x256 .f32) (v27 : FVec F S1x256 .f32) (v30 : IVec S1x256 1) (v32 : FVec F S1x256 .f32) (v37 : FVec F S1x256 .f32)
  (X10 : BufTy.Contents (Elt F) arg10.view.ty) (X11 : BufTy.Contents (Elt F) arg11.view.ty)

/-- One trip's region: row `k` of h becomes the recurrence's next value, which it also yields. -/
theorem fwdTrip (k : Fin k0_t1_loop.trips) (acc : Vec F S1x256 .f32) (f : BufTy.Contents (Elt F) arg9.view.ty) (Q : Vec F S1x256 .f32 → sProp 𝕄G) :
    iprop((arg10.view.loc (c : Thread nD τ) ↦[arg10.view.set]{fullShare} X10) ∗ (arg11.view.loc (c : Thread nD τ) ↦[arg11.view.set]{fullShare} X11)
        ∗ (arg9.view.loc (c : Thread nD τ) ↦[arg9.view.set]{fullShare} f)
        ∗ ((arg10.view.loc (c : Thread nD τ) ↦[arg10.view.set]{fullShare} X10) -∗ (arg11.view.loc (c : Thread nD τ) ↦[arg11.view.set]{fullShare} X11)
        -∗ (arg9.view.loc (c : Thread nD τ) ↦[arg9.view.set]{fullShare} arg9.view.writes (Elt F) f
            [⟨Rect.unit (s := S832x256) (k0_off1 k) S1x256.size (k0_off1_inb k), k0_pay15 acc (rowOf (arg10.view.read (Elt F) X10) k.val) (rowOf (arg11.view.read (Elt F) X11) k.val)⟩])
        -∗ Q (k0_pay15 acc (rowOf (arg10.view.read (Elt F) X10) k.val) (rowOf (arg11.view.read (Elt F) X11) k.val))))
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 v3 v21 v23 v27 v30 v32 v37 k acc) Q := by
  have hk : k.val < 832 := Nat.lt_of_lt_of_le k.isLt k0_t1_abs.2.1
  have hinb : ∀ a, (![k.val, 0] : Fin 2 → ℕ) a + S1x256.size a ≤ S832x256.size a := by rw [← k0_off1_eq k]; exact k0_off1_inb k
  have e10 : arg10.view.readAt (Elt F) (Rect.unit (s := S832x256) (k0_off1 k) S1x256.size (k0_off1_inb k)).toLoadRect X10 = rowOf (arg10.view.read (Elt F) X10) k.val := by
    rw [View.readAt_unit arg10.view X10 _ (k0_off1_eq k) hinb, window_row _ _ hk]
  have e11 : arg11.view.readAt (Elt F) (Rect.unit (s := S832x256) (k0_off1 k) S1x256.size (k0_off1_inb k)).toLoadRect X11 = rowOf (arg11.view.read (Elt F) X11) k.val := by
    rw [View.readAt_unit arg11.view X11 _ (k0_off1_eq k) hinb, window_row _ _ hk]
  unfold k0_t1_body
  iintro ⟨H10, H11, H9, HQ⟩
  sl_exec
  sl_step
  iapply HQ $$ [H10] [H11] [H9]
  · iexact H10
  · iexact H11
  · iexact H9

/-- A tile whose first `k` rows are h's and whose others are `G`'s. -/
def mixRows (H G : Vec F S832x256 .f32) : ℕ → Vec F S832x256 .f32
  | 0 => G
  | k + 1 => fun y => if (y 0).val = k then H y else mixRows H G k y

theorem mixRows_of_lt (H G : Vec F S832x256 .f32) (y : S832x256.Idx) : ∀ k, (y 0).val < k → mixRows H G k y = H y
  | 0, h => absurd h (Nat.not_lt_zero _)
  | k + 1, h => by
    unfold mixRows
    by_cases e : (y 0).val = k
    · rw [if_pos e]
    · rw [if_neg e]; exact mixRows_of_lt H G y k (by omega)

theorem mixRows_all (H G : Vec F S832x256 .f32) : mixRows H G k0_t1_loop.trips = H := by
  have e : (832 : ℕ) = k0_t1_loop.trips := by decide +kernel
  funext y
  exact mixRows_of_lt H G y _ (lt_of_lt_of_eq (idx2_lt0 (n0 := 832) (n1 := 256) y) e)

set_option warn.classDefReducibility false in
/-- The loop by its invariant: the two scratch buffers read as they are, the rows of h before the trip, the carried row. -/
@[sl_loop] def fwdInv (G : BufTy.Contents (Elt F) arg9.view.ty) (init : Vec F S1x256 .f32) :
    Idealize.ShloMosaic.LoopInv (M := 𝕄G) Idealize.ShloMosaic.frame (wpE (defs₀ (F := F)) Variants.none (c : Thread nD τ) none) E
      k0_t1_loop.lb k0_t1_loop.ub k0_t1_loop.st k0_t1_ok init (k0_t1_body (F := F) i arg1 harg1 arg2 harg2 arg3 harg3 arg4 harg4 arg5 harg5 arg6 harg6 arg7 harg7 arg8 harg8 arg9 harg9 arg10 harg10 arg11 harg11 arg12 harg12 v3 v21 v23 v27 v30 v32 v37) where
  inv k acc := iprop((arg10.view.loc (c : Thread nD τ) ↦[arg10.view.set]{fullShare} X10) ∗ (arg11.view.loc (c : Thread nD τ) ↦[arg11.view.set]{fullShare} X11)
        ∗ (∃ f, (arg9.view.loc (c : Thread nD τ) ↦[arg9.view.set]{fullShare} f) ∗ ⌜arg9.view.read (Elt F) f = mixRows (fwdH (arg10.view.read (Elt F) X10) (arg11.view.read (Elt F) X11) init) (arg9.view.read (Elt F) G) k⌝)
        ∗ ⌜acc = fwdC (arg10.view.read (Elt F) X10) (arg11.view.read (Elt F) X11) init k⌝)
  step k acc := by
    have hk : k.val < 832 := Nat.lt_of_lt_of_le k.isLt k0_t1_abs.2.1
    iintro ⟨H10, H11, ⟨%f, H9, %hf⟩, %hacc⟩
    iapply (fwdTrip (F := F) c E i arg1 harg1 arg2 harg2 arg3 harg3 arg4 harg4 arg5 harg5 arg6 harg6 arg7 harg7 arg8 harg8 arg9 harg9 arg10 harg10 arg11 harg11 arg12 harg12 v3 v21 v23 v27 v30 v32 v37 X10 X11 k acc f)
    isplitl [H10]; · iexact H10
    isplitl [H11]; · iexact H11
    isplitl [H9]; · iexact H9
    iintro H10 H11 H9
    isplitl [H10]; · iexact H10
    isplitl [H11]; · iexact H11
    isplitl [H9]
    · iexists _
      isplitl [H9]; · iexact H9
      ipureintro
      funext y
      subst hacc
      unfold mixRows
      by_cases h : (y 0).val = k.val
      · rw [View.read_writes_cons_rows_of_mem arg9.view f (k0_off1_inb k) _ [] y (ix2 0 (y 1)) (k0_off1_eq k) (by rw [h]; rfl) rfl, if_pos h]
        unfold fwdH
        rw [h]; rfl
      · rw [View.read_writes_cons_rows_of_not_mem arg9.view f (k0_off1_inb k) _ [] y (k0_off1_eq k) (W := 1) rfl (by omega), if_neg h]
        exact congrFun hf y
    ipureintro
    rw [hacc]; rfl

end Loop

end Cert.KernelIdeal.Own

end
-- ==== Proof.FwdBody.lean ====
/- The forward region's body on one tile: what the tiles of h and of the result hold after it, and the row it carries to
   the next tile. -/
module

public import proofs.«01_k».proof.Proof.FwdLoop

@[expose] public section

set_option maxRecDepth 8192

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

/-- The decay of a tile. -/
def tileA (u : Vec F S832x256 .f32) (wa : Vec F S256x256 .f32) (ba lam : Vec F S1x256 .f32) : Vec F S832x256 .f32 :=
  k0_pay13 (k0_pay5 u wa ba) (k0_pay7 lam) (k0_pay9 lam) (k0_pay10 lam) (k0_pay11 lam)

/-- The recurrence's input on a tile. -/
def tileB (u : Vec F S832x256 .f32) (wa : Vec F S256x256 .f32) (ba : Vec F S1x256 .f32) (wx : Vec F S256x256 .f32) (bx lam : Vec F S1x256 .f32) : Vec F S832x256 .f32 :=
  k0_pay14 u (k0_pay4 u wx bx) (k0_pay5 u wa ba) (k0_pay7 lam) (k0_pay9 lam) (k0_pay10 lam) (k0_pay11 lam)

/-- Row 0 of the carry buffer. -/
def row0 (x : Vec F S8x256 .f32) : Vec F S1x256 .f32 := fun j => x (ix2 ⟨0, by decide⟩ (j 1))

theorem window_row0 (x : Vec F S8x256 .f32) (inb : ∀ a, (![0, 0] : Fin 2 → ℕ) a + S1x256.size a ≤ S8x256.size a) :
    VecWindow.window (s := S8x256) x ![0, 0] S1x256.size inb = row0 x := by
  funext j
  unfold VecWindow.window row0
  congr 1
  funext a
  apply Fin.ext
  match a with
  | ⟨0, _⟩ =>
    have : ((j : S1x256.Idx) 0).val = 0 := by have := idx2_lt0 (n0 := 1) (n1 := 256) j; omega
    show 0 + 1 * ((j : S1x256.Idx) 0).val = 0
    rw [this]
  | ⟨1, _⟩ =>
    show 0 + 1 * ((j : S1x256.Idx) 1).val = ((j : S1x256.Idx) 1).val
    omega

/-- The row a tile starts from: zero on the first tile, the carried row on the others. -/
def startRow (i : grid0.Coords) (x : Vec F S8x256 .f32) : Vec F S1x256 .f32 :=
  if (i 0).val = 0 then row0 k0_pay3 else row0 x

theorem row0_write (M : Memref sig .tc .vmem S8x256 .f32) (f : BufTy.Contents (Elt F) M.view.ty) (inb : ∀ a, (![0, 0] : Fin 2 → ℕ) a + S1x256.size a ≤ S8x256.size a)
    (w : Vec F S1x256 .f32) (L : List (View.Piece (Elt F) S8x256 .f32)) :
    row0 (M.view.read (Elt F) (M.view.writes (Elt F) f (⟨Rect.unit (s := S8x256) ![0, 0] S1x256.size inb, w⟩ :: L))) = w := by
  funext j
  unfold row0
  refine View.read_writes_cons_rows_of_mem M.view f inb w L _ j rfl ?_ rfl
  have : ((j : S1x256.Idx) 0).val = 0 := by have := idx2_lt0 (n0 := 1) (n1 := 256) j; omega
  rw [this]

theorem pay1_eq (v : Vec F S1x256 .f32) : k0_pay1 v = v := by
  unfold k0_pay1
  exact shapeCast_self ..

theorem cov_start (M : Memref sig .tc .vmem S8x256 .f32) {i : grid0.Coords} (h0 : (i 0).val = 0) (x : Vec F S8x256 .f32) :
    M.view.readCov [⟨Rect.unit (s := S8x256) ![0, 0] S8x256.size inb_S8x256_S8x256_0_0, k0_pay3⟩]
      (Rect.unit (s := S8x256) ![0, 0] S1x256.size inb_S8x256_S1x256_0_0).toLoadRect = startRow i x := by
  unfold View.readCov startRow
  rw [if_pos h0, View.readAt_unit M.view _ _ rfl inb_S8x256_S1x256_0_0, View.read_writes_full, window_row0]

theorem fwdC_congr {A A' B B' : Vec F S832x256 .f32} {c c' : Vec F S1x256 .f32} {k k' : ℕ} (hA : A = A') (hB : B = B') (hc : c = c') (hk : k = k') :
    fwdC A B c k = fwdC A' B' c' k' := by rw [hA, hB, hc, hk]

theorem fwdH_congr {A A' B B' : Vec F S832x256 .f32} {c c' : Vec F S1x256 .f32} (hA : A = A') (hB : B = B') (hc : c = c') :
    fwdH A B c = fwdH A' B' c' := by rw [hA, hB, hc]

theorem trips_eq : k0_t1_loop.trips = 832 := by decide +kernel

local notation "𝕄G" => MT nD τ sig Unit (Elt F) ℕ (UR sig nD τ) ℕ

abbrev pt {s : Shape} {e : EltTy} (c : Dev nD) (M : Memref sig .tc .vmem s e) (f : BufTy.Contents (Elt F) M.view.ty) : sProp 𝕄G :=
  M.view.loc (c : Thread nD τ) ↦[M.view.set]{fullShare} f

section Body
variable (c : Dev nD) (E : Set ℕ) (i : grid0.Coords) (arg1 : Memref sig .tc .vmem S832x256 .f32) (harg1 : arg1.IsWhole) (arg2 : Memref sig .tc .vmem S832x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S832x256 .bf16) (harg8 : arg8.IsWhole) (arg9 : Memref sig .tc .vmem S832x256 .f32) (harg9 : arg9.IsWhole) (arg10 : Memref sig .tc .vmem S832x256 .f32) (harg10 : arg10.IsWhole) (arg11 : Memref sig .tc .vmem S832x256 .f32) (harg11 : arg11.IsWhole) (arg12 : Memref sig .tc .vmem S8x256 .f32) (harg12 : arg12.IsWhole)

set_option maxHeartbeats 2000000 in
theorem fwdBody0 (h0 : (i 0).val = 0) {f1 : BufTy.Contents (Elt F) arg1.view.ty} {f2 : BufTy.Contents (Elt F) arg2.view.ty} {f3 : BufTy.Contents (Elt F) arg3.view.ty} {f4 : BufTy.Contents (Elt F) arg4.view.ty}
    {f5 : BufTy.Contents (Elt F) arg5.view.ty} {f6 : BufTy.Contents (Elt F) arg6.view.ty} {f7 : BufTy.Contents (Elt F) arg7.view.ty} {f8 : BufTy.Contents (Elt F) arg8.view.ty} {f9 : BufTy.Contents (Elt F) arg9.view.ty}
    {f10 : BufTy.Contents (Elt F) arg10.view.ty} {f11 : BufTy.Contents (Elt F) arg11.view.ty} {f12 : BufTy.Contents (Elt F) arg12.view.ty} {Q : PUnit → sProp 𝕄G} :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12
      ∗ (∀ g8 : BufTy.Contents (Elt F) arg8.view.ty, ∀ g9 : BufTy.Contents (Elt F) arg9.view.ty, ∀ g10 : BufTy.Contents (Elt F) arg10.view.ty, ∀ g11 : BufTy.Contents (Elt F) arg11.view.ty, ∀ g12 : BufTy.Contents (Elt F) arg12.view.ty,
          iprop(⌜arg9.view.read (Elt F) g9 = fwdH (tileA (arg1.view.read (Elt F) f1) (arg3.view.read (Elt F) f3) (arg4.view.read (Elt F) f4) (arg7.view.read (Elt F) f7)) (tileB (arg1.view.read (Elt F) f1) (arg3.view.read (Elt F) f3) (arg4.view.read (Elt F) f4) (arg5.view.read (Elt F) f5) (arg6.view.read (Elt F) f6) (arg7.view.read (Elt F) f7)) (startRow i (arg12.view.read (Elt F) f12))
            ∧ arg8.view.read (Elt F) g8 = k0_pay2 (fwdH (tileA (arg1.view.read (Elt F) f1) (arg3.view.read (Elt F) f3) (arg4.view.read (Elt F) f4) (arg7.view.read (Elt F) f7)) (tileB (arg1.view.read (Elt F) f1) (arg3.view.read (Elt F) f3) (arg4.view.read (Elt F) f4) (arg5.view.read (Elt F) f5) (arg6.view.read (Elt F) f6) (arg7.view.read (Elt F) f7)) (startRow i (arg12.view.read (Elt F) f12))) (arg2.view.read (Elt F) f2)
            ∧ row0 (arg12.view.read (Elt F) g12) = fwdC (tileA (arg1.view.read (Elt F) f1) (arg3.view.read (Elt F) f3) (arg4.view.read (Elt F) f4) (arg7.view.read (Elt F) f7)) (tileB (arg1.view.read (Elt F) f1) (arg3.view.read (Elt F) f3) (arg4.view.read (Elt F) f4) (arg5.view.read (Elt F) f5) (arg6.view.read (Elt F) f6) (arg7.view.read (Elt F) f7)) (startRow i (arg12.view.read (Elt F) f12)) 832⌝
          ∗ pt c arg1 f1 ∗ pt c arg2 f2 ∗ pt c arg3 f3 ∗ pt c arg4 f4 ∗ pt c arg5 f5 ∗ pt c arg6 f6 ∗ pt c arg7 f7 ∗ pt c arg8 g8 ∗ pt c arg9 g9 ∗ pt c arg10 g10 ∗ pt c arg11 g11 ∗ pt c arg12 g12) -∗ Q ⟨⟩))
      ⊢ wp frame (wpE (defs₀ (F := F)) Variants.none (c : Thread nD τ) none) E (cc0_lru (F := F) i arg1 harg1 arg2 harg2 arg3 harg3 arg4 harg4 arg5 harg5 arg6 harg6 arg7 harg7 arg8 harg8 arg9 harg9 arg10 harg10 arg11 harg11 arg12 harg12) Q := by
  have hc : (Scalar.cmpi .ne (Scalar.extui (Scalar.cmpi .eq (BitVec.ofNat 32 (i 0).val) 0#32)) 0#32 : BitVec 1) = 1#1 := by rw [h0]; decide
  iintro ⟨H1, H2, H3, H4, H5, H6, H7, H8, H9, H10, H11, H12, HQ⟩
  sl_unfold [cc0_lru]
  have e1 : arg1.view.readAt (Elt F) (Rect.unit (s := S832x256) ![0, 0] S832x256.size inb_S832x256_S832x256_0_0).toLoadRect f1 = arg1.view.read (Elt F) f1 := View.readAt_full ..
  have e2 : arg2.view.readAt (Elt F) (Rect.unit (s := S832x256) ![0, 0] S832x256.size inb_S832x256_S832x256_0_0).toLoadRect f2 = arg2.view.read (Elt F) f2 := View.readAt_full ..
  have e3 : arg3.view.readAt (Elt F) (Rect.unit (s := S256x256) ![0, 0] S256x256.size inb_S256x256_S256x256_0_0).toLoadRect f3 = arg3.view.read (Elt F) f3 := View.readAt_full ..
  have e4 : arg4.view.readAt (Elt F) (Rect.unit (s := S1x256) ![0, 0] S1x256.size inb_S1x256_S1x256_0_0).toLoadRect f4 = arg4.view.read (Elt F) f4 := View.readAt_full ..
  have e5 : arg5.view.readAt (Elt F) (Rect.unit (s := S256x256) ![0, 0] S256x256.size inb_S256x256_S256x256_0_0).toLoadRect f5 = arg5.view.read (Elt F) f5 := View.readAt_full ..
  have e6 : arg6.view.readAt (Elt F) (Rect.unit (s := S1x256) ![0, 0] S1x256.size inb_S1x256_S1x256_0_0).toLoadRect f6 = arg6.view.read (Elt F) f6 := View.readAt_full ..
  have e7 : arg7.view.readAt (Elt F) (Rect.unit (s := S1x256) ![0, 0] S1x256.size inb_S1x256_S1x256_0_0).toLoadRect f7 = arg7.view.read (Elt F) f7 := View.readAt_full ..
  sl_exec_parts
  sl_step
  have hH : arg9.view.read (Elt F) fL0 = fwdH (tileA (arg1.view.read (Elt F) f1) (arg3.view.read (Elt F) f3) (arg4.view.read (Elt F) f4) (arg7.view.read (Elt F) f7)) (tileB (arg1.view.read (Elt F) f1) (arg3.view.read (Elt F) f3) (arg4.view.read (Elt F) f4) (arg5.view.read (Elt F) f5) (arg6.view.read (Elt F) f6) (arg7.view.read (Elt F) f7)) (startRow i (arg12.view.read (Elt F) f12)) := by
    rw [hL3]
    refine (mixRows_all _ _).trans (fwdH_congr ?_ ?_ ?_)
    · sl_unfold_run_names
      rw [View.read_writes_full]
      rfl
    · sl_unfold_run_names
      rw [View.read_writes_full]
      rfl
    · exact cov_start arg12 h0 _
  iapply HQ $$ %_ %_ %_ %_ %_ [H1 H2 H3 H4 H5 H6 H7 H8 H9 H10 H11 H12]
  isplitr; swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  ipureintro
  refine ⟨hH, ?_, ?_⟩
  · rw [View.read_writes_full, View.readAt_full, hH]
  · rw [row0_write, pay1_eq]
    sl_unfold_run_names
    refine fwdC_congr ?_ ?_ ?_ trips_eq
    · rw [View.read_writes_full]
      rfl
    · rw [View.read_writes_full]
      rfl
    · exact cov_start arg12 h0 _

set_option maxHeartbeats 2000000 in
theorem fwdBody1 (h0 : (i 0).val ≠ 0) {f1 : BufTy.Contents (Elt F) arg1.view.ty} {f2 : BufTy.Contents (Elt F) arg2.view.ty} {f3 : BufTy.Contents (Elt F) arg3.view.ty} {f4 : BufTy.Contents (Elt F) arg4.view.ty}
    {f5 : BufTy.Contents (Elt F) arg5.view.ty} {f6 : BufTy.Contents (Elt F) arg6.view.ty} {f7 : BufTy.Contents (Elt F) arg7.view.ty} {f8 : BufTy.Contents (Elt F) arg8.view.ty} {f9 : BufTy.Contents (Elt F) arg9.view.ty}
    {f10 : BufTy.Contents (Elt F) arg10.view.ty} {f11 : BufTy.Contents (Elt F) arg11.view.ty} {f12 : BufTy.Contents (Elt F) arg12.view.ty} {Q : PUnit → sProp 𝕄G} :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12
      ∗ (∀ g8 : BufTy.Contents (Elt F) arg8.view.ty, ∀ g9 : BufTy.Contents (Elt F) arg9.view.ty, ∀ g10 : BufTy.Contents (Elt F) arg10.view.ty, ∀ g11 : BufTy.Contents (Elt F) arg11.view.ty, ∀ g12 : BufTy.Contents (Elt F) arg12.view.ty,
          iprop(⌜arg9.view.read (Elt F) g9 = fwdH (tileA (arg1.view.read (Elt F) f1) (arg3.view.read (Elt F) f3) (arg4.view.read (Elt F) f4) (arg7.view.read (Elt F) f7)) (tileB (arg1.view.read (Elt F) f1) (arg3.view.read (Elt F) f3) (arg4.view.read (Elt F) f4) (arg5.view.read (Elt F) f5) (arg6.view.read (Elt F) f6) (arg7.view.read (Elt F) f7)) (startRow i (arg12.view.read (Elt F) f12))
            ∧ arg8.view.read (Elt F) g8 = k0_pay2 (fwdH (tileA (arg1.view.read (Elt F) f1) (arg3.view.read (Elt F) f3) (arg4.view.read (Elt F) f4) (arg7.view.read (Elt F) f7)) (tileB (arg1.view.read (Elt F) f1) (arg3.view.read (Elt F) f3) (arg4.view.read (Elt F) f4) (arg5.view.read (Elt F) f5) (arg6.view.read (Elt F) f6) (arg7.view.read (Elt F) f7)) (startRow i (arg12.view.read (Elt F) f12))) (arg2.view.read (Elt F) f2)
            ∧ row0 (arg12.view.read (Elt F) g12) = fwdC (tileA (arg1.view.read (Elt F) f1) (arg3.view.read (Elt F) f3) (arg4.view.read (Elt F) f4) (arg7.view.read (Elt F) f7)) (tileB (arg1.view.read (Elt F) f1) (arg3.view.read (Elt F) f3) (arg4.view.read (Elt F) f4) (arg5.view.read (Elt F) f5) (arg6.view.read (Elt F) f6) (arg7.view.read (Elt F) f7)) (startRow i (arg12.view.read (Elt F) f12)) 832⌝
          ∗ pt c arg1 f1 ∗ pt c arg2 f2 ∗ pt c arg3 f3 ∗ pt c arg4 f4 ∗ pt c arg5 f5 ∗ pt c arg6 f6 ∗ pt c arg7 f7 ∗ pt c arg8 g8 ∗ pt c arg9 g9 ∗ pt c arg10 g10 ∗ pt c arg11 g11 ∗ pt c arg12 g12) -∗ Q ⟨⟩))
      ⊢ wp frame (wpE (defs₀ (F := F)) Variants.none (c : Thread nD τ) none) E (cc0_lru (F := F) i arg1 harg1 arg2 harg2 arg3 harg3 arg4 harg4 arg5 harg5 arg6 harg6 arg7 harg7 arg8 harg8 arg9 harg9 arg10 harg10 arg11 harg11 arg12 harg12) Q := by
  have hc : ¬ (Scalar.cmpi .ne (Scalar.extui (Scalar.cmpi .eq (BitVec.ofNat 32 (i 0).val) 0#32)) 0#32 : BitVec 1) = 1#1 := by
    have h5 : (i 0).val < 5 := (i 0).isLt
    revert h0 h5
    generalize (i 0).val = n
    intro h0 h5
    interval_cases n <;> first | exact absurd rfl h0 | decide
  iintro ⟨H1, H2, H3, H4, H5, H6, H7, H8, H9, H10, H11, H12, HQ⟩
  sl_unfold [cc0_lru]
  have e1 : arg1.view.readAt (Elt F) (Rect.unit (s := S832x256) ![0, 0] S832x256.size inb_S832x256_S832x256_0_0).toLoadRect f1 = arg1.view.read (Elt F) f1 := View.readAt_full ..
  have e2 : arg2.view.readAt (Elt F) (Rect.unit (s := S832x256) ![0, 0] S832x256.size inb_S832x256_S832x256_0_0).toLoadRect f2 = arg2.view.read (Elt F) f2 := View.readAt_full ..
  have e3 : arg3.view.readAt (Elt F) (Rect.unit (s := S256x256) ![0, 0] S256x256.size inb_S256x256_S256x256_0_0).toLoadRect f3 = arg3.view.read (Elt F) f3 := View.readAt_full ..
  have e4 : arg4.view.readAt (Elt F) (Rect.unit (s := S1x256) ![0, 0] S1x256.size inb_S1x256_S1x256_0_0).toLoadRect f4 = arg4.view.read (Elt F) f4 := View.readAt_full ..
  have e5 : arg5.view.readAt (Elt F) (Rect.unit (s := S256x256) ![0, 0] S256x256.size inb_S256x256_S256x256_0_0).toLoadRect f5 = arg5.view.read (Elt F) f5 := View.readAt_full ..
  have e6 : arg6.view.readAt (Elt F) (Rect.unit (s := S1x256) ![0, 0] S1x256.size inb_S1x256_S1x256_0_0).toLoadRect f6 = arg6.view.read (Elt F) f6 := View.readAt_full ..
  have e7 : arg7.view.readAt (Elt F) (Rect.unit (s := S1x256) ![0, 0] S1x256.size inb_S1x256_S1x256_0_0).toLoadRect f7 = arg7.view.read (Elt F) f7 := View.readAt_full ..
  have e12 : arg12.view.readAt (Elt F) (Rect.unit (s := S8x256) ![0, 0] S1x256.size inb_S8x256_S1x256_0_0).toLoadRect f12 = startRow i (arg12.view.read (Elt F) f12) := by
    rw [View.readAt_unit arg12.view f12 _ rfl inb_S8x256_S1x256_0_0, window_row0]
    unfold startRow; rw [if_neg h0]
  sl_exec_parts
  sl_step
  have hH : arg9.view.read (Elt F) fL0 = fwdH (tileA (arg1.view.read (Elt F) f1) (arg3.view.read (Elt F) f3) (arg4.view.read (Elt F) f4) (arg7.view.read (Elt F) f7)) (tileB (arg1.view.read (Elt F) f1) (arg3.view.read (Elt F) f3) (arg4.view.read (Elt F) f4) (arg5.view.read (Elt F) f5) (arg6.view.read (Elt F) f6) (arg7.view.read (Elt F) f7)) (startRow i (arg12.view.read (Elt F) f12)) := by
    rw [hL3]
    refine (mixRows_all _ _).trans (fwdH_congr ?_ ?_ ?_)
    · sl_unfold_run_names
      rw [View.read_writes_full]
      rfl
    · sl_unfold_run_names
      rw [View.read_writes_full]
      rfl
    · rfl
  iapply HQ $$ %_ %_ %_ %_ %_ [H1 H2 H3 H4 H5 H6 H7 H8 H9 H10 H11 H12]
  isplitr; swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  ipureintro
  refine ⟨hH, ?_, ?_⟩
  · rw [View.read_writes_full, View.readAt_full, hH]
  · rw [row0_write, pay1_eq]
    sl_unfold_run_names
    refine fwdC_congr ?_ ?_ ?_ trips_eq
    · rw [View.read_writes_full]
      rfl
    · rw [View.read_writes_full]
      rfl
    · rfl

end Body

end Cert.KernelIdeal.Own

end
-- ==== Proof.FwdRegion.lean ====
/- The forward region over the launch's resources: what its grid steps leave, its proof data and its segment. -/
module

public import proofs.«01_k».proof.Proof.FwdBody
public import proofs.«01_k».proof.Proof.Gen.KernelIdeal.Points
public import proofs.«01_k».proof.Proof.Gen.KernelIdeal.Regions
public import Idealize.ShloMosaic.Lib.Pipeline.RegionsLoop
public import Idealize.ShloMosaic.Lib.Pipeline.Frame

@[expose] public section

set_option maxRecDepth 8192

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen
open Idealize.ShloMosaic.ValueIdx

variable {F : FTy → Type} [FloatOps F]

local notation "𝕄G" => MT nD τ sig Unit (Elt F) ℕ (UR sig nD τ) ℕ

section Body
variable (c : Dev nD) (E : Set ℕ) (i : grid0.Coords) (arg1 : Memref sig .tc .vmem S832x256 .f32) (harg1 : arg1.IsWhole) (arg2 : Memref sig .tc .vmem S832x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S832x256 .bf16) (harg8 : arg8.IsWhole) (arg9 : Memref sig .tc .vmem S832x256 .f32) (harg9 : arg9.IsWhole) (arg10 : Memref sig .tc .vmem S832x256 .f32) (harg10 : arg10.IsWhole) (arg11 : Memref sig .tc .vmem S832x256 .f32) (harg11 : arg11.IsWhole) (arg12 : Memref sig .tc .vmem S8x256 .f32) (harg12 : arg12.IsWhole)
/-- One run of the forward body between what its buffers read. -/
theorem fwdOwns (u y : Vec F S832x256 .f32) (wa : Vec F S256x256 .f32) (ba : Vec F S1x256 .f32) (wx : Vec F S256x256 .f32) (bx lam : Vec F S1x256 .f32) (x : Vec F S8x256 .f32) (Q : PUnit → sProp 𝕄G) :
    iprop(owns (c : Thread nD τ) arg1 fullShare u ∗ owns (c : Thread nD τ) arg2 fullShare y ∗ owns (c : Thread nD τ) arg3 fullShare wa ∗ owns (c : Thread nD τ) arg4 fullShare ba ∗ owns (c : Thread nD τ) arg5 fullShare wx ∗ owns (c : Thread nD τ) arg6 fullShare bx ∗ owns (c : Thread nD τ) arg7 fullShare lam ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ owns (c : Thread nD τ) arg12 fullShare x
      ∗ (∀ x' : Vec F S8x256 .f32, ⌜row0 x' = fwdC (tileA u wa ba lam) (tileB u wa ba wx bx lam) (startRow i x) 832⌝ -∗ (owns (c : Thread nD τ) arg1 fullShare u ∗ owns (c : Thread nD τ) arg2 fullShare y ∗ owns (c : Thread nD τ) arg3 fullShare wa ∗ owns (c : Thread nD τ) arg4 fullShare ba ∗ owns (c : Thread nD τ) arg5 fullShare wx ∗ owns (c : Thread nD τ) arg6 fullShare bx ∗ owns (c : Thread nD τ) arg7 fullShare lam ∗ owns (c : Thread nD τ) arg8 fullShare (k0_pay2 (fwdH (tileA u wa ba lam) (tileB u wa ba wx bx lam) (startRow i x)) y) ∗ owns (c : Thread nD τ) arg9 fullShare (fwdH (tileA u wa ba lam) (tileB u wa ba wx bx lam) (startRow i x)) ∗ (∃ X, owns (c : Thread nD τ) arg10 fullShare X) ∗ (∃ X, owns (c : Thread nD τ) arg11 fullShare X) ∗ owns (c : Thread nD τ) arg12 fullShare x') -∗ Q ⟨⟩))
      ⊢ wp frame (wpE (defs₀ (F := F)) Variants.none (c : Thread nD τ) none) E (cc0_lru (F := F) i arg1 harg1 arg2 harg2 arg3 harg3 arg4 harg4 arg5 harg5 arg6 harg6 arg7 harg7 arg8 harg8 arg9 harg9 arg10 harg10 arg11 harg11 arg12 harg12) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%X8, %f8, %hf8, H8⟩, ⟨%X9, %f9, %hf9, H9⟩, ⟨%X10, %f10, %hf10, H10⟩, ⟨%X11, %f11, %hf11, H11⟩, ⟨%f12, %hf12, H12⟩, HQ⟩
  by_cases h0 : (i 0).val = 0
  ·
    iapply (fwdBody0 (F := F) c E i arg1 harg1 arg2 harg2 arg3 harg3 arg4 harg4 arg5 harg5 arg6 harg6 arg7 harg7 arg8 harg8 arg9 harg9 arg10 harg10 arg11 harg11 arg12 harg12 h0)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro %g8 %g9 %g10 %g11 %g12 ⟨%hg, G1, G2, G3, G4, G5, G6, G7, G8, G9, G10, G11, G12⟩
    obtain ⟨hg9, hg8, hg12⟩ := hg
    subst hf1 hf2 hf3 hf4 hf5 hf6 hf7 hf12
    iapply HQ $$ %(arg12.view.read (Elt F) g12) %hg12 [G1 G2 G3 G4 G5 G6 G7 G8 G9 G10 G11 G12]
    isplitl [G1]
    · iexists _; isplitr; swap; (· iexact G1); ipureintro; rfl
    isplitl [G2]
    · iexists _; isplitr; swap; (· iexact G2); ipureintro; rfl
    isplitl [G3]
    · iexists _; isplitr; swap; (· iexact G3); ipureintro; rfl
    isplitl [G4]
    · iexists _; isplitr; swap; (· iexact G4); ipureintro; rfl
    isplitl [G5]
    · iexists _; isplitr; swap; (· iexact G5); ipureintro; rfl
    isplitl [G6]
    · iexists _; isplitr; swap; (· iexact G6); ipureintro; rfl
    isplitl [G7]
    · iexists _; isplitr; swap; (· iexact G7); ipureintro; rfl
    isplitl [G8]
    · iexists _; isplitr; swap; (· iexact G8); ipureintro; exact hg8
    isplitl [G9]
    · iexists _; isplitr; swap; (· iexact G9); ipureintro; exact hg9
    isplitl [G10]
    · iexists _; iexists _; isplitr; swap; (· iexact G10); ipureintro; rfl
    isplitl [G11]
    · iexists _; iexists _; isplitr; swap; (· iexact G11); ipureintro; rfl
    iexists _; isplitr; swap; (· iexact G12); ipureintro; rfl
  ·
    iapply (fwdBody1 (F := F) c E i arg1 harg1 arg2 harg2 arg3 harg3 arg4 harg4 arg5 harg5 arg6 harg6 arg7 harg7 arg8 harg8 arg9 harg9 arg10 harg10 arg11 harg11 arg12 harg12 h0)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro %g8 %g9 %g10 %g11 %g12 ⟨%hg, G1, G2, G3, G4, G5, G6, G7, G8, G9, G10, G11, G12⟩
    obtain ⟨hg9, hg8, hg12⟩ := hg
    subst hf1 hf2 hf3 hf4 hf5 hf6 hf7 hf12
    iapply HQ $$ %(arg12.view.read (Elt F) g12) %hg12 [G1 G2 G3 G4 G5 G6 G7 G8 G9 G10 G11 G12]
    isplitl [G1]
    · iexists _; isplitr; swap; (· iexact G1); ipureintro; rfl
    isplitl [G2]
    · iexists _; isplitr; swap; (· iexact G2); ipureintro; rfl
    isplitl [G3]
    · iexists _; isplitr; swap; (· iexact G3); ipureintro; rfl
    isplitl [G4]
    · iexists _; isplitr; swap; (· iexact G4); ipureintro; rfl
    isplitl [G5]
    · iexists _; isplitr; swap; (· iexact G5); ipureintro; rfl
    isplitl [G6]
    · iexists _; isplitr; swap; (· iexact G6); ipureintro; rfl
    isplitl [G7]
    · iexists _; isplitr; swap; (· iexact G7); ipureintro; rfl
    isplitl [G8]
    · iexists _; isplitr; swap; (· iexact G8); ipureintro; exact hg8
    isplitl [G9]
    · iexists _; isplitr; swap; (· iexact G9); ipureintro; exact hg9
    isplitl [G10]
    · iexists _; iexists _; isplitr; swap; (· iexact G10); ipureintro; rfl
    isplitl [G11]
    · iexists _; iexists _; isplitr; swap; (· iexact G11); ipureintro; rfl
    iexists _; isplitr; swap; (· iexact G12); ipureintro; rfl

end Body

/-! ## What the steps leave -/

section Data
variable (V : (c : Dev nD) → (b : Ref sig .tc) → Buf (Elt F) ((c : Thread nD τ).loc b)) (c : Dev nD)

/-- The arrays at the region's entry. -/
abbrev fA (w : Fin cfg0.W) : Buf (Elt F) ((cfg0.win w).arr.view.loc (c.tc : Thread nD τ)) := V c (Pipeline.arrRef spec0 w)

/-- What an input window's buffer holds at a step. -/
abbrev fX (w : Fin cfg0.W) (n : ℕ) (h : n < cfg0.N) : (cfg0.win w).block.Idx → Elt F (cfg0.win w).elt := Pipeline.heldIn cfg0 (fA V c) w n h

def ftA (n : ℕ) (h : n < cfg0.N) : Vec F S832x256 .f32 := tileA (fX V c 0 n h) (fX V c 2 n h) (fX V c 3 n h) (fX V c 6 n h)
def ftB (n : ℕ) (h : n < cfg0.N) : Vec F S832x256 .f32 := tileB (fX V c 0 n h) (fX V c 2 n h) (fX V c 3 n h) (fX V c 4 n h) (fX V c 5 n h) (fX V c 6 n h)

/-- The row of h carried into step `n`. -/
def fcarry : ℕ → Vec F S1x256 .f32
  | 0 => row0 k0_pay3
  | n + 1 => if h : n < cfg0.N then fwdC (ftA V c n h) (ftB V c n h) (fcarry n) 832 else fcarry n

/-- The tile of h of step `n`. -/
def fH (n : ℕ) (h : n < cfg0.N) : Vec F S832x256 .f32 := fwdH (ftA V c n h) (ftB V c n h) (fcarry V c n)

abbrev fRest : sProp 𝕄G := Pipeline.scopedRestBut (Ix := Unit) (Name := ℕ) (U := UR sig nD τ) (Lvl := ℕ) (Val := Elt F) spec0 c [cc0_scratch0, cc0_scratch1, cc0_scratch2]

/-- Between steps: the carried row in the third scratch buffer, the other two at anything. -/
def fΦ (n : ℕ) : sProp 𝕄G :=
  iprop((∃ x : Vec F S8x256 .f32, ⌜n ≠ 0 → row0 x = fcarry V c n⌝ ∗ owns (c : Thread nD τ) (Memref.whole cc0_scratch2) fullShare x)
    ∗ (∃ X, owns (c : Thread nD τ) (Memref.whole cc0_scratch0) fullShare X) ∗ (∃ X, owns (c : Thread nD τ) (Memref.whole cc0_scratch1) fullShare X) ∗ fRest c)

/-- The proof data of the forward region. -/
def fdat : Dat τ (Elt F) Unit ℕ (UR sig nD τ) ℕ cfg0 c where
  A w := fA V c w
  after w t := match w with
    | ⟨0, _⟩ => fX V c 0 t.val t.isLt
    | ⟨1, _⟩ => fX V c 1 t.val t.isLt
    | ⟨2, _⟩ => fX V c 2 t.val t.isLt
    | ⟨3, _⟩ => fX V c 3 t.val t.isLt
    | ⟨4, _⟩ => fX V c 4 t.val t.isLt
    | ⟨5, _⟩ => fX V c 5 t.val t.isLt
    | ⟨6, _⟩ => fX V c 6 t.val t.isLt
    | ⟨7, _⟩ => k0_pay2 (fH V c t.val t.isLt) (fX V c 1 t.val t.isLt)
    | ⟨8, _⟩ => fH V c t.val t.isLt
    | ⟨_ + 9, h⟩ => absurd h (Nat.not_lt.2 (Nat.le_add_left _ _))
  Φ t := fΦ V c t.val
  q _ := fullShare
  owed _ := 0

theorem fclip : ∀ (w : Fin cfg0.W) (i : cfg0.grid.Coords) a, (cfg0.win w).clip i a = none := by decide +kernel

theorem fcoord (t : Fin cfg0.N) : ((cfg0.grid.coords t) 0).val = t.val := by
  revert t; decide +kernel

theorem fstart (t : Fin cfg0.N) (x : Vec F S8x256 .f32) (h : t.val ≠ 0 → row0 x = fcarry V c t.val) :
    startRow (cfg0.grid.coords t) x = fcarry V c t.val := by
  unfold startRow
  rw [fcoord]
  by_cases h0 : t.val = 0
  · rw [if_pos h0, h0]; rfl
  · rw [if_neg h0]; exact h h0

theorem fbefore0 (t : Fin cfg0.N) (d) : (fdat V c).before 0 t d = fX V c 0 t.val t.isLt :=
  (fdat V c).before_eq_heldIn 0 rfl (fun _ => rfl) (fclip 0) (fun _ => rfl) t d

theorem fbefore1 (t : Fin cfg0.N) (d) : (fdat V c).before 1 t d = fX V c 1 t.val t.isLt :=
  (fdat V c).before_eq_heldIn 1 rfl (fun _ => rfl) (fclip 1) (fun _ => rfl) t d

theorem fbefore2 (t : Fin cfg0.N) (d) : (fdat V c).before 2 t d = fX V c 2 t.val t.isLt :=
  (fdat V c).before_eq_heldIn 2 rfl (fun _ => rfl) (fclip 2) (fun _ => rfl) t d

theorem fbefore3 (t : Fin cfg0.N) (d) : (fdat V c).before 3 t d = fX V c 3 t.val t.isLt :=
  (fdat V c).before_eq_heldIn 3 rfl (fun _ => rfl) (fclip 3) (fun _ => rfl) t d

theorem fbefore4 (t : Fin cfg0.N) (d) : (fdat V c).before 4 t d = fX V c 4 t.val t.isLt :=
  (fdat V c).before_eq_heldIn 4 rfl (fun _ => rfl) (fclip 4) (fun _ => rfl) t d

theorem fbefore5 (t : Fin cfg0.N) (d) : (fdat V c).before 5 t d = fX V c 5 t.val t.isLt :=
  (fdat V c).before_eq_heldIn 5 rfl (fun _ => rfl) (fclip 5) (fun _ => rfl) t d

theorem fbefore6 (t : Fin cfg0.N) (d) : (fdat V c).before 6 t d = fX V c 6 t.val t.isLt :=
  (fdat V c).before_eq_heldIn 6 rfl (fun _ => rfl) (fclip 6) (fun _ => rfl) t d

set_option maxHeartbeats 1000000 in
theorem fbody : BodyObligation (fdat V c) (defs₀ (F := F)) Variants.none () Set.univ := fun t => by
  rw [bigSep_W0, bigSep_W0]
  rw [show (fdat V c).Φ t.castSucc = fΦ V c t.val from rfl, show (fdat V c).Φ t.succ = fΦ V c (t.val + 1) from rfl,
    show (fdat V c).owesAt () t.succ = (fdat V c).owesAt () t.castSucc from rfl]
  unfold fΦ
  iintro ⟨⟨⟨%x, %hx, H12⟩, ⟨%X10, H10⟩, ⟨%X11, H11⟩, HR⟩, Howes, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩⟩
  rw [fbefore0, fbefore1, fbefore2, fbefore3, fbefore4, fbefore5, fbefore6]
  iapply (fwdOwns (F := F) c Set.univ (grid0.coords t) _ _ _ _ _ _ _ _ _ _ _ _ _ _ _ _ _ _ _ _ _ _ _ _ (fX V c 0 t.val t.isLt) (fX V c 1 t.val t.isLt) (fX V c 2 t.val t.isLt) (fX V c 3 t.val t.isLt) (fX V c 4 t.val t.isLt) (fX V c 5 t.val t.isLt) (fX V c 6 t.val t.isLt) x)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexact H12
  iintro %x' %hx' ⟨H1, H2, H3, H4, H5, H6, H7, H8, H9, H10, H11, H12⟩
  rw [fstart V c t x hx] at hx'
  rw [fstart V c t x hx]
  isplitl [H12 H10 H11 HR]
  · isplitl [H12]
    · iexists x'
      isplitr; swap; (· iexact H12)
      ipureintro
      intro _
      rw [hx']
      show _ = (if h : t.val < cfg0.N then _ else _)
      rw [dif_pos t.isLt]
      rfl
    isplitl [H10]; · iexact H10
    isplitl [H11]; · iexact H11
    iexact HR
  isplitl [Howes]; · iexact Howes
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Data

end Cert.KernelIdeal.Own

end
-- ==== Proof.BwdLoop.lean ====
/- The reverse recurrence of the backward region: one tile's 832 rows from the last to the first, the gradient of h
   and of the decay written row by row, as recursions on rows and as the invariant of the region's counted loop. -/
module

public import proofs.«01_k».proof.Proof.FwdLoop

@[expose] public section

set_option maxRecDepth 8192

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

/-- Row `k` of the extended tile of h (eight rows before the tile, then the tile). -/
def rowOfX (A : Vec F S840x256 .f32) (k : ℕ) : Vec F S1x256 .f32 :=
  fun j => A (ix2 ⟨k % 840, Nat.mod_lt _ (by decide)⟩ (j 1))

/-- The carried gradient before step `s` of the reverse sweep: `c ← a·(dh + c)`. -/
def bwdC (A D : Vec F S832x256 .f32) (c0 : Vec F S1x256 .f32) : ℕ → Vec F S1x256 .f32
  | 0 => c0
  | s + 1 => k1_pay51 (bwdC A D c0 s) (rowOf D (831 - s)) (rowOf A (831 - s))

/-- The gradient of h on a tile. -/
def bwdG (A D : Vec F S832x256 .f32) (c0 : Vec F S1x256 .f32) : Vec F S832x256 .f32 :=
  fun y => k1_pay49 (bwdC A D c0 (831 - (y 0).val)) (rowOf D (y 0).val) (ix2 0 (y 1))

/-- The gradient of the decay on a tile, `X` the extended tile of h. -/
def bwdDA (A D : Vec F S832x256 .f32) (X : Vec F S840x256 .f32) (c0 : Vec F S1x256 .f32) : Vec F S832x256 .f32 :=
  fun y => k1_pay50 (bwdC A D c0 (831 - (y 0).val)) (rowOf D (y 0).val) (rowOfX X ((y 0).val + 7)) (ix2 0 (y 1))

theorem window_rowX (A : Vec F S840x256 .f32) (k : ℕ) (hk : k < 840)
    (inb : ∀ a, (![k, 0] : Fin 2 → ℕ) a + S1x256.size a ≤ S840x256.size a) :
    VecWindow.window (s := S840x256) A ![k, 0] S1x256.size inb = rowOfX A k := by
  funext j
  unfold VecWindow.window rowOfX
  congr 1
  funext a
  apply Fin.ext
  match a with
  | ⟨0, _⟩ =>
    have : ((j : S1x256.Idx) 0).val = 0 := by have := idx2_lt0 (n0 := 1) (n1 := 256) j; omega
    show k + 1 * ((j : S1x256.Idx) 0).val = k % 840
    rw [this, Nat.mod_eq_of_lt hk]; omega
  | ⟨1, _⟩ =>
    show 0 + 1 * ((j : S1x256.Idx) 1).val = ((j : S1x256.Idx) 1).val
    omega

/-- A tile whose last `k` rows are `H`'s and whose others are `G`'s. -/
def mixRowsR (H G : Vec F S832x256 .f32) : ℕ → Vec F S832x256 .f32
  | 0 => G
  | k + 1 => fun y => if (y 0).val = 831 - k then H y else mixRowsR H G k y

theorem mixRowsR_of_le (H G : Vec F S832x256 .f32) (y : S832x256.Idx) : ∀ k, k ≤ 832 → 832 - k ≤ (y 0).val → mixRowsR H G k y = H y
  | 0, _, h => absurd h (by have := idx2_lt0 (n0 := 832) (n1 := 256) y; omega)
  | k + 1, hk, h => by
    unfold mixRowsR
    by_cases e : (y 0).val = 831 - k
    · rw [if_pos e]
    · rw [if_neg e]; exact mixRowsR_of_le H G y k (by omega) (by omega)

theorem trips1_eq : k1_t1_loop.trips = 832 := by decide +kernel

theorem mixRowsR_all (H G : Vec F S832x256 .f32) : mixRowsR H G k1_t1_loop.trips = H := by
  funext y
  exact mixRowsR_of_le H G y _ (le_of_eq trips1_eq) (by rw [trips1_eq]; exact Nat.zero_le _)

local notation "𝕄G" => MT nD τ sig Unit (Elt F) ℕ (UR sig nD τ) ℕ

section Loop
variable (c : Dev nD) (E : Set ℕ) (i : grid1.Coords) (arg1 : Memref sig .tc .vmem S832x256 .f32) (harg1 : arg1.IsWhole) (arg2 : Memref sig .tc .vmem S832x256 .f32) (harg2 : arg2.IsWhole) (arg3 : Memref sig .tc .vmem S832x256 .f32) (harg3 : arg3.IsWhole) (arg4 : Memref sig .tc .vmem S8x256 .f32) (harg4 : arg4.IsWhole) (arg5 : Memref sig .tc .vmem S832x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S832x256 .f32) (harg11 : arg11.IsWhole) (arg12 : Memref sig .tc .vmem S832x256 .bf16) (harg12 : arg12.IsWhole) (arg13 : Memref sig .tc .vmem S256x256 .f32) (harg13 : arg13.IsWhole) (arg14 : Memref sig .tc .vmem S1x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S832x256 .f32) (harg18 : arg18.IsWhole) (arg19 : Memref sig .tc .vmem S832x256 .f32) (harg19 : arg19.IsWhole) (arg20 : Memref sig .tc .vmem S832x256 .f32) (harg20 : arg20.IsWhole) (arg21 : Memref sig .tc .vmem S832x256 .f32) (harg21 : arg21.IsWhole) (arg22 : Memref sig .tc .vmem S840x256 .f32) (harg22 : arg22.IsWhole) (arg23 : Memref sig .tc .vmem S8x256 .f32) (harg23 : arg23.IsWhole) (arg0 : BitVec 32) (v13 : Vec F S832x256 .f32) (v24 : FVec F S832x256 .f32) (v58 : FVec F S832x256 .f32) (v81 : FVec F S832x256 .f32) (v84 : FVec F S832x256 .f32) (v106 : FVec F S832x256 .f32) (v107 : Vec F S832x256 .f32) (v109 : FVec F S832x256 .f32) (v123 : FVec F S832x256 .bf16)
  (X18 : BufTy.Contents (Elt F) arg18.view.ty) (X19 : BufTy.Contents (Elt F) arg19.view.ty) (X22 : BufTy.Contents (Elt F) arg22.view.ty)

/-- One step's region: one row of the two gradients written, the carried gradient moved on. -/
theorem bwdTrip (k : Fin k1_t1_loop.trips) (acc : Vec F S1x256 .f32) (f20 : BufTy.Contents (Elt F) arg20.view.ty) (f21 : BufTy.Contents (Elt F) arg21.view.ty) (Q : Vec F S1x256 .f32 → sProp 𝕄G) :
    iprop((arg18.view.loc (c : Thread nD τ) ↦[arg18.view.set]{fullShare} X18) ∗ (arg19.view.loc (c : Thread nD τ) ↦[arg19.view.set]{fullShare} X19) ∗ (arg22.view.loc (c : Thread nD τ) ↦[arg22.view.set]{fullShare} X22) ∗ (arg20.view.loc (c : Thread nD τ) ↦[arg20.view.set]{fullShare} f20) ∗ (arg21.view.loc (c : Thread nD τ) ↦[arg21.view.set]{fullShare} f21)
        ∗ ((arg18.view.loc (c : Thread nD τ) ↦[arg18.view.set]{fullShare} X18) -∗ (arg19.view.loc (c : Thread nD τ) ↦[arg19.view.set]{fullShare} X19) -∗ (arg22.view.loc (c : Thread nD τ) ↦[arg22.view.set]{fullShare} X22)
        -∗ (arg20.view.loc (c : Thread nD τ) ↦[arg20.view.set]{fullShare} arg20.view.writes (Elt F) f20 [⟨Rect.unit (s := S832x256) (k1_off1 k) S1x256.size (k1_off1_inb k), k1_pay49 acc (rowOf (arg19.view.read (Elt F) X19) (831 - k.val))⟩]) -∗ (arg21.view.loc (c : Thread nD τ) ↦[arg21.view.set]{fullShare} arg21.view.writes (Elt F) f21 [⟨Rect.unit (s := S832x256) (k1_off1 k) S1x256.size (k1_off1_inb k), k1_pay50 acc (rowOf (arg19.view.read (Elt F) X19) (831 - k.val)) (rowOfX (arg22.view.read (Elt F) X22) (838 - k.val))⟩])
        -∗ Q (k1_pay51 acc (rowOf (arg19.view.read (Elt F) X19) (831 - k.val)) (rowOf (arg18.view.read (Elt F) X18) (831 - k.val)))))
      ⊢ wp frame (wpE (defs₀ (F := F)) Variants.none (c : Thread nD τ) none) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v13 v24 v58 v81 v84 v106 v107 v109 v123 k acc) Q := by
  have hk : k.val < 832 := Nat.lt_of_lt_of_le k.isLt k1_t1_abs.2.1
  have hinb : ∀ a, (![831 - k.val, 0] : Fin 2 → ℕ) a + S1x256.size a ≤ S832x256.size a := by rw [← k1_off1_eq k]; exact k1_off1_inb k
  have hinb2 : ∀ a, (![838 - k.val, 0] : Fin 2 → ℕ) a + S1x256.size a ≤ S840x256.size a := by rw [← k1_off2_eq k]; exact k1_off2_inb k
  have e18 : arg18.view.readAt (Elt F) (Rect.unit (s := S832x256) (k1_off1 k) S1x256.size (k1_off1_inb k)).toLoadRect X18 = rowOf (arg18.view.read (Elt F) X18) (831 - k.val) := by
    rw [View.readAt_unit arg18.view X18 _ (k1_off1_eq k) hinb, window_row _ _ (by omega)]
  have e19 : arg19.view.readAt (Elt F) (Rect.unit (s := S832x256) (k1_off1 k) S1x256.size (k1_off1_inb k)).toLoadRect X19 = rowOf (arg19.view.read (Elt F) X19) (831 - k.val) := by
    rw [View.readAt_unit arg19.view X19 _ (k1_off1_eq k) hinb, window_row _ _ (by omega)]
  have e22 : arg22.view.readAt (Elt F) (Rect.unit (s := S840x256) (k1_off2 k) S1x256.size (k1_off2_inb k)).toLoadRect X22 = rowOfX (arg22.view.read (Elt F) X22) (838 - k.val) := by
    rw [View.readAt_unit arg22.view X22 _ (k1_off2_eq k) hinb2, window_rowX _ _ (by omega)]
  unfold k1_t1_body
  iintro ⟨H18, H19, H22, H20, H21, HQ⟩
  sl_exec
  sl_step
  iapply HQ $$ [H18] [H19] [H22] [H20] [H21]
  · iexact H18
  · iexact H19
  · iexact H22
  · iexact H20
  · iexact H21

set_option warn.classDefReducibility false in
/-- The loop by its invariant: the decay, the incoming gradient and the extended tile of h read as they are, the rows
    of the two gradients written so far, the carried gradient. -/
@[sl_loop] def bwdInv (G20 : BufTy.Contents (Elt F) arg20.view.ty) (G21 : BufTy.Contents (Elt F) arg21.view.ty) (init : Vec F S1x256 .f32) :
    Idealize.ShloMosaic.LoopInv (M := 𝕄G) Idealize.ShloMosaic.frame (wpE (defs₀ (F := F)) Variants.none (c : Thread nD τ) none) E
      k1_t1_loop.lb k1_t1_loop.ub k1_t1_loop.st k1_t1_ok init (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v13 v24 v58 v81 v84 v106 v107 v109 v123) where
  inv k acc := iprop((arg18.view.loc (c : Thread nD τ) ↦[arg18.view.set]{fullShare} X18) ∗ (arg19.view.loc (c : Thread nD τ) ↦[arg19.view.set]{fullShare} X19) ∗ (arg22.view.loc (c : Thread nD τ) ↦[arg22.view.set]{fullShare} X22)
        ∗ (∃ f, (arg20.view.loc (c : Thread nD τ) ↦[arg20.view.set]{fullShare} f) ∗ ⌜arg20.view.read (Elt F) f = mixRowsR (bwdG (arg18.view.read (Elt F) X18) (arg19.view.read (Elt F) X19) init) (arg20.view.read (Elt F) G20) k⌝)
        ∗ (∃ f, (arg21.view.loc (c : Thread nD τ) ↦[arg21.view.set]{fullShare} f) ∗ ⌜arg21.view.read (Elt F) f = mixRowsR (bwdDA (arg18.view.read (Elt F) X18) (arg19.view.read (Elt F) X19) (arg22.view.read (Elt F) X22) init) (arg21.view.read (Elt F) G21) k⌝)
        ∗ ⌜acc = bwdC (arg18.view.read (Elt F) X18) (arg19.view.read (Elt F) X19) init k⌝)
  step k acc := by
    have hk : k.val < 832 := Nat.lt_of_lt_of_le k.isLt k1_t1_abs.2.1
    iintro ⟨H18, H19, H22, ⟨%f20, H20, %h20⟩, ⟨%f21, H21, %h21⟩, %hacc⟩
    iapply (bwdTrip (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v13 v24 v58 v81 v84 v106 v107 v109 v123 X18 X19 X22 k acc f20 f21)
    isplitl [H18]; · iexact H18
    isplitl [H19]; · iexact H19
    isplitl [H22]; · iexact H22
    isplitl [H20]; · iexact H20
    isplitl [H21]; · iexact H21
    iintro H18 H19 H22 H20 H21
    isplitl [H18]; · iexact H18
    isplitl [H19]; · iexact H19
    isplitl [H22]; · iexact H22
    isplitl [H20]
    · iexists _
      isplitl [H20]; · iexact H20
      ipureintro
      funext y
      subst hacc
      unfold mixRowsR
      by_cases h : (y 0).val = 831 - k.val
      · rw [View.read_writes_cons_rows_of_mem arg20.view f20 (k1_off1_inb k) _ [] y (ix2 0 (y 1)) (k1_off1_eq k) (by rw [h]; rfl) rfl, if_pos h]
        unfold bwdG
        rw [h, show 831 - (831 - k.val) = k.val by omega]
      · rw [View.read_writes_cons_rows_of_not_mem arg20.view f20 (k1_off1_inb k) _ [] y (k1_off1_eq k) (W := 1) rfl (by omega), if_neg h]
        exact congrFun h20 y
    isplitl [H21]
    · iexists _
      isplitl [H21]; · iexact H21
      ipureintro
      funext y
      subst hacc
      unfold mixRowsR
      by_cases h : (y 0).val = 831 - k.val
      · rw [View.read_writes_cons_rows_of_mem arg21.view f21 (k1_off1_inb k) _ [] y (ix2 0 (y 1)) (k1_off1_eq k) (by rw [h]; rfl) rfl, if_pos h]
        unfold bwdDA
        rw [h, show 831 - (831 - k.val) = k.val by omega, show 831 - k.val + 7 = 838 - k.val by omega]
      · rw [View.read_writes_cons_rows_of_not_mem arg21.view f21 (k1_off1_inb k) _ [] y (k1_off1_eq k) (W := 1) rfl (by omega), if_neg h]
        exact congrFun h21 y
    ipureintro
    rw [hacc]; rfl

end Loop

end Cert.KernelIdeal.Own

end
-- ==== Proof.BwdBody.lean ====
/- One run of the backward region's body on a tile: what its windows and its carried row hold afterwards, over any
   elements. -/
module

public import proofs.«01_k».proof.Proof.BwdLoop
public import proofs.«01_k».proof.Proof.FwdBody

@[expose] public section

set_option maxRecDepth 8192

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

/-- What one grid step of the backward region reads: the tile of the gates' input, of the gating branch, of h, the
    eight rows of h before it (zeros before the first tile), the tile of the incoming gradient, and the weights. -/
structure BwdIn (F : FTy → Type) where
  u : Vec F S832x256 .f32
  y : Vec F S832x256 .f32
  h : Vec F S832x256 .f32
  prev : Vec F S8x256 .f32
  d : Vec F S832x256 .f32
  wa : Vec F S256x256 .f32
  ba : Vec F S1x256 .f32
  wx : Vec F S256x256 .f32
  bx : Vec F S1x256 .f32
  lam : Vec F S1x256 .f32

namespace BwdIn
variable (x : BwdIn F) (c0 : Vec F S1x256 .f32)

def v20 := k1_pay16 x.wa x.ba x.u
def v24 := k1_pay17 x.wx x.bx x.u
def v27 := k1_pay18 x.wx x.bx x.u
def v29 := k1_pay19 x.wa x.ba x.u
def v45 := k1_pay24 (k1_pay20 x.lam) (Scalar.ofBits .f32 0x00000000#32) (k1_pay21 x.lam) (k1_pay22 x.lam) (k1_pay23 x.lam)
def v55 := k1_pay25 (k1_pay20 x.lam) (Scalar.ofBits .f32 0x00000000#32) (k1_pay21 x.lam) (k1_pay22 x.lam) (k1_pay23 x.lam)
def v58 := k1_pay27 x.v29 (k1_pay20 x.lam) (Scalar.ofBits .f32 0x00000000#32) (k1_pay21 x.lam) (k1_pay22 x.lam) (k1_pay23 x.lam)
def v60 := k1_pay28 x.v29 (k1_pay20 x.lam) (Scalar.ofBits .f32 0x00000000#32) (k1_pay21 x.lam) (k1_pay22 x.lam) (k1_pay23 x.lam)
def v62 := k1_pay29 x.v29 (k1_pay20 x.lam) (Scalar.ofBits .f32 0x00000000#32) (k1_pay21 x.lam) (k1_pay22 x.lam) (k1_pay23 x.lam)
def v66 := k1_pay30 x.v29 (k1_pay20 x.lam) (Scalar.ofBits .f32 0x00000000#32) (k1_pay21 x.lam) (k1_pay22 x.lam) (k1_pay23 x.lam)
def v69 := k1_pay31 x.v29 (k1_pay20 x.lam) (Scalar.ofBits .f32 0x00000000#32) (k1_pay21 x.lam) (k1_pay22 x.lam) (k1_pay23 x.lam)
def v72 := k1_pay32 x.v29 (k1_pay20 x.lam) (Scalar.ofBits .f32 0x00000000#32) (k1_pay21 x.lam) (k1_pay22 x.lam) (k1_pay23 x.lam)
def v76 := k1_pay33 x.v29 (k1_pay20 x.lam) (Scalar.ofBits .f32 0x00000000#32) (k1_pay21 x.lam) (k1_pay22 x.lam) (k1_pay23 x.lam)
def v77 := k1_pay34 x.v29 (k1_pay20 x.lam) (Scalar.ofBits .f32 0x00000000#32) (k1_pay21 x.lam) (k1_pay22 x.lam) (k1_pay23 x.lam)
def v81 := k1_pay35 x.v29 (k1_pay20 x.lam) (Scalar.ofBits .f32 0x00000000#32) (k1_pay21 x.lam) (k1_pay22 x.lam) (k1_pay23 x.lam)
def v83 := k1_pay37 x.v81 k1_pay36
def v84 := k1_pay38 x.u x.v24
def v106 := k1_pay41 x.y

/-- The decay. -/
def decay : Vec F S832x256 .f32 := k1_pay44 x.v58
/-- The gradient coming into h. -/
def dh : Vec F S832x256 .f32 := k1_pay45 x.v106 x.d
/-- The tile of h after the eight rows before it. -/
def hext : Vec F S840x256 .f32 :=
  fun y => if h : (y 0).val < 8 then x.prev (ix2 ⟨(y 0).val, h⟩ (y 1))
    else k1_pay47 (k1_pay42 x.h) (ix2 ⟨(y 0).val - 8, by have := idx2_lt0 (n0 := 840) (n1 := 256) y; omega⟩ (y 1))
/-- The gradient of h. -/
def g : Vec F S832x256 .f32 := bwdG x.decay x.dh c0
/-- The gradient of the decay by the recurrence. -/
def da : Vec F S832x256 .f32 := bwdDA x.decay x.dh x.hext c0
variable (g da : Vec F S832x256 .f32)
def v152 := k1_pay54 x.v84 g
def v153 := k1_pay55 x.v24 x.v81 g
def v154 := k1_pay56 x.u x.v81 g
def v187 := k1_pay58 x.v29 x.v55 x.v58 x.v60 x.v62 x.v66 x.v69 x.v72 x.v76 x.v77 x.v83 da (x.v152 g)
def v192 := k1_pay60 x.v27 (x.v154 g)
def v194 := k1_pay61 x.u x.v27 (x.v154 g)
def v196 := k1_pay62 (k1_pay14 x.wx) x.v27 (x.v153 g) (x.v154 g)
def v197 := k1_pay63 x.v20 x.v45 x.v58 x.v60 x.v62 x.v66 x.v69 x.v72 x.v76 x.v77 x.v83 da (x.v152 g)
def v199 := k1_pay64 x.v20 x.v45 x.v58 x.v60 x.v62 x.v66 x.v69 x.v72 x.v76 x.v77 x.v83 da (x.v152 g)
def v201 := k1_pay65 x.u x.v20 x.v45 x.v58 x.v60 x.v62 x.v66 x.v69 x.v72 x.v76 x.v77 x.v83 da (x.v152 g)
def v203 : Vec F S832x256 .f32 := k1_pay1 (k1_pay13 x.wa) (x.v196 g) (x.v197 g da)

/-- This tile's part of the gradients of lambda, of the two gates' biases and weights. -/
def dlam := x.v187 (x.g c0) (x.da c0)
def dbx := x.v192 (x.g c0)
def dwx := x.v194 (x.g c0)
def dba := x.v199 (x.g c0) (x.da c0)
def dwa := x.v201 (x.g c0) (x.da c0)
/-- The gradient of the gates' input. -/
def du : Vec F S832x256 .f32 := x.v203 (x.g c0) (x.da c0)
/-- The gradient of the gating branch. -/
def dy := k1_pay43 x.y x.d x.h

end BwdIn

/-- The gradient carried into a tile: zero on the first step, the carried row on the others. -/
def bstartRow (i : grid1.Coords) (x : Vec F S8x256 .f32) : Vec F S1x256 .f32 :=
  if (i 0).val = 0 then row0 k1_pay7 else row0 x

/-- What a sum over the tiles starts a step from. -/
def bstartAcc {s : Shape} (i : grid1.Coords) (z x : Vec F s .f32) : Vec F s .f32 :=
  if (i 0).val = 0 then z else x

theorem cov_bstart (M : Memref sig .tc .vmem S8x256 .f32) {i : grid1.Coords} (h0 : (i 0).val = 0) (x : Vec F S8x256 .f32) :
    M.view.readCov [⟨Rect.unit (s := S8x256) ![0, 0] S8x256.size inb_S8x256_S8x256_0_0, k1_pay7⟩]
      (Rect.unit (s := S8x256) ![0, 0] S1x256.size inb_S8x256_S1x256_0_0).toLoadRect = bstartRow i x := by
  unfold View.readCov bstartRow
  rw [if_pos h0, View.readAt_unit M.view _ _ rfl inb_S8x256_S1x256_0_0, View.read_writes_full, window_row0]

theorem bwdC_congr {A A' D D' : Vec F S832x256 .f32} {c c' : Vec F S1x256 .f32} {k k' : ℕ} (hA : A = A') (hD : D = D') (hc : c = c') (hk : k = k') :
    bwdC A D c k = bwdC A' D' c' k' := by rw [hA, hD, hc, hk]

theorem bwdG_congr {A A' D D' : Vec F S832x256 .f32} {c c' : Vec F S1x256 .f32} (hA : A = A') (hD : D = D') (hc : c = c') :
    bwdG A D c = bwdG A' D' c' := by rw [hA, hD, hc]

theorem bwdDA_congr {A A' D D' : Vec F S832x256 .f32} {X X' : Vec F S840x256 .f32} {c c' : Vec F S1x256 .f32} (hA : A = A') (hD : D = D') (hX : X = X') (hc : c = c') :
    bwdDA A D X c = bwdDA A' D' X' c' := by rw [hA, hD, hX, hc]

theorem pay52_eq (v : Vec F S1x256 .f32) : k1_pay52 v = v := by
  unfold k1_pay52
  exact shapeCast_self ..

theorem pay_congr {α β γ : Type} (f : α → β → γ) {a a' : α} {b b' : β} (ha : a = a') (hb : b = b') : f a b = f a' b' := by rw [ha, hb]

theorem hext_write (M : Memref sig .tc .vmem S840x256 .f32) (f : BufTy.Contents (Elt F) M.view.ty) (x : BwdIn F) (q : Vec F S8x256 .f32) (hq : q = x.prev) :
    M.view.read (Elt F) (M.view.writes (Elt F) f [⟨Rect.unit (s := S840x256) ![8, 0] S832x256.size inb_S840x256_S832x256_8_0, k1_pay47 (k1_pay42 x.h)⟩, ⟨Rect.unit (s := S840x256) ![0, 0] S8x256.size inb_S840x256_S8x256_0_0, q⟩]) = x.hext := by
  subst hq
  funext y'
  have hy := idx2_lt0 (n0 := 840) (n1 := 256) y'
  unfold BwdIn.hext
  by_cases hlt : (y' 0).val < 8
  · rw [dif_pos hlt, View.read_writes_cons_rows_of_not_mem M.view f inb_S840x256_S832x256_8_0 _ _ y' rfl (W := 832) rfl (by omega)]
    exact View.read_writes_cons_rows_of_mem M.view f inb_S840x256_S8x256_0_0 _ [] y' (ix2 ⟨(y' 0).val, hlt⟩ (y' 1)) rfl (by show _ = 0 + (y' 0).val; omega) rfl
  · rw [dif_neg hlt]
    exact View.read_writes_cons_rows_of_mem M.view f inb_S840x256_S832x256_8_0 _ _ y' (ix2 ⟨(y' 0).val - 8, by omega⟩ (y' 1)) rfl (by show _ = 8 + ((y' 0).val - 8); omega) rfl

local notation "𝕄G" => MT nD τ sig Unit (Elt F) ℕ (UR sig nD τ) ℕ

section Body
variable (c : Dev nD) (E : Set ℕ) (i : grid1.Coords) (arg1 : Memref sig .tc .vmem S832x256 .f32) (harg1 : arg1.IsWhole) (arg2 : Memref sig .tc .vmem S832x256 .f32) (harg2 : arg2.IsWhole) (arg3 : Memref sig .tc .vmem S832x256 .f32) (harg3 : arg3.IsWhole) (arg4 : Memref sig .tc .vmem S8x256 .f32) (harg4 : arg4.IsWhole) (arg5 : Memref sig .tc .vmem S832x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S832x256 .f32) (harg11 : arg11.IsWhole) (arg12 : Memref sig .tc .vmem S832x256 .bf16) (harg12 : arg12.IsWhole) (arg13 : Memref sig .tc .vmem S256x256 .f32) (harg13 : arg13.IsWhole) (arg14 : Memref sig .tc .vmem S1x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S832x256 .f32) (harg18 : arg18.IsWhole) (arg19 : Memref sig .tc .vmem S832x256 .f32) (harg19 : arg19.IsWhole) (arg20 : Memref sig .tc .vmem S832x256 .f32) (harg20 : arg20.IsWhole) (arg21 : Memref sig .tc .vmem S832x256 .f32) (harg21 : arg21.IsWhole) (arg22 : Memref sig .tc .vmem S840x256 .f32) (harg22 : arg22.IsWhole) (arg23 : Memref sig .tc .vmem S8x256 .f32) (harg23 : arg23.IsWhole)

set_option maxHeartbeats 4000000 in
theorem bwdBody0 (h0 : (i 0).val = 0) {f1 : BufTy.Contents (Elt F) arg1.view.ty} {f2 : BufTy.Contents (Elt F) arg2.view.ty} {f3 : BufTy.Contents (Elt F) arg3.view.ty} {f4 : BufTy.Contents (Elt F) arg4.view.ty} {f5 : BufTy.Contents (Elt F) arg5.view.ty} {f6 : BufTy.Contents (Elt F) arg6.view.ty} {f7 : BufTy.Contents (Elt F) arg7.view.ty} {f8 : BufTy.Contents (Elt F) arg8.view.ty} {f9 : BufTy.Contents (Elt F) arg9.view.ty} {f10 : BufTy.Contents (Elt F) arg10.view.ty} {f11 : BufTy.Contents (Elt F) arg11.view.ty} {f12 : BufTy.Contents (Elt F) arg12.view.ty} {f13 : BufTy.Contents (Elt F) arg13.view.ty} {f14 : BufTy.Contents (Elt F) arg14.view.ty} {f15 : BufTy.Contents (Elt F) arg15.view.ty} {f16 : BufTy.Contents (Elt F) arg16.view.ty} {f17 : BufTy.Contents (Elt F) arg17.view.ty} {f18 : BufTy.Contents (Elt F) arg18.view.ty} {f19 : BufTy.Contents (Elt F) arg19.view.ty} {f20 : BufTy.Contents (Elt F) arg20.view.ty} {f21 : BufTy.Contents (Elt F) arg21.view.ty} {f22 : BufTy.Contents (Elt F) arg22.view.ty} {f23 : BufTy.Contents (Elt F) arg23.view.ty} (x : BwdIn F) (c0 : Vec F S1x256 .f32) (h1 : (arg1.view.read (Elt F) f1) = x.u) (h2 : (arg2.view.read (Elt F) f2) = x.y) (h3 : (arg3.view.read (Elt F) f3) = x.h) (h5 : (arg5.view.read (Elt F) f5) = x.d) (h6 : (arg6.view.read (Elt F) f6) = x.wa) (h7 : (arg7.view.read (Elt F) f7) = x.ba) (h8 : (arg8.view.read (Elt F) f8) = x.wx) (h9 : (arg9.view.read (Elt F) f9) = x.bx) (h10 : (arg10.view.read (Elt F) f10) = x.lam) (h4 : k1_pay46 (BitVec.ofNat 32 (i 0).val) (arg4.view.read (Elt F) f4) = x.prev) (h23 : bstartRow i (arg23.view.read (Elt F) f23) = c0) {Q : PUnit → sProp 𝕄G} :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23
      ∗ (∀ g11 : BufTy.Contents (Elt F) arg11.view.ty, ∀ g12 : BufTy.Contents (Elt F) arg12.view.ty, ∀ g13 : BufTy.Contents (Elt F) arg13.view.ty, ∀ g14 : BufTy.Contents (Elt F) arg14.view.ty, ∀ g15 : BufTy.Contents (Elt F) arg15.view.ty, ∀ g16 : BufTy.Contents (Elt F) arg16.view.ty, ∀ g17 : BufTy.Contents (Elt F) arg17.view.ty, ∀ g18 : BufTy.Contents (Elt F) arg18.view.ty, ∀ g19 : BufTy.Contents (Elt F) arg19.view.ty, ∀ g20 : BufTy.Contents (Elt F) arg20.view.ty, ∀ g21 : BufTy.Contents (Elt F) arg21.view.ty, ∀ g22 : BufTy.Contents (Elt F) arg22.view.ty, ∀ g23 : BufTy.Contents (Elt F) arg23.view.ty,
          iprop(⌜
(arg11.view.read (Elt F) g11) = BwdIn.du x c0
            ∧ (arg12.view.read (Elt F) g12) = BwdIn.dy x
            ∧ (arg13.view.read (Elt F) g13) = k1_pay2 (BwdIn.dwa x c0) (bstartAcc i k1_pay8 (arg13.view.read (Elt F) f13))
            ∧ (arg14.view.read (Elt F) g14) = k1_pay3 (BwdIn.dba x c0) (bstartAcc i k1_pay9 (arg14.view.read (Elt F) f14))
            ∧ (arg15.view.read (Elt F) g15) = k1_pay4 (BwdIn.dwx x c0) (bstartAcc i k1_pay10 (arg15.view.read (Elt F) f15))
            ∧ (arg16.view.read (Elt F) g16) = k1_pay5 (BwdIn.dbx x c0) (bstartAcc i k1_pay11 (arg16.view.read (Elt F) f16))
            ∧ (arg17.view.read (Elt F) g17) = k1_pay6 (BwdIn.dlam x c0) (bstartAcc i k1_pay12 (arg17.view.read (Elt F) f17))
            ∧ row0 (arg23.view.read (Elt F) g23) = bwdC (BwdIn.decay x) (BwdIn.dh x) c0 832⌝
          ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 g11 ∗ pt c arg12 g12 ∗ pt c arg13 g13 ∗ pt c arg14 g14 ∗ pt c arg15 g15 ∗ pt c arg16 g16 ∗ pt c arg17 g17 ∗ pt c arg18 g18 ∗ pt c arg19 g19 ∗ pt c arg20 g20 ∗ pt c arg21 g21 ∗ pt c arg22 g22 ∗ pt c arg23 g23) -∗ Q ⟨⟩))
      ⊢ wp frame (wpE (defs₀ (F := F)) Variants.none (c : Thread nD τ) none) E (cc1_lru_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) Q := by
  have hc : (Scalar.cmpi .ne (Scalar.extui (Scalar.cmpi .eq (BitVec.ofNat 32 (i 0).val) 0#32)) 0#32 : BitVec 1) = 1#1 := by rw [h0]; decide
  iintro ⟨H1, H2, H3, H4, H5, H6, H7, H8, H9, H10, H11, H12, H13, H14, H15, H16, H17, H18, H19, H20, H21, H22, H23, HQ⟩
  sl_unfold [cc1_lru_bwd]
  have e1 : arg1.view.readAt (Elt F) (Rect.unit (s := S832x256) ![0, 0] S832x256.size inb_S832x256_S832x256_0_0).toLoadRect f1 = x.u := (View.readAt_full ..).trans h1
  have e2 : arg2.view.readAt (Elt F) (Rect.unit (s := S832x256) ![0, 0] S832x256.size inb_S832x256_S832x256_0_0).toLoadRect f2 = x.y := (View.readAt_full ..).trans h2
  have e3 : arg3.view.readAt (Elt F) (Rect.unit (s := S832x256) ![0, 0] S832x256.size inb_S832x256_S832x256_0_0).toLoadRect f3 = x.h := (View.readAt_full ..).trans h3
  have e4 : arg4.view.readAt (Elt F) (Rect.unit (s := S8x256) ![0, 0] S8x256.size inb_S8x256_S8x256_0_0).toLoadRect f4 = arg4.view.read (Elt F) f4 := View.readAt_full ..
  have e5 : arg5.view.readAt (Elt F) (Rect.unit (s := S832x256) ![0, 0] S832x256.size inb_S832x256_S832x256_0_0).toLoadRect f5 = x.d := (View.readAt_full ..).trans h5
  have e6 : arg6.view.readAt (Elt F) (Rect.unit (s := S256x256) ![0, 0] S256x256.size inb_S256x256_S256x256_0_0).toLoadRect f6 = x.wa := (View.readAt_full ..).trans h6
  have e7 : arg7.view.readAt (Elt F) (Rect.unit (s := S1x256) ![0, 0] S1x256.size inb_S1x256_S1x256_0_0).toLoadRect f7 = x.ba := (View.readAt_full ..).trans h7
  have e8 : arg8.view.readAt (Elt F) (Rect.unit (s := S256x256) ![0, 0] S256x256.size inb_S256x256_S256x256_0_0).toLoadRect f8 = x.wx := (View.readAt_full ..).trans h8
  have e9 : arg9.view.readAt (Elt F) (Rect.unit (s := S1x256) ![0, 0] S1x256.size inb_S1x256_S1x256_0_0).toLoadRect f9 = x.bx := (View.readAt_full ..).trans h9
  have e10 : arg10.view.readAt (Elt F) (Rect.unit (s := S1x256) ![0, 0] S1x256.size inb_S1x256_S1x256_0_0).toLoadRect f10 = x.lam := (View.readAt_full ..).trans h10
  sl_exec_parts
  sl_step
  have hG : arg20.view.read (Elt F) fL0 = BwdIn.g x c0 := by
    rw [hL4]
    refine (mixRowsR_all _ _).trans (bwdG_congr ?_ ?_ ?_)
    · sl_unfold_run_names
      rw [View.read_writes_full]
      rfl
    · sl_unfold_run_names
      rw [View.read_writes_full]
      rfl
    · exact (cov_bstart arg23 h0 _).trans h23
  have hDA : arg21.view.read (Elt F) fL1 = BwdIn.da x c0 := by
    rw [hL6]
    refine (mixRowsR_all _ _).trans (bwdDA_congr ?_ ?_ ?_ ?_)
    · sl_unfold_run_names
      rw [View.read_writes_full]
      rfl
    · sl_unfold_run_names
      rw [View.read_writes_full]
      rfl
    · sl_unfold_run_names
      exact hext_write _ _ x _ h4
    · exact (cov_bstart arg23 h0 _).trans h23
  have e20 : arg20.view.readAt (Elt F) (Rect.unit (s := S832x256) ![0, 0] S832x256.size inb_S832x256_S832x256_0_0).toLoadRect fL0 = BwdIn.g x c0 := (View.readAt_full ..).trans hG
  have e21 : arg21.view.readAt (Elt F) (Rect.unit (s := S832x256) ![0, 0] S832x256.size inb_S832x256_S832x256_0_0).toLoadRect fL1 = BwdIn.da x c0 := (View.readAt_full ..).trans hDA
  iapply HQ $$ %_ %_ %_ %_ %_ %_ %_ %_ %_ %_ %_ %_ %_ [H1 H2 H3 H4 H5 H6 H7 H8 H9 H10 H11 H12 H13 H14 H15 H16 H17 H18 H19 H20 H21 H22 H23]
  isplitr; swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  ipureintro
  refine ⟨?_, ?_, ?_, ?_, ?_, ?_, ?_, ?_⟩
  · refine (View.read_writes_full ..).trans ?_
    exact (rfl : _ = BwdIn.v203 x (arg20.view.readAt (Elt F) (Rect.unit (s := S832x256) ![0, 0] S832x256.size inb_S832x256_S832x256_0_0).toLoadRect fL0) (arg21.view.readAt (Elt F) (Rect.unit (s := S832x256) ![0, 0] S832x256.size inb_S832x256_S832x256_0_0).toLoadRect fL1)).trans (by rw [e20, e21]; rfl)
  · exact (View.read_writes_full ..).trans rfl
  · refine (View.read_writes_full ..).trans (pay_congr k1_pay2 ?_ ?_)
    · exact (rfl : _ = BwdIn.v201 x (arg20.view.readAt (Elt F) (Rect.unit (s := S832x256) ![0, 0] S832x256.size inb_S832x256_S832x256_0_0).toLoadRect fL0) (arg21.view.readAt (Elt F) (Rect.unit (s := S832x256) ![0, 0] S832x256.size inb_S832x256_S832x256_0_0).toLoadRect fL1)).trans (by rw [e20, e21]; rfl)
    · unfold bwdBody0.sl.v205 bwdBody0.sl.H13_1 View.readCov bstartAcc; rw [if_pos h0, View.readAt_full, View.read_writes_full]
  · refine (View.read_writes_full ..).trans (pay_congr k1_pay3 ?_ ?_)
    · exact (rfl : _ = BwdIn.v199 x (arg20.view.readAt (Elt F) (Rect.unit (s := S832x256) ![0, 0] S832x256.size inb_S832x256_S832x256_0_0).toLoadRect fL0) (arg21.view.readAt (Elt F) (Rect.unit (s := S832x256) ![0, 0] S832x256.size inb_S832x256_S832x256_0_0).toLoadRect fL1)).trans (by rw [e20, e21]; rfl)
    · unfold bwdBody0.sl.v209 bwdBody0.sl.H14_1 View.readCov bstartAcc; rw [if_pos h0, View.readAt_full, View.read_writes_full]
  · refine (View.read_writes_full ..).trans (pay_congr k1_pay4 ?_ ?_)
    · exact (rfl : _ = BwdIn.v194 x (arg20.view.readAt (Elt F) (Rect.unit (s := S832x256) ![0, 0] S832x256.size inb_S832x256_S832x256_0_0).toLoadRect fL0) ).trans (by rw [e20]; rfl)
    · unfold bwdBody0.sl.v213 bwdBody0.sl.H15_1 View.readCov bstartAcc; rw [if_pos h0, View.readAt_full, View.read_writes_full]
  · refine (View.read_writes_full ..).trans (pay_congr k1_pay5 ?_ ?_)
    · exact (rfl : _ = BwdIn.v192 x (arg20.view.readAt (Elt F) (Rect.unit (s := S832x256) ![0, 0] S832x256.size inb_S832x256_S832x256_0_0).toLoadRect fL0) ).trans (by rw [e20]; rfl)
    · unfold bwdBody0.sl.v217 bwdBody0.sl.H16_1 View.readCov bstartAcc; rw [if_pos h0, View.readAt_full, View.read_writes_full]
  · refine (View.read_writes_full ..).trans (pay_congr k1_pay6 ?_ ?_)
    · exact (rfl : _ = BwdIn.v187 x (arg20.view.readAt (Elt F) (Rect.unit (s := S832x256) ![0, 0] S832x256.size inb_S832x256_S832x256_0_0).toLoadRect fL0) (arg21.view.readAt (Elt F) (Rect.unit (s := S832x256) ![0, 0] S832x256.size inb_S832x256_S832x256_0_0).toLoadRect fL1)).trans (by rw [e20, e21]; rfl)
    · unfold bwdBody0.sl.v221 bwdBody0.sl.H17_1 View.readCov bstartAcc; rw [if_pos h0, View.readAt_full, View.read_writes_full]
  · unfold bwdBody0.sl.H23_2
    refine (row0_write ..).trans ((pay52_eq _).trans ?_)
    refine bwdC_congr ?_ ?_ ?_ trips1_eq
    · sl_unfold_run_names
      rw [View.read_writes_full]
      rfl
    · sl_unfold_run_names
      rw [View.read_writes_full]
      rfl
    · exact (cov_bstart arg23 h0 _).trans h23

set_option maxHeartbeats 4000000 in
theorem bwdBody1 (h0 : (i 0).val ≠ 0) {f1 : BufTy.Contents (Elt F) arg1.view.ty} {f2 : BufTy.Contents (Elt F) arg2.view.ty} {f3 : BufTy.Contents (Elt F) arg3.view.ty} {f4 : BufTy.Contents (Elt F) arg4.view.ty} {f5 : BufTy.Contents (Elt F) arg5.view.ty} {f6 : BufTy.Contents (Elt F) arg6.view.ty} {f7 : BufTy.Contents (Elt F) arg7.view.ty} {f8 : BufTy.Contents (Elt F) arg8.view.ty} {f9 : BufTy.Contents (Elt F) arg9.view.ty} {f10 : BufTy.Contents (Elt F) arg10.view.ty} {f11 : BufTy.Contents (Elt F) arg11.view.ty} {f12 : BufTy.Contents (Elt F) arg12.view.ty} {f13 : BufTy.Contents (Elt F) arg13.view.ty} {f14 : BufTy.Contents (Elt F) arg14.view.ty} {f15 : BufTy.Contents (Elt F) arg15.view.ty} {f16 : BufTy.Contents (Elt F) arg16.view.ty} {f17 : BufTy.Contents (Elt F) arg17.view.ty} {f18 : BufTy.Contents (Elt F) arg18.view.ty} {f19 : BufTy.Contents (Elt F) arg19.view.ty} {f20 : BufTy.Contents (Elt F) arg20.view.ty} {f21 : BufTy.Contents (Elt F) arg21.view.ty} {f22 : BufTy.Contents (Elt F) arg22.view.ty} {f23 : BufTy.Contents (Elt F) arg23.view.ty} (x : BwdIn F) (c0 : Vec F S1x256 .f32) (h1 : (arg1.view.read (Elt F) f1) = x.u) (h2 : (arg2.view.read (Elt F) f2) = x.y) (h3 : (arg3.view.read (Elt F) f3) = x.h) (h5 : (arg5.view.read (Elt F) f5) = x.d) (h6 : (arg6.view.read (Elt F) f6) = x.wa) (h7 : (arg7.view.read (Elt F) f7) = x.ba) (h8 : (arg8.view.read (Elt F) f8) = x.wx) (h9 : (arg9.view.read (Elt F) f9) = x.bx) (h10 : (arg10.view.read (Elt F) f10) = x.lam) (h4 : k1_pay46 (BitVec.ofNat 32 (i 0).val) (arg4.view.read (Elt F) f4) = x.prev) (h23 : bstartRow i (arg23.view.read (Elt F) f23) = c0) {Q : PUnit → sProp 𝕄G} :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23
      ∗ (∀ g11 : BufTy.Contents (Elt F) arg11.view.ty, ∀ g12 : BufTy.Contents (Elt F) arg12.view.ty, ∀ g13 : BufTy.Contents (Elt F) arg13.view.ty, ∀ g14 : BufTy.Contents (Elt F) arg14.view.ty, ∀ g15 : BufTy.Contents (Elt F) arg15.view.ty, ∀ g16 : BufTy.Contents (Elt F) arg16.view.ty, ∀ g17 : BufTy.Contents (Elt F) arg17.view.ty, ∀ g18 : BufTy.Contents (Elt F) arg18.view.ty, ∀ g19 : BufTy.Contents (Elt F) arg19.view.ty, ∀ g20 : BufTy.Contents (Elt F) arg20.view.ty, ∀ g21 : BufTy.Contents (Elt F) arg21.view.ty, ∀ g22 : BufTy.Contents (Elt F) arg22.view.ty, ∀ g23 : BufTy.Contents (Elt F) arg23.view.ty,
          iprop(⌜
(arg11.view.read (Elt F) g11) = BwdIn.du x c0
            ∧ (arg12.view.read (Elt F) g12) = BwdIn.dy x
            ∧ (arg13.view.read (Elt F) g13) = k1_pay2 (BwdIn.dwa x c0) (bstartAcc i k1_pay8 (arg13.view.read (Elt F) f13))
            ∧ (arg14.view.read (Elt F) g14) = k1_pay3 (BwdIn.dba x c0) (bstartAcc i k1_pay9 (arg14.view.read (Elt F) f14))
            ∧ (arg15.view.read (Elt F) g15) = k1_pay4 (BwdIn.dwx x c0) (bstartAcc i k1_pay10 (arg15.view.read (Elt F) f15))
            ∧ (arg16.view.read (Elt F) g16) = k1_pay5 (BwdIn.dbx x c0) (bstartAcc i k1_pay11 (arg16.view.read (Elt F) f16))
            ∧ (arg17.view.read (Elt F) g17) = k1_pay6 (BwdIn.dlam x c0) (bstartAcc i k1_pay12 (arg17.view.read (Elt F) f17))
            ∧ row0 (arg23.view.read (Elt F) g23) = bwdC (BwdIn.decay x) (BwdIn.dh x) c0 832⌝
          ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 g11 ∗ pt c arg12 g12 ∗ pt c arg13 g13 ∗ pt c arg14 g14 ∗ pt c arg15 g15 ∗ pt c arg16 g16 ∗ pt c arg17 g17 ∗ pt c arg18 g18 ∗ pt c arg19 g19 ∗ pt c arg20 g20 ∗ pt c arg21 g21 ∗ pt c arg22 g22 ∗ pt c arg23 g23) -∗ Q ⟨⟩))
      ⊢ wp frame (wpE (defs₀ (F := F)) Variants.none (c : Thread nD τ) none) E (cc1_lru_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) Q := by
  have hc : ¬ (Scalar.cmpi .ne (Scalar.extui (Scalar.cmpi .eq (BitVec.ofNat 32 (i 0).val) 0#32)) 0#32 : BitVec 1) = 1#1 := by
    have h5 : (i 0).val < 5 := (i 0).isLt
    revert h0 h5
    generalize (i 0).val = n
    intro h0 h5
    interval_cases n <;> first | exact absurd rfl h0 | decide
  iintro ⟨H1, H2, H3, H4, H5, H6, H7, H8, H9, H10, H11, H12, H13, H14, H15, H16, H17, H18, H19, H20, H21, H22, H23, HQ⟩
  sl_unfold [cc1_lru_bwd]
  have e1 : arg1.view.readAt (Elt F) (Rect.unit (s := S832x256) ![0, 0] S832x256.size inb_S832x256_S832x256_0_0).toLoadRect f1 = x.u := (View.readAt_full ..).trans h1
  have e2 : arg2.view.readAt (Elt F) (Rect.unit (s := S832x256) ![0, 0] S832x256.size inb_S832x256_S832x256_0_0).toLoadRect f2 = x.y := (View.readAt_full ..).trans h2
  have e3 : arg3.view.readAt (Elt F) (Rect.unit (s := S832x256) ![0, 0] S832x256.size inb_S832x256_S832x256_0_0).toLoadRect f3 = x.h := (View.readAt_full ..).trans h3
  have e4 : arg4.view.readAt (Elt F) (Rect.unit (s := S8x256) ![0, 0] S8x256.size inb_S8x256_S8x256_0_0).toLoadRect f4 = arg4.view.read (Elt F) f4 := View.readAt_full ..
  have e5 : arg5.view.readAt (Elt F) (Rect.unit (s := S832x256) ![0, 0] S832x256.size inb_S832x256_S832x256_0_0).toLoadRect f5 = x.d := (View.readAt_full ..).trans h5
  have e6 : arg6.view.readAt (Elt F) (Rect.unit (s := S256x256) ![0, 0] S256x256.size inb_S256x256_S256x256_0_0).toLoadRect f6 = x.wa := (View.readAt_full ..).trans h6
  have e7 : arg7.view.readAt (Elt F) (Rect.unit (s := S1x256) ![0, 0] S1x256.size inb_S1x256_S1x256_0_0).toLoadRect f7 = x.ba := (View.readAt_full ..).trans h7
  have e8 : arg8.view.readAt (Elt F) (Rect.unit (s := S256x256) ![0, 0] S256x256.size inb_S256x256_S256x256_0_0).toLoadRect f8 = x.wx := (View.readAt_full ..).trans h8
  have e9 : arg9.view.readAt (Elt F) (Rect.unit (s := S1x256) ![0, 0] S1x256.size inb_S1x256_S1x256_0_0).toLoadRect f9 = x.bx := (View.readAt_full ..).trans h9
  have e10 : arg10.view.readAt (Elt F) (Rect.unit (s := S1x256) ![0, 0] S1x256.size inb_S1x256_S1x256_0_0).toLoadRect f10 = x.lam := (View.readAt_full ..).trans h10
  have e13 : arg13.view.readAt (Elt F) (Rect.unit (s := S256x256) ![0, 0] S256x256.size inb_S256x256_S256x256_0_0).toLoadRect f13 = arg13.view.read (Elt F) f13 := View.readAt_full ..
  have e14 : arg14.view.readAt (Elt F) (Rect.unit (s := S1x256) ![0, 0] S1x256.size inb_S1x256_S1x256_0_0).toLoadRect f14 = arg14.view.read (Elt F) f14 := View.readAt_full ..
  have e15 : arg15.view.readAt (Elt F) (Rect.unit (s := S256x256) ![0, 0] S256x256.size inb_S256x256_S256x256_0_0).toLoadRect f15 = arg15.view.read (Elt F) f15 := View.readAt_full ..
  have e16 : arg16.view.readAt (Elt F) (Rect.unit (s := S1x256) ![0, 0] S1x256.size inb_S1x256_S1x256_0_0).toLoadRect f16 = arg16.view.read (Elt F) f16 := View.readAt_full ..
  have e17 : arg17.view.readAt (Elt F) (Rect.unit (s := S1x256) ![0, 0] S1x256.size inb_S1x256_S1x256_0_0).toLoadRect f17 = arg17.view.read (Elt F) f17 := View.readAt_full ..
  have e23 : arg23.view.readAt (Elt F) (Rect.unit (s := S8x256) ![0, 0] S1x256.size inb_S8x256_S1x256_0_0).toLoadRect f23 = c0 := by
    rw [← h23]
    rw [View.readAt_unit arg23.view f23 _ rfl inb_S8x256_S1x256_0_0, window_row0]
    unfold bstartRow; rw [if_neg h0]
  sl_exec_parts
  sl_step
  have hG : arg20.view.read (Elt F) fL0 = BwdIn.g x c0 := by
    rw [hL4]
    refine (mixRowsR_all _ _).trans (bwdG_congr ?_ ?_ ?_)
    · sl_unfold_run_names
      rw [View.read_writes_full]
      rfl
    · sl_unfold_run_names
      rw [View.read_writes_full]
      rfl
    · exact rfl
  have hDA : arg21.view.read (Elt F) fL1 = BwdIn.da x c0 := by
    rw [hL6]
    refine (mixRowsR_all _ _).trans (bwdDA_congr ?_ ?_ ?_ ?_)
    · sl_unfold_run_names
      rw [View.read_writes_full]
      rfl
    · sl_unfold_run_names
      rw [View.read_writes_full]
      rfl
    · sl_unfold_run_names
      exact hext_write _ _ x _ h4
    · exact rfl
  have e20 : arg20.view.readAt (Elt F) (Rect.unit (s := S832x256) ![0, 0] S832x256.size inb_S832x256_S832x256_0_0).toLoadRect fL0 = BwdIn.g x c0 := (View.readAt_full ..).trans hG
  have e21 : arg21.view.readAt (Elt F) (Rect.unit (s := S832x256) ![0, 0] S832x256.size inb_S832x256_S832x256_0_0).toLoadRect fL1 = BwdIn.da x c0 := (View.readAt_full ..).trans hDA
  iapply HQ $$ %_ %_ %_ %_ %_ %_ %_ %_ %_ %_ %_ %_ %_ [H1 H2 H3 H4 H5 H6 H7 H8 H9 H10 H11 H12 H13 H14 H15 H16 H17 H18 H19 H20 H21 H22 H23]
  isplitr; swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  ipureintro
  refine ⟨?_, ?_, ?_, ?_, ?_, ?_, ?_, ?_⟩
  · refine (View.read_writes_full ..).trans ?_
    exact (rfl : _ = BwdIn.v203 x (arg20.view.readAt (Elt F) (Rect.unit (s := S832x256) ![0, 0] S832x256.size inb_S832x256_S832x256_0_0).toLoadRect fL0) (arg21.view.readAt (Elt F) (Rect.unit (s := S832x256) ![0, 0] S832x256.size inb_S832x256_S832x256_0_0).toLoadRect fL1)).trans (by rw [e20, e21]; rfl)
  · exact (View.read_writes_full ..).trans rfl
  · refine (View.read_writes_full ..).trans (pay_congr k1_pay2 ?_ ?_)
    · exact (rfl : _ = BwdIn.v201 x (arg20.view.readAt (Elt F) (Rect.unit (s := S832x256) ![0, 0] S832x256.size inb_S832x256_S832x256_0_0).toLoadRect fL0) (arg21.view.readAt (Elt F) (Rect.unit (s := S832x256) ![0, 0] S832x256.size inb_S832x256_S832x256_0_0).toLoadRect fL1)).trans (by rw [e20, e21]; rfl)
    · unfold bstartAcc; rw [if_neg h0]
  · refine (View.read_writes_full ..).trans (pay_congr k1_pay3 ?_ ?_)
    · exact (rfl : _ = BwdIn.v199 x (arg20.view.readAt (Elt F) (Rect.unit (s := S832x256) ![0, 0] S832x256.size inb_S832x256_S832x256_0_0).toLoadRect fL0) (arg21.view.readAt (Elt F) (Rect.unit (s := S832x256) ![0, 0] S832x256.size inb_S832x256_S832x256_0_0).toLoadRect fL1)).trans (by rw [e20, e21]; rfl)
    · unfold bstartAcc; rw [if_neg h0]
  · refine (View.read_writes_full ..).trans (pay_congr k1_pay4 ?_ ?_)
    · exact (rfl : _ = BwdIn.v194 x (arg20.view.readAt (Elt F) (Rect.unit (s := S832x256) ![0, 0] S832x256.size inb_S832x256_S832x256_0_0).toLoadRect fL0) ).trans (by rw [e20]; rfl)
    · unfold bstartAcc; rw [if_neg h0]
  · refine (View.read_writes_full ..).trans (pay_congr k1_pay5 ?_ ?_)
    · exact (rfl : _ = BwdIn.v192 x (arg20.view.readAt (Elt F) (Rect.unit (s := S832x256) ![0, 0] S832x256.size inb_S832x256_S832x256_0_0).toLoadRect fL0) ).trans (by rw [e20]; rfl)
    · unfold bstartAcc; rw [if_neg h0]
  · refine (View.read_writes_full ..).trans (pay_congr k1_pay6 ?_ ?_)
    · exact (rfl : _ = BwdIn.v187 x (arg20.view.readAt (Elt F) (Rect.unit (s := S832x256) ![0, 0] S832x256.size inb_S832x256_S832x256_0_0).toLoadRect fL0) (arg21.view.readAt (Elt F) (Rect.unit (s := S832x256) ![0, 0] S832x256.size inb_S832x256_S832x256_0_0).toLoadRect fL1)).trans (by rw [e20, e21]; rfl)
    · unfold bstartAcc; rw [if_neg h0]
  · unfold bwdBody1.sl.H23_1
    refine (row0_write ..).trans ((pay52_eq _).trans ?_)
    refine bwdC_congr ?_ ?_ ?_ trips1_eq
    · sl_unfold_run_names
      rw [View.read_writes_full]
      rfl
    · sl_unfold_run_names
      rw [View.read_writes_full]
      rfl
    · exact rfl

end Body

end Cert.KernelIdeal.Own

end
-- ==== Proof.BwdRegion.lean ====
/- The backward region over the launch's resources: what its grid steps leave and its proof data. -/
module

public import proofs.«01_k».proof.Proof.BwdBody
public import proofs.«01_k».proof.Proof.Gen.KernelIdeal.Points
public import proofs.«01_k».proof.Proof.Gen.KernelIdeal.Regions
public import Idealize.ShloMosaic.Lib.Pipeline.RegionsLoop
public import Idealize.ShloMosaic.Lib.Pipeline.Frame

@[expose] public section

set_option maxRecDepth 8192

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen
open Idealize.ShloMosaic.ValueIdx

variable {F : FTy → Type} [FloatOps F]

local notation "𝕄G" => MT nD τ sig Unit (Elt F) ℕ (UR sig nD τ) ℕ

section Body
variable (c : Dev nD) (E : Set ℕ) (i : grid1.Coords) (arg1 : Memref sig .tc .vmem S832x256 .f32) (harg1 : arg1.IsWhole) (arg2 : Memref sig .tc .vmem S832x256 .f32) (harg2 : arg2.IsWhole) (arg3 : Memref sig .tc .vmem S832x256 .f32) (harg3 : arg3.IsWhole) (arg4 : Memref sig .tc .vmem S8x256 .f32) (harg4 : arg4.IsWhole) (arg5 : Memref sig .tc .vmem S832x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S832x256 .f32) (harg11 : arg11.IsWhole) (arg12 : Memref sig .tc .vmem S832x256 .bf16) (harg12 : arg12.IsWhole) (arg13 : Memref sig .tc .vmem S256x256 .f32) (harg13 : arg13.IsWhole) (arg14 : Memref sig .tc .vmem S1x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S832x256 .f32) (harg18 : arg18.IsWhole) (arg19 : Memref sig .tc .vmem S832x256 .f32) (harg19 : arg19.IsWhole) (arg20 : Memref sig .tc .vmem S832x256 .f32) (harg20 : arg20.IsWhole) (arg21 : Memref sig .tc .vmem S832x256 .f32) (harg21 : arg21.IsWhole) (arg22 : Memref sig .tc .vmem S840x256 .f32) (harg22 : arg22.IsWhole) (arg23 : Memref sig .tc .vmem S8x256 .f32) (harg23 : arg23.IsWhole)
set_option maxHeartbeats 4000000 in
/-- One run of the backward body between what its buffers read. -/
theorem bwdOwns (x : BwdIn F) (p k : Vec F S8x256 .f32) (hp : k1_pay46 (BitVec.ofNat 32 (i 0).val) p = x.prev) (a13 : Vec F S256x256 .f32) (a14 : Vec F S1x256 .f32) (a15 : Vec F S256x256 .f32) (a16 : Vec F S1x256 .f32) (a17 : Vec F S1x256 .f32) (Q : PUnit → sProp 𝕄G) :
    iprop(owns (c : Thread nD τ) arg1 fullShare x.u ∗ owns (c : Thread nD τ) arg2 fullShare x.y ∗ owns (c : Thread nD τ) arg3 fullShare x.h ∗ owns (c : Thread nD τ) arg4 fullShare p ∗ owns (c : Thread nD τ) arg5 fullShare x.d ∗ owns (c : Thread nD τ) arg6 fullShare x.wa ∗ owns (c : Thread nD τ) arg7 fullShare x.ba ∗ owns (c : Thread nD τ) arg8 fullShare x.wx ∗ owns (c : Thread nD τ) arg9 fullShare x.bx ∗ owns (c : Thread nD τ) arg10 fullShare x.lam ∗ (∃ X, owns (c : Thread nD τ) arg11 fullShare X) ∗ (∃ X, owns (c : Thread nD τ) arg12 fullShare X) ∗ owns (c : Thread nD τ) arg13 fullShare a13 ∗ owns (c : Thread nD τ) arg14 fullShare a14 ∗ owns (c : Thread nD τ) arg15 fullShare a15 ∗ owns (c : Thread nD τ) arg16 fullShare a16 ∗ owns (c : Thread nD τ) arg17 fullShare a17 ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X) ∗ owns (c : Thread nD τ) arg23 fullShare k
      ∗ (∀ k' : Vec F S8x256 .f32, ⌜row0 k' = bwdC x.decay x.dh (bstartRow i k) 832⌝ -∗ (owns (c : Thread nD τ) arg1 fullShare x.u ∗ owns (c : Thread nD τ) arg2 fullShare x.y ∗ owns (c : Thread nD τ) arg3 fullShare x.h ∗ owns (c : Thread nD τ) arg4 fullShare p ∗ owns (c : Thread nD τ) arg5 fullShare x.d ∗ owns (c : Thread nD τ) arg6 fullShare x.wa ∗ owns (c : Thread nD τ) arg7 fullShare x.ba ∗ owns (c : Thread nD τ) arg8 fullShare x.wx ∗ owns (c : Thread nD τ) arg9 fullShare x.bx ∗ owns (c : Thread nD τ) arg10 fullShare x.lam ∗ owns (c : Thread nD τ) arg11 fullShare (BwdIn.du x (bstartRow i k)) ∗ owns (c : Thread nD τ) arg12 fullShare (BwdIn.dy x) ∗ owns (c : Thread nD τ) arg13 fullShare (k1_pay2 (BwdIn.dwa x (bstartRow i k)) (bstartAcc i k1_pay8 a13)) ∗ owns (c : Thread nD τ) arg14 fullShare (k1_pay3 (BwdIn.dba x (bstartRow i k)) (bstartAcc i k1_pay9 a14)) ∗ owns (c : Thread nD τ) arg15 fullShare (k1_pay4 (BwdIn.dwx x (bstartRow i k)) (bstartAcc i k1_pay10 a15)) ∗ owns (c : Thread nD τ) arg16 fullShare (k1_pay5 (BwdIn.dbx x (bstartRow i k)) (bstartAcc i k1_pay11 a16)) ∗ owns (c : Thread nD τ) arg17 fullShare (k1_pay6 (BwdIn.dlam x (bstartRow i k)) (bstartAcc i k1_pay12 a17)) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X) ∗ owns (c : Thread nD τ) arg23 fullShare k') -∗ Q ⟨⟩))
      ⊢ wp frame (wpE (defs₀ (F := F)) Variants.none (c : Thread nD τ) none) E (cc1_lru_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%X11, %f11, %hf11, H11⟩, ⟨%X12, %f12, %hf12, H12⟩, ⟨%f13, %hf13, H13⟩, ⟨%f14, %hf14, H14⟩, ⟨%f15, %hf15, H15⟩, ⟨%f16, %hf16, H16⟩, ⟨%f17, %hf17, H17⟩, ⟨%X18, %f18, %hf18, H18⟩, ⟨%X19, %f19, %hf19, H19⟩, ⟨%X20, %f20, %hf20, H20⟩, ⟨%X21, %f21, %hf21, H21⟩, ⟨%X22, %f22, %hf22, H22⟩, ⟨%f23, %hf23, H23⟩, HQ⟩
  by_cases h0 : (i 0).val = 0
  ·
    iapply (bwdBody0 (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x (bstartRow i k) hf1 hf2 hf3 hf5 hf6 hf7 hf8 hf9 hf10 (by rw [hf4, hp]) (by rw [hf23]))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iintro %g11 %g12 %g13 %g14 %g15 %g16 %g17 %g18 %g19 %g20 %g21 %g22 %g23 ⟨%hg, G1, G2, G3, G4, G5, G6, G7, G8, G9, G10, G11, G12, G13, G14, G15, G16, G17, G18, G19, G20, G21, G22, G23⟩
    obtain ⟨hg11, hg12, hg13, hg14, hg15, hg16, hg17, hg23⟩ := hg
    subst hf13 hf14 hf15 hf16 hf17
    iapply HQ $$ %(arg23.view.read (Elt F) g23) %hg23 [G1 G2 G3 G4 G5 G6 G7 G8 G9 G10 G11 G12 G13 G14 G15 G16 G17 G18 G19 G20 G21 G22 G23]
    isplitl [G1]
    · iexists _; isplitr; swap; (· iexact G1); ipureintro; exact hf1
    isplitl [G2]
    · iexists _; isplitr; swap; (· iexact G2); ipureintro; exact hf2
    isplitl [G3]
    · iexists _; isplitr; swap; (· iexact G3); ipureintro; exact hf3
    isplitl [G4]
    · iexists _; isplitr; swap; (· iexact G4); ipureintro; exact hf4
    isplitl [G5]
    · iexists _; isplitr; swap; (· iexact G5); ipureintro; exact hf5
    isplitl [G6]
    · iexists _; isplitr; swap; (· iexact G6); ipureintro; exact hf6
    isplitl [G7]
    · iexists _; isplitr; swap; (· iexact G7); ipureintro; exact hf7
    isplitl [G8]
    · iexists _; isplitr; swap; (· iexact G8); ipureintro; exact hf8
    isplitl [G9]
    · iexists _; isplitr; swap; (· iexact G9); ipureintro; exact hf9
    isplitl [G10]
    · iexists _; isplitr; swap; (· iexact G10); ipureintro; exact hf10
    isplitl [G11]
    · iexists _; isplitr; swap; (· iexact G11); ipureintro; exact hg11
    isplitl [G12]
    · iexists _; isplitr; swap; (· iexact G12); ipureintro; exact hg12
    isplitl [G13]
    · iexists _; isplitr; swap; (· iexact G13); ipureintro; exact hg13
    isplitl [G14]
    · iexists _; isplitr; swap; (· iexact G14); ipureintro; exact hg14
    isplitl [G15]
    · iexists _; isplitr; swap; (· iexact G15); ipureintro; exact hg15
    isplitl [G16]
    · iexists _; isplitr; swap; (· iexact G16); ipureintro; exact hg16
    isplitl [G17]
    · iexists _; isplitr; swap; (· iexact G17); ipureintro; exact hg17
    isplitl [G18]
    · iexists _; iexists _; isplitr; swap; (· iexact G18); ipureintro; rfl
    isplitl [G19]
    · iexists _; iexists _; isplitr; swap; (· iexact G19); ipureintro; rfl
    isplitl [G20]
    · iexists _; iexists _; isplitr; swap; (· iexact G20); ipureintro; rfl
    isplitl [G21]
    · iexists _; iexists _; isplitr; swap; (· iexact G21); ipureintro; rfl
    isplitl [G22]
    · iexists _; iexists _; isplitr; swap; (· iexact G22); ipureintro; rfl
    iexists _; isplitr; swap; (· iexact G23); ipureintro; rfl
  ·
    iapply (bwdBody1 (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 x (bstartRow i k) hf1 hf2 hf3 hf5 hf6 hf7 hf8 hf9 hf10 (by rw [hf4, hp]) (by rw [hf23]))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iintro %g11 %g12 %g13 %g14 %g15 %g16 %g17 %g18 %g19 %g20 %g21 %g22 %g23 ⟨%hg, G1, G2, G3, G4, G5, G6, G7, G8, G9, G10, G11, G12, G13, G14, G15, G16, G17, G18, G19, G20, G21, G22, G23⟩
    obtain ⟨hg11, hg12, hg13, hg14, hg15, hg16, hg17, hg23⟩ := hg
    subst hf13 hf14 hf15 hf16 hf17
    iapply HQ $$ %(arg23.view.read (Elt F) g23) %hg23 [G1 G2 G3 G4 G5 G6 G7 G8 G9 G10 G11 G12 G13 G14 G15 G16 G17 G18 G19 G20 G21 G22 G23]
    isplitl [G1]
    · iexists _; isplitr; swap; (· iexact G1); ipureintro; exact hf1
    isplitl [G2]
    · iexists _; isplitr; swap; (· iexact G2); ipureintro; exact hf2
    isplitl [G3]
    · iexists _; isplitr; swap; (· iexact G3); ipureintro; exact hf3
    isplitl [G4]
    · iexists _; isplitr; swap; (· iexact G4); ipureintro; exact hf4
    isplitl [G5]
    · iexists _; isplitr; swap; (· iexact G5); ipureintro; exact hf5
    isplitl [G6]
    · iexists _; isplitr; swap; (· iexact G6); ipureintro; exact hf6
    isplitl [G7]
    · iexists _; isplitr; swap; (· iexact G7); ipureintro; exact hf7
    isplitl [G8]
    · iexists _; isplitr; swap; (· iexact G8); ipureintro; exact hf8
    isplitl [G9]
    · iexists _; isplitr; swap; (· iexact G9); ipureintro; exact hf9
    isplitl [G10]
    · iexists _; isplitr; swap; (· iexact G10); ipureintro; exact hf10
    isplitl [G11]
    · iexists _; isplitr; swap; (· iexact G11); ipureintro; exact hg11
    isplitl [G12]
    · iexists _; isplitr; swap; (· iexact G12); ipureintro; exact hg12
    isplitl [G13]
    · iexists _; isplitr; swap; (· iexact G13); ipureintro; exact hg13
    isplitl [G14]
    · iexists _; isplitr; swap; (· iexact G14); ipureintro; exact hg14
    isplitl [G15]
    · iexists _; isplitr; swap; (· iexact G15); ipureintro; exact hg15
    isplitl [G16]
    · iexists _; isplitr; swap; (· iexact G16); ipureintro; exact hg16
    isplitl [G17]
    · iexists _; isplitr; swap; (· iexact G17); ipureintro; exact hg17
    isplitl [G18]
    · iexists _; iexists _; isplitr; swap; (· iexact G18); ipureintro; rfl
    isplitl [G19]
    · iexists _; iexists _; isplitr; swap; (· iexact G19); ipureintro; rfl
    isplitl [G20]
    · iexists _; iexists _; isplitr; swap; (· iexact G20); ipureintro; rfl
    isplitl [G21]
    · iexists _; iexists _; isplitr; swap; (· iexact G21); ipureintro; rfl
    isplitl [G22]
    · iexists _; iexists _; isplitr; swap; (· iexact G22); ipureintro; rfl
    iexists _; isplitr; swap; (· iexact G23); ipureintro; rfl

end Body

/-! ## What the steps leave -/

section Data
variable (V : (c : Dev nD) → (b : Ref sig .tc) → Buf (Elt F) ((c : Thread nD τ).loc b)) (c : Dev nD)

/-- The arrays at the region's entry. -/
abbrev bA (w : Fin cfg1.W) : Buf (Elt F) ((cfg1.win w).arr.view.loc (c.tc : Thread nD τ)) := V c (Pipeline.arrRef spec1 w)

/-- What an input window's buffer holds at a step. -/
abbrev bX (w : Fin cfg1.W) (n : ℕ) (h : n < cfg1.N) : (cfg1.win w).block.Idx → Elt F (cfg1.win w).elt := Pipeline.heldIn cfg1 (bA V c) w n h

/-- What step `n` reads. -/
def bIn (n : ℕ) (h : n < cfg1.N) : BwdIn F :=
  ⟨bX V c 0 n h, bX V c 1 n h, bX V c 2 n h, k1_pay46 (BitVec.ofNat 32 n) (bX V c 3 n h), bX V c 4 n h, bX V c 5 n h, bX V c 6 n h, bX V c 7 n h, bX V c 8 n h, bX V c 9 n h⟩

/-- The gradient carried into step `n`. -/
def bcarry : ℕ → Vec F S1x256 .f32
  | 0 => row0 k1_pay7
  | n + 1 => if h : n < cfg1.N then bwdC (bIn V c n h).decay (bIn V c n h).dh (bcarry n) 832 else bcarry n

/-- A sum over the steps before step `n`. -/
def bsum {s : Shape} (z : Vec F s .f32) (step : (n : ℕ) → n < cfg1.N → Vec F s .f32 → Vec F s .f32) : ℕ → Vec F s .f32
  | 0 => z
  | n + 1 => if h : n < cfg1.N then step n h (bsum z step n) else bsum z step n

theorem bsum_succ {s : Shape} (z : Vec F s .f32) (step : (n : ℕ) → n < cfg1.N → Vec F s .f32 → Vec F s .f32) (n : ℕ) (h : n < cfg1.N) :
    bsum z step (n + 1) = step n h (bsum z step n) := by
  show (if h : n < cfg1.N then _ else _) = _
  rw [dif_pos h]

def bdwa : ℕ → Vec F S256x256 .f32 := bsum k1_pay8 fun n h a => k1_pay2 ((bIn V c n h).dwa (bcarry V c n)) a
def bdba : ℕ → Vec F S1x256 .f32 := bsum k1_pay9 fun n h a => k1_pay3 ((bIn V c n h).dba (bcarry V c n)) a
def bdwx : ℕ → Vec F S256x256 .f32 := bsum k1_pay10 fun n h a => k1_pay4 ((bIn V c n h).dwx (bcarry V c n)) a
def bdbx : ℕ → Vec F S1x256 .f32 := bsum k1_pay11 fun n h a => k1_pay5 ((bIn V c n h).dbx (bcarry V c n)) a
def bdlam : ℕ → Vec F S1x256 .f32 := bsum k1_pay12 fun n h a => k1_pay6 ((bIn V c n h).dlam (bcarry V c n)) a

abbrev bRest : sProp 𝕄G := Pipeline.scopedRestBut (Ix := Unit) (Name := ℕ) (U := UR sig nD τ) (Lvl := ℕ) (Val := Elt F) spec1 c [cc1_scratch0, cc1_scratch1, cc1_scratch2, cc1_scratch3, cc1_scratch4, cc1_scratch5]

/-- Between steps: the carried row in the last scratch buffer, the others at anything. -/
def bΦ (n : ℕ) : sProp 𝕄G :=
  iprop((∃ x : Vec F S8x256 .f32, ⌜n ≠ 0 → row0 x = bcarry V c n⌝ ∗ owns (c : Thread nD τ) (Memref.whole cc1_scratch5) fullShare x)
    ∗ (∃ X, owns (c : Thread nD τ) (Memref.whole cc1_scratch0) fullShare X) ∗ (∃ X, owns (c : Thread nD τ) (Memref.whole cc1_scratch1) fullShare X) ∗ (∃ X, owns (c : Thread nD τ) (Memref.whole cc1_scratch2) fullShare X) ∗ (∃ X, owns (c : Thread nD τ) (Memref.whole cc1_scratch3) fullShare X) ∗ (∃ X, owns (c : Thread nD τ) (Memref.whole cc1_scratch4) fullShare X) ∗ bRest c)

/-- The proof data of the backward region. -/
def bdat : Dat τ (Elt F) Unit ℕ (UR sig nD τ) ℕ cfg1 c where
  A w := bA V c w
  after w t := match w with
    | ⟨0, _⟩ => bX V c 0 t.val t.isLt
    | ⟨1, _⟩ => bX V c 1 t.val t.isLt
    | ⟨2, _⟩ => bX V c 2 t.val t.isLt
    | ⟨3, _⟩ => bX V c 3 t.val t.isLt
    | ⟨4, _⟩ => bX V c 4 t.val t.isLt
    | ⟨5, _⟩ => bX V c 5 t.val t.isLt
    | ⟨6, _⟩ => bX V c 6 t.val t.isLt
    | ⟨7, _⟩ => bX V c 7 t.val t.isLt
    | ⟨8, _⟩ => bX V c 8 t.val t.isLt
    | ⟨9, _⟩ => bX V c 9 t.val t.isLt
    | ⟨10, _⟩ => (bIn V c t.val t.isLt).du (bcarry V c t.val)
    | ⟨11, _⟩ => (bIn V c t.val t.isLt).dy
    | ⟨12, _⟩ => bdwa V c (t.val + 1)
    | ⟨13, _⟩ => bdba V c (t.val + 1)
    | ⟨14, _⟩ => bdwx V c (t.val + 1)
    | ⟨15, _⟩ => bdbx V c (t.val + 1)
    | ⟨16, _⟩ => bdlam V c (t.val + 1)
    | ⟨_ + 17, h⟩ => absurd h (Nat.not_lt.2 (Nat.le_add_left _ _))
  Φ t := bΦ V c t.val
  q := Pipeline.shareOf spec1
  owed _ := 0

theorem bclip : ∀ (w : Fin cfg1.W) (i : cfg1.grid.Coords) a, (cfg1.win w).clip i a = none := by decide +kernel

theorem bcoord (t : Fin cfg1.N) : ((cfg1.grid.coords t) 0).val = t.val := by
  revert t; decide +kernel

theorem bstart (t : Fin cfg1.N) (x : Vec F S8x256 .f32) (h : t.val ≠ 0 → row0 x = bcarry V c t.val) :
    bstartRow (cfg1.grid.coords t) x = bcarry V c t.val := by
  unfold bstartRow
  rw [bcoord]
  by_cases h0 : t.val = 0
  · rw [if_pos h0, h0]; rfl
  · rw [if_neg h0]; exact h h0

theorem bstartA {s : Shape} (t : Fin cfg1.N) (z x : Vec F s .f32) (step : (n : ℕ) → n < cfg1.N → Vec F s .f32 → Vec F s .f32) (h : t.val ≠ 0 → x = bsum z step (t.val - 1 + 1)) :
    bstartAcc (cfg1.grid.coords t) z x = bsum z step t.val := by
  unfold bstartAcc
  rw [bcoord]
  by_cases h0 : t.val = 0
  · rw [if_pos h0, h0]; rfl
  · rw [if_neg h0, h h0, Nat.sub_add_cancel (Nat.pos_of_ne_zero h0)]

theorem bnoflush (t : Fin cfg1.N) (ht : t.val ≠ 0) : ¬ (t.val - 1) % 5 = 4 := by
  have h5 : t.val < 5 := lt_of_lt_of_eq t.isLt N_1
  omega

theorem bbefore0 (t : Fin cfg1.N) (d) : (bdat V c).before 0 t d = bX V c 0 t.val t.isLt :=
  (bdat V c).before_eq_heldIn 0 rfl (fun _ => rfl) (bclip 0) (fun _ => rfl) t d

theorem bbefore1 (t : Fin cfg1.N) (d) : (bdat V c).before 1 t d = bX V c 1 t.val t.isLt :=
  (bdat V c).before_eq_heldIn 1 rfl (fun _ => rfl) (bclip 1) (fun _ => rfl) t d

theorem bbefore2 (t : Fin cfg1.N) (d) : (bdat V c).before 2 t d = bX V c 2 t.val t.isLt :=
  (bdat V c).before_eq_heldIn 2 rfl (fun _ => rfl) (bclip 2) (fun _ => rfl) t d

theorem bbefore3 (t : Fin cfg1.N) (d) : (bdat V c).before 3 t d = bX V c 3 t.val t.isLt :=
  (bdat V c).before_eq_heldIn 3 rfl (fun _ => rfl) (bclip 3) (fun _ => rfl) t d

theorem bbefore4 (t : Fin cfg1.N) (d) : (bdat V c).before 4 t d = bX V c 4 t.val t.isLt :=
  (bdat V c).before_eq_heldIn 4 rfl (fun _ => rfl) (bclip 4) (fun _ => rfl) t d

theorem bbefore5 (t : Fin cfg1.N) (d) : (bdat V c).before 5 t d = bX V c 5 t.val t.isLt :=
  (bdat V c).before_eq_heldIn 5 rfl (fun _ => rfl) (bclip 5) (fun _ => rfl) t d

theorem bbefore6 (t : Fin cfg1.N) (d) : (bdat V c).before 6 t d = bX V c 6 t.val t.isLt :=
  (bdat V c).before_eq_heldIn 6 rfl (fun _ => rfl) (bclip 6) (fun _ => rfl) t d

theorem bbefore7 (t : Fin cfg1.N) (d) : (bdat V c).before 7 t d = bX V c 7 t.val t.isLt :=
  (bdat V c).before_eq_heldIn 7 rfl (fun _ => rfl) (bclip 7) (fun _ => rfl) t d

theorem bbefore8 (t : Fin cfg1.N) (d) : (bdat V c).before 8 t d = bX V c 8 t.val t.isLt :=
  (bdat V c).before_eq_heldIn 8 rfl (fun _ => rfl) (bclip 8) (fun _ => rfl) t d

theorem bbefore9 (t : Fin cfg1.N) (d) : (bdat V c).before 9 t d = bX V c 9 t.val t.isLt :=
  (bdat V c).before_eq_heldIn 9 rfl (fun _ => rfl) (bclip 9) (fun _ => rfl) t d

theorem bbefore12 (t : Fin cfg1.N) (ht : t.val ≠ 0) (d) : (bdat V c).before 12 t d = bdwa V c (t.val - 1 + 1) :=
  (bdat V c).before_out_kept 12 rfl t ht (Bool.eq_false_iff.mpr fun h => bnoflush t ht ((flush1_12 _).mp h)) (fun _ => rfl) (bclip 12) d

theorem bbefore13 (t : Fin cfg1.N) (ht : t.val ≠ 0) (d) : (bdat V c).before 13 t d = bdba V c (t.val - 1 + 1) :=
  (bdat V c).before_out_kept 13 rfl t ht (Bool.eq_false_iff.mpr fun h => bnoflush t ht ((flush1_13 _).mp h)) (fun _ => rfl) (bclip 13) d

theorem bbefore14 (t : Fin cfg1.N) (ht : t.val ≠ 0) (d) : (bdat V c).before 14 t d = bdwx V c (t.val - 1 + 1) :=
  (bdat V c).before_out_kept 14 rfl t ht (Bool.eq_false_iff.mpr fun h => bnoflush t ht ((flush1_14 _).mp h)) (fun _ => rfl) (bclip 14) d

theorem bbefore15 (t : Fin cfg1.N) (ht : t.val ≠ 0) (d) : (bdat V c).before 15 t d = bdbx V c (t.val - 1 + 1) :=
  (bdat V c).before_out_kept 15 rfl t ht (Bool.eq_false_iff.mpr fun h => bnoflush t ht ((flush1_15 _).mp h)) (fun _ => rfl) (bclip 15) d

theorem bbefore16 (t : Fin cfg1.N) (ht : t.val ≠ 0) (d) : (bdat V c).before 16 t d = bdlam V c (t.val - 1 + 1) :=
  (bdat V c).before_out_kept 16 rfl t ht (Bool.eq_false_iff.mpr fun h => bnoflush t ht ((flush1_16 _).mp h)) (fun _ => rfl) (bclip 16) d

set_option maxHeartbeats 2000000 in
theorem bbody : BodyObligation (bdat V c) (defs₀ (F := F)) Variants.none () Set.univ := fun t => by
  rw [bigSep_W1, bigSep_W1]
  rw [show (bdat V c).Φ t.castSucc = bΦ V c t.val from rfl, show (bdat V c).Φ t.succ = bΦ V c (t.val + 1) from rfl,
    show (bdat V c).owesAt () t.succ = (bdat V c).owesAt () t.castSucc from rfl]
  unfold bΦ
  iintro ⟨⟨⟨%x, %hx, H23⟩, ⟨%X18, H18⟩, ⟨%X19, H19⟩, ⟨%X20, H20⟩, ⟨%X21, H21⟩, ⟨%X22, H22⟩, HR⟩, Howes, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩, ⟨%d13, H14⟩, ⟨%d14, H15⟩, ⟨%d15, H16⟩, ⟨%d16, H17⟩⟩
  rw [bbefore0, bbefore1, bbefore2, bbefore3, bbefore4, bbefore5, bbefore6, bbefore7, bbefore8, bbefore9]
  iapply (bwdOwns (F := F) c Set.univ (grid1.coords t) _ _ _ _ _ _ _ _ _ _ _ _ _ _ _ _ _ _ _ _ _ _ _ _ _ _ _ _ _ _ _ _ _ _ _ _ _ _ _ _ _ _ _ _ _ _ (bIn V c t.val t.isLt) (bX V c 3 t.val t.isLt) x (by rw [bcoord]; rfl) ((bdat V c).before 12 t d12) ((bdat V c).before 13 t d13) ((bdat V c).before 14 t d14) ((bdat V c).before 15 t d15) ((bdat V c).before 16 t d16))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexact H23
  iintro %x' %hx' ⟨H1, H2, H3, H4, H5, H6, H7, H8, H9, H10, H11, H12, H13, H14, H15, H16, H17, H18, H19, H20, H21, H22, H23⟩
  rw [bstart V c t x hx] at hx'
  rw [bstart V c t x hx, bstartA t k1_pay8 ((bdat V c).before 12 t d12) (fun n h a => k1_pay2 ((bIn V c n h).dwa (bcarry V c n)) a) (fun ht => bbefore12 V c t ht d12), bstartA t k1_pay9 ((bdat V c).before 13 t d13) (fun n h a => k1_pay3 ((bIn V c n h).dba (bcarry V c n)) a) (fun ht => bbefore13 V c t ht d13), bstartA t k1_pay10 ((bdat V c).before 14 t d14) (fun n h a => k1_pay4 ((bIn V c n h).dwx (bcarry V c n)) a) (fun ht => bbefore14 V c t ht d14), bstartA t k1_pay11 ((bdat V c).before 15 t d15) (fun n h a => k1_pay5 ((bIn V c n h).dbx (bcarry V c n)) a) (fun ht => bbefore15 V c t ht d15), bstartA t k1_pay12 ((bdat V c).before 16 t d16) (fun n h a => k1_pay6 ((bIn V c n h).dlam (bcarry V c n)) a) (fun ht => bbefore16 V c t ht d16)]
  isplitl [H18 H19 H20 H21 H22 H23 HR]
  · isplitl [H23]
    · iexists x'
      isplitr; swap; (· iexact H23)
      ipureintro
      intro _
      rw [hx']
      show _ = (if h : t.val < cfg1.N then _ else _)
      rw [dif_pos t.isLt]
    isplitl [H18]; · iexact H18
    isplitl [H19]; · iexact H19
    isplitl [H20]; · iexact H20
    isplitl [H21]; · iexact H21
    isplitl [H22]; · iexact H22
    iexact HR
  isplitl [Howes]; · iexact Howes
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · rw [show (bdat V c).after 12 t = k1_pay2 ((bIn V c t.val t.isLt).dwa (bcarry V c t.val)) (bsum k1_pay8 (fun n h a => k1_pay2 ((bIn V c n h).dwa (bcarry V c n)) a) t.val) from bsum_succ _ _ _ t.isLt]
    iexact H13
  isplitl [H14]
  · rw [show (bdat V c).after 13 t = k1_pay3 ((bIn V c t.val t.isLt).dba (bcarry V c t.val)) (bsum k1_pay9 (fun n h a => k1_pay3 ((bIn V c n h).dba (bcarry V c n)) a) t.val) from bsum_succ _ _ _ t.isLt]
    iexact H14
  isplitl [H15]
  · rw [show (bdat V c).after 14 t = k1_pay4 ((bIn V c t.val t.isLt).dwx (bcarry V c t.val)) (bsum k1_pay10 (fun n h a => k1_pay4 ((bIn V c n h).dwx (bcarry V c n)) a) t.val) from bsum_succ _ _ _ t.isLt]
    iexact H15
  isplitl [H16]
  · rw [show (bdat V c).after 15 t = k1_pay5 ((bIn V c t.val t.isLt).dbx (bcarry V c t.val)) (bsum k1_pay11 (fun n h a => k1_pay5 ((bIn V c n h).dbx (bcarry V c n)) a) t.val) from bsum_succ _ _ _ t.isLt]
    iexact H16
  rw [show (bdat V c).after 16 t = k1_pay6 ((bIn V c t.val t.isLt).dlam (bcarry V c t.val)) (bsum k1_pay12 (fun n h a => k1_pay6 ((bIn V c n h).dlam (bcarry V c n)) a) t.val) from bsum_succ _ _ _ t.isLt]
  iexact H17

end Data

end Cert.KernelIdeal.Own

end
-- ==== Proof.Region0.lean ====
/- The forward region as a segment of the run, from and to any contents that differ by its results. -/
module

public import proofs.«01_k».proof.Proof.FwdRegion
public import proofs.«01_k».proof.Proof.BwdRegion

@[expose] public section

set_option maxRecDepth 8192

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen
open Idealize.ShloMosaic.ValueIdx
open Idealize.ShloMosaic.Rounds

variable {F : FTy → Type} [FloatOps F]

local notation "𝕄G" => MT nD τ sig Unit (Elt F) ℕ (UR sig nD τ) ℕ

variable (VA VB : (c : Dev nD) → (b : Ref sig .tc) → Buf (Elt F) ((c : Thread nD τ).loc b))

/-- Both regions' proof data. -/
def pdats : (p : Fin 2) → (c : Dev nD) → Dat τ (Elt F) Unit ℕ (UR sig nD τ) ℕ (cfgs p) c
  | ⟨0, _⟩ => fun c => fdat VA c
  | ⟨1, _⟩ => fun c => bdat VB c

abbrev Lk : GSem nD τ sig → Finset Unit := fun _ => ∅
abbrev lvk : GSem nD τ sig → Unit → ℕ := fun _ _ => 0

/-- What rides along: nothing owed. -/
abbrev Ek (c : Dev nD) : sProp 𝕄G := iprop(∃ W, owes (c : Thread nD τ) (0 : CellTallies nD τ sig Unit) W)

set_option backward.isDefEq.respectTransparency.types false in
set_option maxHeartbeats 4000000 in
/-- The forward region. -/
def reg0 (h_main_v53_0 : ∀ c, VB c main_v53_0 = (fdat VA c).arrAt 7 cfg0.N) (h_main_v53_1 : ∀ c, VB c main_v53_1 = (fdat VA c).arrAt 8 cfg0.N) (hne : ∀ c (b : Ref sig .tc), b ∉ ([main_v53_0, main_v53_1] : List (Ref sig .tc)) → VB c b = VA c b) : Pipeline.RegionSeg (pcfgs (F := F)) adm (pdats VA VB) () defs₀ Variants.none Lk lvk 0 where
  win := launch0.win.to₀
  block_pos := launch0.block_pos
  stage_whole := launch0.stage_whole
  K := PEmpty
  osem k := k.elim
  ho := Pipeline.OwnSemFacts.none _
  hbody c := (fbody VA c).loose
  hwaits := Pipeline.hwaits_of_owed_zero _ _ _ _ Lk lvk 0 fun _ _ => rfl
  pre c := iprop(unscopedBufs c (VA c) ∗ Ek c)
  post c := iprop(unscopedBufs c (VB c) ∗ Ek c)
  X _ := BI.emp
  Y _ := BI.emp
  Z c := Pipeline.unscopedRest (Ix := Unit) (Name := ℕ) (U := UR sig nD τ) (Lvl := ℕ) spec0 c (VA c)
  hentry c := by
    rw [Pipeline.ownSems0_none]
    have hsplit := Pipeline.arrays_of_unscopedBufs (p := 0) (pcfgs (F := F)) adm (pdats VA VB) launch0.win launch0.arr_whole c
      ((pdats VA VB 0 c).share_full fun _ => rfl) (VA c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 0 c).Φ 0 = fΦ VA c 0 from rfl]
    unfold fΦ
    simp only [owns_whole_eq]
    rw [show Pipeline.scopedRest (Pipeline.pin (pcfgs (F := F)) adm 0).spec c = Pipeline.scopedRest spec0 c from rfl, scopedRest0_split]
    iintro ⟨-, -, ⟨⟨%f0, H0⟩, ⟨%f1, H1⟩, ⟨%f2, H2⟩⟩, HR⟩
    isplitl [H2]
    · iexists f2; isplitr; · (ipureintro; exact fun h => absurd rfl h)
      iexists f2; isplitr; · (ipureintro; rfl)
      iexact H2
    isplitl [H0]; · iexists f0; iexists f0; isplitr; · (ipureintro; rfl)
                    iexact H0
    isplitl [H1]; · iexists f1; iexists f1; isplitr; · (ipureintro; rfl)
                    iexact H1
    iexact HR
  hout c := by
    rw [Pipeline.ownSems0_none, show (pdats VA VB 0 c).Φ (Fin.last _) = fΦ VA c cfg0.N from rfl]
    unfold fΦ
    simp only [owns_whole_eq]
    rw [show Pipeline.scopedRest (Pipeline.pin (pcfgs (F := F)) adm 0).spec c = Pipeline.scopedRest spec0 c from rfl, scopedRest0_split]
    iintro ⟨⟨%x, -, %f2, -, H2⟩, ⟨%X0, %f0, -, H0⟩, ⟨%X1, %f1, -, H1⟩, HR⟩
    isplitr; · iempintro
    isplitr; · iempintro
    isplitr [HR]; swap; · iexact HR
    isplitl [H0]; · iexists f0; iexact H0
    isplitl [H1]; · iexists f1; iexact H1
    iexists f2; iexact H2
  hexit c := by
    have hjoin := Pipeline.unscopedBufs_of_arrays (p := 0) (pcfgs (F := F)) adm (Ix := Unit) (Name := ℕ) (U := UR sig nD τ) (Lvl := ℕ) launch0.win launch0.arr_whole c
      (pdats VA VB) ((pdats VA VB 0 c).share_full fun _ => rfl) (VA c) (VB c) ((pdats VA VB 0 c).arrAt · cfg0.N)
      (fun w => by
        fin_cases w
        · exact ((pdats VA VB 0 c).arrAt_in 0 rfl _).trans (hne c main_arg0 (by decide)).symm
        · exact ((pdats VA VB 0 c).arrAt_in 1 rfl _).trans (hne c main_arg1 (by decide)).symm
        · exact ((pdats VA VB 0 c).arrAt_in 2 rfl _).trans (hne c main_v24 (by decide)).symm
        · exact ((pdats VA VB 0 c).arrAt_in 3 rfl _).trans (hne c main_v25 (by decide)).symm
        · exact ((pdats VA VB 0 c).arrAt_in 4 rfl _).trans (hne c main_v50 (by decide)).symm
        · exact ((pdats VA VB 0 c).arrAt_in 5 rfl _).trans (hne c main_v51 (by decide)).symm
        · exact ((pdats VA VB 0 c).arrAt_in 6 rfl _).trans (hne c main_v52 (by decide)).symm
        · exact (h_main_v53_0 c).symm
        · exact (h_main_v53_1 c).symm
        )
      (fun b hb => hne c b (fun h => hb (by
        simp only [List.mem_cons, List.not_mem_nil] at h
        rcases h with h | h | h
        · exact h ▸ Finset.mem_image.mpr ⟨7, Finset.mem_univ _, rfl⟩
        · exact h ▸ Finset.mem_image.mpr ⟨8, Finset.mem_univ _, rfl⟩
        · exact h.elim)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Own

end
-- ==== Proof.Region1.lean ====
/- The backward region as a segment of the run, from and to any contents that differ by its results. -/
module

public import proofs.«01_k».proof.Proof.Region0

@[expose] public section

set_option maxRecDepth 8192

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen
open Idealize.ShloMosaic.ValueIdx
open Idealize.ShloMosaic.Rounds

variable {F : FTy → Type} [FloatOps F]

local notation "𝕄G" => MT nD τ sig Unit (Elt F) ℕ (UR sig nD τ) ℕ

variable (VA VB VC : (c : Dev nD) → (b : Ref sig .tc) → Buf (Elt F) ((c : Thread nD τ).loc b))

theorem scoped1 (c : Dev nD) : (Pipeline.scopedRest (Ix := Unit) (Name := ℕ) (U := UR sig nD τ) (Lvl := ℕ) (Val := Elt F) spec1 c : sProp 𝕄G)
    = iprop(((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f)) ∗ bRest c) :=
  Pipeline.scopedRest_split_of_list spec1 c [cc1_scratch0, cc1_scratch1, cc1_scratch2, cc1_scratch3, cc1_scratch4, cc1_scratch5] (by decide) (by decide)

set_option backward.isDefEq.respectTransparency.types false in
set_option maxHeartbeats 4000000 in
/-- The backward region. -/
def reg1 (h_main_v54_0 : ∀ c, VC c main_v54_0 = (bdat VB c).arrAt 10 cfg1.N) (h_main_v54_1 : ∀ c, VC c main_v54_1 = (bdat VB c).arrAt 11 cfg1.N) (h_main_v54_2 : ∀ c, VC c main_v54_2 = (bdat VB c).arrAt 12 cfg1.N) (h_main_v54_3 : ∀ c, VC c main_v54_3 = (bdat VB c).arrAt 13 cfg1.N) (h_main_v54_4 : ∀ c, VC c main_v54_4 = (bdat VB c).arrAt 14 cfg1.N) (h_main_v54_5 : ∀ c, VC c main_v54_5 = (bdat VB c).arrAt 15 cfg1.N) (h_main_v54_6 : ∀ c, VC c main_v54_6 = (bdat VB c).arrAt 16 cfg1.N) (hne : ∀ c (b : Ref sig .tc), b ∉ ([main_v54_0, main_v54_1, main_v54_2, main_v54_3, main_v54_4, main_v54_5, main_v54_6] : List (Ref sig .tc)) → VC c b = VB c b) : Pipeline.RegionSeg (pcfgs (F := F)) adm (pdats VA VB) () defs₀ Variants.none Lk lvk 1 where
  win := launch₀1.win
  block_pos := launch₀1.block_pos
  stage_whole := launch₀1.stage_whole
  K := PEmpty
  osem k := k.elim
  ho := Pipeline.OwnSemFacts.none _
  hbody c := (bbody VB c).loose
  hwaits := Pipeline.hwaits_of_owed_zero _ _ _ _ Lk lvk 1 fun _ _ => rfl
  pre c := iprop(unscopedBufs c (VB c) ∗ Ek c)
  post c := iprop(unscopedBufs c (VC c) ∗ Ek c)
  X _ := BI.emp
  Y _ := BI.emp
  Z c := Pipeline.unscopedRest (Ix := Unit) (Name := ℕ) (U := UR sig nD τ) (Lvl := ℕ) spec1 c (VB c)
  hentry c := by
    rw [Pipeline.ownSems0_none]
    have hsplit := Pipeline.arrays_of_unscopedBufs_shared (p := 1) (pcfgs (F := F)) adm (pdats VA VB) launch₀1.win sharedIn1 launch₀1.arr_whole c
      (fun _ _ => rfl) (VB c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 1 c).Φ 0 = bΦ VB c 0 from rfl]
    unfold bΦ
    simp only [owns_whole_eq]
    rw [show Pipeline.scopedRest (Pipeline.pin (pcfgs (F := F)) adm 1).spec c = Pipeline.scopedRest spec1 c from rfl, scoped1]
    iintro ⟨-, -, ⟨⟨%f0, H0⟩, ⟨%f1, H1⟩, ⟨%f2, H2⟩, ⟨%f3, H3⟩, ⟨%f4, H4⟩, ⟨%f5, H5⟩⟩, HR⟩
    isplitl [H5]
    · iexists f5; isplitr; · (ipureintro; exact fun h => absurd rfl h)
      iexists f5; isplitr; · (ipureintro; rfl)
      iexact H5
    isplitl [H0]
    · iexists f0; iexists f0; isplitr; · (ipureintro; rfl)
      iexact H0
    isplitl [H1]
    · iexists f1; iexists f1; isplitr; · (ipureintro; rfl)
      iexact H1
    isplitl [H2]
    · iexists f2; iexists f2; isplitr; · (ipureintro; rfl)
      iexact H2
    isplitl [H3]
    · iexists f3; iexists f3; isplitr; · (ipureintro; rfl)
      iexact H3
    isplitl [H4]
    · iexists f4; iexists f4; isplitr; · (ipureintro; rfl)
      iexact H4
    iexact HR
  hout c := by
    rw [Pipeline.ownSems0_none, show (pdats VA VB 1 c).Φ (Fin.last _) = bΦ VB c cfg1.N from rfl]
    unfold bΦ
    simp only [owns_whole_eq]
    rw [show Pipeline.scopedRest (Pipeline.pin (pcfgs (F := F)) adm 1).spec c = Pipeline.scopedRest spec1 c from rfl, scoped1]
    iintro ⟨⟨%x, -, %f5, -, H5⟩, ⟨%X0, %f0, -, H0⟩, ⟨%X1, %f1, -, H1⟩, ⟨%X2, %f2, -, H2⟩, ⟨%X3, %f3, -, H3⟩, ⟨%X4, %f4, -, H4⟩, HR⟩
    isplitr; · iempintro
    isplitr; · iempintro
    isplitr [HR]; swap; · iexact HR
    isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  hexit c := by
    have hjoin := Pipeline.unscopedBufs_of_arrays_shared (p := 1) (pcfgs (F := F)) adm (Ix := Unit) (Name := ℕ) (U := UR sig nD τ) (Lvl := ℕ) launch₀1.win sharedIn1 launch₀1.arr_whole c
      (pdats VA VB) (fun _ _ => rfl) (VB c) (VC c) ((pdats VA VB 1 c).arrAt · cfg1.N)
      (fun w => by
        fin_cases w
        · exact ((pdats VA VB 1 c).arrAt_in 0 rfl _).trans (hne c main_arg0 (by decide)).symm
        · exact ((pdats VA VB 1 c).arrAt_in 1 rfl _).trans (hne c main_arg1 (by decide)).symm
        · exact ((pdats VA VB 1 c).arrAt_in 2 rfl _).trans (hne c main_v53_1 (by decide)).symm
        · exact ((pdats VA VB 1 c).arrAt_in 3 rfl _).trans (hne c main_v53_1 (by decide)).symm
        · exact ((pdats VA VB 1 c).arrAt_in 4 rfl _).trans (hne c main_arg2 (by decide)).symm
        · exact ((pdats VA VB 1 c).arrAt_in 5 rfl _).trans (hne c main_v24 (by decide)).symm
        · exact ((pdats VA VB 1 c).arrAt_in 6 rfl _).trans (hne c main_v25 (by decide)).symm
        · exact ((pdats VA VB 1 c).arrAt_in 7 rfl _).trans (hne c main_v50 (by decide)).symm
        · exact ((pdats VA VB 1 c).arrAt_in 8 rfl _).trans (hne c main_v51 (by decide)).symm
        · exact ((pdats VA VB 1 c).arrAt_in 9 rfl _).trans (hne c main_v52 (by decide)).symm
        · exact (h_main_v54_0 c).symm
        · exact (h_main_v54_1 c).symm
        · exact (h_main_v54_2 c).symm
        · exact (h_main_v54_3 c).symm
        · exact (h_main_v54_4 c).symm
        · exact (h_main_v54_5 c).symm
        · exact (h_main_v54_6 c).symm
        )
      (fun b hb => hne c b (fun h => hb (by
        simp only [List.mem_cons, List.not_mem_nil] at h
        rcases h with h | h | h | h | h | h | h | h
        · exact h ▸ Finset.mem_image.mpr ⟨10, Finset.mem_univ _, rfl⟩
        · exact h ▸ Finset.mem_image.mpr ⟨11, Finset.mem_univ _, rfl⟩
        · exact h ▸ Finset.mem_image.mpr ⟨12, Finset.mem_univ _, rfl⟩
        · exact h ▸ Finset.mem_image.mpr ⟨13, Finset.mem_univ _, rfl⟩
        · exact h ▸ Finset.mem_image.mpr ⟨14, Finset.mem_univ _, rfl⟩
        · exact h ▸ Finset.mem_image.mpr ⟨15, Finset.mem_univ _, rfl⟩
        · exact h ▸ Finset.mem_image.mpr ⟨16, Finset.mem_univ _, rfl⟩
        · exact h.elim)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Own

end
-- ==== Proof.KernelRun.lean ====
/- The kernel program's run: both regions between their host stretches. -/
module

public import proofs.«01_k».proof.Proof.Region1

@[expose] public section

set_option maxRecDepth 8192

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen
open Idealize.ShloMosaic.ValueIdx
open Idealize.ShloMosaic.Rounds

variable {F : FTy → Type} [FloatOps F]

local notation "𝕄G" => MT nD τ sig Unit (Elt F) ℕ (UR sig nD τ) ℕ

variable (m : (ℓ : Loc nD τ sig) → Buf (Elt F) ℓ)

/-- The contents the forward region is entered at. -/
abbrev Va (c : Dev nD) (b : Ref sig .tc) : Buf (Elt F) ((c : Thread nD τ).loc b) := V1 m c b

/-- What the forward region leaves. -/
def outsF : Outs (F := F) := fun _ r c =>
  (Function.update (Function.update (fun b : Ref sig .tc => Va m c b) main_v53_0 ((fdat (Va m) c).arrAt 7 cfg0.N)) main_v53_1 ((fdat (Va m) c).arrAt 8 cfg0.N)) r

/-- The contents the backward region is entered at. -/
abbrev Vb (c : Dev nD) (b : Ref sig .tc) : Buf (Elt F) ((c : Thread nD τ).loc b) := V2 m (outsF m) c b

/-- What the backward region leaves. -/
def outsB (r : Ref sig .tc) (c : Dev nD) : Buf (Elt F) ((c : Thread nD τ).loc r) := (Function.update (Function.update (Function.update (Function.update (Function.update (Function.update (Function.update (fun b : Ref sig .tc => Vb m c b) main_v54_0 ((bdat (Vb m) c).arrAt 10 cfg1.N)) main_v54_1 ((bdat (Vb m) c).arrAt 11 cfg1.N)) main_v54_2 ((bdat (Vb m) c).arrAt 12 cfg1.N)) main_v54_3 ((bdat (Vb m) c).arrAt 13 cfg1.N)) main_v54_4 ((bdat (Vb m) c).arrAt 14 cfg1.N)) main_v54_5 ((bdat (Vb m) c).arrAt 15 cfg1.N)) main_v54_6 ((bdat (Vb m) c).arrAt 16 cfg1.N)) r

/-- What the two regions leave. -/
def outsK : Outs (F := F)
  | 3 => outsB m
  | J => outsF m J

theorem V2_outsK (c : Dev nD) : V2 m (outsK m) c = V2 m (outsF m) c := rfl

/-- The contents after the backward region. -/
abbrev Vc (c : Dev nD) (b : Ref sig .tc) : Buf (Elt F) ((c : Thread nD τ).loc b) := V3 m (outsK m) c b

theorem outs_main_v53_0 (c : Dev nD) : outsF m 2 main_v53_0 c = (fdat (Va m) c).arrAt 7 cfg0.N := by
  unfold outsF
  rw [Function.update_of_ne (by decide)]
  rw [Function.update_self]
theorem Vb_main_v53_0 (c : Dev nD) : Vb m c main_v53_0 = (fdat (Va m) c).arrAt 7 cfg0.N := by
  rw [← outs_main_v53_0]
  show Function.update _ _ _ _ = _
  rw [Function.update_of_ne (by decide)]
  rw [Function.update_self]
theorem outs_main_v53_1 (c : Dev nD) : outsF m 2 main_v53_1 c = (fdat (Va m) c).arrAt 8 cfg0.N := by
  unfold outsF
  rw [Function.update_self]
theorem Vb_main_v53_1 (c : Dev nD) : Vb m c main_v53_1 = (fdat (Va m) c).arrAt 8 cfg0.N := by
  rw [← outs_main_v53_1]
  show Function.update _ _ _ _ = _
  rw [Function.update_self]
theorem Vc_main_v54_0 (c : Dev nD) : Vc m c main_v54_0 = (bdat (Vb m) c).arrAt 10 cfg1.N := by
  have e : outsB m main_v54_0 c = (bdat (Vb m) c).arrAt 10 cfg1.N := by
    unfold outsB
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_self]
  rw [← e]
  show Function.update _ _ _ _ = _
  rw [Function.update_of_ne (by decide)]
  rw [Function.update_of_ne (by decide)]
  rw [Function.update_of_ne (by decide)]
  rw [Function.update_of_ne (by decide)]
  rw [Function.update_of_ne (by decide)]
  rw [Function.update_of_ne (by decide)]
  rw [Function.update_self]
  rfl
theorem Vc_main_v54_1 (c : Dev nD) : Vc m c main_v54_1 = (bdat (Vb m) c).arrAt 11 cfg1.N := by
  have e : outsB m main_v54_1 c = (bdat (Vb m) c).arrAt 11 cfg1.N := by
    unfold outsB
    rw [Function.update_of_ne (by decide)]
    rw [Function.update_of_ne (by decide)]
    rw [Function.update_of_ne (by decide)]
    rw [Function.update_of_ne (by decide)]
    rw [Function.update_of_ne (by decide)]
    rw [Function.update_self]
  rw [← e]
  show Function.update _ _ _ _ = _
  rw [Function.update_of_ne (by decide)]
  rw [Function.update_of_ne (by decide)]
  rw [Function.update_of_ne (by decide)]
  rw [Function.update_of_ne (by decide)]
  rw [Function.update_of_ne (by decide)]
  rw [Function.update_self]
  rfl
theorem Vc_main_v54_2 (c : Dev nD) : Vc m c main_v54_2 = (bdat (Vb m) c).arrAt 12 cfg1.N := by
  have e : outsB m main_v54_2 c = (bdat (Vb m) c).arrAt 12 cfg1.N := by
    unfold outsB
    rw [Function.update_of_ne (by decide)]
    rw [Function.update_of_ne (by decide)]
    rw [Function.update_of_ne (by decide)]
    rw [Function.update_of_ne (by decide)]
    rw [Function.update_self]
  rw [← e]
  show Function.update _ _ _ _ = _
  rw [Function.update_of_ne (by decide)]
  rw [Function.update_of_ne (by decide)]
  rw [Function.update_of_ne (by decide)]
  rw [Function.update_of_ne (by decide)]
  rw [Function.update_self]
  rfl
theorem Vc_main_v54_3 (c : Dev nD) : Vc m c main_v54_3 = (bdat (Vb m) c).arrAt 13 cfg1.N := by
  have e : outsB m main_v54_3 c = (bdat (Vb m) c).arrAt 13 cfg1.N := by
    unfold outsB
    rw [Function.update_of_ne (by decide)]
    rw [Function.update_of_ne (by decide)]
    rw [Function.update_of_ne (by decide)]
    rw [Function.update_self]
  rw [← e]
  show Function.update _ _ _ _ = _
  rw [Function.update_of_ne (by decide)]
  rw [Function.update_of_ne (by decide)]
  rw [Function.update_of_ne (by decide)]
  rw [Function.update_self]
  rfl
theorem Vc_main_v54_4 (c : Dev nD) : Vc m c main_v54_4 = (bdat (Vb m) c).arrAt 14 cfg1.N := by
  have e : outsB m main_v54_4 c = (bdat (Vb m) c).arrAt 14 cfg1.N := by
    unfold outsB
    rw [Function.update_of_ne (by decide)]
    rw [Function.update_of_ne (by decide)]
    rw [Function.update_self]
  rw [← e]
  show Function.update _ _ _ _ = _
  rw [Function.update_of_ne (by decide)]
  rw [Function.update_of_ne (by decide)]
  rw [Function.update_self]
  rfl
theorem Vc_main_v54_5 (c : Dev nD) : Vc m c main_v54_5 = (bdat (Vb m) c).arrAt 15 cfg1.N := by
  have e : outsB m main_v54_5 c = (bdat (Vb m) c).arrAt 15 cfg1.N := by
    unfold outsB
    rw [Function.update_of_ne (by decide)]
    rw [Function.update_self]
  rw [← e]
  show Function.update _ _ _ _ = _
  rw [Function.update_of_ne (by decide)]
  rw [Function.update_self]
  rfl
theorem Vc_main_v54_6 (c : Dev nD) : Vc m c main_v54_6 = (bdat (Vb m) c).arrAt 16 cfg1.N := by
  have e : outsB m main_v54_6 c = (bdat (Vb m) c).arrAt 16 cfg1.N := by
    unfold outsB
    rw [Function.update_self]
  rw [← e]
  show Function.update _ _ _ _ = _
  rw [Function.update_self]
  rfl

abbrev regA : Pipeline.RegionSeg (pcfgs (F := F)) adm (pdats (Va m) (Vb m)) () defs₀ Variants.none Lk lvk 0 := (reg0 (Va m) (Vb m) (Vb_main_v53_0 m) (Vb_main_v53_1 m) (fun c b h => V2_of m (outsF m) c b h))
abbrev regB : Pipeline.RegionSeg (pcfgs (F := F)) adm (pdats (Va m) (Vb m)) () defs₀ Variants.none Lk lvk 1 := (reg1 (Va m) (Vb m) (Vc m) (Vc_main_v54_0 m) (Vc_main_v54_1 m) (Vc_main_v54_2 m) (Vc_main_v54_3 m) (Vc_main_v54_4 m) (Vc_main_v54_5 m) (Vc_main_v54_6 m) (fun c b h => V3_of m (outsK m) c b h))

/-! ## The run -/

/-- What a final memory holds: the arguments as launched, the results at the last contents. -/
def EndsAt (s : MemSt nD τ sig (Elt F)) (c : Dev nD) : Prop :=
  s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_v53_0) = V4 m (outsK m) c main_v53_0 ∧ s.mem ((c.tc : Thread nD τ).loc main_v54_0) = V4 m (outsK m) c main_v54_0 ∧ s.mem ((c.tc : Thread nD τ).loc main_v54_1) = V4 m (outsK m) c main_v54_1 ∧ s.mem ((c.tc : Thread nD τ).loc main_v63) = V4 m (outsK m) c main_v63 ∧ s.mem ((c.tc : Thread nD τ).loc main_v64) = V4 m (outsK m) c main_v64 ∧ s.mem ((c.tc : Thread nD τ).loc main_v73) = V4 m (outsK m) c main_v73 ∧ s.mem ((c.tc : Thread nD τ).loc main_v74) = V4 m (outsK m) c main_v74 ∧ s.mem ((c.tc : Thread nD τ).loc main_v75) = V4 m (outsK m) c main_v75

set_option backward.isDefEq.respectTransparency.types false in
set_option maxHeartbeats 4000000 in
/-- Every run ends with the arguments as launched, the results at `V4`, and every counter at zero. -/
theorem run_main (ρ : Dev nD → PrngReg) :
    θ_run defs (onTc (τ := τ) (main (F := F))) ⟨m, fun _ => 0, ρ⟩ (fun r => (∀ c : Dev nD, EndsAt m r.2 c) ∧ r.2.sem = fun _ => 0) := by
  refine Pipeline.θ_run_regions_kit_dev_sems (pcfgs (F := F)) adm (pdats (Va m) (Vb m)) () cellOf_inj emb₁ defs₀ Variants.none Lk lvk m ρ main
    (segs m (outsK m) Variants.none Lk lvk (fun _ => Ek) () (pdats (Va m) (Vb m)) (regA m) (regB m))
    (fun c Q => by
      rewrite [main_chain c, Pipeline.Seg.run_eq_chain,
        show (segs m (outsK m) Variants.none Lk lvk (fun _ => Ek) () (pdats (Va m) (Vb m)) (regA m) (regB m) c).map Pipeline.Seg.prog = [
          StableHlo.seq hostOps0, Prog.lift (.customCall (Pipeline.entry 0) ()), Prog.lift (.customCall (Pipeline.entry 1) ()), StableHlo.seq hostOps2] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := by
      iintro Hu
      imodintro
      isplitl [Hu]; · iapply (show (ownU _ : sProp 𝕄G) ⊢ BI.own (emb₁ (initOf (Pipeline.cells cfgs cellOf_inj) (Pipeline.launchToks cfgs cellOf_inj))) from .rfl); iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (V0 m c) ∗ Ek c))
    (Tₙ := fun c => StableHlo.held (c : Thread nD τ) (Pipeline.ucRefs τ sig) (V4 m (outsK m) c))
    (hch := fun c => ⟨.rfl, sep_mono (Entails.of_eq (Pipeline.unscopedBufs_held c (V1 m c)).symm) .rfl, .rfl,
      sep_mono (Entails.of_eq (Pipeline.unscopedBufs_held c (V3 m (outsK m) c))) .rfl, .rfl⟩)
    (hinit := by
      refine Pipeline.initEach Lk lvk fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -⟩, -⟩
      imodintro
      isplitl [Hh]; · iexact Hh
      iexists ∅; iexact HO)
    (QY := fun c s => EndsAt m s c)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V4 m (outsK m) c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (V4_main_arg0 m (outsK m) c), (h (Proc.devRef .tc main_arg1) (Finset.mem_filter.mpr ⟨StableHlo.devRef_mem_tcRefs main_arg1, by decide⟩)).trans (V4_main_arg1 m (outsK m) c), (h (Proc.devRef .tc main_arg2) (Finset.mem_filter.mpr ⟨StableHlo.devRef_mem_tcRefs main_arg2, by decide⟩)).trans (V4_main_arg2 m (outsK m) c), (h (Proc.devRef .tc main_arg3) (Finset.mem_filter.mpr ⟨StableHlo.devRef_mem_tcRefs main_arg3, by decide⟩)).trans (V4_main_arg3 m (outsK m) c), (h (Proc.devRef .tc main_arg4) (Finset.mem_filter.mpr ⟨StableHlo.devRef_mem_tcRefs main_arg4, by decide⟩)).trans (V4_main_arg4 m (outsK m) c), (h (Proc.devRef .tc main_arg5) (Finset.mem_filter.mpr ⟨StableHlo.devRef_mem_tcRefs main_arg5, by decide⟩)).trans (V4_main_arg5 m (outsK m) c), (h (Proc.devRef .tc main_arg6) (Finset.mem_filter.mpr ⟨StableHlo.devRef_mem_tcRefs main_arg6, by decide⟩)).trans (V4_main_arg6 m (outsK m) c), (h (Proc.devRef .tc main_arg7) (Finset.mem_filter.mpr ⟨StableHlo.devRef_mem_tcRefs main_arg7, by decide⟩)).trans (V4_main_arg7 m (outsK m) c), (h (Proc.devRef .tc main_v53_0) (Finset.mem_filter.mpr ⟨StableHlo.devRef_mem_tcRefs main_v53_0, by decide⟩)), (h (Proc.devRef .tc main_v54_0) (Finset.mem_filter.mpr ⟨StableHlo.devRef_mem_tcRefs main_v54_0, by decide⟩)), (h (Proc.devRef .tc main_v54_1) (Finset.mem_filter.mpr ⟨StableHlo.devRef_mem_tcRefs main_v54_1, by decide⟩)), (h (Proc.devRef .tc main_v63) (Finset.mem_filter.mpr ⟨StableHlo.devRef_mem_tcRefs main_v63, by decide⟩)), (h (Proc.devRef .tc main_v64) (Finset.mem_filter.mpr ⟨StableHlo.devRef_mem_tcRefs main_v64, by decide⟩)), (h (Proc.devRef .tc main_v73) (Finset.mem_filter.mpr ⟨StableHlo.devRef_mem_tcRefs main_v73, by decide⟩)), (h (Proc.devRef .tc main_v74) (Finset.mem_filter.mpr ⟨StableHlo.devRef_mem_tcRefs main_v74, by decide⟩)), (h (Proc.devRef .tc main_v75) (Finset.mem_filter.mpr ⟨StableHlo.devRef_mem_tcRefs main_v75, by decide⟩))⟩
  · iexact HSI

end Cert.KernelIdeal.Own

end
-- ==== Proof.SameText.lean ====
module

public import proofs.«01_k».proof.Defs
public import proofs.«01_k».proof.Proof.Gen.Kernel
public import proofs.«01_k».proof.Proof.Gen.KernelIdeal
public import Idealize.ShloMosaic.Lib.Tactic

@[expose] public section

noncomputable section

namespace Cert.Proof

open Idealize.ShloMosaic Idealize.SL.Sem

/-- The recurrence's program printed for the reals, read at machine floats: it runs, its arguments end as launched, and
    every counter ends at zero. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

/-- Both prints have the same text, so the two statements are one. -/
theorem frame_same : FrameAtBits = Cert.quiescent_Kernel (hKernel := Cert.Kernel.Gen.facts) := by sl_kernel_rfl

end Cert.Proof

end
-- ==== Proof.FfnMath.lean ====
/- Products of two matrices, written as sums over the contracted index, over the extended reals. -/
module

public import Idealize.ShloMosaic.PureOps
public import Idealize.ShloMosaic.Lib.Pointwise

@[expose] public section

noncomputable section

namespace Cert.FfnIdeal.Own

open Idealize.ShloMosaic

/-- A matrix of `r` rows and `c` columns. -/
abbrev Mat (r c : Nat) : Type := (⟨2, ![r, c]⟩ : Shape).Idx → EReal

/-- The product of `x` and `w`. -/
def mul {M K N : Nat} (x : Mat M K) (w : Mat K N) : Mat M N := fun i => ∑ k : Fin K, x (ix2 (i 0) k) * w (ix2 k (i 1))

/-- The product of `x` and `w` transposed. -/
def mulT {M K N : Nat} (x : Mat M K) (w : Mat N K) : Mat M N := fun i => ∑ k : Fin K, x (ix2 (i 0) k) * w (ix2 (i 1) k)

/-- The product of `x` transposed and `w`. -/
def tMul {M K N : Nat} (x : Mat K M) (w : Mat K N) : Mat M N := fun i => ∑ k : Fin K, x (ix2 k (i 0)) * w (ix2 k (i 1))

/-- The logistic function of one entry. -/
def sgm (g : EReal) : EReal := Ideal.logistic g

/-- The activation of one entry: the gate through SiLU, times the up-projection. -/
def act (g u : EReal) : EReal := (g * sgm g) * u

/-- What the gate's gradient is of one entry, from the activation's gradient `d`, the gate `g` and the up-projection `u`. -/
def gateGrad (d g u : EReal) : EReal := (d * u) * (sgm g * (1 + g * (1 - sgm g)))

/-- What the up-projection's gradient is of one entry. -/
def upGrad (d g : EReal) : EReal := d * (g * sgm g)

end Cert.FfnIdeal.Own

end
-- ==== Proof.FfnGate.lean ====
/- The two ways of writing the gate's gradient of one entry agree wherever the gradient that arrives is finite. -/
module

public import proofs.«01_k».proof.Proof.FfnMath

@[expose] public section

noncomputable section

namespace Cert.FfnIdeal.Own

open Idealize.ShloMosaic

/-- Being a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} [DecidableEq ι] (s : Finset ι) (f : ι → EReal) (h : ∀ k, IsReal (f k)) : IsReal (∑ k ∈ s, f k) := by
  choose r hr using h
  refine ⟨∑ k ∈ s, r k, ?_⟩
  rw [Finset.sum_congr rfl fun k _ => hr k]
  induction s using Finset.induction_on with
  | empty => simp
  | insert a s ha ih => rw [Finset.sum_insert ha, Finset.sum_insert ha, ih, EReal.coe_add]

/-- The product rule's form of the gate's gradient is the factored form, for any gate and a real `c`. -/
theorem gate_rule (c g : EReal) (hc : IsReal c) : c * sgm g + (g * c) * (sgm g * (1 - sgm g)) = c * (sgm g * (1 + g * (1 - sgm g))) := by
  obtain ⟨c, rfl⟩ := hc
  unfold sgm
  induction g with
  | bot => simp
  | coe g =>
    rw [Ideal.logistic_coe]
    generalize (1 + Real.exp (-g))⁻¹ = s
    norm_cast
    ring
  | top =>
    rw [Ideal.logistic_top, show (1 : EReal) - 1 = 0 by rw [← EReal.coe_one, ← EReal.coe_sub, sub_self, EReal.coe_zero]]
    simp

end Cert.FfnIdeal.Own

end
-- ==== Proof.FfnCells.lean ====
/- What one grid point of each kernel computes, entry by entry. -/
module

public import proofs.«01_k».proof.Proof.Gen.FfnIdeal.Skeleton
public import proofs.«01_k».proof.Proof.FfnMath
public import Idealize.ShloMosaic.Lib.Pointwise

@[expose] public section

noncomputable section

namespace Cert.FfnIdeal.Own

open Idealize.ShloMosaic Cert.FfnIdeal Cert.FfnIdeal.Gen

theorem gate_cell (x : Vec Ideal S832x1024 .bf16) (w : Vec Ideal S1024x1408 .bf16) (j : S832x1408.Idx) :
    k0_pay3 x w j = mul (M := 832) (K := 1024) (N := 1408) x w j := by
  pointwise [mul, k0_pay3, k0_pay1]

theorem up_cell (x : Vec Ideal S832x1024 .bf16) (w : Vec Ideal S1024x1408 .bf16) (j : S832x1408.Idx) :
    k0_pay4 x w j = mul (M := 832) (K := 1024) (N := 1408) x w j := by
  pointwise [mul, k0_pay4, k0_pay2]

theorem act_cell (x : Vec Ideal S832x1024 .bf16) (wg wu : Vec Ideal S1024x1408 .bf16) (j : S832x1408.Idx) :
    k0_pay5 x wg wu j = act (mul (M := 832) (K := 1024) (N := 1408) x wg j) (mul (M := 832) (K := 1024) (N := 1408) x wu j) := by
  pointwise [mul, act, sgm, k0_pay5, k0_pay1, k0_pay2]

theorem gateGrad_cell (dy : Vec Ideal S832x1024 .bf16) (wd : Vec Ideal S1408x1024 .bf16) (g u : Vec Ideal S832x1408 .bf16) (j : S832x1408.Idx) :
    k2_pay4 dy wd g u j = gateGrad (mulT (M := 832) (K := 1024) (N := 1408) dy wd j) (g j) (u j) := by
  pointwise [mulT, gateGrad, sgm, k2_pay4, k2_pay3, k2_pay2, k2_pay1, shapeCast_self]

theorem upGrad_cell (dy : Vec Ideal S832x1024 .bf16) (wd : Vec Ideal S1408x1024 .bf16) (g : Vec Ideal S832x1408 .bf16) (j : S832x1408.Idx) :
    k2_pay5 dy wd g j = upGrad (mulT (M := 832) (K := 1024) (N := 1408) dy wd j) (g j) := by
  pointwise [mulT, upGrad, sgm, k2_pay5, k2_pay3, k2_pay2, k2_pay1, shapeCast_self]

theorem zero1_cell (j : S1408x1024.Idx) : k1_pay1 (F := Ideal) j = 0 := by
  pointwise [k1_pay1]

theorem step1_cell (acc : Vec Ideal S1408x1024 .f32) (x : Vec Ideal S832x1408 .bf16) (w : Vec Ideal S832x1024 .bf16) (j : S1408x1024.Idx) :
    k1_pay2 acc x w j = acc j + tMul (M := 1408) (K := 832) (N := 1024) x w j := by
  pointwise [tMul, k1_pay2, shapeCast_self]

theorem zero3_cell (j : S1024x1408.Idx) : k3_pay1 (F := Ideal) j = 0 := by
  pointwise [k3_pay1]

theorem step3_cell (acc : Vec Ideal S1024x1408 .f32) (x : Vec Ideal S832x1024 .bf16) (w : Vec Ideal S832x1408 .bf16) (j : S1024x1408.Idx) :
    k3_pay2 acc x w j = acc j + tMul (M := 1024) (K := 832) (N := 1408) x w j := by
  pointwise [tMul, k3_pay2, shapeCast_self]

theorem zero4_cell (j : S1024x1408.Idx) : k4_pay1 (F := Ideal) j = 0 := by
  pointwise [k4_pay1]

theorem step4_cell (acc : Vec Ideal S1024x1408 .f32) (x : Vec Ideal S832x1024 .bf16) (w : Vec Ideal S832x1408 .bf16) (j : S1024x1408.Idx) :
    k4_pay2 acc x w j = acc j + tMul (M := 1024) (K := 832) (N := 1408) x w j := by
  pointwise [tMul, k4_pay2, shapeCast_self]

theorem input_cell (r : Vec Ideal S832x1024 .f32) (dg : Vec Ideal S832x2816 .bf16) (wg : Vec Ideal S1024x2816 .bf16)
    (du : Vec Ideal S832x2816 .bf16) (wu : Vec Ideal S1024x2816 .bf16) (j : S832x1024.Idx) :
    k5_pay1 r dg wg du wu j
      = (r j + mulT (M := 832) (K := 2816) (N := 1024) dg wg j) + mulT (M := 832) (K := 2816) (N := 1024) du wu j := by
  pointwise [mulT, k5_pay1, shapeCast_self]

end Cert.FfnIdeal.Own

end
-- ==== Proof.FfnUp.lean ====
/- The forward kernel of the feed-forward layer: the gate, the up-projection and their activation, as whole arrays. -/
module

public import proofs.«01_k».proof.Proof.Gen.FfnIdeal.Frame
public import proofs.«01_k».proof.Proof.FfnCells
public import Idealize.ShloMosaic.Lib.Pipeline.Value

@[expose] public section

noncomputable section

namespace Cert.FfnIdeal.Own

open Idealize.ShloMosaic Idealize.ShloMosaic.TcCoe Cert.FfnIdeal Cert.FfnIdeal.Gen
open Idealize.ShloMosaic.Pipeline (Dat)

variable (V : (c : Dev nD) → (b : Ref Cert.FfnIdeal.sig .tc) → Buf (Elt Ideal) ((c : Thread nD τ).loc b))

theorem hz : (![0, 0] : Fin 2 → Nat) = fun _ => 0 := funext fun a => by fin_cases a <;> rfl

/-- Where the windows of the forward kernel stand at grid point `t`: the rows of `t % 5`, the columns of `t / 5`. -/
theorem at0_0 (t : Fin cfg0.N) : win0_0.index t 0 = t.val % 5 ∧ win0_0.index t 1 = 0 := by
  revert t; decide +kernel
theorem at0_1 (t : Fin cfg0.N) : win0_1.index t 0 = 0 ∧ win0_1.index t 1 = t.val / 5 := by
  revert t; decide +kernel
theorem at0_2 (t : Fin cfg0.N) : win0_2.index t 0 = 0 ∧ win0_2.index t 1 = t.val / 5 := by
  revert t; decide +kernel
theorem at0_3 (t : Fin cfg0.N) : win0_3.index t 0 = t.val % 5 ∧ win0_3.index t 1 = t.val / 5 := by
  revert t; decide +kernel

theorem x0_block (c : Dev nD) (t : Fin cfg0.N) (j : S832x1024.Idx) (i : S4160x1024.Idx)
    (h0 : (i 0).val = t.val % 5 * 832 + (j 0).val) (h1 : (i 1).val = (j 1).val) :
    (iblk0 V c 0 t : Vec Ideal S832x1024 .bf16) j = (V c main_arg0 : Mat 4160 1024) i := by
  unfold iblk0
  rw [View.read_apply]
  show V c main_arg0 _ = V c main_arg0 _
  congr 1
  funext a
  apply Fin.ext
  match a with
  | ⟨0, _⟩ => show win0_0.index t 0 * 832 + 1 * (j 0).val = (i 0).val; rw [(at0_0 t).1, h0]; omega
  | ⟨1, _⟩ => show win0_0.index t 1 * 1024 + 1 * (j 1).val = (i 1).val; rw [(at0_0 t).2, h1]; omega

theorem wg0_block (c : Dev nD) (t : Fin cfg0.N) (j : S1024x1408.Idx) (i : S1024x2816.Idx)
    (h0 : (i 0).val = (j 0).val) (h1 : (i 1).val = t.val / 5 * 1408 + (j 1).val) :
    (iblk0 V c 1 t : Vec Ideal S1024x1408 .bf16) j = (V c main_arg1 : Mat 1024 2816) i := by
  unfold iblk0
  rw [View.read_apply]
  show V c main_arg1 _ = V c main_arg1 _
  congr 1
  funext a
  apply Fin.ext
  match a with
  | ⟨0, _⟩ => show win0_1.index t 0 * 1024 + 1 * (j 0).val = (i 0).val; rw [(at0_1 t).1, h0]; omega
  | ⟨1, _⟩ => show win0_1.index t 1 * 1408 + 1 * (j 1).val = (i 1).val; rw [(at0_1 t).2, h1]; omega

/-- The gate at a grid point is the block there of the whole product. -/
theorem gate_after (c : Dev nD) (t : Fin cfg0.N) (j : S832x1408.Idx) (i : S4160x2816.Idx)
    (h0 : (i 0).val = t.val % 5 * 832 + (j 0).val) (h1 : (i 1).val = t.val / 5 * 1408 + (j 1).val) :
    mul (M := 832) (K := 1024) (N := 1408) (iblk0 V c 0 t) (iblk0 V c 1 t) j
      = mul (M := 4160) (K := 1024) (N := 2816) (V c main_arg0) (V c main_arg1) i := by
  unfold mul
  refine Finset.sum_congr rfl fun k _ => ?_
  rw [x0_block V c t (ix2 (j 0) k) (ix2 (i 0) k) h0 rfl, wg0_block V c t (ix2 k (j 1)) (ix2 k (i 1)) rfl h1]

theorem out0_3_eq (x : Vec Ideal S832x1024 .bf16) (wg wu : Vec Ideal S1024x1408 .bf16) : out0_3 x wg wu = k0_pay3 x wg := by
  unfold out0_3
  rw [View.canon_unit_zero hz]
  simp only [View.ld_unit_zero (S := S832x1024) hz, View.ld_unit_zero (S := S1024x1408) hz]

/-- Every entry of the gate lies in the block some grid point writes. -/
theorem cover0_3 (i : S4160x2816.Idx) : ∃ t : Fin cfg0.N, (cfg0.win 3).flush t = true ∧ i ∈ ((cfg0.win 3).blk t).view.set := by
  have h0 : (i 0 : Nat) < 4160 := (i 0).isLt
  have h1 : (i 1 : Nat) < 2816 := (i 1).isLt
  have hN : cfg0.N = 10 := N_0
  obtain ⟨t, ht⟩ : ∃ t : Fin cfg0.N, t.val = (i 1).val / 1408 * 5 + (i 0).val / 832 := ⟨⟨_, by omega⟩, rfl⟩
  refine ⟨t, flush0_3 t, ?_⟩
  show i ∈ ((View.whole main_v0_0).slice (win0_3.rect t)).set
  rw [View.set_slice_whole, Rect.mem_set_unit]
  intro a
  match a with
  | ⟨0, _⟩ =>
    show win0_3.index t 0 * 832 ≤ (i 0 : Nat) ∧ (i 0 : Nat) < win0_3.index t 0 * 832 + 832
    rw [(at0_3 t).1]; omega
  | ⟨1, _⟩ =>
    show win0_3.index t 1 * 1408 ≤ (i 1 : Nat) ∧ (i 1 : Nat) < win0_3.index t 1 * 1408 + 1408
    rw [(at0_3 t).2]; omega

/-- The gate, as the forward kernel leaves it. -/
theorem gate_array (c : Dev nD) :
    (dat0 V c).arrAt 3 cfg0.N = mul (M := 4160) (K := 1024) (N := 2816) (V c main_arg0) (V c main_arg1) := by
  refine (dat0 V c).arrAt_eq_of_cover 3 _ (fun t _ => ?_) cover0_3
  show (cfg0.win 3).cut (grid0.coords t) ((dat0 V c).after 3 t) = _
  rw [after0_3, out0_3_eq]
  funext j
  rw [View.read_apply]
  refine (gate_cell (iblk0 V c 0 t) (iblk0 V c 1 t) j).trans (gate_after V c t j _ ?_ ?_)
  · show win0_3.index t 0 * 832 + 1 * (j 0).val = _; rw [(at0_3 t).1]; omega
  · show win0_3.index t 1 * 1408 + 1 * (j 1).val = _; rw [(at0_3 t).2]; omega

theorem at0_4 (t : Fin cfg0.N) : win0_4.index t 0 = t.val % 5 ∧ win0_4.index t 1 = t.val / 5 := by
  revert t; decide +kernel
theorem at0_5 (t : Fin cfg0.N) : win0_5.index t 0 = t.val % 5 ∧ win0_5.index t 1 = t.val / 5 := by
  revert t; decide +kernel

theorem wu0_block (c : Dev nD) (t : Fin cfg0.N) (j : S1024x1408.Idx) (i : S1024x2816.Idx)
    (h0 : (i 0).val = (j 0).val) (h1 : (i 1).val = t.val / 5 * 1408 + (j 1).val) :
    (iblk0 V c 2 t : Vec Ideal S1024x1408 .bf16) j = (V c main_arg2 : Mat 1024 2816) i := by
  unfold iblk0
  rw [View.read_apply]
  show V c main_arg2 _ = V c main_arg2 _
  congr 1
  funext a
  apply Fin.ext
  match a with
  | ⟨0, _⟩ => show win0_2.index t 0 * 1024 + 1 * (j 0).val = (i 0).val; rw [(at0_2 t).1, h0]; omega
  | ⟨1, _⟩ => show win0_2.index t 1 * 1408 + 1 * (j 1).val = (i 1).val; rw [(at0_2 t).2, h1]; omega

/-- The up-projection at a grid point is the block there of the whole product. -/
theorem up_after (c : Dev nD) (t : Fin cfg0.N) (j : S832x1408.Idx) (i : S4160x2816.Idx)
    (h0 : (i 0).val = t.val % 5 * 832 + (j 0).val) (h1 : (i 1).val = t.val / 5 * 1408 + (j 1).val) :
    mul (M := 832) (K := 1024) (N := 1408) (iblk0 V c 0 t) (iblk0 V c 2 t) j
      = mul (M := 4160) (K := 1024) (N := 2816) (V c main_arg0) (V c main_arg2) i := by
  unfold mul
  refine Finset.sum_congr rfl fun k _ => ?_
  rw [x0_block V c t (ix2 (j 0) k) (ix2 (i 0) k) h0 rfl, wu0_block V c t (ix2 k (j 1)) (ix2 k (i 1)) rfl h1]

theorem out0_4_eq (x : Vec Ideal S832x1024 .bf16) (wg wu : Vec Ideal S1024x1408 .bf16) : out0_4 x wg wu = k0_pay4 x wu := by
  unfold out0_4
  rw [View.canon_unit_zero hz]
  simp only [View.ld_unit_zero (S := S832x1024) hz, View.ld_unit_zero (S := S1024x1408) hz]

theorem out0_5_eq (x : Vec Ideal S832x1024 .bf16) (wg wu : Vec Ideal S1024x1408 .bf16) : out0_5 x wg wu = k0_pay5 x wg wu := by
  unfold out0_5
  rw [View.canon_unit_zero hz]
  simp only [View.ld_unit_zero (S := S832x1024) hz, View.ld_unit_zero (S := S1024x1408) hz]

/-- Every entry of that array lies in the block some grid point writes. -/
theorem cover0_4 (i : S4160x2816.Idx) : ∃ t : Fin cfg0.N, (cfg0.win 4).flush t = true ∧ i ∈ ((cfg0.win 4).blk t).view.set := by
  have h0 : (i 0 : Nat) < 4160 := (i 0).isLt
  have h1 : (i 1 : Nat) < 2816 := (i 1).isLt
  have hN : cfg0.N = 10 := N_0
  obtain ⟨t, ht⟩ : ∃ t : Fin cfg0.N, t.val = (i 1).val / 1408 * 5 + (i 0).val / 832 := ⟨⟨_, by omega⟩, rfl⟩
  refine ⟨t, flush0_4 t, ?_⟩
  show i ∈ ((View.whole main_v0_1).slice (win0_4.rect t)).set
  rw [View.set_slice_whole, Rect.mem_set_unit]
  intro a
  match a with
  | ⟨0, _⟩ =>
    show win0_4.index t 0 * 832 ≤ (i 0 : Nat) ∧ (i 0 : Nat) < win0_4.index t 0 * 832 + 832
    rw [(at0_4 t).1]; omega
  | ⟨1, _⟩ =>
    show win0_4.index t 1 * 1408 ≤ (i 1 : Nat) ∧ (i 1 : Nat) < win0_4.index t 1 * 1408 + 1408
    rw [(at0_4 t).2]; omega

/-- Every entry of that array lies in the block some grid point writes. -/
theorem cover0_5 (i : S4160x2816.Idx) : ∃ t : Fin cfg0.N, (cfg0.win 5).flush t = true ∧ i ∈ ((cfg0.win 5).blk t).view.set := by
  have h0 : (i 0 : Nat) < 4160 := (i 0).isLt
  have h1 : (i 1 : Nat) < 2816 := (i 1).isLt
  have hN : cfg0.N = 10 := N_0
  obtain ⟨t, ht⟩ : ∃ t : Fin cfg0.N, t.val = (i 1).val / 1408 * 5 + (i 0).val / 832 := ⟨⟨_, by omega⟩, rfl⟩
  refine ⟨t, flush0_5 t, ?_⟩
  show i ∈ ((View.whole main_v0_2).slice (win0_5.rect t)).set
  rw [View.set_slice_whole, Rect.mem_set_unit]
  intro a
  match a with
  | ⟨0, _⟩ =>
    show win0_5.index t 0 * 832 ≤ (i 0 : Nat) ∧ (i 0 : Nat) < win0_5.index t 0 * 832 + 832
    rw [(at0_5 t).1]; omega
  | ⟨1, _⟩ =>
    show win0_5.index t 1 * 1408 ≤ (i 1 : Nat) ∧ (i 1 : Nat) < win0_5.index t 1 * 1408 + 1408
    rw [(at0_5 t).2]; omega

/-- The up-projection, as the forward kernel leaves it. -/
theorem up_array (c : Dev nD) :
    (dat0 V c).arrAt 4 cfg0.N = mul (M := 4160) (K := 1024) (N := 2816) (V c main_arg0) (V c main_arg2) := by
  refine (dat0 V c).arrAt_eq_of_cover 4 _ (fun t _ => ?_) cover0_4
  show (cfg0.win 4).cut (grid0.coords t) ((dat0 V c).after 4 t) = _
  rw [after0_4, out0_4_eq]
  funext j
  rw [View.read_apply]
  refine (up_cell (iblk0 V c 0 t) (iblk0 V c 2 t) j).trans (up_after V c t j _ ?_ ?_)
  · show win0_4.index t 0 * 832 + 1 * (j 0).val = _; rw [(at0_4 t).1]; omega
  · show win0_4.index t 1 * 1408 + 1 * (j 1).val = _; rw [(at0_4 t).2]; omega

/-- The activation of the whole arrays. -/
def actOf (g u : Mat 4160 2816) : Mat 4160 2816 := fun i => act (g i) (u i)

/-- The activation, as the forward kernel leaves it. -/
theorem act_array (c : Dev nD) :
    (dat0 V c).arrAt 5 cfg0.N = actOf (mul (M := 4160) (K := 1024) (N := 2816) (V c main_arg0) (V c main_arg1)) (mul (M := 4160) (K := 1024) (N := 2816) (V c main_arg0) (V c main_arg2)) := by
  refine (dat0 V c).arrAt_eq_of_cover 5 _ (fun t _ => ?_) cover0_5
  show (cfg0.win 5).cut (grid0.coords t) ((dat0 V c).after 5 t) = _
  rw [after0_5, out0_5_eq]
  funext j
  rw [View.read_apply]
  have h0 : ((((cfg0.win 5).blk t).view.emb j) 0).val = t.val % 5 * 832 + (j 0).val := by
    show win0_5.index t 0 * 832 + 1 * (j 0).val = _; rw [(at0_5 t).1]; omega
  have h1 : ((((cfg0.win 5).blk t).view.emb j) 1).val = t.val / 5 * 1408 + (j 1).val := by
    show win0_5.index t 1 * 1408 + 1 * (j 1).val = _; rw [(at0_5 t).2]; omega
  generalize ((cfg0.win 5).blk t).view.emb j = i at h0 h1 ⊢
  exact (act_cell (iblk0 V c 0 t) (iblk0 V c 1 t) (iblk0 V c 2 t) j).trans (congrArg₂ act (gate_after V c t j i h0 h1) (up_after V c t j i h0 h1))

end Cert.FfnIdeal.Own

end
-- ==== Proof.FfnDown.lean ====
/- The kernel that carries the gradient back through the down-projection and the activation, as whole arrays. -/
module

public import proofs.«01_k».proof.Proof.FfnUp

@[expose] public section

noncomputable section

namespace Cert.FfnIdeal.Own

open Idealize.ShloMosaic Idealize.ShloMosaic.TcCoe Cert.FfnIdeal Cert.FfnIdeal.Gen
open Idealize.ShloMosaic.Pipeline (Dat)

variable (V : (c : Dev nD) → (b : Ref Cert.FfnIdeal.sig .tc) → Buf (Elt Ideal) ((c : Thread nD τ).loc b))

/-! Where the windows stand at grid point `t`. -/

theorem at2_0 (t : Fin cfg2.N) : win2_0.index t 0 = t.val % 5 ∧ win2_0.index t 1 = 0 := by
  revert t; decide +kernel
theorem at2_1 (t : Fin cfg2.N) : win2_1.index t 0 = t.val / 5 ∧ win2_1.index t 1 = 0 := by
  revert t; decide +kernel
theorem at2_2 (t : Fin cfg2.N) : win2_2.index t 0 = t.val % 5 ∧ win2_2.index t 1 = t.val / 5 := by
  revert t; decide +kernel
theorem at2_3 (t : Fin cfg2.N) : win2_3.index t 0 = t.val % 5 ∧ win2_3.index t 1 = t.val / 5 := by
  revert t; decide +kernel
theorem at2_4 (t : Fin cfg2.N) : win2_4.index t 0 = t.val % 5 ∧ win2_4.index t 1 = t.val / 5 := by
  revert t; decide +kernel
theorem at2_5 (t : Fin cfg2.N) : win2_5.index t 0 = t.val % 5 ∧ win2_5.index t 1 = t.val / 5 := by
  revert t; decide +kernel

theorem dy2_block (c : Dev nD) (t : Fin cfg2.N) (j : S832x1024.Idx) (i : S4160x1024.Idx)
    (h0 : (i 0).val = t.val % 5 * 832 + (j 0).val) (h1 : (i 1).val = (j 1).val) :
    (iblk2 V c 0 t : Vec Ideal S832x1024 .bf16) j = (V c main_arg4 : Mat 4160 1024) i := by
  unfold iblk2
  rw [View.read_apply]
  show V c main_arg4 _ = V c main_arg4 _
  congr 1
  funext a
  apply Fin.ext
  match a with
  | ⟨0, _⟩ => show win2_0.index t 0 * 832 + 1 * (j 0).val = (i 0).val; rw [(at2_0 t).1, h0]; omega
  | ⟨1, _⟩ => show win2_0.index t 1 * 1024 + 1 * (j 1).val = (i 1).val; rw [(at2_0 t).2, h1]; omega

theorem wd2_block (c : Dev nD) (t : Fin cfg2.N) (j : S1408x1024.Idx) (i : S2816x1024.Idx)
    (h0 : (i 0).val = t.val / 5 * 1408 + (j 0).val) (h1 : (i 1).val = (j 1).val) :
    (iblk2 V c 1 t : Vec Ideal S1408x1024 .bf16) j = (V c main_arg3 : Mat 2816 1024) i := by
  unfold iblk2
  rw [View.read_apply]
  show V c main_arg3 _ = V c main_arg3 _
  congr 1
  funext a
  apply Fin.ext
  match a with
  | ⟨0, _⟩ => show win2_1.index t 0 * 1408 + 1 * (j 0).val = (i 0).val; rw [(at2_1 t).1, h0]; omega
  | ⟨1, _⟩ => show win2_1.index t 1 * 1024 + 1 * (j 1).val = (i 1).val; rw [(at2_1 t).2, h1]; omega

theorem g2_block (c : Dev nD) (t : Fin cfg2.N) (j : S832x1408.Idx) (i : S4160x2816.Idx)
    (h0 : (i 0).val = t.val % 5 * 832 + (j 0).val) (h1 : (i 1).val = t.val / 5 * 1408 + (j 1).val) :
    (iblk2 V c 2 t : Vec Ideal S832x1408 .bf16) j = (V c main_v0_0 : Mat 4160 2816) i := by
  unfold iblk2
  rw [View.read_apply]
  show V c main_v0_0 _ = V c main_v0_0 _
  congr 1
  funext a
  apply Fin.ext
  match a with
  | ⟨0, _⟩ => show win2_2.index t 0 * 832 + 1 * (j 0).val = (i 0).val; rw [(at2_2 t).1, h0]; omega
  | ⟨1, _⟩ => show win2_2.index t 1 * 1408 + 1 * (j 1).val = (i 1).val; rw [(at2_2 t).2, h1]; omega

theorem u2_block (c : Dev nD) (t : Fin cfg2.N) (j : S832x1408.Idx) (i : S4160x2816.Idx)
    (h0 : (i 0).val = t.val % 5 * 832 + (j 0).val) (h1 : (i 1).val = t.val / 5 * 1408 + (j 1).val) :
    (iblk2 V c 3 t : Vec Ideal S832x1408 .bf16) j = (V c main_v0_1 : Mat 4160 2816) i := by
  unfold iblk2
  rw [View.read_apply]
  show V c main_v0_1 _ = V c main_v0_1 _
  congr 1
  funext a
  apply Fin.ext
  match a with
  | ⟨0, _⟩ => show win2_3.index t 0 * 832 + 1 * (j 0).val = (i 0).val; rw [(at2_3 t).1, h0]; omega
  | ⟨1, _⟩ => show win2_3.index t 1 * 1408 + 1 * (j 1).val = (i 1).val; rw [(at2_3 t).2, h1]; omega

/-- The activation's gradient at a grid point is the block there of the whole product. -/
theorem dact_after (c : Dev nD) (t : Fin cfg2.N) (j : S832x1408.Idx) (i : S4160x2816.Idx)
    (h0 : (i 0).val = t.val % 5 * 832 + (j 0).val) (h1 : (i 1).val = t.val / 5 * 1408 + (j 1).val) :
    mulT (M := 832) (K := 1024) (N := 1408) (iblk2 V c 0 t) (iblk2 V c 1 t) j
      = mulT (M := 4160) (K := 1024) (N := 2816) (V c main_arg4) (V c main_arg3) i := by
  unfold mulT
  refine Finset.sum_congr rfl fun k _ => ?_
  rw [dy2_block V c t (ix2 (j 0) k) (ix2 (i 0) k) h0 rfl, wd2_block V c t (ix2 (j 1) k) (ix2 (i 1) k) h1 rfl]

theorem out2_4_eq (dy : Vec Ideal S832x1024 .bf16) (wd : Vec Ideal S1408x1024 .bf16) (g u : Vec Ideal S832x1408 .bf16) :
    out2_4 dy wd g u = k2_pay4 dy wd g u := by
  unfold out2_4
  rw [View.canon_unit_zero hz]
  simp only [View.ld_unit_zero (S := S832x1024) hz, View.ld_unit_zero (S := S1408x1024) hz, View.ld_unit_zero (S := S832x1408) hz]

theorem out2_5_eq (dy : Vec Ideal S832x1024 .bf16) (wd : Vec Ideal S1408x1024 .bf16) (g u : Vec Ideal S832x1408 .bf16) :
    out2_5 dy wd g u = k2_pay5 dy wd g := by
  unfold out2_5
  rw [View.canon_unit_zero hz]
  simp only [View.ld_unit_zero (S := S832x1024) hz, View.ld_unit_zero (S := S1408x1024) hz, View.ld_unit_zero (S := S832x1408) hz]

/-- Every entry of that array lies in the block some grid point writes. -/
theorem cover2_4 (i : S4160x2816.Idx) : ∃ t : Fin cfg2.N, (cfg2.win 4).flush t = true ∧ i ∈ ((cfg2.win 4).blk t).view.set := by
  have h0 : (i 0 : Nat) < 4160 := (i 0).isLt
  have h1 : (i 1 : Nat) < 2816 := (i 1).isLt
  have hN : cfg2.N = 10 := N_2
  obtain ⟨t, ht⟩ : ∃ t : Fin cfg2.N, t.val = (i 1).val / 1408 * 5 + (i 0).val / 832 := ⟨⟨_, by omega⟩, rfl⟩
  refine ⟨t, flush2_4 t, ?_⟩
  show i ∈ ((View.whole main_v2_0).slice (win2_4.rect t)).set
  rw [View.set_slice_whole, Rect.mem_set_unit]
  intro a
  match a with
  | ⟨0, _⟩ =>
    show win2_4.index t 0 * 832 ≤ (i 0 : Nat) ∧ (i 0 : Nat) < win2_4.index t 0 * 832 + 832
    rw [(at2_4 t).1]; omega
  | ⟨1, _⟩ =>
    show win2_4.index t 1 * 1408 ≤ (i 1 : Nat) ∧ (i 1 : Nat) < win2_4.index t 1 * 1408 + 1408
    rw [(at2_4 t).2]; omega

/-- Every entry of that array lies in the block some grid point writes. -/
theorem cover2_5 (i : S4160x2816.Idx) : ∃ t : Fin cfg2.N, (cfg2.win 5).flush t = true ∧ i ∈ ((cfg2.win 5).blk t).view.set := by
  have h0 : (i 0 : Nat) < 4160 := (i 0).isLt
  have h1 : (i 1 : Nat) < 2816 := (i 1).isLt
  have hN : cfg2.N = 10 := N_2
  obtain ⟨t, ht⟩ : ∃ t : Fin cfg2.N, t.val = (i 1).val / 1408 * 5 + (i 0).val / 832 := ⟨⟨_, by omega⟩, rfl⟩
  refine ⟨t, flush2_5 t, ?_⟩
  show i ∈ ((View.whole main_v2_1).slice (win2_5.rect t)).set
  rw [View.set_slice_whole, Rect.mem_set_unit]
  intro a
  match a with
  | ⟨0, _⟩ =>
    show win2_5.index t 0 * 832 ≤ (i 0 : Nat) ∧ (i 0 : Nat) < win2_5.index t 0 * 832 + 832
    rw [(at2_5 t).1]; omega
  | ⟨1, _⟩ =>
    show win2_5.index t 1 * 1408 ≤ (i 1 : Nat) ∧ (i 1 : Nat) < win2_5.index t 1 * 1408 + 1408
    rw [(at2_5 t).2]; omega

theorem gateGrad_congr {d d' g g' u u' : EReal} (hd : d = d') (hg : g = g') (hu : u = u') : gateGrad d g u = gateGrad d' g' u' := by
  rw [hd, hg, hu]

/-- The gate's gradient of the whole arrays. -/
def gateGradOf (d g u : Mat 4160 2816) : Mat 4160 2816 := fun i => gateGrad (d i) (g i) (u i)

/-- The up-projection's gradient of the whole arrays. -/
def upGradOf (d g : Mat 4160 2816) : Mat 4160 2816 := fun i => upGrad (d i) (g i)

/-- The gate's gradient, as that kernel leaves it. -/
theorem dg_array (c : Dev nD) :
    (dat2 V c).arrAt 4 cfg2.N = gateGradOf (mulT (M := 4160) (K := 1024) (N := 2816) (V c main_arg4) (V c main_arg3)) (V c main_v0_0) (V c main_v0_1) := by
  refine (dat2 V c).arrAt_eq_of_cover 4 _ (fun t _ => ?_) cover2_4
  show (cfg2.win 4).cut (grid2.coords t) ((dat2 V c).after 4 t) = _
  rw [after2_4, out2_4_eq]
  funext j
  rw [View.read_apply]
  have h0 : ((((cfg2.win 4).blk t).view.emb j) 0).val = t.val % 5 * 832 + (j 0).val := by
    show win2_4.index t 0 * 832 + 1 * (j 0).val = _; rw [(at2_4 t).1]; omega
  have h1 : ((((cfg2.win 4).blk t).view.emb j) 1).val = t.val / 5 * 1408 + (j 1).val := by
    show win2_4.index t 1 * 1408 + 1 * (j 1).val = _; rw [(at2_4 t).2]; omega
  generalize ((cfg2.win 4).blk t).view.emb j = i at h0 h1 ⊢
  exact (gateGrad_cell (iblk2 V c 0 t) (iblk2 V c 1 t) (iblk2 V c 2 t) (iblk2 V c 3 t) j).trans (gateGrad_congr (dact_after V c t j i h0 h1) (g2_block V c t j i h0 h1) (u2_block V c t j i h0 h1))

/-- The up-projection's gradient, as that kernel leaves it. -/
theorem du_array (c : Dev nD) :
    (dat2 V c).arrAt 5 cfg2.N = upGradOf (mulT (M := 4160) (K := 1024) (N := 2816) (V c main_arg4) (V c main_arg3)) (V c main_v0_0) := by
  refine (dat2 V c).arrAt_eq_of_cover 5 _ (fun t _ => ?_) cover2_5
  show (cfg2.win 5).cut (grid2.coords t) ((dat2 V c).after 5 t) = _
  rw [after2_5, out2_5_eq]
  funext j
  rw [View.read_apply]
  have h0 : ((((cfg2.win 5).blk t).view.emb j) 0).val = t.val % 5 * 832 + (j 0).val := by
    show win2_5.index t 0 * 832 + 1 * (j 0).val = _; rw [(at2_5 t).1]; omega
  have h1 : ((((cfg2.win 5).blk t).view.emb j) 1).val = t.val / 5 * 1408 + (j 1).val := by
    show win2_5.index t 1 * 1408 + 1 * (j 1).val = _; rw [(at2_5 t).2]; omega
  generalize ((cfg2.win 5).blk t).view.emb j = i at h0 h1 ⊢
  exact (upGrad_cell (iblk2 V c 0 t) (iblk2 V c 1 t) (iblk2 V c 2 t) j).trans (congrArg₂ upGrad (dact_after V c t j i h0 h1) (g2_block V c t j i h0 h1))

end Cert.FfnIdeal.Own

end
-- ==== Proof.FfnInput.lean ====
/- The kernel that puts together the gradient of the layer's input, as a whole array. -/
module

public import proofs.«01_k».proof.Proof.FfnUp

@[expose] public section

noncomputable section

namespace Cert.FfnIdeal.Own

open Idealize.ShloMosaic Idealize.ShloMosaic.TcCoe Cert.FfnIdeal Cert.FfnIdeal.Gen
open Idealize.ShloMosaic.Pipeline (Dat)

variable (V : (c : Dev nD) → (b : Ref Cert.FfnIdeal.sig .tc) → Buf (Elt Ideal) ((c : Thread nD τ).loc b))

/-! Where the windows stand at grid point `t`. -/

theorem at5_0 (t : Fin cfg5.N) : win5_0.index t 0 = t.val ∧ win5_0.index t 1 = 0 := by
  revert t; decide +kernel
theorem at5_1 (t : Fin cfg5.N) : win5_1.index t 0 = t.val ∧ win5_1.index t 1 = 0 := by
  revert t; decide +kernel
theorem at5_2 (t : Fin cfg5.N) : win5_2.index t 0 = 0 ∧ win5_2.index t 1 = 0 := by
  revert t; decide +kernel
theorem at5_3 (t : Fin cfg5.N) : win5_3.index t 0 = 0 ∧ win5_3.index t 1 = 0 := by
  revert t; decide +kernel
theorem at5_4 (t : Fin cfg5.N) : win5_4.index t 0 = t.val ∧ win5_4.index t 1 = 0 := by
  revert t; decide +kernel
theorem at5_5 (t : Fin cfg5.N) : win5_5.index t 0 = t.val ∧ win5_5.index t 1 = 0 := by
  revert t; decide +kernel

theorem dg5_block (c : Dev nD) (t : Fin cfg5.N) (j : S832x2816.Idx) (i : S4160x2816.Idx)
    (h0 : (i 0).val = t.val * 832 + (j 0).val) (h1 : (i 1).val = (j 1).val) :
    (iblk5 V c 0 t : Vec Ideal S832x2816 .bf16) j = (V c main_v2_0 : Mat 4160 2816) i := by
  unfold iblk5
  rw [View.read_apply]
  show V c main_v2_0 _ = V c main_v2_0 _
  congr 1
  funext a
  apply Fin.ext
  match a with
  | ⟨0, _⟩ => show win5_0.index t 0 * 832 + 1 * (j 0).val = (i 0).val; rw [(at5_0 t).1, h0]; omega
  | ⟨1, _⟩ => show win5_0.index t 1 * 2816 + 1 * (j 1).val = (i 1).val; rw [(at5_0 t).2, h1]; omega

theorem du5_block (c : Dev nD) (t : Fin cfg5.N) (j : S832x2816.Idx) (i : S4160x2816.Idx)
    (h0 : (i 0).val = t.val * 832 + (j 0).val) (h1 : (i 1).val = (j 1).val) :
    (iblk5 V c 1 t : Vec Ideal S832x2816 .bf16) j = (V c main_v2_1 : Mat 4160 2816) i := by
  unfold iblk5
  rw [View.read_apply]
  show V c main_v2_1 _ = V c main_v2_1 _
  congr 1
  funext a
  apply Fin.ext
  match a with
  | ⟨0, _⟩ => show win5_1.index t 0 * 832 + 1 * (j 0).val = (i 0).val; rw [(at5_1 t).1, h0]; omega
  | ⟨1, _⟩ => show win5_1.index t 1 * 2816 + 1 * (j 1).val = (i 1).val; rw [(at5_1 t).2, h1]; omega

theorem wg5_block (c : Dev nD) (t : Fin cfg5.N) (j : S1024x2816.Idx) (i : S1024x2816.Idx)
    (h0 : (i 0).val = (j 0).val) (h1 : (i 1).val = (j 1).val) :
    (iblk5 V c 2 t : Vec Ideal S1024x2816 .bf16) j = (V c main_arg1 : Mat 1024 2816) i := by
  unfold iblk5
  rw [View.read_apply]
  show V c main_arg1 _ = V c main_arg1 _
  congr 1
  funext a
  apply Fin.ext
  match a with
  | ⟨0, _⟩ => show win5_2.index t 0 * 1024 + 1 * (j 0).val = (i 0).val; rw [(at5_2 t).1, h0]; omega
  | ⟨1, _⟩ => show win5_2.index t 1 * 2816 + 1 * (j 1).val = (i 1).val; rw [(at5_2 t).2, h1]; omega

theorem wu5_block (c : Dev nD) (t : Fin cfg5.N) (j : S1024x2816.Idx) (i : S1024x2816.Idx)
    (h0 : (i 0).val = (j 0).val) (h1 : (i 1).val = (j 1).val) :
    (iblk5 V c 3 t : Vec Ideal S1024x2816 .bf16) j = (V c main_arg2 : Mat 1024 2816) i := by
  unfold iblk5
  rw [View.read_apply]
  show V c main_arg2 _ = V c main_arg2 _
  congr 1
  funext a
  apply Fin.ext
  match a with
  | ⟨0, _⟩ => show win5_3.index t 0 * 1024 + 1 * (j 0).val = (i 0).val; rw [(at5_3 t).1, h0]; omega
  | ⟨1, _⟩ => show win5_3.index t 1 * 2816 + 1 * (j 1).val = (i 1).val; rw [(at5_3 t).2, h1]; omega

theorem dres5_block (c : Dev nD) (t : Fin cfg5.N) (j : S832x1024.Idx) (i : S4160x1024.Idx)
    (h0 : (i 0).val = t.val * 832 + (j 0).val) (h1 : (i 1).val = (j 1).val) :
    (iblk5 V c 4 t : Vec Ideal S832x1024 .f32) j = (V c main_arg5 : Mat 4160 1024) i := by
  unfold iblk5
  rw [View.read_apply]
  show V c main_arg5 _ = V c main_arg5 _
  congr 1
  funext a
  apply Fin.ext
  match a with
  | ⟨0, _⟩ => show win5_4.index t 0 * 832 + 1 * (j 0).val = (i 0).val; rw [(at5_4 t).1, h0]; omega
  | ⟨1, _⟩ => show win5_4.index t 1 * 1024 + 1 * (j 1).val = (i 1).val; rw [(at5_4 t).2, h1]; omega

theorem gate_part_after (c : Dev nD) (t : Fin cfg5.N) (j : S832x1024.Idx) (i : S4160x1024.Idx)
    (h0 : (i 0).val = t.val * 832 + (j 0).val) (h1 : (i 1).val = (j 1).val) :
    mulT (M := 832) (K := 2816) (N := 1024) (iblk5 V c 0 t) (iblk5 V c 2 t) j
      = mulT (M := 4160) (K := 2816) (N := 1024) (V c main_v2_0) (V c main_arg1) i := by
  unfold mulT
  refine Finset.sum_congr rfl fun k _ => ?_
  rw [dg5_block V c t (ix2 (j 0) k) (ix2 (i 0) k) h0 rfl, wg5_block V c t (ix2 (j 1) k) (ix2 (i 1) k) h1 rfl]

theorem up_part_after (c : Dev nD) (t : Fin cfg5.N) (j : S832x1024.Idx) (i : S4160x1024.Idx)
    (h0 : (i 0).val = t.val * 832 + (j 0).val) (h1 : (i 1).val = (j 1).val) :
    mulT (M := 832) (K := 2816) (N := 1024) (iblk5 V c 1 t) (iblk5 V c 3 t) j
      = mulT (M := 4160) (K := 2816) (N := 1024) (V c main_v2_1) (V c main_arg2) i := by
  unfold mulT
  refine Finset.sum_congr rfl fun k _ => ?_
  rw [du5_block V c t (ix2 (j 0) k) (ix2 (i 0) k) h0 rfl, wu5_block V c t (ix2 (j 1) k) (ix2 (i 1) k) h1 rfl]

theorem out5_5_eq (dg du : Vec Ideal S832x2816 .bf16) (wg wu : Vec Ideal S1024x2816 .bf16) (r : Vec Ideal S832x1024 .f32) :
    out5_5 dg du wg wu r = k5_pay1 r dg wg du wu := by
  unfold out5_5
  rw [View.canon_unit_zero hz]
  simp only [View.ld_unit_zero (S := S832x1024) hz, View.ld_unit_zero (S := S832x2816) hz, View.ld_unit_zero (S := S1024x2816) hz]

/-- Every entry of that array lies in the block some grid point writes. -/
theorem cover5_5 (i : S4160x1024.Idx) : ∃ t : Fin cfg5.N, (cfg5.win 5).flush t = true ∧ i ∈ ((cfg5.win 5).blk t).view.set := by
  have h0 : (i 0 : Nat) < 4160 := (i 0).isLt
  have h1 : (i 1 : Nat) < 1024 := (i 1).isLt
  have hN : cfg5.N = 5 := N_5
  obtain ⟨t, ht⟩ : ∃ t : Fin cfg5.N, t.val = (i 0).val / 832 := ⟨⟨_, by omega⟩, rfl⟩
  refine ⟨t, flush5_5 t, ?_⟩
  show i ∈ ((View.whole main_v5).slice (win5_5.rect t)).set
  rw [View.set_slice_whole, Rect.mem_set_unit]
  intro a
  match a with
  | ⟨0, _⟩ =>
    show win5_5.index t 0 * 832 ≤ (i 0 : Nat) ∧ (i 0 : Nat) < win5_5.index t 0 * 832 + 832
    rw [(at5_5 t).1]; omega
  | ⟨1, _⟩ =>
    show win5_5.index t 1 * 1024 ≤ (i 1 : Nat) ∧ (i 1 : Nat) < win5_5.index t 1 * 1024 + 1024
    rw [(at5_5 t).2]; omega

/-- The gradient of the layer's input, from those of the gate and the up-projection. -/
def inputGradOf (r : Mat 4160 1024) (dg du : Mat 4160 2816) (wg wu : Mat 1024 2816) : Mat 4160 1024 := fun i =>
  (r i + mulT dg wg i) + mulT du wu i

/-- The gradient of the layer's input, as that kernel leaves it. -/
theorem dx_array (c : Dev nD) :
    (dat5 V c).arrAt 5 cfg5.N = inputGradOf (V c main_arg5) (V c main_v2_0) (V c main_v2_1) (V c main_arg1) (V c main_arg2) := by
  refine (dat5 V c).arrAt_eq_of_cover 5 _ (fun t _ => ?_) cover5_5
  show (cfg5.win 5).cut (grid5.coords t) ((dat5 V c).after 5 t) = _
  rw [after5_5, out5_5_eq]
  funext j
  rw [View.read_apply]
  have h0 : ((((cfg5.win 5).blk t).view.emb j) 0).val = t.val * 832 + (j 0).val := by
    show win5_5.index t 0 * 832 + 1 * (j 0).val = _; rw [(at5_5 t).1]; omega
  have h1 : ((((cfg5.win 5).blk t).view.emb j) 1).val = (j 1).val := by
    show win5_5.index t 1 * 1024 + 1 * (j 1).val = _; rw [(at5_5 t).2]; omega
  generalize ((cfg5.win 5).blk t).view.emb j = i at h0 h1 ⊢
  exact (input_cell (iblk5 V c 4 t) (iblk5 V c 0 t) (iblk5 V c 2 t) (iblk5 V c 1 t) (iblk5 V c 3 t) j).trans (congrArg₂ (· + ·) (congrArg₂ (· + ·) (dres5_block V c t j i h0 h1) (gate_part_after V c t j i h0 h1)) (up_part_after V c t j i h0 h1))

end Cert.FfnIdeal.Own

end
-- ==== Proof.FfnWd.lean ====
/- The kernel of the down-projection's gradient, which sums over the rows in five tiles, as a whole array. -/
module

public import proofs.«01_k».proof.Proof.FfnUp

@[expose] public section

noncomputable section

namespace Cert.FfnIdeal.Own

open Idealize.ShloMosaic Idealize.ShloMosaic.TcCoe Cert.FfnIdeal Cert.FfnIdeal.Gen
open Idealize.ShloMosaic.Pipeline (Dat)

variable (V : (c : Dev nD) → (b : Ref Cert.FfnIdeal.sig .tc) → Buf (Elt Ideal) ((c : Thread nD τ).loc b))

/-- Row `k` of the `s`-th of five tiles of 832 rows. -/
def tileRow (s : Fin 5) (k : Fin 832) : Fin 4160 := ⟨s.val * 832 + k.val, by have := s.isLt; have := k.isLt; omega⟩

/-- A sum over all rows, tile by tile. -/
theorem rows_by_tile (f : Fin 4160 → EReal) : ∑ k : Fin 4160, f k = ∑ s : Fin 5, ∑ k : Fin 832, f (tileRow s k) := by
  rw [← Fintype.sum_prod_type']
  refine (Fintype.sum_equiv finProdFinEquiv (fun p : Fin 5 × Fin 832 => f (tileRow p.1 p.2)) f fun p => ?_).symm
  congr 1
  apply Fin.ext
  show p.1.val * 832 + p.2.val = p.2.val + 832 * p.1.val
  omega

/-! Where the windows stand at grid point `t`: five points in a row share one block of the result. -/

theorem at1_0 (t : Fin cfg1.N) : win1_0.index t 0 = t.val % 5 ∧ win1_0.index t 1 = t.val / 5 := by
  revert t; decide +kernel
theorem at1_1 (t : Fin cfg1.N) : win1_1.index t 0 = t.val % 5 ∧ win1_1.index t 1 = 0 := by
  revert t; decide +kernel
theorem at1_2 (t : Fin cfg1.N) : win1_2.index t 0 = t.val / 5 ∧ win1_2.index t 1 = 0 := by
  revert t; decide +kernel

theorem l1_block (c : Dev nD) (t : Fin cfg1.N) (j : S832x1408.Idx) (i : S4160x2816.Idx)
    (h0 : (i 0).val = t.val % 5 * 832 + (j 0).val) (h1 : (i 1).val = t.val / 5 * 1408 + (j 1).val) :
    (iblk1 V c 0 t : Vec Ideal S832x1408 .bf16) j = (V c main_v0_2 : Mat 4160 2816) i := by
  unfold iblk1
  rw [View.read_apply]
  show V c main_v0_2 _ = V c main_v0_2 _
  congr 1
  funext a
  apply Fin.ext
  match a with
  | ⟨0, _⟩ => show win1_0.index t 0 * 832 + 1 * (j 0).val = (i 0).val; rw [(at1_0 t).1, h0]; omega
  | ⟨1, _⟩ => show win1_0.index t 1 * 1408 + 1 * (j 1).val = (i 1).val; rw [(at1_0 t).2, h1]; omega

theorem r1_block (c : Dev nD) (t : Fin cfg1.N) (j : S832x1024.Idx) (i : S4160x1024.Idx)
    (h0 : (i 0).val = t.val % 5 * 832 + (j 0).val) (h1 : (i 1).val = (j 1).val) :
    (iblk1 V c 1 t : Vec Ideal S832x1024 .bf16) j = (V c main_arg4 : Mat 4160 1024) i := by
  unfold iblk1
  rw [View.read_apply]
  show V c main_arg4 _ = V c main_arg4 _
  congr 1
  funext a
  apply Fin.ext
  match a with
  | ⟨0, _⟩ => show win1_1.index t 0 * 832 + 1 * (j 0).val = (i 0).val; rw [(at1_1 t).1, h0]; omega
  | ⟨1, _⟩ => show win1_1.index t 1 * 1024 + 1 * (j 1).val = (i 1).val; rw [(at1_1 t).2, h1]; omega

/-- A later point of a run of five adds its product to what the point before left. -/
theorem out1_B (c : Dev nD) (i : grid1.Coords) (a0 : Memref Cert.FfnIdeal.sig .tc .vmem S832x1408 .bf16) (h0 : a0.IsWhole) (a1 : Memref Cert.FfnIdeal.sig .tc .vmem S832x1024 .bf16) (h1 : a1.IsWhole)
    (a2 : Memref Cert.FfnIdeal.sig .tc .vmem S1408x1024 .f32) (h2 : a2.IsWhole) (hc : ¬cond1_0 i)
    (x : Vec Ideal S832x1408 .bf16) (w : Vec Ideal S832x1024 .bf16) (acc : Vec Ideal S1408x1024 .f32) :
    out1_B_2 c i a0 h0 a1 h1 a2 h2 hc x w acc = k1_pay2 acc x w := by
  unfold out1_B_2
  rw [View.read_writes_eq_canon _ _ _ (cover1_B_2 c i a0 h0 a1 h1 a2 h2 hc x w acc)]
  unfold kernelRun1_B
  dsimp only
  rw [View.canon_unit_zero hz]
  simp only [View.readAt_eq_ld, h0.read_unread, h1.read_unread, h2.read_unread, View.ld_unit_zero (S := S832x1408) hz, View.ld_unit_zero (S := S832x1024) hz, View.ld_unit_zero (S := S1408x1024) hz]

/-- The first point of a run of five starts from zero. -/
theorem out1_A (c : Dev nD) (i : grid1.Coords) (a0 : Memref Cert.FfnIdeal.sig .tc .vmem S832x1408 .bf16) (h0 : a0.IsWhole) (a1 : Memref Cert.FfnIdeal.sig .tc .vmem S832x1024 .bf16) (h1 : a1.IsWhole)
    (a2 : Memref Cert.FfnIdeal.sig .tc .vmem S1408x1024 .f32) (h2 : a2.IsWhole) (hc : cond1_0 i)
    (x : Vec Ideal S832x1408 .bf16) (w : Vec Ideal S832x1024 .bf16) :
    out1_A_2 c i a0 h0 a1 h1 a2 h2 hc x w = k1_pay2 (k1_pay1 (F := Ideal)) x w := by
  unfold out1_A_2
  rw [View.read_writes_eq_canon _ _ _ (cover1_A_2 c i a0 h0 a1 h1 a2 h2 hc x w)]
  unfold kernelRun1_A
  dsimp only
  sl_unfold_words
  rw [View.canon_cons_unit_zero (S := S1408x1024) hz, View.readCov_unit_zero (S := S1408x1024) _ hz]
  simp only [View.readAt_eq_ld, h0.read_unread, h1.read_unread, View.ld_unit_zero (S := S832x1408) hz, View.ld_unit_zero (S := S832x1024) hz, View.ld_unit_zero (S := S1408x1024) hz]

/-- What point `n` adds, as a function of every number. -/
def addend1 (c : Dev nD) (n : Nat) : Mat 1408 1024 := fun j =>
  if h : n < cfg1.N then tMul (M := 1408) (K := 832) (N := 1024) (iblk1 V c 0 ⟨n, h⟩) (iblk1 V c 1 ⟨n, h⟩) j else 0

/-- After the last point of a run the result's buffer holds the sum of the five points' products. -/
theorem run1_sum (c : Dev nD) (t : Fin cfg1.N) (ht : t.val % 5 = 4) (j : S1408x1024.Idx) :
    outsAt1 V c t.val t.isLt j = ∑ s ∈ Finset.range 5, addend1 V c (5 * (t.val / 5) + s) j := by
  have hN : cfg1.N = 10 := N_1
  have ht' := t.isLt
  rw [Pipeline.eq_accAt_of_mod (outsAt1 V c) 5
    (fun n h => k1_pay2 (k1_pay1 (F := Ideal)) (iblk1 V c 0 ⟨n, h⟩) (iblk1 V c 1 ⟨n, h⟩))
    (fun n h acc => k1_pay2 acc (iblk1 V c 0 ⟨n, h⟩) (iblk1 V c 1 ⟨n, h⟩))
    (fun n h h0 => (outsAt1_A V c ⟨n, h⟩ h0).trans (out1_A ..))
    (fun n h h0 => (outsAt1_B V c ⟨n + 1, h⟩ h0).trans (out1_B ..))
    (by omega) t.val t.isLt (by omega)]
  refine (Pipeline.accAt_add_apply _ _ (fun _ => 0) (addend1 V c) (5 * (t.val / 5)) 4 ?_ ?_ (t.val % 5) (by omega) (by omega) j).trans ?_
  · intro h i
    rw [step1_cell, zero1_cell]
    unfold addend1
    rw [dif_pos h]
  · intro n h acc i _ _
    rw [step1_cell]
    unfold addend1
    rw [dif_pos h]
  · rw [ht, zero_add]

/-- The sum of a run's products is the block there of the whole product. -/
theorem addends1 (c : Dev nD) (t : Fin cfg1.N) (ht : t.val % 5 = 4) (j : S1408x1024.Idx) (i : S2816x1024.Idx)
    (h0 : (i 0).val = t.val / 5 * 1408 + (j 0).val) (h1 : (i 1).val = (j 1).val) :
    ∑ s ∈ Finset.range 5, addend1 V c (5 * (t.val / 5) + s) j
      = tMul (M := 2816) (K := 4160) (N := 1024) (V c main_v0_2) (V c main_arg4) i := by
  have hN : cfg1.N = 10 := N_1
  have ht' := t.isLt
  unfold tMul
  rw [rows_by_tile, Finset.sum_range]
  refine Finset.sum_congr rfl fun s _ => ?_
  have hs := s.isLt
  have hn : 5 * (t.val / 5) + s.val < cfg1.N := by omega
  unfold addend1 tMul
  rw [dif_pos hn]
  refine Finset.sum_congr rfl fun k _ => ?_
  rw [l1_block V c ⟨_, hn⟩ (ix2 k (j 0)) (ix2 (tileRow s k) (i 0)) ?_ ?_, r1_block V c ⟨_, hn⟩ (ix2 k (j 1)) (ix2 (tileRow s k) (i 1)) ?_ ?_]
  · show s.val * 832 + k.val = (5 * (t.val / 5) + s.val) % 5 * 832 + k.val
    rw [Nat.mul_add_mod, Nat.mod_eq_of_lt hs]
  · show (i 1).val = (j 1).val
    exact h1
  · show s.val * 832 + k.val = (5 * (t.val / 5) + s.val) % 5 * 832 + k.val
    rw [Nat.mul_add_mod, Nat.mod_eq_of_lt hs]
  · show (i 0).val = (5 * (t.val / 5) + s.val) / 5 * 1408 + (j 0).val
    rw [h0]; omega

/-- Every entry of that array lies in the block some grid point writes. -/
theorem cover1_2 (i : S2816x1024.Idx) : ∃ t : Fin cfg1.N, (cfg1.win 2).flush t = true ∧ i ∈ ((cfg1.win 2).blk t).view.set := by
  have h0 : (i 0 : Nat) < 2816 := (i 0).isLt
  have h1 : (i 1 : Nat) < 1024 := (i 1).isLt
  have hN : cfg1.N = 10 := N_1
  obtain ⟨t, ht⟩ : ∃ t : Fin cfg1.N, t.val = (i 0).val / 1408 * 5 + 4 := ⟨⟨_, by omega⟩, rfl⟩
  refine ⟨t, (flush1_2 t).mpr (by omega), ?_⟩
  show i ∈ ((View.whole main_v1).slice (win1_2.rect t)).set
  rw [View.set_slice_whole, Rect.mem_set_unit]
  intro a
  match a with
  | ⟨0, _⟩ =>
    show win1_2.index t 0 * 1408 ≤ (i 0 : Nat) ∧ (i 0 : Nat) < win1_2.index t 0 * 1408 + 1408
    rw [(at1_2 t).1]; omega
  | ⟨1, _⟩ =>
    show win1_2.index t 1 * 1024 ≤ (i 1 : Nat) ∧ (i 1 : Nat) < win1_2.index t 1 * 1024 + 1024
    rw [(at1_2 t).2]; omega

/-- The down-projection's gradient, as that kernel leaves it. -/
theorem dwd_array (c : Dev nD) :
    (dat1 V c).arrAt 2 cfg1.N = tMul (M := 2816) (K := 4160) (N := 1024) (V c main_v0_2) (V c main_arg4) := by
  refine (dat1 V c).arrAt_eq_of_cover 2 _ (fun t hf => ?_) cover1_2
  have ht : t.val % 5 = 4 := (flush1_2 t).mp hf
  show (cfg1.win 2).cut (grid1.coords t) ((dat1 V c).after 2 t) = _
  rw [after1_2]
  funext j
  rw [View.read_apply]
  have h0 : ((((cfg1.win 2).blk t).view.emb j) 0).val = t.val / 5 * 1408 + (j 0).val := by
    show win1_2.index t 0 * 1408 + 1 * (j 0).val = _; rw [(at1_2 t).1]; omega
  have h1 : ((((cfg1.win 2).blk t).view.emb j) 1).val = (j 1).val := by
    show win1_2.index t 1 * 1024 + 1 * (j 1).val = _; rw [(at1_2 t).2]; omega
  generalize ((cfg1.win 2).blk t).view.emb j = i at h0 h1 ⊢
  exact (run1_sum V c t ht j).trans (addends1 V c t ht j i h0 h1)

end Cert.FfnIdeal.Own

end
-- ==== Proof.FfnWg.lean ====
/- The kernel of the gate weights' gradient, which sums over the rows in five tiles, as a whole array. -/
module

public import proofs.«01_k».proof.Proof.FfnWd

@[expose] public section

noncomputable section

namespace Cert.FfnIdeal.Own

open Idealize.ShloMosaic Idealize.ShloMosaic.TcCoe Cert.FfnIdeal Cert.FfnIdeal.Gen
open Idealize.ShloMosaic.Pipeline (Dat)

variable (V : (c : Dev nD) → (b : Ref Cert.FfnIdeal.sig .tc) → Buf (Elt Ideal) ((c : Thread nD τ).loc b))

/-! Where the windows stand at grid point `t`: five points in a row share one block of the result. -/

theorem at3_0 (t : Fin cfg3.N) : win3_0.index t 0 = t.val % 5 ∧ win3_0.index t 1 = 0 := by
  revert t; decide +kernel
theorem at3_1 (t : Fin cfg3.N) : win3_1.index t 0 = t.val % 5 ∧ win3_1.index t 1 = t.val / 5 := by
  revert t; decide +kernel
theorem at3_2 (t : Fin cfg3.N) : win3_2.index t 0 = 0 ∧ win3_2.index t 1 = t.val / 5 := by
  revert t; decide +kernel

theorem l3_block (c : Dev nD) (t : Fin cfg3.N) (j : S832x1024.Idx) (i : S4160x1024.Idx)
    (h0 : (i 0).val = t.val % 5 * 832 + (j 0).val) (h1 : (i 1).val = (j 1).val) :
    (iblk3 V c 0 t : Vec Ideal S832x1024 .bf16) j = (V c main_arg0 : Mat 4160 1024) i := by
  unfold iblk3
  rw [View.read_apply]
  show V c main_arg0 _ = V c main_arg0 _
  congr 1
  funext a
  apply Fin.ext
  match a with
  | ⟨0, _⟩ => show win3_0.index t 0 * 832 + 1 * (j 0).val = (i 0).val; rw [(at3_0 t).1, h0]; omega
  | ⟨1, _⟩ => show win3_0.index t 1 * 1024 + 1 * (j 1).val = (i 1).val; rw [(at3_0 t).2, h1]; omega

theorem r3_block (c : Dev nD) (t : Fin cfg3.N) (j : S832x1408.Idx) (i : S4160x2816.Idx)
    (h0 : (i 0).val = t.val % 5 * 832 + (j 0).val) (h1 : (i 1).val = t.val / 5 * 1408 + (j 1).val) :
    (iblk3 V c 1 t : Vec Ideal S832x1408 .bf16) j = (V c main_v2_0 : Mat 4160 2816) i := by
  unfold iblk3
  rw [View.read_apply]
  show V c main_v2_0 _ = V c main_v2_0 _
  congr 1
  funext a
  apply Fin.ext
  match a with
  | ⟨0, _⟩ => show win3_1.index t 0 * 832 + 1 * (j 0).val = (i 0).val; rw [(at3_1 t).1, h0]; omega
  | ⟨1, _⟩ => show win3_1.index t 1 * 1408 + 1 * (j 1).val = (i 1).val; rw [(at3_1 t).2, h1]; omega

/-- A later point of a run of five adds its product to what the point before left. -/
theorem out3_B (c : Dev nD) (i : grid3.Coords) (a0 : Memref Cert.FfnIdeal.sig .tc .vmem S832x1024 .bf16) (h0 : a0.IsWhole) (a1 : Memref Cert.FfnIdeal.sig .tc .vmem S832x1408 .bf16) (h1 : a1.IsWhole)
    (a2 : Memref Cert.FfnIdeal.sig .tc .vmem S1024x1408 .f32) (h2 : a2.IsWhole) (hc : ¬cond3_0 i)
    (x : Vec Ideal S832x1024 .bf16) (w : Vec Ideal S832x1408 .bf16) (acc : Vec Ideal S1024x1408 .f32) :
    out3_B_2 c i a0 h0 a1 h1 a2 h2 hc x w acc = k3_pay2 acc x w := by
  unfold out3_B_2
  rw [View.read_writes_eq_canon _ _ _ (cover3_B_2 c i a0 h0 a1 h1 a2 h2 hc x w acc)]
  unfold kernelRun3_B
  dsimp only
  rw [View.canon_unit_zero hz]
  simp only [View.readAt_eq_ld, h0.read_unread, h1.read_unread, h2.read_unread, View.ld_unit_zero (S := S832x1024) hz, View.ld_unit_zero (S := S832x1408) hz, View.ld_unit_zero (S := S1024x1408) hz]

/-- The first point of a run of five starts from zero. -/
theorem out3_A (c : Dev nD) (i : grid3.Coords) (a0 : Memref Cert.FfnIdeal.sig .tc .vmem S832x1024 .bf16) (h0 : a0.IsWhole) (a1 : Memref Cert.FfnIdeal.sig .tc .vmem S832x1408 .bf16) (h1 : a1.IsWhole)
    (a2 : Memref Cert.FfnIdeal.sig .tc .vmem S1024x1408 .f32) (h2 : a2.IsWhole) (hc : cond3_0 i)
    (x : Vec Ideal S832x1024 .bf16) (w : Vec Ideal S832x1408 .bf16) :
    out3_A_2 c i a0 h0 a1 h1 a2 h2 hc x w = k3_pay2 (k3_pay1 (F := Ideal)) x w := by
  unfold out3_A_2
  rw [View.read_writes_eq_canon _ _ _ (cover3_A_2 c i a0 h0 a1 h1 a2 h2 hc x w)]
  unfold kernelRun3_A
  dsimp only
  sl_unfold_words
  rw [View.canon_cons_unit_zero (S := S1024x1408) hz, View.readCov_unit_zero (S := S1024x1408) _ hz]
  simp only [View.readAt_eq_ld, h0.read_unread, h1.read_unread, View.ld_unit_zero (S := S832x1024) hz, View.ld_unit_zero (S := S832x1408) hz, View.ld_unit_zero (S := S1024x1408) hz]

/-- What point `n` adds, as a function of every number. -/
def addend3 (c : Dev nD) (n : Nat) : Mat 1024 1408 := fun j =>
  if h : n < cfg3.N then tMul (M := 1024) (K := 832) (N := 1408) (iblk3 V c 0 ⟨n, h⟩) (iblk3 V c 1 ⟨n, h⟩) j else 0

/-- After the last point of a run the result's buffer holds the sum of the five points' products. -/
theorem run3_sum (c : Dev nD) (t : Fin cfg3.N) (ht : t.val % 5 = 4) (j : S1024x1408.Idx) :
    outsAt3 V c t.val t.isLt j = ∑ s ∈ Finset.range 5, addend3 V c (5 * (t.val / 5) + s) j := by
  have hN : cfg3.N = 10 := N_3
  have ht' := t.isLt
  rw [Pipeline.eq_accAt_of_mod (outsAt3 V c) 5
    (fun n h => k3_pay2 (k3_pay1 (F := Ideal)) (iblk3 V c 0 ⟨n, h⟩) (iblk3 V c 1 ⟨n, h⟩))
    (fun n h acc => k3_pay2 acc (iblk3 V c 0 ⟨n, h⟩) (iblk3 V c 1 ⟨n, h⟩))
    (fun n h h0 => (outsAt3_A V c ⟨n, h⟩ h0).trans (out3_A ..))
    (fun n h h0 => (outsAt3_B V c ⟨n + 1, h⟩ h0).trans (out3_B ..))
    (by omega) t.val t.isLt (by omega)]
  refine (Pipeline.accAt_add_apply _ _ (fun _ => 0) (addend3 V c) (5 * (t.val / 5)) 4 ?_ ?_ (t.val % 5) (by omega) (by omega) j).trans ?_
  · intro h i
    rw [step3_cell, zero3_cell]
    unfold addend3
    rw [dif_pos h]
  · intro n h acc i _ _
    rw [step3_cell]
    unfold addend3
    rw [dif_pos h]
  · rw [ht, zero_add]

/-- The sum of a run's products is the block there of the whole product. -/
theorem addends3 (c : Dev nD) (t : Fin cfg3.N) (ht : t.val % 5 = 4) (j : S1024x1408.Idx) (i : S1024x2816.Idx)
    (h0 : (i 0).val = (j 0).val) (h1 : (i 1).val = t.val / 5 * 1408 + (j 1).val) :
    ∑ s ∈ Finset.range 5, addend3 V c (5 * (t.val / 5) + s) j
      = tMul (M := 1024) (K := 4160) (N := 2816) (V c main_arg0) (V c main_v2_0) i := by
  have hN : cfg3.N = 10 := N_3
  have ht' := t.isLt
  unfold tMul
  rw [rows_by_tile, Finset.sum_range]
  refine Finset.sum_congr rfl fun s _ => ?_
  have hs := s.isLt
  have hn : 5 * (t.val / 5) + s.val < cfg3.N := by omega
  unfold addend3 tMul
  rw [dif_pos hn]
  refine Finset.sum_congr rfl fun k _ => ?_
  rw [l3_block V c ⟨_, hn⟩ (ix2 k (j 0)) (ix2 (tileRow s k) (i 0)) ?_ ?_, r3_block V c ⟨_, hn⟩ (ix2 k (j 1)) (ix2 (tileRow s k) (i 1)) ?_ ?_]
  · show s.val * 832 + k.val = (5 * (t.val / 5) + s.val) % 5 * 832 + k.val
    rw [Nat.mul_add_mod, Nat.mod_eq_of_lt hs]
  · show (i 1).val = (5 * (t.val / 5) + s.val) / 5 * 1408 + (j 1).val
    rw [h1]; omega
  · show s.val * 832 + k.val = (5 * (t.val / 5) + s.val) % 5 * 832 + k.val
    rw [Nat.mul_add_mod, Nat.mod_eq_of_lt hs]
  · show (i 0).val = (j 0).val
    exact h0

/-- Every entry of that array lies in the block some grid point writes. -/
theorem cover3_2 (i : S1024x2816.Idx) : ∃ t : Fin cfg3.N, (cfg3.win 2).flush t = true ∧ i ∈ ((cfg3.win 2).blk t).view.set := by
  have h0 : (i 0 : Nat) < 1024 := (i 0).isLt
  have h1 : (i 1 : Nat) < 2816 := (i 1).isLt
  have hN : cfg3.N = 10 := N_3
  obtain ⟨t, ht⟩ : ∃ t : Fin cfg3.N, t.val = (i 1).val / 1408 * 5 + 4 := ⟨⟨_, by omega⟩, rfl⟩
  refine ⟨t, (flush3_2 t).mpr (by omega), ?_⟩
  show i ∈ ((View.whole main_v3).slice (win3_2.rect t)).set
  rw [View.set_slice_whole, Rect.mem_set_unit]
  intro a
  match a with
  | ⟨0, _⟩ =>
    show win3_2.index t 0 * 1024 ≤ (i 0 : Nat) ∧ (i 0 : Nat) < win3_2.index t 0 * 1024 + 1024
    rw [(at3_2 t).1]; omega
  | ⟨1, _⟩ =>
    show win3_2.index t 1 * 1408 ≤ (i 1 : Nat) ∧ (i 1 : Nat) < win3_2.index t 1 * 1408 + 1408
    rw [(at3_2 t).2]; omega

/-- The gate weights' gradient, as that kernel leaves it. -/
theorem dwg_array (c : Dev nD) :
    (dat3 V c).arrAt 2 cfg3.N = tMul (M := 1024) (K := 4160) (N := 2816) (V c main_arg0) (V c main_v2_0) := by
  refine (dat3 V c).arrAt_eq_of_cover 2 _ (fun t hf => ?_) cover3_2
  have ht : t.val % 5 = 4 := (flush3_2 t).mp hf
  show (cfg3.win 2).cut (grid3.coords t) ((dat3 V c).after 2 t) = _
  rw [after3_2]
  funext j
  rw [View.read_apply]
  have h0 : ((((cfg3.win 2).blk t).view.emb j) 0).val = (j 0).val := by
    show win3_2.index t 0 * 1024 + 1 * (j 0).val = _; rw [(at3_2 t).1]; omega
  have h1 : ((((cfg3.win 2).blk t).view.emb j) 1).val = t.val / 5 * 1408 + (j 1).val := by
    show win3_2.index t 1 * 1408 + 1 * (j 1).val = _; rw [(at3_2 t).2]; omega
  generalize ((cfg3.win 2).blk t).view.emb j = i at h0 h1 ⊢
  exact (run3_sum V c t ht j).trans (addends3 V c t ht j i h0 h1)

end Cert.FfnIdeal.Own

end
-- ==== Proof.FfnWu.lean ====
/- The kernel of the up-projection weights' gradient, which sums over the rows in five tiles, as a whole array. -/
module

public import proofs.«01_k».proof.Proof.FfnWd

@[expose] public section

noncomputable section

namespace Cert.FfnIdeal.Own

open Idealize.ShloMosaic Idealize.ShloMosaic.TcCoe Cert.FfnIdeal Cert.FfnIdeal.Gen
open Idealize.ShloMosaic.Pipeline (Dat)

variable (V : (c : Dev nD) → (b : Ref Cert.FfnIdeal.sig .tc) → Buf (Elt Ideal) ((c : Thread nD τ).loc b))

/-! Where the windows stand at grid point `t`: five points in a row share one block of the result. -/

theorem at4_0 (t : Fin cfg4.N) : win4_0.index t 0 = t.val % 5 ∧ win4_0.index t 1 = 0 := by
  revert t; decide +kernel
theorem at4_1 (t : Fin cfg4.N) : win4_1.index t 0 = t.val % 5 ∧ win4_1.index t 1 = t.val / 5 := by
  revert t; decide +kernel
theorem at4_2 (t : Fin cfg4.N) : win4_2.index t 0 = 0 ∧ win4_2.index t 1 = t.val / 5 := by
  revert t; decide +kernel

theorem l4_block (c : Dev nD) (t : Fin cfg4.N) (j : S832x1024.Idx) (i : S4160x1024.Idx)
    (h0 : (i 0).val = t.val % 5 * 832 + (j 0).val) (h1 : (i 1).val = (j 1).val) :
    (iblk4 V c 0 t : Vec Ideal S832x1024 .bf16) j = (V c main_arg0 : Mat 4160 1024) i := by
  unfold iblk4
  rw [View.read_apply]
  show V c main_arg0 _ = V c main_arg0 _
  congr 1
  funext a
  apply Fin.ext
  match a with
  | ⟨0, _⟩ => show win4_0.index t 0 * 832 + 1 * (j 0).val = (i 0).val; rw [(at4_0 t).1, h0]; omega
  | ⟨1, _⟩ => show win4_0.index t 1 * 1024 + 1 * (j 1).val = (i 1).val; rw [(at4_0 t).2, h1]; omega

theorem r4_block (c : Dev nD) (t : Fin cfg4.N) (j : S832x1408.Idx) (i : S4160x2816.Idx)
    (h0 : (i 0).val = t.val % 5 * 832 + (j 0).val) (h1 : (i 1).val = t.val / 5 * 1408 + (j 1).val) :
    (iblk4 V c 1 t : Vec Ideal S832x1408 .bf16) j = (V c main_v2_1 : Mat 4160 2816) i := by
  unfold iblk4
  rw [View.read_apply]
  show V c main_v2_1 _ = V c main_v2_1 _
  congr 1
  funext a
  apply Fin.ext
  match a with
  | ⟨0, _⟩ => show win4_1.index t 0 * 832 + 1 * (j 0).val = (i 0).val; rw [(at4_1 t).1, h0]; omega
  | ⟨1, _⟩ => show win4_1.index t 1 * 1408 + 1 * (j 1).val = (i 1).val; rw [(at4_1 t).2, h1]; omega

/-- A later point of a run of five adds its product to what the point before left. -/
theorem out4_B (c : Dev nD) (i : grid4.Coords) (a0 : Memref Cert.FfnIdeal.sig .tc .vmem S832x1024 .bf16) (h0 : a0.IsWhole) (a1 : Memref Cert.FfnIdeal.sig .tc .vmem S832x1408 .bf16) (h1 : a1.IsWhole)
    (a2 : Memref Cert.FfnIdeal.sig .tc .vmem S1024x1408 .f32) (h2 : a2.IsWhole) (hc : ¬cond4_0 i)
    (x : Vec Ideal S832x1024 .bf16) (w : Vec Ideal S832x1408 .bf16) (acc : Vec Ideal S1024x1408 .f32) :
    out4_B_2 c i a0 h0 a1 h1 a2 h2 hc x w acc = k4_pay2 acc x w := by
  unfold out4_B_2
  rw [View.read_writes_eq_canon _ _ _ (cover4_B_2 c i a0 h0 a1 h1 a2 h2 hc x w acc)]
  unfold kernelRun4_B
  dsimp only
  rw [View.canon_unit_zero hz]
  simp only [View.readAt_eq_ld, h0.read_unread, h1.read_unread, h2.read_unread, View.ld_unit_zero (S := S832x1024) hz, View.ld_unit_zero (S := S832x1408) hz, View.ld_unit_zero (S := S1024x1408) hz]

/-- The first point of a run of five starts from zero. -/
theorem out4_A (c : Dev nD) (i : grid4.Coords) (a0 : Memref Cert.FfnIdeal.sig .tc .vmem S832x1024 .bf16) (h0 : a0.IsWhole) (a1 : Memref Cert.FfnIdeal.sig .tc .vmem S832x1408 .bf16) (h1 : a1.IsWhole)
    (a2 : Memref Cert.FfnIdeal.sig .tc .vmem S1024x1408 .f32) (h2 : a2.IsWhole) (hc : cond4_0 i)
    (x : Vec Ideal S832x1024 .bf16) (w : Vec Ideal S832x1408 .bf16) :
    out4_A_2 c i a0 h0 a1 h1 a2 h2 hc x w = k4_pay2 (k4_pay1 (F := Ideal)) x w := by
  unfold out4_A_2
  rw [View.read_writes_eq_canon _ _ _ (cover4_A_2 c i a0 h0 a1 h1 a2 h2 hc x w)]
  unfold kernelRun4_A
  dsimp only
  sl_unfold_words
  rw [View.canon_cons_unit_zero (S := S1024x1408) hz, View.readCov_unit_zero (S := S1024x1408) _ hz]
  simp only [View.readAt_eq_ld, h0.read_unread, h1.read_unread, View.ld_unit_zero (S := S832x1024) hz, View.ld_unit_zero (S := S832x1408) hz, View.ld_unit_zero (S := S1024x1408) hz]

/-- What point `n` adds, as a function of every number. -/
def addend4 (c : Dev nD) (n : Nat) : Mat 1024 1408 := fun j =>
  if h : n < cfg4.N then tMul (M := 1024) (K := 832) (N := 1408) (iblk4 V c 0 ⟨n, h⟩) (iblk4 V c 1 ⟨n, h⟩) j else 0

/-- After the last point of a run the result's buffer holds the sum of the five points' products. -/
theorem run4_sum (c : Dev nD) (t : Fin cfg4.N) (ht : t.val % 5 = 4) (j : S1024x1408.Idx) :
    outsAt4 V c t.val t.isLt j = ∑ s ∈ Finset.range 5, addend4 V c (5 * (t.val / 5) + s) j := by
  have hN : cfg4.N = 10 := N_4
  have ht' := t.isLt
  rw [Pipeline.eq_accAt_of_mod (outsAt4 V c) 5
    (fun n h => k4_pay2 (k4_pay1 (F := Ideal)) (iblk4 V c 0 ⟨n, h⟩) (iblk4 V c 1 ⟨n, h⟩))
    (fun n h acc => k4_pay2 acc (iblk4 V c 0 ⟨n, h⟩) (iblk4 V c 1 ⟨n, h⟩))
    (fun n h h0 => (outsAt4_A V c ⟨n, h⟩ h0).trans (out4_A ..))
    (fun n h h0 => (outsAt4_B V c ⟨n + 1, h⟩ h0).trans (out4_B ..))
    (by omega) t.val t.isLt (by omega)]
  refine (Pipeline.accAt_add_apply _ _ (fun _ => 0) (addend4 V c) (5 * (t.val / 5)) 4 ?_ ?_ (t.val % 5) (by omega) (by omega) j).trans ?_
  · intro h i
    rw [step4_cell, zero4_cell]
    unfold addend4
    rw [dif_pos h]
  · intro n h acc i _ _
    rw [step4_cell]
    unfold addend4
    rw [dif_pos h]
  · rw [ht, zero_add]

/-- The sum of a run's products is the block there of the whole product. -/
theorem addends4 (c : Dev nD) (t : Fin cfg4.N) (ht : t.val % 5 = 4) (j : S1024x1408.Idx) (i : S1024x2816.Idx)
    (h0 : (i 0).val = (j 0).val) (h1 : (i 1).val = t.val / 5 * 1408 + (j 1).val) :
    ∑ s ∈ Finset.range 5, addend4 V c (5 * (t.val / 5) + s) j
      = tMul (M := 1024) (K := 4160) (N := 2816) (V c main_arg0) (V c main_v2_1) i := by
  have hN : cfg4.N = 10 := N_4
  have ht' := t.isLt
  unfold tMul
  rw [rows_by_tile, Finset.sum_range]
  refine Finset.sum_congr rfl fun s _ => ?_
  have hs := s.isLt
  have hn : 5 * (t.val / 5) + s.val < cfg4.N := by omega
  unfold addend4 tMul
  rw [dif_pos hn]
  refine Finset.sum_congr rfl fun k _ => ?_
  rw [l4_block V c ⟨_, hn⟩ (ix2 k (j 0)) (ix2 (tileRow s k) (i 0)) ?_ ?_, r4_block V c ⟨_, hn⟩ (ix2 k (j 1)) (ix2 (tileRow s k) (i 1)) ?_ ?_]
  · show s.val * 832 + k.val = (5 * (t.val / 5) + s.val) % 5 * 832 + k.val
    rw [Nat.mul_add_mod, Nat.mod_eq_of_lt hs]
  · show (i 1).val = (5 * (t.val / 5) + s.val) / 5 * 1408 + (j 1).val
    rw [h1]; omega
  · show s.val * 832 + k.val = (5 * (t.val / 5) + s.val) % 5 * 832 + k.val
    rw [Nat.mul_add_mod, Nat.mod_eq_of_lt hs]
  · show (i 0).val = (j 0).val
    exact h0

/-- Every entry of that array lies in the block some grid point writes. -/
theorem cover4_2 (i : S1024x2816.Idx) : ∃ t : Fin cfg4.N, (cfg4.win 2).flush t = true ∧ i ∈ ((cfg4.win 2).blk t).view.set := by
  have h0 : (i 0 : Nat) < 1024 := (i 0).isLt
  have h1 : (i 1 : Nat) < 2816 := (i 1).isLt
  have hN : cfg4.N = 10 := N_4
  obtain ⟨t, ht⟩ : ∃ t : Fin cfg4.N, t.val = (i 1).val / 1408 * 5 + 4 := ⟨⟨_, by omega⟩, rfl⟩
  refine ⟨t, (flush4_2 t).mpr (by omega), ?_⟩
  show i ∈ ((View.whole main_v4).slice (win4_2.rect t)).set
  rw [View.set_slice_whole, Rect.mem_set_unit]
  intro a
  match a with
  | ⟨0, _⟩ =>
    show win4_2.index t 0 * 1024 ≤ (i 0 : Nat) ∧ (i 0 : Nat) < win4_2.index t 0 * 1024 + 1024
    rw [(at4_2 t).1]; omega
  | ⟨1, _⟩ =>
    show win4_2.index t 1 * 1408 ≤ (i 1 : Nat) ∧ (i 1 : Nat) < win4_2.index t 1 * 1408 + 1408
    rw [(at4_2 t).2]; omega

/-- The up-projection weights' gradient, as that kernel leaves it. -/
theorem dwu_array (c : Dev nD) :
    (dat4 V c).arrAt 2 cfg4.N = tMul (M := 1024) (K := 4160) (N := 2816) (V c main_arg0) (V c main_v2_1) := by
  refine (dat4 V c).arrAt_eq_of_cover 2 _ (fun t hf => ?_) cover4_2
  have ht : t.val % 5 = 4 := (flush4_2 t).mp hf
  show (cfg4.win 2).cut (grid4.coords t) ((dat4 V c).after 2 t) = _
  rw [after4_2]
  funext j
  rw [View.read_apply]
  have h0 : ((((cfg4.win 2).blk t).view.emb j) 0).val = (j 0).val := by
    show win4_2.index t 0 * 1024 + 1 * (j 0).val = _; rw [(at4_2 t).1]; omega
  have h1 : ((((cfg4.win 2).blk t).view.emb j) 1).val = t.val / 5 * 1408 + (j 1).val := by
    show win4_2.index t 1 * 1408 + 1 * (j 1).val = _; rw [(at4_2 t).2]; omega
  generalize ((cfg4.win 2).blk t).view.emb j = i at h0 h1 ⊢
  exact (run4_sum V c t ht j).trans (addends4 V c t ht j i h0 h1)

end Cert.FfnIdeal.Own

end
-- ==== Proof.FfnArrays.lean ====
/- The result arrays of the feed-forward gradient's program, in terms of its arguments. -/
module

public import proofs.«01_k».proof.Proof.FfnDown
public import proofs.«01_k».proof.Proof.FfnInput
public import proofs.«01_k».proof.Proof.FfnWd
public import proofs.«01_k».proof.Proof.FfnWg
public import proofs.«01_k».proof.Proof.FfnWu

@[expose] public section

noncomputable section

namespace Cert.FfnIdeal.Own

open Idealize.ShloMosaic Idealize.ShloMosaic.TcCoe Cert.FfnIdeal Cert.FfnIdeal.Gen

/-- The gate. -/
def gateA (x : Mat 4160 1024) (wg : Mat 1024 2816) : Mat 4160 2816 := mul x wg

/-- The activation's gradient. -/
def dactA (dy : Mat 4160 1024) (wd : Mat 2816 1024) : Mat 4160 2816 := mulT dy wd

/-- The gate's gradient. -/
def dgA (x : Mat 4160 1024) (wg wu : Mat 1024 2816) (wd : Mat 2816 1024) (dy : Mat 4160 1024) : Mat 4160 2816 :=
  gateGradOf (dactA dy wd) (gateA x wg) (gateA x wu)

/-- The up-projection's gradient. -/
def duA (x : Mat 4160 1024) (wg : Mat 1024 2816) (wd : Mat 2816 1024) (dy : Mat 4160 1024) : Mat 4160 2816 :=
  upGradOf (dactA dy wd) (gateA x wg)

variable (m : (ℓ : Loc nD τ Cert.FfnIdeal.sig) → Buf (Elt Ideal) ℓ) (ρ : Dev nD → PrngReg) (c : Dev nD)

abbrev aX : Mat 4160 1024 := m ((c.tc : Thread nD τ).loc main_arg0)
abbrev aWg : Mat 1024 2816 := m ((c.tc : Thread nD τ).loc main_arg1)
abbrev aWu : Mat 1024 2816 := m ((c.tc : Thread nD τ).loc main_arg2)
abbrev aWd : Mat 2816 1024 := m ((c.tc : Thread nD τ).loc main_arg3)
abbrev aDy : Mat 4160 1024 := m ((c.tc : Thread nD τ).loc main_arg4)
abbrev aR : Mat 4160 1024 := m ((c.tc : Thread nD τ).loc main_arg5)

theorem g_at1 : (W1 m ρ c main_v0_0 : Mat 4160 2816) = gateA (aX m c) (aWg m c) :=
  (W1_arr m ρ c 3).trans (gate_array (V0 m ρ) c)
theorem u_at1 : (W1 m ρ c main_v0_1 : Mat 4160 2816) = gateA (aX m c) (aWu m c) :=
  (W1_arr m ρ c 4).trans (up_array (V0 m ρ) c)
theorem a_at1 : (W1 m ρ c main_v0_2 : Mat 4160 2816) = actOf (gateA (aX m c) (aWg m c)) (gateA (aX m c) (aWu m c)) :=
  (W1_arr m ρ c 5).trans (act_array (V0 m ρ) c)

theorem dwd_at2 : (W2 m ρ c main_v1 : Mat 2816 1024) = tMul (actOf (gateA (aX m c) (aWg m c)) (gateA (aX m c) (aWu m c))) (aDy m c) := by
  refine (W2_arr m ρ c 2).trans ((dwd_array (V1 m ρ) c).trans ?_)
  rw [show V1 m ρ c main_v0_2 = _ from a_at1 m ρ c, show V1 m ρ c main_arg4 = _ from W1_args m ρ c main_arg4 (by decide)]

theorem g_at2 : (W2 m ρ c main_v0_0 : Mat 4160 2816) = gateA (aX m c) (aWg m c) :=
  (W2_of m ρ c main_v0_0 (by decide)).trans (g_at1 m ρ c)
theorem u_at2 : (W2 m ρ c main_v0_1 : Mat 4160 2816) = gateA (aX m c) (aWu m c) :=
  (W2_of m ρ c main_v0_1 (by decide)).trans (u_at1 m ρ c)

theorem dg_at3 : (W3 m ρ c main_v2_0 : Mat 4160 2816) = dgA (aX m c) (aWg m c) (aWu m c) (aWd m c) (aDy m c) := by
  refine (W3_arr m ρ c 4).trans ((dg_array (V2 m ρ) c).trans ?_)
  rw [show V2 m ρ c main_v0_0 = _ from g_at2 m ρ c, show V2 m ρ c main_v0_1 = _ from u_at2 m ρ c,
    show V2 m ρ c main_arg4 = _ from W2_args m ρ c main_arg4 (by decide), show V2 m ρ c main_arg3 = _ from W2_args m ρ c main_arg3 (by decide)]
  rfl

theorem du_at3 : (W3 m ρ c main_v2_1 : Mat 4160 2816) = duA (aX m c) (aWg m c) (aWd m c) (aDy m c) := by
  refine (W3_arr m ρ c 5).trans ((du_array (V2 m ρ) c).trans ?_)
  rw [show V2 m ρ c main_v0_0 = _ from g_at2 m ρ c,
    show V2 m ρ c main_arg4 = _ from W2_args m ρ c main_arg4 (by decide), show V2 m ρ c main_arg3 = _ from W2_args m ρ c main_arg3 (by decide)]
  rfl

theorem dwg_at4 : (W4 m ρ c main_v3 : Mat 1024 2816) = tMul (aX m c) (dgA (aX m c) (aWg m c) (aWu m c) (aWd m c) (aDy m c)) := by
  refine (W4_arr m ρ c 2).trans ((dwg_array (V3 m ρ) c).trans ?_)
  rw [show V3 m ρ c main_v2_0 = _ from dg_at3 m ρ c, show V3 m ρ c main_arg0 = _ from W3_args m ρ c main_arg0 (by decide)]

theorem du_at4 : (W4 m ρ c main_v2_1 : Mat 4160 2816) = duA (aX m c) (aWg m c) (aWd m c) (aDy m c) :=
  (W4_of m ρ c main_v2_1 (by decide)).trans (du_at3 m ρ c)

theorem dwu_at5 : (W5 m ρ c main_v4 : Mat 1024 2816) = tMul (aX m c) (duA (aX m c) (aWg m c) (aWd m c) (aDy m c)) := by
  refine (W5_arr m ρ c 2).trans ((dwu_array (V4 m ρ) c).trans ?_)
  rw [show V4 m ρ c main_v2_1 = _ from du_at4 m ρ c, show V4 m ρ c main_arg0 = _ from W4_args m ρ c main_arg0 (by decide)]

theorem dg_at5 : (W5 m ρ c main_v2_0 : Mat 4160 2816) = dgA (aX m c) (aWg m c) (aWu m c) (aWd m c) (aDy m c) :=
  (W5_of m ρ c main_v2_0 (by decide)).trans ((W4_of m ρ c main_v2_0 (by decide)).trans (dg_at3 m ρ c))
theorem du_at5 : (W5 m ρ c main_v2_1 : Mat 4160 2816) = duA (aX m c) (aWg m c) (aWd m c) (aDy m c) :=
  (W5_of m ρ c main_v2_1 (by decide)).trans (du_at4 m ρ c)

/-- The gradient of the layer's input at the end of the run. -/
theorem dx_end : (W6 m ρ c main_v5 : Mat 4160 1024)
    = inputGradOf (aR m c) (dgA (aX m c) (aWg m c) (aWu m c) (aWd m c) (aDy m c)) (duA (aX m c) (aWg m c) (aWd m c) (aDy m c)) (aWg m c) (aWu m c) := by
  refine (W6_arr m ρ c 5).trans ((dx_array (V5 m ρ) c).trans ?_)
  rw [show V5 m ρ c main_v2_0 = _ from dg_at5 m ρ c, show V5 m ρ c main_v2_1 = _ from du_at5 m ρ c,
    show V5 m ρ c main_arg5 = _ from W5_args m ρ c main_arg5 (by decide), show V5 m ρ c main_arg1 = _ from W5_args m ρ c main_arg1 (by decide),
    show V5 m ρ c main_arg2 = _ from W5_args m ρ c main_arg2 (by decide)]

/-- The gate weights' gradient at the end of the run. -/
theorem dwg_end : (W6 m ρ c main_v3 : Mat 1024 2816) = tMul (aX m c) (dgA (aX m c) (aWg m c) (aWu m c) (aWd m c) (aDy m c)) :=
  (W6_of m ρ c main_v3 (by decide)).trans ((W5_of m ρ c main_v3 (by decide)).trans (dwg_at4 m ρ c))

/-- The up-projection weights' gradient at the end of the run. -/
theorem dwu_end : (W6 m ρ c main_v4 : Mat 1024 2816) = tMul (aX m c) (duA (aX m c) (aWg m c) (aWd m c) (aDy m c)) :=
  (W6_of m ρ c main_v4 (by decide)).trans (dwu_at5 m ρ c)

/-- The down-projection weights' gradient at the end of the run. -/
theorem dwd_end : (W6 m ρ c main_v1 : Mat 2816 1024) = tMul (actOf (gateA (aX m c) (aWg m c)) (gateA (aX m c) (aWu m c))) (aDy m c) :=
  (W6_of m ρ c main_v1 (by decide)).trans ((W5_of m ρ c main_v1 (by decide)).trans ((W4_of m ρ c main_v1 (by decide)).trans
    ((W3_of m ρ c main_v1 (by decide)).trans (dwd_at2 m ρ c))))

end Cert.FfnIdeal.Own

end
-- ==== Proof.FfnRef.lean ====
/- The feed-forward layer's gradient as written plainly: its arrays, entry by entry, and its run. -/
module

public import proofs.«01_k».proof.Proof.Gen.FfnRefIdeal.Run
public import proofs.«01_k».proof.Proof.FfnGate
public import proofs.«01_k».proof.Proof.FfnArrays
public import Idealize.ShloMosaic.Lib.Pointwise
public import Idealize.ShloMosaic.Lib.Quiescent

@[expose] public section

noncomputable section

namespace Cert.FfnRefIdeal.Own

open Idealize.ShloMosaic Idealize.SL.Sem Cert.FfnRefIdeal Cert.FfnRefIdeal.Gen Cert.FfnRefIdeal.Facts
open Cert.FfnIdeal.Own (mul mulT tMul sgm act actOf upGradOf upGrad gateGradOf gateGrad inputGradOf IsReal gate_rule Mat gateA dactA dgA duA)

def hGate (x : FVec Ideal S4160x1024 .bf16) (w : FVec Ideal S1024x2816 .bf16) : FVec Ideal S4160x2816 .f32 :=
  Host.dotGeneral dot_S4160x1024_S1024x2816_S4160x2816_1_0_0_1_n_n none (extf .f32 x bitsLt_bf16_f32) (extf .f32 w bitsLt_bf16_f32)

theorem hGate_eq (x : FVec Ideal S4160x1024 .bf16) (w : FVec Ideal S1024x2816 .bf16) : hGate x w = mul (M := 4160) (K := 1024) (N := 2816) x w := by
  funext j
  pointwise [hGate, mul]

def hDact (dy : FVec Ideal S4160x1024 .bf16) (wd : FVec Ideal S2816x1024 .bf16) : FVec Ideal S4160x2816 .f32 :=
  Host.dotGeneral dot_S4160x1024_S2816x1024_S4160x2816_1_1_0_0_n_n none (extf .f32 dy bitsLt_bf16_f32) (extf .f32 wd bitsLt_bf16_f32)

theorem hDact_eq (dy : FVec Ideal S4160x1024 .bf16) (wd : FVec Ideal S2816x1024 .bf16) : hDact dy wd = mulT (M := 4160) (K := 1024) (N := 2816) dy wd := by
  funext j
  pointwise [hDact, mulT]

def hOne : FVec Ideal S4160x2816 .f32 := broadcastInDim S4160x2816 ![] bcast_S_S4160x2816 (constant S_ .f32 0x3F800000#32)

def hSig (g : FVec Ideal S4160x2816 .f32) : FVec Ideal S4160x2816 .f32 := Host.divf hOne (addf hOne (Host.exp (Host.negf g)))

theorem hSig_apply (g : FVec Ideal S4160x2816 .f32) (j : S4160x2816.Idx) : hSig g j = sgm (g j) := by
  pointwise [hSig, hOne, sgm, Ideal.logistic]

def hAct (g u : FVec Ideal S4160x2816 .f32) : FVec Ideal S4160x2816 .f32 := mulf (mulf g (hSig g)) u

theorem hAct_eq (g u : FVec Ideal S4160x2816 .f32) : hAct g u = actOf g u := by
  funext j
  show g j * hSig g j * u j = _
  rw [hSig_apply]
  rfl

theorem hDu_eq (g d : FVec Ideal S4160x2816 .f32) : hAct g d = upGradOf d g := by
  funext j
  show g j * hSig g j * d j = _
  rw [hSig_apply]
  exact mul_comm _ _

def hDg (d g u : FVec Ideal S4160x2816 .f32) : FVec Ideal S4160x2816 .f32 :=
  addf (mulf (mulf d u) (hSig g)) (mulf (mulf g (mulf d u)) (mulf (hSig g) (subf hOne (hSig g))))

theorem hDg_eq (d g u : FVec Ideal S4160x2816 .f32) (hd : ∀ j, IsReal (d j)) (hu : ∀ j, IsReal (u j)) : hDg d g u = gateGradOf d g u := by
  funext j
  have h1 : hOne j = 1 := by pointwise [hOne]
  show d j * u j * hSig g j + g j * (d j * u j) * (hSig g j * (hOne j - hSig g j)) = _
  rw [hSig_apply, h1]
  exact gate_rule _ _ ((hd j).mul (hu j))

def hW (d : FVec Ideal S4160x2816 .f32) (x : FVec Ideal S4160x1024 .bf16) : FVec Ideal S1024x2816 .f32 :=
  transpose S1024x2816 [1, 0] (Host.dotGeneral dot_S4160x2816_S4160x1024_S2816x1024_0_0_1_1_n_n none d (extf .f32 x bitsLt_bf16_f32)) transposes_S2816x1024_S1024x2816_1_0

theorem hW_eq (d : FVec Ideal S4160x2816 .f32) (x : FVec Ideal S4160x1024 .bf16) : hW d x = tMul (M := 1024) (K := 4160) (N := 2816) x d := by
  funext j
  pointwise [hW, tMul]
  exact Finset.sum_congr rfl fun _ _ => mul_comm _ _

def hWd (dy : FVec Ideal S4160x1024 .bf16) (a : FVec Ideal S4160x2816 .f32) : FVec Ideal S2816x1024 .f32 :=
  transpose S2816x1024 [1, 0] (Host.dotGeneral dot_S4160x1024_S4160x2816_S1024x2816_0_0_1_1_n_n none (extf .f32 dy bitsLt_bf16_f32) a) transposes_S1024x2816_S2816x1024_1_0

theorem hWd_eq (dy : FVec Ideal S4160x1024 .bf16) (a : FVec Ideal S4160x2816 .f32) : hWd dy a = tMul (M := 2816) (K := 4160) (N := 1024) a dy := by
  funext j
  pointwise [hWd, tMul]
  exact Finset.sum_congr rfl fun _ _ => mul_comm _ _

def hDx (r : FVec Ideal S4160x1024 .f32) (dg du : FVec Ideal S4160x2816 .f32) (wg wu : FVec Ideal S1024x2816 .bf16) : FVec Ideal S4160x1024 .f32 :=
  addf r (addf (Host.dotGeneral dot_S4160x2816_S1024x2816_S4160x1024_1_1_0_0_n_n none du (extf .f32 wu bitsLt_bf16_f32))
    (Host.dotGeneral dot_S4160x2816_S1024x2816_S4160x1024_1_1_0_0_n_n none dg (extf .f32 wg bitsLt_bf16_f32)))

theorem hDx_eq (r : FVec Ideal S4160x1024 .f32) (dg du : FVec Ideal S4160x2816 .f32) (wg wu : FVec Ideal S1024x2816 .bf16) :
    hDx r dg du wg wu = inputGradOf r dg du wg wu := by
  funext j
  pointwise [hDx, inputGradOf, mulT]
  rw [add_assoc]
  exact congrArg _ (add_comm _ _)

variable (m : (ℓ : Loc nD τ Cert.FfnRefIdeal.sig) → Buf (Elt Ideal) ℓ) (ρ : Dev nD → PrngReg)

abbrev rX (c : Dev nD) : Mat 4160 1024 := m ((c.tc : Thread nD τ).loc main_arg0)
abbrev rWg (c : Dev nD) : Mat 1024 2816 := m ((c.tc : Thread nD τ).loc main_arg1)
abbrev rWu (c : Dev nD) : Mat 1024 2816 := m ((c.tc : Thread nD τ).loc main_arg2)
abbrev rWd (c : Dev nD) : Mat 2816 1024 := m ((c.tc : Thread nD τ).loc main_arg3)
abbrev rDy (c : Dev nD) : Mat 4160 1024 := m ((c.tc : Thread nD τ).loc main_arg4)
abbrev rR (c : Dev nD) : Mat 4160 1024 := m ((c.tc : Thread nD τ).loc main_arg5)

/-- The reference's run: its four results as named arrays. -/
theorem run_named :
    θ_run defs (onTc (τ := τ) (main (F := Ideal))) ⟨m, fun _ => 0, ρ⟩ fun r => ∀ c : Dev nD,
      r.2.mem ((c.tc : Thread nD τ).loc main_v23)
        = hDx (rR m c) (hDg (hDact (rDy m c) (rWd m c)) (hGate (rX m c) (rWg m c)) (hGate (rX m c) (rWu m c)))
          (hAct (hGate (rX m c) (rWg m c)) (hDact (rDy m c) (rWd m c))) (rWg m c) (rWu m c)
      ∧ r.2.mem ((c.tc : Thread nD τ).loc main_v20)
        = hW (hDg (hDact (rDy m c) (rWd m c)) (hGate (rX m c) (rWg m c)) (hGate (rX m c) (rWu m c))) (rX m c)
      ∧ r.2.mem ((c.tc : Thread nD τ).loc main_v16) = hW (hAct (hGate (rX m c) (rWg m c)) (hDact (rDy m c) (rWd m c))) (rX m c)
      ∧ r.2.mem ((c.tc : Thread nD τ).loc main_v11) = hWd (rDy m c) (hAct (hGate (rX m c) (rWg m c)) (hGate (rX m c) (rWu m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.FfnRefIdeal.Value.run (F := Ideal) m ρ

/-- The reference's run with its counters: the program names none. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2.2.2, sem_eq_zero_of_no_sems rfl r.2⟩) (Cert.FfnRefIdeal.Value.run (F := Ideal) m ρ)

end Cert.FfnRefIdeal.Own

end
-- ==== Proof.FfnPre.lean ====
/- What the precondition says: every entry of four of the arguments is a real number. -/
module

public import proofs.«01_k».proof.Pre_finite
public import proofs.«01_k».proof.Proof.FfnGate
public import Idealize.ShloMosaic.Lib.ReduceAll
public import Idealize.ShloMosaic.Lib.Pointwise

@[expose] public section

noncomputable section

namespace Cert.Pre_finite.Own

open Idealize.ShloMosaic Cert.Pre_finite
open Cert.FfnIdeal.Own (IsReal)

/-- The shape relations the precondition's operations take. -/
instance facts : Cert.Pre_finite.Facts where
  bitsLt_bf16_f32 := by decide
  bcast_S_S4160x1024 := by decide
  reducesTo_S4160x1024_S_d0_1 := by decide
  h_S_ := by decide
  bcast_S_S1024x2816 := by decide
  reducesTo_S1024x2816_S_d0_1 := by decide
  bcast_S_S2816x1024 := by decide
  reducesTo_S2816x1024_S_d0_1 := by decide

instance : Subsingleton S_.Idx := ⟨fun a b => funext fun k => k.elim0⟩

/-- A magnitude below infinity is a real's. -/
theorem isReal_of_lt (x : Ideal .f32) (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  replace h : Ideal.cmp .olt (max (x : EReal) (-(x : EReal))) (Ideal.ofBits .f32 0x7F800000#32) = 1#1 := h
  rw [htop] at h
  change EReal at x
  induction x with
  | coe r => exact ⟨r, rfl⟩
  | top => simp [Ideal.cmp] at h
  | bot => simp [Ideal.cmp] at h

/-- The conjunction of two bits is one only when both are. -/
theorem and_ones (a b : BitVec 1) (h : IntOp.andi a b = 1#1) : a = 1#1 ∧ b = 1#1 := by
  revert a b
  decide

/-- One conjunct: all entries of an array have a magnitude below infinity. -/
theorem all_real {s : Shape} {axes : List (Fin s.rank)} (x : FVec Ideal s .f32) (hb : S_.BroadcastsInDim s (![] : Fin 0 → Fin s.rank))
    (hr : s.ReducesTo axes S_) (h0 : 0 < S_.numel) (j : S_.Idx)
    (h : Host.reduce IntOp.andi (cmpf .olt (Host.absf x) (broadcastInDim s ![] hb (constant (F := Ideal) S_ .f32 0x7F800000#32))) (constantI S_ 1 1#1) hr h0 j = 1#1)
    (i : s.Idx) : IsReal (x i) :=
  isReal_of_lt _ (Host.reduce_andi_all _ _ hr h0 j h i)

theorem reals (x : FVec Ideal S4160x1024 .bf16) (wg wu : FVec Ideal S1024x2816 .bf16) (wd : FVec Ideal S2816x1024 .bf16)
    (dy : FVec Ideal S4160x1024 .bf16) (r : FVec Ideal S4160x1024 .f32) (h : fn (F := Ideal) x wg wu wd dy r = fun _ => 1#1) :
    (∀ i, IsReal (x i)) ∧ (∀ i, IsReal (wu i)) ∧ (∀ i, IsReal (wd i)) ∧ (∀ i, IsReal (dy i)) := by
  have j : S_.Idx := fun k => k.elim0
  obtain ⟨h, hdy⟩ := and_ones _ _ (congrFun h j)
  obtain ⟨h, hwd⟩ := and_ones _ _ h
  obtain ⟨hx, hwu⟩ := and_ones _ _ h
  exact ⟨all_real _ _ _ _ j hx, all_real _ _ _ _ j hwu, all_real _ _ _ _ j hwd, all_real _ _ _ _ j hdy⟩

end Cert.Pre_finite.Own

end
-- ==== Proof.FfnRun.lean ====
/- One run of the feed-forward gradient's program over any floats, and what its memory holds at the end. -/
module

public import proofs.«01_k».proof.Proof.Gen.FfnIdeal.Frame

@[expose] public section

set_option maxRecDepth 16384

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program run from any memory with its counters at zero: the four result arrays end at what the last of the six
    kernels' boundaries holds of them, and the arguments end as launched. -/
theorem run : θ_run defs (onTc (τ := τ) (main (F := F))) ⟨m, fun _ => 0, ρ⟩ (fun r => ∀ c : Dev nD,
      r.2.mem ((c.tc : Thread nD τ).loc main_v5) = W6 m ρ c main_v5
      ∧ r.2.mem ((c.tc : Thread nD τ).loc main_v3) = W6 m ρ c main_v3
      ∧ r.2.mem ((c.tc : Thread nD τ).loc main_v4) = W6 m ρ c main_v4
      ∧ r.2.mem ((c.tc : Thread nD τ).loc main_v1) = W6 m ρ c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v5 (by decide)),
       h c _ (mem_uc main_v3 (by decide)),
       h c _ (mem_uc main_v4 (by decide)),
       h c _ (mem_uc main_v1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.FfnIdeal.Own

end
-- ==== Proof.FfnEq.lean ====
/- The feed-forward gradient's program computes what the plainly written gradient computes. -/
module

public import proofs.«01_k».proof.Defs
public import proofs.«01_k».proof.Proof.FfnRef
public import proofs.«01_k».proof.Proof.FfnPre
public import proofs.«01_k».proof.Proof.FfnRun

@[expose] public section

noncomputable section

namespace Cert.FfnIdeal.Own

open Idealize.ShloMosaic Idealize.SL.Sem Cert.FfnRefIdeal.Own
open Cert.FfnIdeal.Gen (W6)

theorem isReal_mul {M K N : Nat} {a : Mat M K} {b : Mat K N} (ha : ∀ i, IsReal (a i)) (hb : ∀ i, IsReal (b i)) (j) : IsReal (mul a b j) :=
  IsReal.sum _ _ fun _ => (ha _).mul (hb _)

theorem isReal_mulT {M K N : Nat} {a : Mat M K} {b : Mat N K} (ha : ∀ i, IsReal (a i)) (hb : ∀ i, IsReal (b i)) (j) : IsReal (mulT a b j) :=
  IsReal.sum _ _ fun _ => (ha _).mul (hb _)

section
variable (x dy : FVec Ideal Cert.FfnRefIdeal.S4160x1024 .bf16) (wg wu : FVec Ideal Cert.FfnRefIdeal.S1024x2816 .bf16)
  (wd : FVec Ideal Cert.FfnRefIdeal.S2816x1024 .bf16) (r : FVec Ideal Cert.FfnRefIdeal.S4160x1024 .f32)

/-- The gate's gradient, written either way. -/
theorem dg_ref (hx : ∀ i, IsReal (x i)) (hwu : ∀ i, IsReal (wu i)) (hwd : ∀ i, IsReal (wd i)) (hdy : ∀ i, IsReal (dy i)) :
    hDg (hDact dy wd) (hGate x wg) (hGate x wu) = dgA x wg wu wd dy := by
  rw [hDact_eq, hGate_eq, hGate_eq]
  exact hDg_eq _ _ _ (isReal_mulT hdy hwd) (isReal_mul hx hwu)

/-- The up-projection's gradient, written either way. -/
theorem du_ref : hAct (hGate x wg) (hDact dy wd) = duA x wg wd dy := by
  rw [hDact_eq, hGate_eq]
  exact hDu_eq _ _

theorem act_ref : hAct (hGate x wg) (hGate x wu) = actOf (gateA x wg) (gateA x wu) := by
  rw [hGate_eq, hGate_eq]
  exact hAct_eq _ _
end

theorem algebraic : Cert.algebraic_FfnIdeal_FfnRefIdeal_pre_finite (hFfnIdeal := Cert.FfnIdeal.Gen.facts)
    (hFfnRefIdeal := Cert.FfnRefIdeal.Gen.facts) (hPre_finite := Cert.Pre_finite.Own.facts) := by
  intro m ρ m' ρ' hpre hargs
  refine ⟨fun c => W6 m ρ c _, fun c => W6 m ρ c _, fun c => W6 m ρ c _, fun c => W6 m ρ c _, run m ρ, ?_⟩
  refine (θ_run Cert.FfnRefIdeal.defs _ _).mono (fun s h c => ?_) (run_named m' ρ')
  obtain ⟨e0, e1, e2, e3, k⟩ := h c
  obtain ⟨a0, a1, a2, a3, a4, a5⟩ := hargs c
  obtain ⟨hx, hwu, hwd, hdy⟩ := Cert.Pre_finite.Own.reals _ _ _ _ _ _ (hpre c)
  have b0 : rX m' c = aX m c := a0
  have b1 : rWg m' c = aWg m c := a1
  have b2 : rWu m' c = aWu m c := a2
  have b3 : rWd m' c = aWd m c := a3
  have b4 : rDy m' c = aDy m c := a4
  have b5 : rR m' c = aR m c := a5
  rw [b0, b1, b2, b3, b4, b5, dg_ref _ _ _ _ _ hx hwu hwd hdy, du_ref, hDx_eq] at e0
  rw [b0, b1, b2, b3, b4, dg_ref _ _ _ _ _ hx hwu hwd hdy, hW_eq] at e1
  rw [b0, b1, b3, b4, du_ref, hW_eq] at e2
  rw [b0, b1, b2, b4, act_ref, hWd_eq] at e3
  exact ⟨e0.trans (dx_end m ρ c).symm, e1.trans (dwg_end m ρ c).symm, e2.trans (dwu_end m ρ c).symm, e3.trans (dwd_end m ρ c).symm, k⟩

end Cert.FfnIdeal.Own

end
-- ==== Proof.NormMath.lean ====
/- One row of a layer normalization and of its gradient, over the extended reals. -/
module

public import proofs.«01_k».proof.Proof.FfnMath

@[expose] public section

noncomputable section

namespace Cert.NormIdeal.Own

open Idealize.ShloMosaic

/-- A row of 1024 entries. -/
abbrev Row : Type := Fin 1024 → EReal

/-- The row's length, 1024. -/
def len : EReal := Ideal.ofBits .f32 0x44800000#32

/-- The constant added to the variance. -/
def eps : EReal := Ideal.ofBits .f32 0x3727C5AC#32

/-- The weight of the layer's output in the residual sum, one half. -/
def half : EReal := Ideal.ofBits .f32 0x3F000000#32

/-- The weight of the layer's input in the residual sum, the fourth root of eight. -/
def alpha : EReal := ((Real.sqrt (Real.sqrt 8) : ℝ) : EReal)

/-- The residual sum of one entry. -/
def resid (h s : EReal) : EReal := alpha * h + half * s

/-- The mean of a row. -/
def mean (y : Row) : EReal := Ideal.div (∑ k, y k) len

/-- A row less its mean. -/
def cen (y : Row) : Row := fun k => y k - mean y

/-- One over the root of the row's variance. -/
def rs (y : Row) : EReal := Ideal.rsqrt (mean (fun k => cen y k * cen y k) + eps)

/-- A row normalized. -/
def nrm (y : Row) : Row := fun k => cen y k * rs y

/-- A row normalized, scaled and shifted. -/
def lnorm (y g b : Row) : Row := fun k => nrm y k * g k + b k

/-- The gradient of the row, from the gradient `d` of the row normalized. -/
def grad (y d : Row) : Row := fun k => rs y * ((d k - mean d) - nrm y k * mean (fun k => d k * nrm y k))

end Cert.NormIdeal.Own

end
-- ==== Proof.NormCells.lean ====
/- What one grid point of each of the two kernels computes, entry by entry. -/
module

public import proofs.«01_k».proof.Proof.Gen.NormIdeal.Skeleton
public import proofs.«01_k».proof.Proof.NormMath
public import Idealize.ShloMosaic.Lib.Pointwise

@[expose] public section

noncomputable section

namespace Cert.NormIdeal.Own

open Idealize.ShloMosaic Cert.NormIdeal Cert.NormIdeal.Gen
open Cert.FfnIdeal.Own (Mat mul)

theorem alpha_named : Named.named (F := Ideal) Cert.NormIdeal.κ "alpha" (φ := .f32) 0x3FD744FD#32 = alpha :=
  IdealRules.named_const.ideal_named_scalar _ _ _ _ rfl

theorem resid_cell (h : Vec Ideal S832x1024 .f32) (a : Vec Ideal S832x2816 .bf16) (w : Vec Ideal S2816x1024 .bf16) (j : S832x1024.Idx) :
    k0_pay1 h a w j = resid (h j) (mul (M := 832) (K := 2816) (N := 1024) a w j) := by
  rw [resid, ← alpha_named]
  pointwise [k0_pay1, mul, half]

theorem lnorm_cell (h : Vec Ideal S832x1024 .f32) (a : Vec Ideal S832x2816 .bf16) (w : Vec Ideal S2816x1024 .bf16)
    (g b : Vec Ideal S1x1024 .f32) (j : S832x1024.Idx) :
    k0_pay2 h a w g b j = lnorm (fun k => k0_pay1 h a w (ix2 (j 0) k)) (fun k => g (ix2 0 k)) (fun k => b (ix2 0 k)) (j 1) := by
  pointwise [k0_pay2, lnorm, nrm, rs, cen, mean, len, eps]

theorem lnorm_low_cell (h : Vec Ideal S832x1024 .f32) (a : Vec Ideal S832x2816 .bf16) (w : Vec Ideal S2816x1024 .bf16)
    (g b : Vec Ideal S1x1024 .f32) (j : S832x1024.Idx) :
    k0_pay3 h a w g b j = k0_pay2 h a w g b j := by
  pointwise [k0_pay3]

theorem cen_cell (y : Vec Ideal S832x1024 .f32) (j : S832x1024.Idx) : k1_pay7 y j = cen (fun k => y (ix2 (j 0) k)) (j 1) := by
  pointwise [k1_pay7, cen, mean, len, shapeCast_self]

theorem rs_cell (y : Vec Ideal S832x1024 .f32) (j : S832x1.Idx) : k1_pay8 y j = rs (fun k => y (ix2 (j 0) k)) := by
  pointwise [k1_pay8, rs, mean, len, eps, cen_cell]

theorem nrm_cell (y : Vec Ideal S832x1024 .f32) (j : S832x1024.Idx) : k1_pay9 y j = nrm (fun k => y (ix2 (j 0) k)) (j 1) := by
  pointwise [k1_pay9, nrm, rs_cell, cen_cell]

theorem grad_cell (y d : Vec Ideal S832x1024 .f32) (g : Vec Ideal S1x1024 .f32) (j : S832x1024.Idx) :
    k1_pay10 y d g j = grad (fun k => y (ix2 (j 0) k)) (fun k => d (ix2 (j 0) k) * g (ix2 0 k)) (j 1) := by
  pointwise [k1_pay10, grad, mean, len, rs_cell, nrm_cell]

theorem scaled_cell (y : FVec Ideal S832x1024 .f32) (j : S832x1024.Idx) : k1_pay1 y j = alpha * y j := by
  rw [← alpha_named]
  pointwise [k1_pay1]

theorem halved_cell (y : FVec Ideal S832x1024 .f32) (j : S832x1024.Idx) : k1_pay2 y j = half * y j := by
  pointwise [k1_pay2, half]

theorem gain_cell (d : Vec Ideal S832x1024 .f32) (x : FVec Ideal S832x1024 .f32) (acc : Vec Ideal S1x1024 .f32) (j : S1x1024.Idx) :
    k1_pay3 d x acc j = acc j + ∑ k : Fin 832, d (ix2 k (j 1)) * x (ix2 k (j 1)) := by
  pointwise [k1_pay3, shapeCast_self]

theorem bias_cell (d : Vec Ideal S832x1024 .f32) (acc : Vec Ideal S1x1024 .f32) (j : S1x1024.Idx) :
    k1_pay4 d acc j = acc j + ∑ k : Fin 832, d (ix2 k (j 1)) := by
  pointwise [k1_pay4, shapeCast_self]

theorem zero_gain_cell (j : S1x1024.Idx) : k1_pay5 (F := Ideal) j = 0 := by
  pointwise [k1_pay5]

theorem zero_bias_cell (j : S1x1024.Idx) : k1_pay6 (F := Ideal) j = 0 := by
  pointwise [k1_pay6]

end Cert.NormIdeal.Own

end
-- ==== Proof.NormFwd.lean ====
/- The kernel that projects, adds the residual and normalizes, as whole arrays. -/
module

public import proofs.«01_k».proof.Proof.Gen.NormIdeal.Frame
public import proofs.«01_k».proof.Proof.NormCells
public import proofs.«01_k».proof.Proof.FfnUp

@[expose] public section

noncomputable section

namespace Cert.NormIdeal.Own

open Idealize.ShloMosaic Idealize.ShloMosaic.TcCoe Cert.NormIdeal Cert.NormIdeal.Gen
open Idealize.ShloMosaic.Pipeline (Dat)
open Cert.FfnIdeal.Own (Mat mul hz)

variable (V : (c : Dev nD) → (b : Ref Cert.NormIdeal.sig .tc) → Buf (Elt Ideal) ((c : Thread nD τ).loc b))

/-! Where the windows stand at grid point `t`. -/

theorem at0_0 (t : Fin cfg0.N) : win0_0.index t 0 = t.val ∧ win0_0.index t 1 = 0 := by
  revert t; decide +kernel
theorem at0_1 (t : Fin cfg0.N) : win0_1.index t 0 = 0 ∧ win0_1.index t 1 = 0 := by
  revert t; decide +kernel
theorem at0_2 (t : Fin cfg0.N) : win0_2.index t 0 = t.val ∧ win0_2.index t 1 = 0 := by
  revert t; decide +kernel
theorem at0_3 (t : Fin cfg0.N) : win0_3.index t 0 = 0 ∧ win0_3.index t 1 = 0 := by
  revert t; decide +kernel
theorem at0_4 (t : Fin cfg0.N) : win0_4.index t 0 = 0 ∧ win0_4.index t 1 = 0 := by
  revert t; decide +kernel
theorem at0_5 (t : Fin cfg0.N) : win0_5.index t 0 = t.val ∧ win0_5.index t 1 = 0 := by
  revert t; decide +kernel
theorem at0_6 (t : Fin cfg0.N) : win0_6.index t 0 = t.val ∧ win0_6.index t 1 = 0 := by
  revert t; decide +kernel
theorem at0_7 (t : Fin cfg0.N) : win0_7.index t 0 = t.val ∧ win0_7.index t 1 = 0 := by
  revert t; decide +kernel

theorem a0_block (c : Dev nD) (t : Fin cfg0.N) (j : S832x2816.Idx) (i : S4160x2816.Idx)
    (h0 : (i 0).val = t.val * 832 + (j 0).val) (h1 : (i 1).val = (j 1).val) :
    (iblk0 V c 0 t : Vec Ideal S832x2816 .bf16) j = (V c main_arg0 : Mat 4160 2816) i := by
  unfold iblk0
  rw [View.read_apply]
  show V c main_arg0 _ = V c main_arg0 _
  congr 1
  funext a
  apply Fin.ext
  match a with
  | ⟨0, _⟩ => show win0_0.index t 0 * 832 + 1 * (j 0).val = (i 0).val; rw [(at0_0 t).1, h0]; omega
  | ⟨1, _⟩ => show win0_0.index t 1 * 2816 + 1 * (j 1).val = (i 1).val; rw [(at0_0 t).2, h1]; omega

theorem w0_block (c : Dev nD) (t : Fin cfg0.N) (j : S2816x1024.Idx) (i : S2816x1024.Idx)
    (h0 : (i 0).val = (j 0).val) (h1 : (i 1).val = (j 1).val) :
    (iblk0 V c 1 t : Vec Ideal S2816x1024 .bf16) j = (V c main_arg1 : Mat 2816 1024) i := by
  unfold iblk0
  rw [View.read_apply]
  show V c main_arg1 _ = V c main_arg1 _
  congr 1
  funext a
  apply Fin.ext
  match a with
  | ⟨0, _⟩ => show win0_1.index t 0 * 2816 + 1 * (j 0).val = (i 0).val; rw [(at0_1 t).1, h0]; omega
  | ⟨1, _⟩ => show win0_1.index t 1 * 1024 + 1 * (j 1).val = (i 1).val; rw [(at0_1 t).2, h1]; omega

theorem h0_block (c : Dev nD) (t : Fin cfg0.N) (j : S832x1024.Idx) (i : S4160x1024.Idx)
    (h0 : (i 0).val = t.val * 832 + (j 0).val) (h1 : (i 1).val = (j 1).val) :
    (iblk0 V c 2 t : Vec Ideal S832x1024 .f32) j = (V c main_arg2 : Mat 4160 1024) i := by
  unfold iblk0
  rw [View.read_apply]
  show V c main_arg2 _ = V c main_arg2 _
  congr 1
  funext a
  apply Fin.ext
  match a with
  | ⟨0, _⟩ => show win0_2.index t 0 * 832 + 1 * (j 0).val = (i 0).val; rw [(at0_2 t).1, h0]; omega
  | ⟨1, _⟩ => show win0_2.index t 1 * 1024 + 1 * (j 1).val = (i 1).val; rw [(at0_2 t).2, h1]; omega

theorem g0_block (c : Dev nD) (t : Fin cfg0.N) (j : S1x1024.Idx) (i : S1x1024.Idx)
    (h0 : (i 0).val = (j 0).val) (h1 : (i 1).val = (j 1).val) :
    (iblk0 V c 3 t : Vec Ideal S1x1024 .f32) j = (V c main_arg3 : Mat 1 1024) i := by
  unfold iblk0
  rw [View.read_apply]
  show V c main_arg3 _ = V c main_arg3 _
  congr 1
  funext a
  apply Fin.ext
  match a with
  | ⟨0, _⟩ => show win0_3.index t 0 * 1 + 1 * (j 0).val = (i 0).val; rw [(at0_3 t).1, h0]; omega
  | ⟨1, _⟩ => show win0_3.index t 1 * 1024 + 1 * (j 1).val = (i 1).val; rw [(at0_3 t).2, h1]; omega

theorem b0_block (c : Dev nD) (t : Fin cfg0.N) (j : S1x1024.Idx) (i : S1x1024.Idx)
    (h0 : (i 0).val = (j 0).val) (h1 : (i 1).val = (j 1).val) :
    (iblk0 V c 4 t : Vec Ideal S1x1024 .f32) j = (V c main_arg4 : Mat 1 1024) i := by
  unfold iblk0
  rw [View.read_apply]
  show V c main_arg4 _ = V c main_arg4 _
  congr 1
  funext a
  apply Fin.ext
  match a with
  | ⟨0, _⟩ => show win0_4.index t 0 * 1 + 1 * (j 0).val = (i 0).val; rw [(at0_4 t).1, h0]; omega
  | ⟨1, _⟩ => show win0_4.index t 1 * 1024 + 1 * (j 1).val = (i 1).val; rw [(at0_4 t).2, h1]; omega

/-- The residual sum of a whole array. -/
def residOf (h : Mat 4160 1024) (a : Mat 4160 2816) (w : Mat 2816 1024) : Mat 4160 1024 := fun i => resid (h i) (mul a w i)

/-- An array normalized row by row, scaled and shifted. -/
def lnormOf (y : Mat 4160 1024) (g b : Mat 1 1024) : Mat 4160 1024 := fun i =>
  lnorm (fun k => y (ix2 (i 0) k)) (fun k => g (ix2 0 k)) (fun k => b (ix2 0 k)) (i 1)

theorem resid_after (c : Dev nD) (t : Fin cfg0.N) (j : S832x1024.Idx) (i : S4160x1024.Idx)
    (h0 : (i 0).val = t.val * 832 + (j 0).val) (h1 : (i 1).val = (j 1).val) :
    k0_pay1 (F := Ideal) (iblk0 V c 2 t) (iblk0 V c 0 t) (iblk0 V c 1 t) j = residOf (V c main_arg2) (V c main_arg0) (V c main_arg1) i := by
  refine (resid_cell (iblk0 V c 2 t) (iblk0 V c 0 t) (iblk0 V c 1 t) j).trans ?_
  unfold residOf mul
  refine congrArg₂ resid (h0_block V c t j i h0 h1) (Finset.sum_congr rfl fun k _ => ?_)
  rw [a0_block V c t (ix2 (j 0) k) (ix2 (i 0) k) h0 rfl, w0_block V c t (ix2 k (j 1)) (ix2 k (i 1)) rfl h1]

theorem lnorm_after (c : Dev nD) (t : Fin cfg0.N) (j : S832x1024.Idx) (i : S4160x1024.Idx)
    (h0 : (i 0).val = t.val * 832 + (j 0).val) (h1 : (i 1).val = (j 1).val) :
    k0_pay2 (F := Ideal) (iblk0 V c 2 t) (iblk0 V c 0 t) (iblk0 V c 1 t) (iblk0 V c 3 t) (iblk0 V c 4 t) j
      = lnormOf (residOf (V c main_arg2) (V c main_arg0) (V c main_arg1)) (V c main_arg3) (V c main_arg4) i := by
  refine (lnorm_cell (iblk0 V c 2 t) (iblk0 V c 0 t) (iblk0 V c 1 t) (iblk0 V c 3 t) (iblk0 V c 4 t) j).trans ?_
  unfold lnormOf
  rw [show (j 1 : Fin 1024) = i 1 from Fin.ext h1.symm,
    show (fun k => k0_pay1 (F := Ideal) (iblk0 V c 2 t) (iblk0 V c 0 t) (iblk0 V c 1 t) (ix2 (j 0) k))
        = fun k => residOf (V c main_arg2) (V c main_arg0) (V c main_arg1) (ix2 (i 0) k)
      from funext fun k => resid_after V c t (ix2 (j 0) k) (ix2 (i 0) k) h0 rfl,
    show (fun k => (iblk0 V c 3 t : Vec Ideal S1x1024 .f32) (ix2 0 k)) = fun k => (V c main_arg3 : Mat 1 1024) (ix2 0 k)
      from funext fun k => g0_block V c t (ix2 0 k) (ix2 0 k) rfl rfl,
    show (fun k => (iblk0 V c 4 t : Vec Ideal S1x1024 .f32) (ix2 0 k)) = fun k => (V c main_arg4 : Mat 1 1024) (ix2 0 k)
      from funext fun k => b0_block V c t (ix2 0 k) (ix2 0 k) rfl rfl]

theorem out0_5_eq (a : Vec Ideal S832x2816 .bf16) (w : Vec Ideal S2816x1024 .bf16) (h : Vec Ideal S832x1024 .f32) (g b : Vec Ideal S1x1024 .f32) :
    out0_5 a w h g b = k0_pay1 h a w := by
  unfold out0_5
  rw [View.canon_unit_zero hz]
  simp only [View.ld_unit_zero (S := S832x1024) hz, View.ld_unit_zero (S := S832x2816) hz, View.ld_unit_zero (S := S2816x1024) hz, View.ld_unit_zero (S := S1x1024) hz]

theorem out0_6_eq (a : Vec Ideal S832x2816 .bf16) (w : Vec Ideal S2816x1024 .bf16) (h : Vec Ideal S832x1024 .f32) (g b : Vec Ideal S1x1024 .f32) :
    out0_6 a w h g b = k0_pay2 h a w g b := by
  unfold out0_6
  rw [View.canon_unit_zero hz]
  simp only [View.ld_unit_zero (S := S832x1024) hz, View.ld_unit_zero (S := S832x2816) hz, View.ld_unit_zero (S := S2816x1024) hz, View.ld_unit_zero (S := S1x1024) hz]

theorem out0_7_eq (a : Vec Ideal S832x2816 .bf16) (w : Vec Ideal S2816x1024 .bf16) (h : Vec Ideal S832x1024 .f32) (g b : Vec Ideal S1x1024 .f32) :
    out0_7 a w h g b = k0_pay3 h a w g b := by
  unfold out0_7
  rw [View.canon_unit_zero hz]
  simp only [View.ld_unit_zero (S := S832x1024) hz, View.ld_unit_zero (S := S832x2816) hz, View.ld_unit_zero (S := S2816x1024) hz, View.ld_unit_zero (S := S1x1024) hz]

/-- Every entry of that array lies in the block some grid point writes. -/
theorem cover0_5_all (i : S4160x1024.Idx) : ∃ t : Fin cfg0.N, (cfg0.win 5).flush t = true ∧ i ∈ ((cfg0.win 5).blk t).view.set := by
  have h0 : (i 0 : Nat) < 4160 := (i 0).isLt
  have h1 : (i 1 : Nat) < 1024 := (i 1).isLt
  have hN : cfg0.N = 5 := N_0
  obtain ⟨t, ht⟩ : ∃ t : Fin cfg0.N, t.val = (i 0).val / 832 := ⟨⟨_, by omega⟩, rfl⟩
  refine ⟨t, flush0_5 t, ?_⟩
  show i ∈ ((View.whole main_v0_0).slice (win0_5.rect t)).set
  rw [View.set_slice_whole, Rect.mem_set_unit]
  intro a
  match a with
  | ⟨0, _⟩ =>
    show win0_5.index t 0 * 832 ≤ (i 0 : Nat) ∧ (i 0 : Nat) < win0_5.index t 0 * 832 + 832
    rw [(at0_5 t).1]; omega
  | ⟨1, _⟩ =>
    show win0_5.index t 1 * 1024 ≤ (i 1 : Nat) ∧ (i 1 : Nat) < win0_5.index t 1 * 1024 + 1024
    rw [(at0_5 t).2]; omega

/-- Every entry of that array lies in the block some grid point writes. -/
theorem cover0_6_all (i : S4160x1024.Idx) : ∃ t : Fin cfg0.N, (cfg0.win 6).flush t = true ∧ i ∈ ((cfg0.win 6).blk t).view.set := by
  have h0 : (i 0 : Nat) < 4160 := (i 0).isLt
  have h1 : (i 1 : Nat) < 1024 := (i 1).isLt
  have hN : cfg0.N = 5 := N_0
  obtain ⟨t, ht⟩ : ∃ t : Fin cfg0.N, t.val = (i 0).val / 832 := ⟨⟨_, by omega⟩, rfl⟩
  refine ⟨t, flush0_6 t, ?_⟩
  show i ∈ ((View.whole main_v0_1).slice (win0_6.rect t)).set
  rw [View.set_slice_whole, Rect.mem_set_unit]
  intro a
  match a with
  | ⟨0, _⟩ =>
    show win0_6.index t 0 * 832 ≤ (i 0 : Nat) ∧ (i 0 : Nat) < win0_6.index t 0 * 832 + 832
    rw [(at0_6 t).1]; omega
  | ⟨1, _⟩ =>
    show win0_6.index t 1 * 1024 ≤ (i 1 : Nat) ∧ (i 1 : Nat) < win0_6.index t 1 * 1024 + 1024
    rw [(at0_6 t).2]; omega

/-- Every entry of that array lies in the block some grid point writes. -/
theorem cover0_7_all (i : S4160x1024.Idx) : ∃ t : Fin cfg0.N, (cfg0.win 7).flush t = true ∧ i ∈ ((cfg0.win 7).blk t).view.set := by
  have h0 : (i 0 : Nat) < 4160 := (i 0).isLt
  have h1 : (i 1 : Nat) < 1024 := (i 1).isLt
  have hN : cfg0.N = 5 := N_0
  obtain ⟨t, ht⟩ : ∃ t : Fin cfg0.N, t.val = (i 0).val / 832 := ⟨⟨_, by omega⟩, rfl⟩
  refine ⟨t, flush0_7 t, ?_⟩
  show i ∈ ((View.whole main_v0_2).slice (win0_7.rect t)).set
  rw [View.set_slice_whole, Rect.mem_set_unit]
  intro a
  match a with
  | ⟨0, _⟩ =>
    show win0_7.index t 0 * 832 ≤ (i 0 : Nat) ∧ (i 0 : Nat) < win0_7.index t 0 * 832 + 832
    rw [(at0_7 t).1]; omega
  | ⟨1, _⟩ =>
    show win0_7.index t 1 * 1024 ≤ (i 1 : Nat) ∧ (i 1 : Nat) < win0_7.index t 1 * 1024 + 1024
    rw [(at0_7 t).2]; omega

/-- The residual sums, as that kernel leaves them. -/
theorem y_array (c : Dev nD) : (dat0 V c).arrAt 5 cfg0.N = residOf (V c main_arg2) (V c main_arg0) (V c main_arg1) := by
  refine (dat0 V c).arrAt_eq_of_cover 5 _ (fun t _ => ?_) cover0_5_all
  show (cfg0.win 5).cut (grid0.coords t) ((dat0 V c).after 5 t) = _
  rw [after0_5, out0_5_eq]
  funext j
  rw [View.read_apply]
  have h0 : ((((cfg0.win 5).blk t).view.emb j) 0).val = t.val * 832 + (j 0).val := by
    show win0_5.index t 0 * 832 + 1 * (j 0).val = _; rw [(at0_5 t).1]; omega
  have h1 : ((((cfg0.win 5).blk t).view.emb j) 1).val = (j 1).val := by
    show win0_5.index t 1 * 1024 + 1 * (j 1).val = _; rw [(at0_5 t).2]; omega
  generalize ((cfg0.win 5).blk t).view.emb j = i at h0 h1 ⊢
  exact resid_after V c t j i h0 h1

/-- The normalized rows, as that kernel leaves them. -/
theorem o_array (c : Dev nD) : (dat0 V c).arrAt 6 cfg0.N = lnormOf (residOf (V c main_arg2) (V c main_arg0) (V c main_arg1)) (V c main_arg3) (V c main_arg4) := by
  refine (dat0 V c).arrAt_eq_of_cover 6 _ (fun t _ => ?_) cover0_6_all
  show (cfg0.win 6).cut (grid0.coords t) ((dat0 V c).after 6 t) = _
  rw [after0_6, out0_6_eq]
  funext j
  rw [View.read_apply]
  have h0 : ((((cfg0.win 6).blk t).view.emb j) 0).val = t.val * 832 + (j 0).val := by
    show win0_6.index t 0 * 832 + 1 * (j 0).val = _; rw [(at0_6 t).1]; omega
  have h1 : ((((cfg0.win 6).blk t).view.emb j) 1).val = (j 1).val := by
    show win0_6.index t 1 * 1024 + 1 * (j 1).val = _; rw [(at0_6 t).2]; omega
  generalize ((cfg0.win 6).blk t).view.emb j = i at h0 h1 ⊢
  exact lnorm_after V c t j i h0 h1

/-- The normalized rows at the narrower width, as that kernel leaves them. -/
theorem ob_array (c : Dev nD) : (dat0 V c).arrAt 7 cfg0.N = lnormOf (residOf (V c main_arg2) (V c main_arg0) (V c main_arg1)) (V c main_arg3) (V c main_arg4) := by
  refine (dat0 V c).arrAt_eq_of_cover 7 _ (fun t _ => ?_) cover0_7_all
  show (cfg0.win 7).cut (grid0.coords t) ((dat0 V c).after 7 t) = _
  rw [after0_7, out0_7_eq]
  funext j
  rw [View.read_apply]
  have h0 : ((((cfg0.win 7).blk t).view.emb j) 0).val = t.val * 832 + (j 0).val := by
    show win0_7.index t 0 * 832 + 1 * (j 0).val = _; rw [(at0_7 t).1]; omega
  have h1 : ((((cfg0.win 7).blk t).view.emb j) 1).val = (j 1).val := by
    show win0_7.index t 1 * 1024 + 1 * (j 1).val = _; rw [(at0_7 t).2]; omega
  generalize ((cfg0.win 7).blk t).view.emb j = i at h0 h1 ⊢
  exact (lnorm_low_cell (iblk0 V c 2 t) (iblk0 V c 0 t) (iblk0 V c 1 t) (iblk0 V c 3 t) (iblk0 V c 4 t) j).trans (lnorm_after V c t j i h0 h1)

end Cert.NormIdeal.Own

end
-- ==== Proof.NormRule.lean ====
/- The two ways of writing a normalized row's gradient agree on real rows. -/
module

public import proofs.«01_k».proof.Proof.NormMath
public import proofs.«01_k».proof.Proof.FfnGate

@[expose] public section

noncomputable section

namespace Cert.NormIdeal.Own

open Idealize.ShloMosaic
open Cert.FfnIdeal.Own (IsReal)

/-- The constants of the plainly written gradient. -/
def two : EReal := Ideal.ofBits .f32 0x40000000#32
def minusHalf : EReal := Ideal.ofBits .f32 0xBF000000#32

/-- The row's variance, with the constant added. -/
def ve (y : Row) : EReal := mean (fun k => cen y k * cen y k) + eps

/-- What the chain rule sends to the squares of the row less its mean. -/
def varGrad (y d : Row) : EReal := Ideal.div ((∑ k, cen y k * d k) * (minusHalf * Ideal.div (rs y) (ve y))) len

/-- What the chain rule sends to the row less its mean. -/
def cenGrad (y d : Row) : Row := fun k => d k * rs y + varGrad y d * (two * cen y k)

/-- The gradient of the row as the chain rule writes it. -/
def chainGrad (y d : Row) : Row := fun k =>
  cenGrad y d k + Ideal.div (∑ k, -(d k * rs y) + ∑ k, -(varGrad y d * (two * cen y k))) len

theorem len_eq : len = ((1024 : ℝ) : EReal) := by
  unfold len; simp [Ideal.ofBits, Ideal.ieee, -EReal.coe_mul]; norm_num

theorem two_eq : two = ((2 : ℝ) : EReal) := by
  unfold two; simp [Ideal.ofBits, Ideal.ieee, -EReal.coe_mul]; norm_num

theorem half_eq : half = ((1 / 2 : ℝ) : EReal) := by
  unfold half; simp [Ideal.ofBits, Ideal.ieee, -EReal.coe_mul]; norm_num

theorem minusHalf_eq : minusHalf = ((-(1 / 2) : ℝ) : EReal) := by
  unfold minusHalf; simp [Ideal.ofBits, Ideal.ieee, -EReal.coe_mul]; norm_num

theorem eps_pos : ∃ e : ℝ, 0 < e ∧ eps = (e : EReal) := by
  refine ⟨10995116 * (2 : ℝ) ^ (-40 : ℤ), by positivity, ?_⟩
  unfold eps; simp [Ideal.ofBits, Ideal.ieee, -EReal.coe_mul]

theorem coe_sum (u : Fin 1024 → ℝ) : ∑ k, (u k : EReal) = ((∑ k, u k : ℝ) : EReal) := by
  suffices h : ∀ s : Finset (Fin 1024), ∑ k ∈ s, (u k : EReal) = ((∑ k ∈ s, u k : ℝ) : EReal) from h _
  intro s
  induction s using Finset.induction_on with
  | empty => simp
  | insert a s ha ih => rw [Finset.sum_insert ha, Finset.sum_insert ha, ih, EReal.coe_add]

theorem div_len (x : ℝ) : Ideal.div (x : EReal) len = ((x / 1024 : ℝ) : EReal) := by
  rw [len_eq, Ideal.div_coe (by norm_num), ← EReal.coe_mul]
  congr 1; ring

theorem mean_coe (u : Fin 1024 → ℝ) : mean (fun k => (u k : EReal)) = (((∑ k, u k) / 1024 : ℝ) : EReal) := by
  unfold mean
  rw [coe_sum, div_len]

theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- A sum that is real has real terms only. -/
theorem isReal_of_add {x y : EReal} (h : IsReal (x + y)) : IsReal x ∧ IsReal y := by
  obtain ⟨r, h⟩ := h
  induction x with
  | coe a =>
    refine ⟨⟨a, rfl⟩, ?_⟩
    induction y with
    | coe b => exact ⟨b, rfl⟩
    | top => simp at h
    | bot => simp at h
  | top =>
    induction y with
    | coe b => simp at h
    | top => simp at h
    | bot => simp at h
  | bot => simp at h

theorem isReal_of_sum (y : Row) (h : IsReal (∑ k, y k)) (k : Fin 1024) : IsReal (y k) := by
  rw [← Finset.add_sum_erase Finset.univ y (Finset.mem_univ k)] at h
  exact (isReal_of_add h).1

theorem top_or_bot {x : EReal} (h : ¬ IsReal x) : x = ⊤ ∨ x = ⊥ := by
  induction x with
  | coe a => exact absurd ⟨a, rfl⟩ h
  | top => exact Or.inl rfl
  | bot => exact Or.inr rfl

theorem div_len_top : Ideal.div ⊤ len = ⊤ := by
  rw [len_eq, Ideal.div_coe (by norm_num), EReal.top_mul_coe_of_pos (by norm_num)]

theorem div_len_bot : Ideal.div ⊥ len = ⊥ := by
  rw [len_eq, Ideal.div_coe (by norm_num), EReal.bot_mul_coe_of_pos (by norm_num)]

/-- A row with an infinite entry is infinite everywhere once its mean is taken off, -/
theorem cen_sq (y : Row) (hy : ¬ ∀ k, IsReal (y k)) (k : Fin 1024) : cen y k * cen y k = ⊤ := by
  have hs : ¬ IsReal (∑ k, y k) := fun h => hy (isReal_of_sum y h)
  have hm : mean y = ⊤ ∨ mean y = ⊥ := by
    unfold mean
    rcases top_or_bot hs with h | h
    · exact Or.inl (by rw [h, div_len_top])
    · exact Or.inr (by rw [h, div_len_bot])
  have hc : cen y k = ⊤ ∨ cen y k = ⊥ := by
    unfold cen
    rcases hm with h | h <;> rw [h] <;> induction y k <;> simp
  rcases hc with h | h <;> rw [h] <;> simp

/-- and its scale is zero. -/
theorem ve_top (y : Row) (hy : ¬ ∀ k, IsReal (y k)) : ve y = ⊤ := by
  have h0 : (0 : EReal) ≤ ∑ k, cen y k * cen y k := Finset.sum_nonneg fun k _ => by rw [cen_sq y hy]; exact le_top
  have h1 : ¬ IsReal (∑ k, cen y k * cen y k) := fun h => by
    obtain ⟨r, hr⟩ := isReal_of_sum _ h 0
    rw [cen_sq y hy] at hr
    exact EReal.coe_ne_top r hr.symm
  obtain ⟨e, -, he⟩ := eps_pos
  unfold ve mean
  rcases top_or_bot h1 with h | h
  · rw [h, div_len_top, he, EReal.top_add_coe]
  · rw [h] at h0
    exact absurd h0 (by simp)

theorem rs_zero (y : Row) (hy : ¬ ∀ k, IsReal (y k)) : rs y = 0 := by
  show Ideal.rsqrt (ve y) = 0
  rw [ve_top y hy]
  rfl

theorem div_zero_of_ne {x : EReal} (h : x ≠ 0) : Ideal.div 0 x = 0 := by
  unfold Ideal.div
  rw [if_neg h, zero_mul]

theorem chain_rule_infinite (y d : Row) (hy : ¬ ∀ k, IsReal (y k)) (k : Fin 1024) : chainGrad y d k = grad y d k := by
  have hl : len ≠ 0 := by
    rw [len_eq]
    exact_mod_cast (by norm_num : (1024 : ℝ) ≠ 0)
  have hv : varGrad y d = 0 := by
    unfold varGrad
    rw [rs_zero y hy, ve_top y hy, div_zero_of_ne (by simp), mul_zero, mul_zero, div_zero_of_ne hl]
  unfold chainGrad cenGrad grad
  rw [hv, rs_zero y hy]
  simp [div_zero_of_ne hl]

/-- The gradient of a real row, written either way. -/
theorem chain_rule_real (y d : Row) (hy : ∀ k, IsReal (y k)) (hd : ∀ k, IsReal (d k)) (k : Fin 1024) : chainGrad y d k = grad y d k := by
  choose u hu using hy
  choose v hv using hd
  obtain rfl : y = fun k => (u k : EReal) := funext hu
  obtain rfl : d = fun k => (v k : EReal) := funext hv
  obtain ⟨e, he, hee⟩ := eps_pos
  obtain ⟨x, hx⟩ : ∃ x : Fin 1024 → ℝ, x = fun k => u k - (∑ k, u k) / 1024 := ⟨_, rfl⟩
  have hc : cen (fun k => (u k : EReal)) = fun k => (x k : EReal) := by
    funext k
    unfold cen
    rw [mean_coe, ← EReal.coe_sub, hx]
  have hx0 : ∑ k, x k = 0 := by
    rw [hx, Finset.sum_sub_distrib, Finset.sum_const, Finset.card_univ, Fintype.card_fin, nsmul_eq_mul]
    push_cast
    ring
  obtain ⟨s, hs⟩ : ∃ s : ℝ, s = (∑ k, x k * x k) / 1024 + e := ⟨_, rfl⟩
  have hs0 : 0 < s := by
    have : 0 ≤ ∑ k, x k * x k := Finset.sum_nonneg fun k _ => mul_self_nonneg _
    rw [hs]; positivity
  have hve : ve (fun k => (u k : EReal)) = (s : EReal) := by
    unfold ve
    rw [hc, hee, hs]
    simp only [← EReal.coe_mul]
    rw [mean_coe, ← EReal.coe_add]
  obtain ⟨r, hr⟩ : ∃ r : ℝ, r = (Real.sqrt s)⁻¹ := ⟨_, rfl⟩
  have hrs : rs (fun k => (u k : EReal)) = (r : EReal) := by
    show Ideal.rsqrt (ve _) = _
    rw [hve, rsqrt_pos hs0, hr]
  have hrr : r * r * s = 1 := by
    have h1 := Real.mul_self_sqrt hs0.le
    have h2 : Real.sqrt s ≠ 0 := (Real.sqrt_pos.mpr hs0).ne'
    rw [hr, ← mul_inv, h1]
    exact inv_mul_cancel₀ hs0.ne'
  have hsi : 1 / s = r * r := by
    field_simp
    linarith
  obtain ⟨p, hp⟩ : ∃ p : ℝ, p = ∑ k, x k * v k := ⟨_, rfl⟩
  obtain ⟨q, hq⟩ : ∃ q : ℝ, q = ∑ k, v k := ⟨_, rfl⟩
  have hvg : varGrad (fun k => (u k : EReal)) (fun k => (v k : EReal)) = ((p * (-(1 / 2) * (r * (r * r))) / 1024 : ℝ) : EReal) := by
    unfold varGrad
    rw [hc, hrs, hve, Ideal.div_coe hs0.ne', hsi, minusHalf_eq]
    simp only [← EReal.coe_mul]
    rw [coe_sum, ← EReal.coe_mul, div_len, hp]
  have hsum1 : ∑ k, -(v k * r) = -(q * r) := by rw [Finset.sum_neg_distrib, ← Finset.sum_mul, hq]
  have hsum2 : ∀ c : ℝ, ∑ k, -(c * (2 * x k)) = 0 := by
    intro c
    rw [Finset.sum_neg_distrib, ← Finset.mul_sum, ← Finset.mul_sum, hx0]
    ring
  have hsum3 : ∑ k, v k * (x k * r) = p * r := by
    rw [hp, Finset.sum_mul]
    exact Finset.sum_congr rfl fun k _ => by ring
  have hl : chainGrad (fun k => (u k : EReal)) (fun k => (v k : EReal)) k
      = ((v k * r + p * (-(1 / 2) * (r * (r * r))) / 1024 * (2 * x k) + (-(q * r) + 0) / 1024 : ℝ) : EReal) := by
    unfold chainGrad cenGrad
    rw [hvg, hc, hrs, two_eq]
    simp only [← EReal.coe_mul, ← EReal.coe_neg]
    rw [coe_sum, coe_sum, hsum1, hsum2]
    simp only [← EReal.coe_add]
    rw [div_len, ← EReal.coe_add]
  have hg : grad (fun k => (u k : EReal)) (fun k => (v k : EReal)) k = ((r * ((v k - q / 1024) - x k * r * (p * r / 1024)) : ℝ) : EReal) := by
    unfold grad nrm
    rw [hc, hrs]
    simp only [← EReal.coe_mul]
    rw [mean_coe, mean_coe, hsum3, ← hq]
    simp only [← EReal.coe_mul, ← EReal.coe_sub]
  rw [hl, hg]
  congr 1
  ring

/-- For a real gradient of the normalization, the row's gradient is the same written either way. -/
theorem chain_rule (y d : Row) (hd : ∀ k, IsReal (d k)) (k : Fin 1024) : chainGrad y d k = grad y d k := by
  by_cases hy : ∀ k, IsReal (y k)
  · exact chain_rule_real y d hy hd k
  · exact chain_rule_infinite y d hy k

end Cert.NormIdeal.Own

end
-- ==== Proof.NormRef.lean ====
/- The normalization and its gradient as written plainly: its arrays, entry by entry, and its run. -/
module

public import proofs.«01_k».proof.Proof.Gen.NormRefIdeal.Run
public import proofs.«01_k».proof.Proof.NormRule
public import proofs.«01_k».proof.Proof.NormBwd
public import Idealize.ShloMosaic.Lib.Pointwise
public import Idealize.ShloMosaic.Lib.Quiescent

@[expose] public section

noncomputable section

namespace Cert.NormRefIdeal.Own

open Idealize.ShloMosaic Idealize.SL.Sem Cert.NormRefIdeal Cert.NormRefIdeal.Gen Cert.NormRefIdeal.Facts
open Cert.FfnIdeal.Own (Mat mul IsReal)
open Cert.NormIdeal.Own (alpha half len eps two minusHalf resid mean cen rs nrm lnorm ve varGrad cenGrad chainGrad grad residOf lnormOf gradOf gainGradOf biasGradOf)

def hAlpha : FVec Ideal S_ .f32 := Host.sqrt (Host.sqrt (constant S_ .f32 0x41000000#32))

theorem hAlpha_eq (j : S_.Idx) : hAlpha j = alpha := by
  have h8 : Ideal.ofBits .f32 0x41000000#32 = ((8 : ℝ) : EReal) := by simp [Ideal.ofBits, Ideal.ieee, -EReal.coe_mul]; norm_num
  show Ideal.sqrt (Ideal.sqrt (Ideal.ofBits .f32 0x41000000#32)) = alpha
  rw [h8, Ideal.sqrt_coe, if_neg (by norm_num), Ideal.sqrt_coe, if_neg (not_lt.mpr (Real.sqrt_nonneg _))]
  rfl

def hHalf : FVec Ideal S4160x1024 .f32 := broadcastInDim S4160x1024 ![] bcast_S_S4160x1024 (constant S_ .f32 0x3F000000#32)
def hLen : FVec Ideal S4160x1 .f32 := broadcastInDim S4160x1 ![] bcast_S_S4160x1 (constant S_ .f32 0x44800000#32)
def wide (x : FVec Ideal S4160x1 .f32) : FVec Ideal S4160x1024 .f32 := broadcastInDim S4160x1024 ![0, 1] bcast_S4160x1_S4160x1024_0_1 x
def rowWide (x : FVec Ideal S1x1024 .f32) : FVec Ideal S4160x1024 .f32 := broadcastInDim S4160x1024 ![0, 1] bcast_S1x1024_S4160x1024_0_1 x
def alphaWide : FVec Ideal S4160x1024 .f32 := broadcastInDim S4160x1024 ![] bcast_S_S4160x1024 hAlpha
def rowSum (x : FVec Ideal S4160x1024 .f32) : FVec Ideal S4160 .f32 := Host.reduceAdd x (constant S_ .f32 0x00000000#32) reducesTo_S4160x1024_S4160_d1 h_S_
def colSum (x : FVec Ideal S4160x1024 .f32) : FVec Ideal S1x1024 .f32 :=
  shapeCast _ (Host.reduceAdd x (constant S_ .f32 0x00000000#32) reducesTo_S4160x1024_S1024_d0 h_S_) shapeCasts_S1024_S1x1024

theorem colSum_apply (x : FVec Ideal S4160x1024 .f32) (j : S1x1024.Idx) : colSum x j = ∑ r : Fin 4160, x (ix2 r (j 1)) := by
  pointwise [colSum]

/-! The residual sum and the normalization. -/

def hResid (h : FVec Ideal S4160x1024 .f32) (a : FVec Ideal S4160x2816 .bf16) (w : FVec Ideal S2816x1024 .bf16) : FVec Ideal S4160x1024 .f32 :=
  addf (mulf alphaWide h) (mulf hHalf (Host.dotGeneral dot_S4160x2816_S2816x1024_S4160x1024_1_0_0_1_n_n none (extf .f32 a bitsLt_bf16_f32) (extf .f32 w bitsLt_bf16_f32)))

theorem hResid_eq (h : FVec Ideal S4160x1024 .f32) (a : FVec Ideal S4160x2816 .bf16) (w : FVec Ideal S2816x1024 .bf16) : hResid h a w = residOf h a w := by
  funext j
  pointwise [hResid, residOf, resid, alphaWide, hAlpha_eq, hHalf, half, mul]

def hMean (y : FVec Ideal S4160x1024 .f32) : FVec Ideal S4160x1 .f32 := Host.divf (broadcastInDim S4160x1 ![0] bcast_S4160_S4160x1_0 (rowSum y)) hLen

theorem hMean_apply (y : FVec Ideal S4160x1024 .f32) (j : S4160x1.Idx) : hMean y j = mean (fun k => y (ix2 (j 0) k)) := by
  pointwise [hMean, rowSum, hLen, mean, len]

def hCen (y : FVec Ideal S4160x1024 .f32) : FVec Ideal S4160x1024 .f32 := subf y (wide (hMean y))

theorem hCen_apply (y : FVec Ideal S4160x1024 .f32) (j : S4160x1024.Idx) : hCen y j = cen (fun k => y (ix2 (j 0) k)) (j 1) := by
  pointwise [hCen, wide, hMean_apply, cen]

def hVe (y : FVec Ideal S4160x1024 .f32) : FVec Ideal S4160x1 .f32 :=
  addf (Host.divf (broadcastInDim S4160x1 ![0] bcast_S4160_S4160x1_0 (rowSum (mulf (hCen y) (hCen y)))) hLen)
    (broadcastInDim S4160x1 ![] bcast_S_S4160x1 (constant S_ .f32 0x3727C5AC#32))

theorem hVe_apply (y : FVec Ideal S4160x1024 .f32) (j : S4160x1.Idx) : hVe y j = ve (fun k => y (ix2 (j 0) k)) := by
  pointwise [hVe, rowSum, hLen, hCen_apply, ve, mean, len, eps]

def hRs (y : FVec Ideal S4160x1024 .f32) : FVec Ideal S4160x1 .f32 := Host.rsqrt (hVe y)

theorem hRs_apply (y : FVec Ideal S4160x1024 .f32) (j : S4160x1.Idx) : hRs y j = rs (fun k => y (ix2 (j 0) k)) := by
  show Ideal.rsqrt (hVe y j) = _
  rw [hVe_apply]
  rfl

def hNrm (y : FVec Ideal S4160x1024 .f32) : FVec Ideal S4160x1024 .f32 := mulf (hCen y) (wide (hRs y))

theorem hNrm_apply (y : FVec Ideal S4160x1024 .f32) (j : S4160x1024.Idx) : hNrm y j = nrm (fun k => y (ix2 (j 0) k)) (j 1) := by
  pointwise [hNrm, wide, hCen_apply, hRs_apply, nrm]

def hLn (y : FVec Ideal S4160x1024 .f32) (g b : FVec Ideal S1x1024 .f32) : FVec Ideal S4160x1024 .f32 := addf (mulf (hNrm y) (rowWide g)) (rowWide b)

theorem hLn_eq (y : FVec Ideal S4160x1024 .f32) (g b : FVec Ideal S1x1024 .f32) : hLn y g b = lnormOf y g b := by
  funext j
  pointwise [hLn, rowWide, hNrm_apply, lnormOf, lnorm]

/-! The gradient. -/

def hSame (d : FVec Ideal S4160x1024 .f32) : FVec Ideal S4160x1024 .f32 := shapeCast _ d shapeCasts_S4160x1024_S4160x1024

theorem hSame_eq (d : FVec Ideal S4160x1024 .f32) : hSame d = d := by
  unfold hSame
  exact shapeCast_self ..

def hGain (y d : FVec Ideal S4160x1024 .f32) : FVec Ideal S1x1024 .f32 := colSum (mulf (hNrm y) (hSame d))

theorem hGain_eq (y d : FVec Ideal S4160x1024 .f32) : hGain y d = gainGradOf y d := by
  funext j
  unfold hGain gainGradOf
  rw [hSame_eq, colSum_apply]
  refine Finset.sum_congr rfl fun r _ => ?_
  show hNrm y (ix2 r (j 1)) * d (ix2 r (j 1)) = _
  rw [hNrm_apply]
  exact mul_comm _ _

theorem hBias_eq (d : FVec Ideal S4160x1024 .f32) : colSum d = biasGradOf d := by
  funext j
  exact colSum_apply d j

def column (x : FVec Ideal S4160 .f32) : FVec Ideal S4160x1 .f32 := shapeCast _ x shapeCasts_S4160_S4160x1

def colWide (x : FVec Ideal S4160x1 .f32) : FVec Ideal S4160x1024 .f32 :=
  broadcastInDim S4160x1024 ![0] bcast_S4160_S4160x1024_0 (Host.reduceAdd x (constant S_ .f32 0x00000000#32) reducesTo_S4160x1_S4160_d1 h_S_)

theorem colWide_apply (x : FVec Ideal S4160x1 .f32) (j : S4160x1024.Idx) : colWide x j = x (ix2 (j 0) 0) := by
  pointwise [colWide]
  exact Fin.sum_univ_one _

def hVarGrad (y d : FVec Ideal S4160x1024 .f32) : FVec Ideal S4160x1 .f32 :=
  Host.divf (mulf (column (rowSum (mulf (hCen y) d))) (mulf (broadcastInDim S4160x1 ![] bcast_S_S4160x1 (constant S_ .f32 0xBF000000#32)) (Host.divf (hRs y) (hVe y)))) hLen

theorem hVarGrad_apply (y d : FVec Ideal S4160x1024 .f32) (j : S4160x1.Idx) :
    hVarGrad y d j = varGrad (fun k => y (ix2 (j 0) k)) (fun k => d (ix2 (j 0) k)) := by
  pointwise [hVarGrad, column, rowSum, hCen_apply, hRs_apply, hVe_apply, hLen, varGrad, len, minusHalf]

def hScaled (y d : FVec Ideal S4160x1024 .f32) : FVec Ideal S4160x1024 .f32 := mulf d (wide (hRs y))

def hSquares (y d : FVec Ideal S4160x1024 .f32) : FVec Ideal S4160x1024 .f32 :=
  mulf (colWide (hVarGrad y d)) (mulf (broadcastInDim S4160x1024 ![] bcast_S_S4160x1024 (constant S_ .f32 0x40000000#32)) (hCen y))

theorem hScaled_apply (y d : FVec Ideal S4160x1024 .f32) (j : S4160x1024.Idx) : hScaled y d j = d j * rs (fun k => y (ix2 (j 0) k)) := by
  pointwise [hScaled, wide, hRs_apply]

theorem hSquares_apply (y d : FVec Ideal S4160x1024 .f32) (j : S4160x1024.Idx) :
    hSquares y d j = varGrad (fun k => y (ix2 (j 0) k)) (fun k => d (ix2 (j 0) k)) * (two * cen (fun k => y (ix2 (j 0) k)) (j 1)) := by
  pointwise [hSquares, colWide_apply, hVarGrad_apply, hCen_apply, two]

def hChain (y d : FVec Ideal S4160x1024 .f32) : FVec Ideal S4160x1024 .f32 :=
  addf (addf (hScaled y d) (hSquares y d))
    (colWide (Host.divf (addf (column (rowSum (Host.negf (hScaled y d)))) (column (rowSum (Host.negf (hSquares y d))))) hLen))

theorem hChain_apply (y d : FVec Ideal S4160x1024 .f32) (j : S4160x1024.Idx) :
    hChain y d j = chainGrad (fun k => y (ix2 (j 0) k)) (fun k => d (ix2 (j 0) k)) (j 1) := by
  pointwise [hChain, colWide_apply, column, rowSum, hScaled_apply, hSquares_apply, hLen, chainGrad, cenGrad, len]

def hGrad (y d : FVec Ideal S4160x1024 .f32) (g : FVec Ideal S1x1024 .f32) : FVec Ideal S4160x1024 .f32 := hChain y (mulf (hSame d) (rowWide g))

theorem hGrad_apply (y d : FVec Ideal S4160x1024 .f32) (g : FVec Ideal S1x1024 .f32) (j : S4160x1024.Idx) :
    hGrad y d g j = chainGrad (fun k => y (ix2 (j 0) k)) (fun k => d (ix2 (j 0) k) * g (ix2 0 k)) (j 1) := by
  unfold hGrad
  rw [hSame_eq, hChain_apply]
  refine congrArg (fun r => chainGrad _ r (j 1)) (funext fun k => ?_)
  pointwise [rowWide]

/-- For a real gain and a real incoming gradient, the gradient as the chain rule writes it is the kernel's. -/
theorem hGrad_eq (y d : FVec Ideal S4160x1024 .f32) (g : FVec Ideal S1x1024 .f32) (hd : ∀ i, IsReal (d i)) (hg : ∀ i, IsReal (g i)) :
    hGrad y d g = gradOf y d g := by
  funext j
  rw [hGrad_apply]
  exact Cert.NormIdeal.Own.chain_rule _ _ (fun k => (hd _).mul (hg _)) (j 1)

def hDres (G : FVec Ideal S4160x1024 .f32) : FVec Ideal S4160x1024 .f32 := mulf alphaWide G
def hDyb (G : FVec Ideal S4160x1024 .f32) : FVec Ideal S4160x1024 .bf16 := truncf .bf16 (mulf hHalf G) bitsLt_bf16_f32
def hLow (o : FVec Ideal S4160x1024 .f32) : FVec Ideal S4160x1024 .bf16 := truncf .bf16 o bitsLt_bf16_f32

theorem hDres_eq (G : FVec Ideal S4160x1024 .f32) : hDres G = fun i => alpha * G i := by
  funext j
  pointwise [hDres, alphaWide, hAlpha_eq]

theorem hDyb_eq (G : FVec Ideal S4160x1024 .f32) : (hDyb G : Mat 4160 1024) = fun i => half * G i := by
  funext j
  pointwise [hDyb, hHalf, half]

theorem hLow_eq (o : FVec Ideal S4160x1024 .f32) : (hLow o : Mat 4160 1024) = o := rfl

variable (m : (ℓ : Loc nD τ Cert.NormRefIdeal.sig) → Buf (Elt Ideal) ℓ) (ρ : Dev nD → PrngReg)

abbrev rA (c : Dev nD) : Mat 4160 2816 := m ((c.tc : Thread nD τ).loc main_arg0)
abbrev rW (c : Dev nD) : Mat 2816 1024 := m ((c.tc : Thread nD τ).loc main_arg1)
abbrev rH (c : Dev nD) : Mat 4160 1024 := m ((c.tc : Thread nD τ).loc main_arg2)
abbrev rG (c : Dev nD) : Mat 1 1024 := m ((c.tc : Thread nD τ).loc main_arg3)
abbrev rB (c : Dev nD) : Mat 1 1024 := m ((c.tc : Thread nD τ).loc main_arg4)
abbrev rD (c : Dev nD) : Mat 4160 1024 := m ((c.tc : Thread nD τ).loc main_arg5)

set_option maxRecDepth 8192 in
/-- The reference's run: its six results as named arrays. -/
theorem run_named :
    θ_run defs (onTc (τ := τ) (main (F := Ideal))) ⟨m, fun _ => 0, ρ⟩ fun r => ∀ c : Dev nD,
      r.2.mem ((c.tc : Thread nD τ).loc main_v36) = hLn (hResid (rH m c) (rA m c) (rW m c)) (rG m c) (rB m c)
      ∧ r.2.mem ((c.tc : Thread nD τ).loc main_v73) = hLow (hLn (hResid (rH m c) (rA m c) (rW m c)) (rG m c) (rB m c))
      ∧ r.2.mem ((c.tc : Thread nD τ).loc main_v72) = hDres (hGrad (hResid (rH m c) (rA m c) (rW m c)) (rD m c) (rG m c))
      ∧ r.2.mem ((c.tc : Thread nD τ).loc main_v74) = hDyb (hGrad (hResid (rH m c) (rA m c) (rW m c)) (rD m c) (rG m c))
      ∧ r.2.mem ((c.tc : Thread nD τ).loc main_v42) = hGain (hResid (rH m c) (rA m c) (rW m c)) (rD m c)
      ∧ r.2.mem ((c.tc : Thread nD τ).loc main_v39) = colSum (rD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.NormRefIdeal.Value.run (F := Ideal) m ρ

/-- The reference's run with its counters: the program names none. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2.2.2.2.2, sem_eq_zero_of_no_sems rfl r.2⟩) (Cert.NormRefIdeal.Value.run (F := Ideal) m ρ)

end Cert.NormRefIdeal.Own

end
-- ==== Proof.NormPre.lean ====
/- What the precondition of the normalization's gradient says: every entry of the gain and of the incoming gradient is a real number. -/
module

public import proofs.«01_k».proof.Pre_finite_norm
public import proofs.«01_k».proof.Proof.FfnPre

@[expose] public section

noncomputable section

namespace Cert.Pre_finite_norm.Own

open Idealize.ShloMosaic Cert.Pre_finite_norm
open Cert.FfnIdeal.Own (IsReal)
open Cert.Pre_finite.Own (and_ones all_real)

/-- The shape relations the precondition's operations take. -/
instance facts : Cert.Pre_finite_norm.Facts where
  bcast_S_S1x1024 := by decide
  reducesTo_S1x1024_S_d0_1 := by decide
  h_S_ := by decide
  bcast_S_S4160x1024 := by decide
  reducesTo_S4160x1024_S_d0_1 := by decide

theorem reals (a : FVec Ideal S4160x2816 .bf16) (w : FVec Ideal S2816x1024 .bf16) (h : FVec Ideal S4160x1024 .f32) (g b : FVec Ideal S1x1024 .f32)
    (d : FVec Ideal S4160x1024 .f32) (hp : fn (F := Ideal) a w h g b d = fun _ => 1#1) :
    (∀ i, IsReal (g i)) ∧ (∀ i, IsReal (d i)) := by
  have j : S_.Idx := fun k => k.elim0
  obtain ⟨hg, hd⟩ := and_ones _ _ (congrFun hp j)
  exact ⟨all_real _ _ _ _ j hg, all_real _ _ _ _ j hd⟩

end Cert.Pre_finite_norm.Own

end
-- ==== Proof.NormRun.lean ====
/- One run of the normalization's program over any floats, and what its memory holds at the end. -/
module

public import proofs.«01_k».proof.Proof.Gen.NormIdeal.Frame

@[expose] public section

set_option maxRecDepth 16384

noncomputable section

namespace Cert.NormIdeal.Own

open Cert.NormIdeal Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program run from any memory with its counters at zero: the six result arrays end at what the last of the two
    kernels' boundaries holds of them, and the arguments end as launched. -/
theorem run : θ_run defs (onTc (τ := τ) (main (F := F))) ⟨m, fun _ => 0, ρ⟩ (fun r => ∀ c : Dev nD,
      r.2.mem ((c.tc : Thread nD τ).loc main_v0_1) = W2 m ρ c main_v0_1
      ∧ r.2.mem ((c.tc : Thread nD τ).loc main_v0_2) = W2 m ρ c main_v0_2
      ∧ r.2.mem ((c.tc : Thread nD τ).loc main_v1_0) = W2 m ρ c main_v1_0
      ∧ r.2.mem ((c.tc : Thread nD τ).loc main_v1_1) = W2 m ρ c main_v1_1
      ∧ r.2.mem ((c.tc : Thread nD τ).loc main_v1_2) = W2 m ρ c main_v1_2
      ∧ r.2.mem ((c.tc : Thread nD τ).loc main_v1_3) = W2 m ρ c main_v1_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => fun c =>
      ⟨h c _ (mem_uc main_v0_1 (by decide)),
       h c _ (mem_uc main_v0_2 (by decide)),
       h c _ (mem_uc main_v1_0 (by decide)),
       h c _ (mem_uc main_v1_1 (by decide)),
       h c _ (mem_uc main_v1_2 (by decide)),
       h c _ (mem_uc main_v1_3 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Cert.NormIdeal.Own

end
-- ==== Proof.NormEq.lean ====
/- The normalization's program computes what the plainly written normalization and its gradient compute. -/
module

public import proofs.«01_k».proof.Defs
public import proofs.«01_k».proof.Proof.NormFwd
public import proofs.«01_k».proof.Proof.NormRef
public import proofs.«01_k».proof.Proof.NormPre
public import proofs.«01_k».proof.Proof.NormRun

@[expose] public section

noncomputable section

namespace Cert.NormIdeal.Own

open Idealize.ShloMosaic Idealize.ShloMosaic.TcCoe Idealize.SL.Sem Cert.NormIdeal Cert.NormIdeal.Gen
open Cert.FfnIdeal.Own (Mat mul IsReal)

section
variable (m : (ℓ : Loc nD τ Cert.NormIdeal.sig) → Buf (Elt Ideal) ℓ) (ρ : Dev nD → PrngReg) (c : Dev nD)

abbrev aA : Mat 4160 2816 := m ((c.tc : Thread nD τ).loc main_arg0)
abbrev aW : Mat 2816 1024 := m ((c.tc : Thread nD τ).loc main_arg1)
abbrev aH : Mat 4160 1024 := m ((c.tc : Thread nD τ).loc main_arg2)
abbrev aG : Mat 1 1024 := m ((c.tc : Thread nD τ).loc main_arg3)
abbrev aB : Mat 1 1024 := m ((c.tc : Thread nD τ).loc main_arg4)
abbrev aD : Mat 4160 1024 := m ((c.tc : Thread nD τ).loc main_arg5)

/-- The residual sum. -/
abbrev yA : Mat 4160 1024 := residOf (aH m c) (aA m c) (aW m c)

theorem y_at1 : (W1 m ρ c main_v0_0 : Mat 4160 1024) = yA m c :=
  (W1_arr m ρ c 5).trans (y_array (V0 m ρ) c)

/-- The normalization at the end of the run. -/
theorem o_end : (W2 m ρ c main_v0_1 : Mat 4160 1024) = lnormOf (yA m c) (aG m c) (aB m c) :=
  (W2_of m ρ c main_v0_1 (by decide)).trans ((W1_arr m ρ c 6).trans (o_array (V0 m ρ) c))

/-- The normalization's copy in the shorter format at the end of the run. -/
theorem ob_end : (W2 m ρ c main_v0_2 : Mat 4160 1024) = lnormOf (yA m c) (aG m c) (aB m c) :=
  (W2_of m ρ c main_v0_2 (by decide)).trans ((W1_arr m ρ c 7).trans (ob_array (V0 m ρ) c))

/-- The gradient of the residual stream at the end of the run. -/
theorem dres_end : (W2 m ρ c main_v1_0 : Mat 4160 1024) = fun i => alpha * gradOf (yA m c) (aD m c) (aG m c) i := by
  refine (W2_arr m ρ c 3).trans ((dres_array (V1 m ρ) c).trans ?_)
  rw [show V1 m ρ c main_v0_0 = _ from y_at1 m ρ c, show V1 m ρ c main_arg5 = _ from W1_args m ρ c main_arg5 (by decide),
    show V1 m ρ c main_arg3 = _ from W1_args m ρ c main_arg3 (by decide)]

/-- The gradient of the product at the end of the run. -/
theorem dyb_end : (W2 m ρ c main_v1_1 : Mat 4160 1024) = fun i => half * gradOf (yA m c) (aD m c) (aG m c) i := by
  refine (W2_arr m ρ c 4).trans ((dyb_array (V1 m ρ) c).trans ?_)
  rw [show V1 m ρ c main_v0_0 = _ from y_at1 m ρ c, show V1 m ρ c main_arg5 = _ from W1_args m ρ c main_arg5 (by decide),
    show V1 m ρ c main_arg3 = _ from W1_args m ρ c main_arg3 (by decide)]

/-- The gain's gradient at the end of the run. -/
theorem gain_end : (W2 m ρ c main_v1_2 : Mat 1 1024) = gainGradOf (yA m c) (aD m c) := by
  refine (W2_arr m ρ c 5).trans ((gain_array (V1 m ρ) c).trans ?_)
  rw [show V1 m ρ c main_v0_0 = _ from y_at1 m ρ c, show V1 m ρ c main_arg5 = _ from W1_args m ρ c main_arg5 (by decide)]

/-- The bias's gradient at the end of the run. -/
theorem bias_end : (W2 m ρ c main_v1_3 : Mat 1 1024) = biasGradOf (aD m c) := by
  refine (W2_arr m ρ c 6).trans ((bias_array (V1 m ρ) c).trans ?_)
  rw [show V1 m ρ c main_arg5 = _ from W1_args m ρ c main_arg5 (by decide)]

end

open Cert.NormRefIdeal.Own in
theorem algebraic : Cert.algebraic_NormIdeal_NormRefIdeal_pre_finite_norm (hNormIdeal := Cert.NormIdeal.Gen.facts)
    (hNormRefIdeal := Cert.NormRefIdeal.Gen.facts) (hPre_finite_norm := Cert.Pre_finite_norm.Own.facts) := by
  intro m ρ m' ρ' hpre hargs
  refine ⟨fun c => W2 m ρ c _, fun c => W2 m ρ c _, fun c => W2 m ρ c _, fun c => W2 m ρ c _, fun c => W2 m ρ c _, fun c => W2 m ρ c _, run m ρ, ?_⟩
  refine (θ_run Cert.NormRefIdeal.defs _ _).mono (fun s h c => ?_) (run_named m' ρ')
  obtain ⟨e0, e1, e2, e3, e4, e5, k⟩ := h c
  obtain ⟨a0, a1, a2, a3, a4, a5⟩ := hargs c
  obtain ⟨hg, hd⟩ := Cert.Pre_finite_norm.Own.reals _ _ _ _ _ _ (hpre c)
  have b0 : rA m' c = aA m c := a0
  have b1 : rW m' c = aW m c := a1
  have b2 : rH m' c = aH m c := a2
  have b3 : rG m' c = aG m c := a3
  have b4 : rB m' c = aB m c := a4
  have b5 : rD m' c = aD m c := a5
  rw [b0, b1, b2, b3, b4, hResid_eq, hLn_eq] at e0
  rw [b0, b1, b2, b3, b4, hResid_eq, hLn_eq] at e1
  rw [b0, b1, b2, b3, b5, hResid_eq, hGrad_eq _ _ _ hd hg, hDres_eq] at e2
  rw [b0, b1, b2, b3, b5, hResid_eq, hGrad_eq _ _ _ hd hg] at e3
  rw [b0, b1, b2, b5, hResid_eq, hGain_eq] at e4
  rw [b5, hBias_eq] at e5
  exact ⟨e0.trans (o_end m ρ c).symm, (e1.trans (hLow_eq _)).trans (ob_end m ρ c).symm, e2.trans (dres_end m ρ c).symm,
    (e3.trans (hDyb_eq _)).trans (dyb_end m ρ c).symm, e4.trans (gain_end m ρ c).symm, e5.trans (bias_end m ρ c).symm, k⟩

end Cert.NormIdeal.Own

end
-- ==== Proof.ProjRows.lean ====
/- The kernels of the projections' products by rows, as whole arrays. -/
module

public import proofs.«01_k».proof.Proof.Gen.ProjIdeal.Frame
public import proofs.«01_k».proof.Proof.FfnWd
public import Idealize.ShloMosaic.Lib.Pipeline.Value

@[expose] public section

noncomputable section

namespace Cert.ProjIdeal.Own

open Idealize.ShloMosaic Idealize.ShloMosaic.TcCoe Cert.ProjIdeal Cert.ProjIdeal.Gen
open Idealize.ShloMosaic.Pipeline (Dat)
open Cert.FfnIdeal.Own (Mat mul mulT tMul hz tileRow rows_by_tile)

variable (V : (c : Dev nD) → (b : Ref Cert.ProjIdeal.sig .tc) → Buf (Elt Ideal) ((c : Thread nD τ).loc b))

/-! The input projection. -/

theorem at0_0 (t : Fin cfg0.N) : win0_0.index t 0 = t.val ∧ win0_0.index t 1 = 0 := by
  revert t; decide +kernel
theorem at0_1 (t : Fin cfg0.N) : win0_1.index t 0 = 0 ∧ win0_1.index t 1 = 0 := by
  revert t; decide +kernel
theorem at0_2 (t : Fin cfg0.N) : win0_2.index t 0 = t.val ∧ win0_2.index t 1 = 0 := by
  revert t; decide +kernel

theorem a0_block (c : Dev nD) (t : Fin cfg0.N) (j : S832x1024.Idx) (i : S4160x1024.Idx)
    (h0 : (i 0).val = t.val * 832 + (j 0).val) (h1 : (i 1).val = (j 1).val) :
    (iblk0 V c 0 t : Vec Ideal S832x1024 .bf16) j = (V c main_arg0 : Mat 4160 1024) i := by
  unfold iblk0
  rw [View.read_apply]
  show V c main_arg0 _ = V c main_arg0 _
  congr 1
  funext a
  apply Fin.ext
  match a with
  | ⟨0, _⟩ => show win0_0.index t 0 * 832 + 1 * (j 0).val = (i 0).val; rw [(at0_0 t).1, h0]; omega
  | ⟨1, _⟩ => show win0_0.index t 1 * 1024 + 1 * (j 1).val = (i 1).val; rw [(at0_0 t).2, h1]; omega

theorem w0_block (c : Dev nD) (t : Fin cfg0.N) (j : S1024x2944.Idx) (i : S1024x2944.Idx)
    (h0 : (i 0).val = (j 0).val) (h1 : (i 1).val = (j 1).val) :
    (iblk0 V c 1 t : Vec Ideal S1024x2944 .bf16) j = (V c main_arg1 : Mat 1024 2944) i := by
  unfold iblk0
  rw [View.read_apply]
  show V c main_arg1 _ = V c main_arg1 _
  congr 1
  funext a
  apply Fin.ext
  match a with
  | ⟨0, _⟩ => show win0_1.index t 0 * 1024 + 1 * (j 0).val = (i 0).val; rw [(at0_1 t).1, h0]; omega
  | ⟨1, _⟩ => show win0_1.index t 1 * 2944 + 1 * (j 1).val = (i 1).val; rw [(at0_1 t).2, h1]; omega

theorem cell0 (x : Vec Ideal S832x1024 .bf16) (w : Vec Ideal S1024x2944 .bf16) (j : S832x2944.Idx) :
    k0_pay1 x w j = mul (M := 832) (K := 1024) (N := 2944) x w j := by
  pointwise [mul, k0_pay1, shapeCast_self]

theorem prod0 (c : Dev nD) (t : Fin cfg0.N) (j : S832x2944.Idx) (i : S4160x2944.Idx)
    (h0 : (i 0).val = t.val * 832 + (j 0).val) (h1 : (i 1).val = (j 1).val) :
    mul (M := 832) (K := 1024) (N := 2944) (iblk0 V c 0 t) (iblk0 V c 1 t) j
      = mul (M := 4160) (K := 1024) (N := 2944) (V c main_arg0) (V c main_arg1) i := by
  unfold mul
  refine Finset.sum_congr rfl fun k _ => ?_
  rw [a0_block V c t (ix2 (j 0) k) (ix2 (i 0) k) h0 rfl, w0_block V c t (ix2 k (j 1)) (ix2 k (i 1)) rfl h1]

theorem out0_eq (x : Vec Ideal S832x1024 .bf16) (w : Vec Ideal S1024x2944 .bf16) :
    out0_2 x w = k0_pay1 x w := by
  unfold out0_2
  rw [View.canon_unit_zero hz]
  simp only [View.ld_unit_zero (S := S832x1024) hz, View.ld_unit_zero (S := S1024x2944) hz, View.ld_unit_zero (S := S832x2944) hz]

/-- Every entry of that array lies in the block some grid point writes. -/
theorem cover0 (i : S4160x2944.Idx) : ∃ t : Fin cfg0.N, (cfg0.win 2).flush t = true ∧ i ∈ ((cfg0.win 2).blk t).view.set := by
  have h0 : (i 0 : Nat) < 4160 := (i 0).isLt
  have h1 : (i 1 : Nat) < 2944 := (i 1).isLt
  have hN : cfg0.N = 5 := N_0
  obtain ⟨t, ht⟩ : ∃ t : Fin cfg0.N, t.val = (i 0).val / 832 := ⟨⟨_, by omega⟩, rfl⟩
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 832 ≤ (i 0 : Nat) ∧ (i 0 : Nat) < win0_2.index t 0 * 832 + 832
    rw [(at0_2 t).1]; omega
  | ⟨1, _⟩ =>
    show win0_2.index t 1 * 2944 ≤ (i 1 : Nat) ∧ (i 1 : Nat) < win0_2.index t 1 * 2944 + 2944
    rw [(at0_2 t).2]; omega

/-- The input projection, as its kernel leaves it. -/
theorem proj_array (c : Dev nD) :
    (dat0 V c).arrAt 2 cfg0.N = mul (M := 4160) (K := 1024) (N := 2944) (V c main_arg0) (V c main_arg1) := by
  refine (dat0 V c).arrAt_eq_of_cover 2 _ (fun t _ => ?_) (cover0)
  show (cfg0.win 2).cut (grid0.coords t) ((dat0 V c).after 2 t) = _
  rw [after0_2, out0_eq]
  funext j
  rw [View.read_apply]
  have h0 : ((((cfg0.win 2).blk t).view.emb j) 0).val = t.val * 832 + (j 0).val := by
    show win0_2.index t 0 * 832 + 1 * (j 0).val = _; rw [(at0_2 t).1]; omega
  have h1 : ((((cfg0.win 2).blk t).view.emb j) 1).val = (j 1).val := by
    show win0_2.index t 1 * 2944 + 1 * (j 1).val = _; rw [(at0_2 t).2]; omega
  generalize ((cfg0.win 2).blk t).view.emb j = i at h0 h1 ⊢
  exact (cell0 (iblk0 V c 0 t) (iblk0 V c 1 t) j).trans (prod0 V c t j i h0 h1)

/-! The gradient of the output projection's input. -/

theorem at2_0 (t : Fin cfg2.N) : win2_0.index t 0 = t.val ∧ win2_0.index t 1 = 0 := by
  revert t; decide +kernel
theorem at2_1 (t : Fin cfg2.N) : win2_1.index t 0 = 0 ∧ win2_1.index t 1 = 0 := by
  revert t; decide +kernel
theorem at2_2 (t : Fin cfg2.N) : win2_2.index t 0 = t.val ∧ win2_2.index t 1 = 0 := by
  revert t; decide +kernel

theorem a2_block (c : Dev nD) (t : Fin cfg2.N) (j : S832x1024.Idx) (i : S4160x1024.Idx)
    (h0 : (i 0).val = t.val * 832 + (j 0).val) (h1 : (i 1).val = (j 1).val) :
    (iblk2 V c 0 t : Vec Ideal S832x1024 .bf16) j = (V c main_arg6 : Mat 4160 1024) i := by
  unfold iblk2
  rw [View.read_apply]
  show V c main_arg6 _ = V c main_arg6 _
  congr 1
  funext a
  apply Fin.ext
  match a with
  | ⟨0, _⟩ => show win2_0.index t 0 * 832 + 1 * (j 0).val = (i 0).val; rw [(at2_0 t).1, h0]; omega
  | ⟨1, _⟩ => show win2_0.index t 1 * 1024 + 1 * (j 1).val = (i 1).val; rw [(at2_0 t).2, h1]; omega

theorem w2_block (c : Dev nD) (t : Fin cfg2.N) (j : S1024x1024.Idx) (i : S1024x1024.Idx)
    (h0 : (i 0).val = (j 0).val) (h1 : (i 1).val = (j 1).val) :
    (iblk2 V c 1 t : Vec Ideal S1024x1024 .bf16) j = (V c main_arg5 : Mat 1024 1024) i := by
  unfold iblk2
  rw [View.read_apply]
  show V c main_arg5 _ = V c main_arg5 _
  congr 1
  funext a
  apply Fin.ext
  match a with
  | ⟨0, _⟩ => show win2_1.index t 0 * 1024 + 1 * (j 0).val = (i 0).val; rw [(at2_1 t).1, h0]; omega
  | ⟨1, _⟩ => show win2_1.index t 1 * 1024 + 1 * (j 1).val = (i 1).val; rw [(at2_1 t).2, h1]; omega

theorem cell2 (x : Vec Ideal S832x1024 .bf16) (w : Vec Ideal S1024x1024 .bf16) (j : S832x1024.Idx) :
    k2_pay1 x w j = mulT (M := 832) (K := 1024) (N := 1024) x w j := by
  pointwise [mulT, k2_pay1, shapeCast_self]

theorem prod2 (c : Dev nD) (t : Fin cfg2.N) (j : S832x1024.Idx) (i : S4160x1024.Idx)
    (h0 : (i 0).val = t.val * 832 + (j 0).val) (h1 : (i 1).val = (j 1).val) :
    mulT (M := 832) (K := 1024) (N := 1024) (iblk2 V c 0 t) (iblk2 V c 1 t) j
      = mulT (M := 4160) (K := 1024) (N := 1024) (V c main_arg6) (V c main_arg5) i := by
  unfold mulT
  refine Finset.sum_congr rfl fun k _ => ?_
  rw [a2_block V c t (ix2 (j 0) k) (ix2 (i 0) k) h0 rfl, w2_block V c t (ix2 (j 1) k) (ix2 (i 1) k) h1 rfl]

theorem out2_eq (x : Vec Ideal S832x1024 .bf16) (w : Vec Ideal S1024x1024 .bf16) :
    out2_2 x w = k2_pay1 x w := by
  unfold out2_2
  rw [View.canon_unit_zero hz]
  simp only [View.ld_unit_zero (S := S832x1024) hz, View.ld_unit_zero (S := S1024x1024) hz]

/-- Every entry of that array lies in the block some grid point writes. -/
theorem cover2 (i : S4160x1024.Idx) : ∃ t : Fin cfg2.N, (cfg2.win 2).flush t = true ∧ i ∈ ((cfg2.win 2).blk t).view.set := by
  have h0 : (i 0 : Nat) < 4160 := (i 0).isLt
  have h1 : (i 1 : Nat) < 1024 := (i 1).isLt
  have hN : cfg2.N = 5 := N_2
  obtain ⟨t, ht⟩ : ∃ t : Fin cfg2.N, t.val = (i 0).val / 832 := ⟨⟨_, by omega⟩, rfl⟩
  refine ⟨t, flush2_2 t, ?_⟩
  show i ∈ ((View.whole main_v2).slice (win2_2.rect t)).set
  rw [View.set_slice_whole, Rect.mem_set_unit]
  intro a
  match a with
  | ⟨0, _⟩ =>
    show win2_2.index t 0 * 832 ≤ (i 0 : Nat) ∧ (i 0 : Nat) < win2_2.index t 0 * 832 + 832
    rw [(at2_2 t).1]; omega
  | ⟨1, _⟩ =>
    show win2_2.index t 1 * 1024 ≤ (i 1 : Nat) ∧ (i 1 : Nat) < win2_2.index t 1 * 1024 + 1024
    rw [(at2_2 t).2]; omega

/-- The gradient of the output projection's input, as its kernel leaves it. -/
theorem dcat_array (c : Dev nD) :
    (dat2 V c).arrAt 2 cfg2.N = mulT (M := 4160) (K := 1024) (N := 1024) (V c main_arg6) (V c main_arg5) := by
  refine (dat2 V c).arrAt_eq_of_cover 2 _ (fun t _ => ?_) (cover2)
  show (cfg2.win 2).cut (grid2.coords t) ((dat2 V c).after 2 t) = _
  rw [after2_2, out2_eq]
  funext j
  rw [View.read_apply]
  have h0 : ((((cfg2.win 2).blk t).view.emb j) 0).val = t.val * 832 + (j 0).val := by
    show win2_2.index t 0 * 832 + 1 * (j 0).val = _; rw [(at2_2 t).1]; omega
  have h1 : ((((cfg2.win 2).blk t).view.emb j) 1).val = (j 1).val := by
    show win2_2.index t 1 * 1024 + 1 * (j 1).val = _; rw [(at2_2 t).2]; omega
  generalize ((cfg2.win 2).blk t).view.emb j = i at h0 h1 ⊢
  exact (cell2 (iblk2 V c 0 t) (iblk2 V c 1 t) j).trans (prod2 V c t j i h0 h1)

/-! The gradient of the input projection's input. -/

/-- An array added to a product. -/
def addProd (r : Mat 4160 1024) (a : Mat 4160 2944) (w : Mat 1024 2944) : Mat 4160 1024 := fun i => r i + mulT a w i

theorem at4_0 (t : Fin cfg4.N) : win4_0.index t 0 = t.val ∧ win4_0.index t 1 = 0 := by
  revert t; decide +kernel
theorem at4_1 (t : Fin cfg4.N) : win4_1.index t 0 = 0 ∧ win4_1.index t 1 = 0 := by
  revert t; decide +kernel
theorem at4_2 (t : Fin cfg4.N) : win4_2.index t 0 = t.val ∧ win4_2.index t 1 = 0 := by
  revert t; decide +kernel
theorem at4_3 (t : Fin cfg4.N) : win4_3.index t 0 = t.val ∧ win4_3.index t 1 = 0 := by
  revert t; decide +kernel

theorem a4_block (c : Dev nD) (t : Fin cfg4.N) (j : S832x2944.Idx) (i : S4160x2944.Idx)
    (h0 : (i 0).val = t.val * 832 + (j 0).val) (h1 : (i 1).val = (j 1).val) :
    (iblk4 V c 0 t : Vec Ideal S832x2944 .bf16) j = (V c main_arg2 : Mat 4160 2944) i := by
  unfold iblk4
  rw [View.read_apply]
  show V c main_arg2 _ = V c main_arg2 _
  congr 1
  funext a
  apply Fin.ext
  match a with
  | ⟨0, _⟩ => show win4_0.index t 0 * 832 + 1 * (j 0).val = (i 0).val; rw [(at4_0 t).1, h0]; omega
  | ⟨1, _⟩ => show win4_0.index t 1 * 2944 + 1 * (j 1).val = (i 1).val; rw [(at4_0 t).2, h1]; omega

theorem w4_block (c : Dev nD) (t : Fin cfg4.N) (j : S1024x2944.Idx) (i : S1024x2944.Idx)
    (h0 : (i 0).val = (j 0).val) (h1 : (i 1).val = (j 1).val) :
    (iblk4 V c 1 t : Vec Ideal S1024x2944 .bf16) j = (V c main_arg1 : Mat 1024 2944) i := by
  unfold iblk4
  rw [View.read_apply]
  show V c main_arg1 _ = V c main_arg1 _
  congr 1
  funext a
  apply Fin.ext
  match a with
  | ⟨0, _⟩ => show win4_1.index t 0 * 1024 + 1 * (j 0).val = (i 0).val; rw [(at4_1 t).1, h0]; omega
  | ⟨1, _⟩ => show win4_1.index t 1 * 2944 + 1 * (j 1).val = (i 1).val; rw [(at4_1 t).2, h1]; omega

theorem d4_block (c : Dev nD) (t : Fin cfg4.N) (j : S832x1024.Idx) (i : S4160x1024.Idx)
    (h0 : (i 0).val = t.val * 832 + (j 0).val) (h1 : (i 1).val = (j 1).val) :
    (iblk4 V c 2 t : Vec Ideal S832x1024 .f32) j = (V c main_arg3 : Mat 4160 1024) i := by
  unfold iblk4
  rw [View.read_apply]
  show V c main_arg3 _ = V c main_arg3 _
  congr 1
  funext a
  apply Fin.ext
  match a with
  | ⟨0, _⟩ => show win4_2.index t 0 * 832 + 1 * (j 0).val = (i 0).val; rw [(at4_2 t).1, h0]; omega
  | ⟨1, _⟩ => show win4_2.index t 1 * 1024 + 1 * (j 1).val = (i 1).val; rw [(at4_2 t).2, h1]; omega

theorem cell4 (r : Vec Ideal S832x1024 .f32) (x : Vec Ideal S832x2944 .bf16) (w : Vec Ideal S1024x2944 .bf16) (j : S832x1024.Idx) :
    k4_pay1 r x w j = r j + mulT (M := 832) (K := 2944) (N := 1024) x w j := by
  pointwise [mulT, k4_pay1, shapeCast_self]

theorem prod4 (c : Dev nD) (t : Fin cfg4.N) (j : S832x1024.Idx) (i : S4160x1024.Idx)
    (h0 : (i 0).val = t.val * 832 + (j 0).val) (h1 : (i 1).val = (j 1).val) :
    mulT (M := 832) (K := 2944) (N := 1024) (iblk4 V c 0 t) (iblk4 V c 1 t) j
      = mulT (M := 4160) (K := 2944) (N := 1024) (V c main_arg2) (V c main_arg1) i := by
  unfold mulT
  refine Finset.sum_congr rfl fun k _ => ?_
  rw [a4_block V c t (ix2 (j 0) k) (ix2 (i 0) k) h0 rfl, w4_block V c t (ix2 (j 1) k) (ix2 (i 1) k) h1 rfl]

theorem out4_eq (x : Vec Ideal S832x2944 .bf16) (w : Vec Ideal S1024x2944 .bf16) (r : Vec Ideal S832x1024 .f32) :
    out4_3 x w r = k4_pay1 r x w := by
  unfold out4_3
  rw [View.canon_unit_zero hz]
  simp only [View.ld_unit_zero (S := S832x2944) hz, View.ld_unit_zero (S := S1024x2944) hz, View.ld_unit_zero (S := S832x1024) hz]

/-- Every entry of that array lies in the block some grid point writes. -/
theorem cover4 (i : S4160x1024.Idx) : ∃ t : Fin cfg4.N, (cfg4.win 3).flush t = true ∧ i ∈ ((cfg4.win 3).blk t).view.set := by
  have h0 : (i 0 : Nat) < 4160 := (i 0).isLt
  have h1 : (i 1 : Nat) < 1024 := (i 1).isLt
  have hN : cfg4.N = 5 := N_4
  obtain ⟨t, ht⟩ : ∃ t : Fin cfg4.N, t.val = (i 0).val / 832 := ⟨⟨_, by omega⟩, rfl⟩
  refine ⟨t, flush4_3 t, ?_⟩
  show i ∈ ((View.whole main_v4).slice (win4_3.rect t)).set
  rw [View.set_slice_whole, Rect.mem_set_unit]
  intro a
  match a with
  | ⟨0, _⟩ =>
    show win4_3.index t 0 * 832 ≤ (i 0 : Nat) ∧ (i 0 : Nat) < win4_3.index t 0 * 832 + 832
    rw [(at4_3 t).1]; omega
  | ⟨1, _⟩ =>
    show win4_3.index t 1 * 1024 ≤ (i 1 : Nat) ∧ (i 1 : Nat) < win4_3.index t 1 * 1024 + 1024
    rw [(at4_3 t).2]; omega

/-- The gradient of the input projection's input, as its kernel leaves it. -/
theorem dh_array (c : Dev nD) :
    (dat4 V c).arrAt 3 cfg4.N = addProd (V c main_arg3) (V c main_arg2) (V c main_arg1) := by
  refine (dat4 V c).arrAt_eq_of_cover 3 _ (fun t _ => ?_) (cover4)
  show (cfg4.win 3).cut (grid4.coords t) ((dat4 V c).after 3 t) = _
  rw [after4_3, out4_eq]
  funext j
  rw [View.read_apply]
  have h0 : ((((cfg4.win 3).blk t).view.emb j) 0).val = t.val * 832 + (j 0).val := by
    show win4_3.index t 0 * 832 + 1 * (j 0).val = _; rw [(at4_3 t).1]; omega
  have h1 : ((((cfg4.win 3).blk t).view.emb j) 1).val = (j 1).val := by
    show win4_3.index t 1 * 1024 + 1 * (j 1).val = _; rw [(at4_3 t).2]; omega
  generalize ((cfg4.win 3).blk t).view.emb j = i at h0 h1 ⊢
  exact (cell4 (iblk4 V c 2 t) (iblk4 V c 0 t) (iblk4 V c 1 t) j).trans (congrArg₂ (fun a b : EReal => a + b) (d4_block V c t j i h0 h1) (prod4 V c t j i h0 h1))

end Cert.ProjIdeal.Own

end
-- ==== Proof.ProjRef.lean ====
/- The projections and their gradients as written plainly: their arrays, entry by entry, and their run. -/
module

public import proofs.«01_k».proof.Proof.Gen.ProjRefIdeal.Run
public import proofs.«01_k».proof.Proof.ProjRows
public import Idealize.ShloMosaic.Lib.Pointwise
public import Idealize.ShloMosaic.Lib.Quiescent

@[expose] public section

noncomputable section

namespace Cert.ProjRefIdeal.Own

open Idealize.ShloMosaic Idealize.SL.Sem Cert.ProjRefIdeal Cert.ProjRefIdeal.Gen Cert.ProjRefIdeal.Facts
open Cert.FfnIdeal.Own (Mat mul mulT tMul)
open Cert.ProjIdeal.Own (addProd)

def hProj (h : FVec Ideal S4160x1024 .bf16) (w : FVec Ideal S1024x2944 .bf16) : FVec Ideal S4160x2944 .f32 :=
  Host.dotGeneral dot_S4160x1024_S1024x2944_S4160x2944_1_0_0_1_n_n none (extf .f32 h bitsLt_bf16_f32) (extf .f32 w bitsLt_bf16_f32)

theorem hProj_eq (h : FVec Ideal S4160x1024 .bf16) (w : FVec Ideal S1024x2944 .bf16) : hProj h w = mul (M := 4160) (K := 1024) (N := 2944) h w := by
  funext j
  pointwise [hProj, mul]

def hDwin (h : FVec Ideal S4160x1024 .bf16) (d : FVec Ideal S4160x2944 .bf16) : FVec Ideal S1024x2944 .f32 :=
  transpose S1024x2944 [1, 0] (Host.dotGeneral dot_S4160x2944_S4160x1024_S2944x1024_0_0_1_1_n_n none (extf .f32 d bitsLt_bf16_f32) (extf .f32 h bitsLt_bf16_f32)) transposes_S2944x1024_S1024x2944_1_0

theorem hDwin_eq (h : FVec Ideal S4160x1024 .bf16) (d : FVec Ideal S4160x2944 .bf16) : hDwin h d = tMul (M := 1024) (K := 4160) (N := 2944) h d := by
  funext j
  pointwise [hDwin, tMul]
  exact Finset.sum_congr rfl fun _ _ => mul_comm _ _

def hDh (r : FVec Ideal S4160x1024 .f32) (d : FVec Ideal S4160x2944 .bf16) (w : FVec Ideal S1024x2944 .bf16) : FVec Ideal S4160x1024 .f32 :=
  addf r (Host.dotGeneral dot_S4160x2944_S1024x2944_S4160x1024_1_1_0_0_n_n none (extf .f32 d bitsLt_bf16_f32) (extf .f32 w bitsLt_bf16_f32))

theorem hDh_eq (r : FVec Ideal S4160x1024 .f32) (d : FVec Ideal S4160x2944 .bf16) (w : FVec Ideal S1024x2944 .bf16) : hDh r d w = addProd r d w := by
  funext j
  pointwise [hDh, addProd, mulT]

def hDwout (a d : FVec Ideal S4160x1024 .bf16) : FVec Ideal S1024x1024 .f32 :=
  transpose S1024x1024 [1, 0] (Host.dotGeneral dot_S4160x1024_S4160x1024_S1024x1024_0_0_1_1_n_n none (extf .f32 d bitsLt_bf16_f32) (extf .f32 a bitsLt_bf16_f32)) transposes_S1024x1024_S1024x1024_1_0

theorem hDwout_eq (a d : FVec Ideal S4160x1024 .bf16) : hDwout a d = tMul (M := 1024) (K := 4160) (N := 1024) a d := by
  funext j
  pointwise [hDwout, tMul]
  exact Finset.sum_congr rfl fun _ _ => mul_comm _ _

def hDcat (d : FVec Ideal S4160x1024 .bf16) (w : FVec Ideal S1024x1024 .bf16) : FVec Ideal S4160x1024 .f32 :=
  Host.dotGeneral dot_S4160x1024_S1024x1024_S4160x1024_1_1_0_0_n_n none (extf .f32 d bitsLt_bf16_f32) (extf .f32 w bitsLt_bf16_f32)

theorem hDcat_eq (d : FVec Ideal S4160x1024 .bf16) (w : FVec Ideal S1024x1024 .bf16) : hDcat d w = mulT (M := 4160) (K := 1024) (N := 1024) d w := by
  funext j
  pointwise [hDcat, mulT]

variable (m : (ℓ : Loc nD τ Cert.ProjRefIdeal.sig) → Buf (Elt Ideal) ℓ) (ρ : Dev nD → PrngReg)

abbrev rH (c : Dev nD) : Mat 4160 1024 := m ((c.tc : Thread nD τ).loc main_arg0)
abbrev rWin (c : Dev nD) : Mat 1024 2944 := m ((c.tc : Thread nD τ).loc main_arg1)
abbrev rDp (c : Dev nD) : Mat 4160 2944 := m ((c.tc : Thread nD τ).loc main_arg2)
abbrev rR (c : Dev nD) : Mat 4160 1024 := m ((c.tc : Thread nD τ).loc main_arg3)
abbrev rCat (c : Dev nD) : Mat 4160 1024 := m ((c.tc : Thread nD τ).loc main_arg4)
abbrev rWout (c : Dev nD) : Mat 1024 1024 := m ((c.tc : Thread nD τ).loc main_arg5)
abbrev rDy (c : Dev nD) : Mat 4160 1024 := m ((c.tc : Thread nD τ).loc main_arg6)

/-- The reference's run: its five results as named arrays. -/
theorem run_named :
    θ_run defs (onTc (τ := τ) (main (F := Ideal))) ⟨m, fun _ => 0, ρ⟩ fun r => ∀ c : Dev nD,
      r.2.mem ((c.tc : Thread nD τ).loc main_v2) = hProj (rH m c) (rWin m c)
      ∧ r.2.mem ((c.tc : Thread nD τ).loc main_v5) = hDwin (rH m c) (rDp m c)
      ∧ r.2.mem ((c.tc : Thread nD τ).loc main_v14) = hDh (rR m c) (rDp m c) (rWin m c)
      ∧ r.2.mem ((c.tc : Thread nD τ).loc main_v12) = hDwout (rCat m c) (rDy m c)
      ∧ r.2.mem ((c.tc : Thread nD τ).loc main_v13) = hDcat (rDy m c) (rWout m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ProjRefIdeal.Value.run (F := Ideal) m ρ

/-- The reference's run with its counters: the program names none. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => (h c).2.2.2.2.2, sem_eq_zero_of_no_sems rfl r.2⟩) (Cert.ProjRefIdeal.Value.run (F := Ideal) m ρ)

end Cert.ProjRefIdeal.Own

end
-- ==== Proof.ProjWeights.lean ====
/- The kernels of the projections' weight gradients, which sum over the rows in five tiles, as whole arrays. -/
module

public import proofs.«01_k».proof.Proof.Gen.ProjIdeal.Frame
public import proofs.«01_k».proof.Proof.FfnWd
public import Idealize.ShloMosaic.Lib.Pipeline.Value

@[expose] public section

noncomputable section

namespace Cert.ProjIdeal.Own

open Idealize.ShloMosaic Idealize.ShloMosaic.TcCoe Cert.ProjIdeal Cert.ProjIdeal.Gen
open Idealize.ShloMosaic.Pipeline (Dat)
open Cert.FfnIdeal.Own (Mat mul mulT tMul hz tileRow rows_by_tile)

variable (V : (c : Dev nD) → (b : Ref Cert.ProjIdeal.sig .tc) → Buf (Elt Ideal) ((c : Thread nD τ).loc b))

/-! The output projection's weights. -/

theorem at1_0 (t : Fin cfg1.N) : win1_0.index t 0 = t.val % 5 ∧ win1_0.index t 1 = 0 := by
  revert t; decide +kernel
theorem at1_1 (t : Fin cfg1.N) : win1_1.index t 0 = t.val % 5 ∧ win1_1.index t 1 = 0 := by
  revert t; decide +kernel
theorem at1_2 (t : Fin cfg1.N) : win1_2.index t 0 = 0 ∧ win1_2.index t 1 = 0 := by
  revert t; decide +kernel

theorem l1_block (c : Dev nD) (t : Fin cfg1.N) (j : S832x1024.Idx) (i : S4160x1024.Idx)
    (h0 : (i 0).val = t.val % 5 * 832 + (j 0).val) (h1 : (i 1).val = (j 1).val) :
    (iblk1 V c 0 t : Vec Ideal S832x1024 .bf16) j = (V c main_arg4 : Mat 4160 1024) i := by
  unfold iblk1
  rw [View.read_apply]
  show V c main_arg4 _ = V c main_arg4 _
  congr 1
  funext a
  apply Fin.ext
  match a with
  | ⟨0, _⟩ => show win1_0.index t 0 * 832 + 1 * (j 0).val = (i 0).val; rw [(at1_0 t).1, h0]; omega
  | ⟨1, _⟩ => show win1_0.index t 1 * 1024 + 1 * (j 1).val = (i 1).val; rw [(at1_0 t).2, h1]; omega

theorem r1_block (c : Dev nD) (t : Fin cfg1.N) (j : S832x1024.Idx) (i : S4160x1024.Idx)
    (h0 : (i 0).val = t.val % 5 * 832 + (j 0).val) (h1 : (i 1).val = (j 1).val) :
    (iblk1 V c 1 t : Vec Ideal S832x1024 .bf16) j = (V c main_arg6 : Mat 4160 1024) i := by
  unfold iblk1
  rw [View.read_apply]
  show V c main_arg6 _ = V c main_arg6 _
  congr 1
  funext a
  apply Fin.ext
  match a with
  | ⟨0, _⟩ => show win1_1.index t 0 * 832 + 1 * (j 0).val = (i 0).val; rw [(at1_1 t).1, h0]; omega
  | ⟨1, _⟩ => show win1_1.index t 1 * 1024 + 1 * (j 1).val = (i 1).val; rw [(at1_1 t).2, h1]; omega

theorem zero1_cell (j : S1024x1024.Idx) : k1_pay1 (F := Ideal) j = 0 := by
  pointwise [k1_pay1]

theorem step1_cell (acc : Vec Ideal S1024x1024 .f32) (x : Vec Ideal S832x1024 .bf16) (w : Vec Ideal S832x1024 .bf16) (j : S1024x1024.Idx) :
    k1_pay2 acc x w j = acc j + tMul (M := 1024) (K := 832) (N := 1024) x w j := by
  pointwise [tMul, k1_pay2, shapeCast_self]

/-- A later point adds its product to what the point before left. -/
theorem out1_B (c : Dev nD) (i : grid1.Coords) (a0 : Memref Cert.ProjIdeal.sig .tc .vmem S832x1024 .bf16) (h0 : a0.IsWhole) (a1 : Memref Cert.ProjIdeal.sig .tc .vmem S832x1024 .bf16) (h1 : a1.IsWhole)
    (a2 : Memref Cert.ProjIdeal.sig .tc .vmem S1024x1024 .f32) (h2 : a2.IsWhole) (hc : ¬cond1_0 i)
    (x : Vec Ideal S832x1024 .bf16) (w : Vec Ideal S832x1024 .bf16) (acc : Vec Ideal S1024x1024 .f32) :
    out1_B_2 c i a0 h0 a1 h1 a2 h2 hc x w acc = k1_pay2 acc x w := by
  unfold out1_B_2
  rw [View.read_writes_eq_canon _ _ _ (cover1_B_2 c i a0 h0 a1 h1 a2 h2 hc x w acc)]
  unfold kernelRun1_B
  dsimp only
  rw [View.canon_unit_zero hz]
  simp only [View.readAt_eq_ld, h0.read_unread, h1.read_unread, h2.read_unread, View.ld_unit_zero (S := S832x1024) hz, View.ld_unit_zero (S := S1024x1024) hz]

/-- The first point starts from zero. -/
theorem out1_A (c : Dev nD) (i : grid1.Coords) (a0 : Memref Cert.ProjIdeal.sig .tc .vmem S832x1024 .bf16) (h0 : a0.IsWhole) (a1 : Memref Cert.ProjIdeal.sig .tc .vmem S832x1024 .bf16) (h1 : a1.IsWhole)
    (a2 : Memref Cert.ProjIdeal.sig .tc .vmem S1024x1024 .f32) (h2 : a2.IsWhole) (hc : cond1_0 i)
    (x : Vec Ideal S832x1024 .bf16) (w : Vec Ideal S832x1024 .bf16) :
    out1_A_2 c i a0 h0 a1 h1 a2 h2 hc x w = k1_pay2 (k1_pay1 (F := Ideal)) x w := by
  unfold out1_A_2
  rw [View.read_writes_eq_canon _ _ _ (cover1_A_2 c i a0 h0 a1 h1 a2 h2 hc x w)]
  unfold kernelRun1_A
  dsimp only
  sl_unfold_words
  rw [View.canon_cons_unit_zero (S := S1024x1024) hz, View.readCov_unit_zero (S := S1024x1024) _ hz]
  simp only [View.readAt_eq_ld, h0.read_unread, h1.read_unread, View.ld_unit_zero (S := S832x1024) hz, View.ld_unit_zero (S := S1024x1024) hz]

/-- What point `n` adds, as a function of every number. -/
def addend1 (c : Dev nD) (n : Nat) : Mat 1024 1024 := fun j =>
  if h : n < cfg1.N then tMul (M := 1024) (K := 832) (N := 1024) (iblk1 V c 0 ⟨n, h⟩) (iblk1 V c 1 ⟨n, h⟩) j else 0

/-- After the last point the result's buffer holds the sum of the five points' products. -/
theorem run1_sum (c : Dev nD) (t : Fin cfg1.N) (ht : t.val % 5 = 4) (j : S1024x1024.Idx) :
    outsAt1 V c t.val t.isLt j = ∑ s ∈ Finset.range 5, addend1 V c (5 * (t.val / 5) + s) j := by
  have hN : cfg1.N = 5 := N_1
  have ht' := t.isLt
  rw [Pipeline.eq_accAt_of_mod (outsAt1 V c) 5
    (fun n h => k1_pay2 (k1_pay1 (F := Ideal)) (iblk1 V c 0 ⟨n, h⟩) (iblk1 V c 1 ⟨n, h⟩))
    (fun n h acc => k1_pay2 acc (iblk1 V c 0 ⟨n, h⟩) (iblk1 V c 1 ⟨n, h⟩))
    (fun n h h0 => (outsAt1_A V c ⟨n, h⟩ h0).trans (out1_A ..))
    (fun n h h0 => (outsAt1_B V c ⟨n + 1, h⟩ h0).trans (out1_B ..))
    (by omega) t.val t.isLt (by omega)]
  refine (Pipeline.accAt_add_apply _ _ (fun _ => 0) (addend1 V c) (5 * (t.val / 5)) 4 ?_ ?_ (t.val % 5) (by omega) (by omega) j).trans ?_
  · intro h i
    rw [step1_cell, zero1_cell]
    unfold addend1
    rw [dif_pos h]
  · intro n h acc i _ _
    rw [step1_cell]
    unfold addend1
    rw [dif_pos h]
  · rw [ht, zero_add]

/-- The sum of the points' products is the whole product. -/
theorem addends1 (c : Dev nD) (t : Fin cfg1.N) (j : S1024x1024.Idx) (i : S1024x1024.Idx)
    (h0 : (i 0).val = (j 0).val) (h1 : (i 1).val = (j 1).val) :
    ∑ s ∈ Finset.range 5, addend1 V c (5 * (t.val / 5) + s) j
      = tMul (M := 1024) (K := 4160) (N := 1024) (V c main_arg4) (V c main_arg6) i := by
  have hN : cfg1.N = 5 := N_1
  have ht' := t.isLt
  unfold tMul
  rw [rows_by_tile, Finset.sum_range]
  refine Finset.sum_congr rfl fun s _ => ?_
  have hs := s.isLt
  have hn : 5 * (t.val / 5) + s.val < cfg1.N := by omega
  unfold addend1 tMul
  rw [dif_pos hn]
  refine Finset.sum_congr rfl fun k _ => ?_
  rw [l1_block V c ⟨_, hn⟩ (ix2 k (j 0)) (ix2 (tileRow s k) (i 0)) ?_ h0, r1_block V c ⟨_, hn⟩ (ix2 k (j 1)) (ix2 (tileRow s k) (i 1)) ?_ h1]
  · show s.val * 832 + k.val = (5 * (t.val / 5) + s.val) % 5 * 832 + k.val
    rw [Nat.mul_add_mod, Nat.mod_eq_of_lt hs]
  · show s.val * 832 + k.val = (5 * (t.val / 5) + s.val) % 5 * 832 + k.val
    rw [Nat.mul_add_mod, Nat.mod_eq_of_lt hs]

/-- Every entry of that array lies in the block some grid point writes. -/
theorem cover1 (i : S1024x1024.Idx) : ∃ t : Fin cfg1.N, (cfg1.win 2).flush t = true ∧ i ∈ ((cfg1.win 2).blk t).view.set := by
  have h0 : (i 0 : Nat) < 1024 := (i 0).isLt
  have h1 : (i 1 : Nat) < 1024 := (i 1).isLt
  have hN : cfg1.N = 5 := N_1
  obtain ⟨t, ht⟩ : ∃ t : Fin cfg1.N, t.val = 4 := ⟨⟨_, by omega⟩, rfl⟩
  refine ⟨t, (flush1_2 t).mpr (by omega), ?_⟩
  show i ∈ ((View.whole main_v1).slice (win1_2.rect t)).set
  rw [View.set_slice_whole, Rect.mem_set_unit]
  intro a
  match a with
  | ⟨0, _⟩ =>
    show win1_2.index t 0 * 1024 ≤ (i 0 : Nat) ∧ (i 0 : Nat) < win1_2.index t 0 * 1024 + 1024
    rw [(at1_2 t).1]; omega
  | ⟨1, _⟩ =>
    show win1_2.index t 1 * 1024 ≤ (i 1 : Nat) ∧ (i 1 : Nat) < win1_2.index t 1 * 1024 + 1024
    rw [(at1_2 t).2]; omega

/-- The gradient of the output projection's weights, as its kernel leaves it. -/
theorem dwout_array (c : Dev nD) :
    (dat1 V c).arrAt 2 cfg1.N = tMul (M := 1024) (K := 4160) (N := 1024) (V c main_arg4) (V c main_arg6) := by
  refine (dat1 V c).arrAt_eq_of_cover 2 _ (fun t hf => ?_) (cover1)
  have ht : t.val % 5 = 4 := (flush1_2 t).mp hf
  show (cfg1.win 2).cut (grid1.coords t) ((dat1 V c).after 2 t) = _
  rw [after1_2]
  funext j
  rw [View.read_apply]
  have h0 : ((((cfg1.win 2).blk t).view.emb j) 0).val = (j 0).val := by
    show win1_2.index t 0 * 1024 + 1 * (j 0).val = _; rw [(at1_2 t).1]; omega
  have h1 : ((((cfg1.win 2).blk t).view.emb j) 1).val = (j 1).val := by
    show win1_2.index t 1 * 1024 + 1 * (j 1).val = _; rw [(at1_2 t).2]; omega
  generalize ((cfg1.win 2).blk t).view.emb j = i at h0 h1 ⊢
  exact (run1_sum V c t ht j).trans (addends1 V c t j i h0 h1)

/-! The input projection's weights. -/

theorem at3_0 (t : Fin cfg3.N) : win3_0.index t 0 = t.val % 5 ∧ win3_0.index t 1 = 0 := by
  revert t; decide +kernel
theorem at3_1 (t : Fin cfg3.N) : win3_1.index t 0 = t.val % 5 ∧ win3_1.index t 1 = 0 := by
  revert t; decide +kernel
theorem at3_2 (t : Fin cfg3.N) : win3_2.index t 0 = 0 ∧ win3_2.index t 1 = 0 := by
  revert t; decide +kernel

theorem l3_block (c : Dev nD) (t : Fin cfg3.N) (j : S832x1024.Idx) (i : S4160x1024.Idx)
    (h0 : (i 0).val = t.val % 5 * 832 + (j 0).val) (h1 : (i 1).val = (j 1).val) :
    (iblk3 V c 0 t : Vec Ideal S832x1024 .bf16) j = (V c main_arg0 : Mat 4160 1024) i := by
  unfold iblk3
  rw [View.read_apply]
  show V c main_arg0 _ = V c main_arg0 _
  congr 1
  funext a
  apply Fin.ext
  match a with
  | ⟨0, _⟩ => show win3_0.index t 0 * 832 + 1 * (j 0).val = (i 0).val; rw [(at3_0 t).1, h0]; omega
  | ⟨1, _⟩ => show win3_0.index t 1 * 1024 + 1 * (j 1).val = (i 1).val; rw [(at3_0 t).2, h1]; omega

theorem r3_block (c : Dev nD) (t : Fin cfg3.N) (j : S832x2944.Idx) (i : S4160x2944.Idx)
    (h0 : (i 0).val = t.val % 5 * 832 + (j 0).val) (h1 : (i 1).val = (j 1).val) :
    (iblk3 V c 1 t : Vec Ideal S832x2944 .bf16) j = (V c main_arg2 : Mat 4160 2944) i := by
  unfold iblk3
  rw [View.read_apply]
  show V c main_arg2 _ = V c main_arg2 _
  congr 1
  funext a
  apply Fin.ext
  match a with
  | ⟨0, _⟩ => show win3_1.index t 0 * 832 + 1 * (j 0).val = (i 0).val; rw [(at3_1 t).1, h0]; omega
  | ⟨1, _⟩ => show win3_1.index t 1 * 2944 + 1 * (j 1).val = (i 1).val; rw [(at3_1 t).2, h1]; omega

theorem zero3_cell (j : S1024x2944.Idx) : k3_pay1 (F := Ideal) j = 0 := by
  pointwise [k3_pay1]

theorem step3_cell (acc : Vec Ideal S1024x2944 .f32) (x : Vec Ideal S832x1024 .bf16) (w : Vec Ideal S832x2944 .bf16) (j : S1024x2944.Idx) :
    k3_pay2 acc x w j = acc j + tMul (M := 1024) (K := 832) (N := 2944) x w j := by
  pointwise [tMul, k3_pay2, shapeCast_self]

/-- A later point adds its product to what the point before left. -/
theorem out3_B (c : Dev nD) (i : grid3.Coords) (a0 : Memref Cert.ProjIdeal.sig .tc .vmem S832x1024 .bf16) (h0 : a0.IsWhole) (a1 : Memref Cert.ProjIdeal.sig .tc .vmem S832x2944 .bf16) (h1 : a1.IsWhole)
    (a2 : Memref Cert.ProjIdeal.sig .tc .vmem S1024x2944 .f32) (h2 : a2.IsWhole) (hc : ¬cond3_0 i)
    (x : Vec Ideal S832x1024 .bf16) (w : Vec Ideal S832x2944 .bf16) (acc : Vec Ideal S1024x2944 .f32) :
    out3_B_2 c i a0 h0 a1 h1 a2 h2 hc x w acc = k3_pay2 acc x w := by
  unfold out3_B_2
  rw [View.read_writes_eq_canon _ _ _ (cover3_B_2 c i a0 h0 a1 h1 a2 h2 hc x w acc)]
  unfold kernelRun3_B
  dsimp only
  rw [View.canon_unit_zero hz]
  simp only [View.readAt_eq_ld, h0.read_unread, h1.read_unread, h2.read_unread, View.ld_unit_zero (S := S832x1024) hz, View.ld_unit_zero (S := S832x2944) hz, View.ld_unit_zero (S := S1024x2944) hz]

/-- The first point starts from zero. -/
theorem out3_A (c : Dev nD) (i : grid3.Coords) (a0 : Memref Cert.ProjIdeal.sig .tc .vmem S832x1024 .bf16) (h0 : a0.IsWhole) (a1 : Memref Cert.ProjIdeal.sig .tc .vmem S832x2944 .bf16) (h1 : a1.IsWhole)
    (a2 : Memref Cert.ProjIdeal.sig .tc .vmem S1024x2944 .f32) (h2 : a2.IsWhole) (hc : cond3_0 i)
    (x : Vec Ideal S832x1024 .bf16) (w : Vec Ideal S832x2944 .bf16) :
    out3_A_2 c i a0 h0 a1 h1 a2 h2 hc x w = k3_pay2 (k3_pay1 (F := Ideal)) x w := by
  unfold out3_A_2
  rw [View.read_writes_eq_canon _ _ _ (cover3_A_2 c i a0 h0 a1 h1 a2 h2 hc x w)]
  unfold kernelRun3_A
  dsimp only
  sl_unfold_words
  rw [View.canon_cons_unit_zero (S := S1024x2944) hz, View.readCov_unit_zero (S := S1024x2944) _ hz]
  simp only [View.readAt_eq_ld, h0.read_unread, h1.read_unread, View.ld_unit_zero (S := S832x1024) hz, View.ld_unit_zero (S := S832x2944) hz, View.ld_unit_zero (S := S1024x2944) hz]

/-- What point `n` adds, as a function of every number. -/
def addend3 (c : Dev nD) (n : Nat) : Mat 1024 2944 := fun j =>
  if h : n < cfg3.N then tMul (M := 1024) (K := 832) (N := 2944) (iblk3 V c 0 ⟨n, h⟩) (iblk3 V c 1 ⟨n, h⟩) j else 0

/-- After the last point the result's buffer holds the sum of the five points' products. -/
theorem run3_sum (c : Dev nD) (t : Fin cfg3.N) (ht : t.val % 5 = 4) (j : S1024x2944.Idx) :
    outsAt3 V c t.val t.isLt j = ∑ s ∈ Finset.range 5, addend3 V c (5 * (t.val / 5) + s) j := by
  have hN : cfg3.N = 5 := N_3
  have ht' := t.isLt
  rw [Pipeline.eq_accAt_of_mod (outsAt3 V c) 5
    (fun n h => k3_pay2 (k3_pay1 (F := Ideal)) (iblk3 V c 0 ⟨n, h⟩) (iblk3 V c 1 ⟨n, h⟩))
    (fun n h acc => k3_pay2 acc (iblk3 V c 0 ⟨n, h⟩) (iblk3 V c 1 ⟨n, h⟩))
    (fun n h h0 => (outsAt3_A V c ⟨n, h⟩ h0).trans (out3_A ..))
    (fun n h h0 => (outsAt3_B V c ⟨n + 1, h⟩ h0).trans (out3_B ..))
    (by omega) t.val t.isLt (by omega)]
  refine (Pipeline.accAt_add_apply _ _ (fun _ => 0) (addend3 V c) (5 * (t.val / 5)) 4 ?_ ?_ (t.val % 5) (by omega) (by omega) j).trans ?_
  · intro h i
    rw [step3_cell, zero3_cell]
    unfold addend3
    rw [dif_pos h]
  · intro n h acc i _ _
    rw [step3_cell]
    unfold addend3
    rw [dif_pos h]
  · rw [ht, zero_add]

/-- The sum of the points' products is the whole product. -/
theorem addends3 (c : Dev nD) (t : Fin cfg3.N) (j : S1024x2944.Idx) (i : S1024x2944.Idx)
    (h0 : (i 0).val = (j 0).val) (h1 : (i 1).val = (j 1).val) :
    ∑ s ∈ Finset.range 5, addend3 V c (5 * (t.val / 5) + s) j
      = tMul (M := 1024) (K := 4160) (N := 2944) (V c main_arg0) (V c main_arg2) i := by
  have hN : cfg3.N = 5 := N_3
  have ht' := t.isLt
  unfold tMul
  rw [rows_by_tile, Finset.sum_range]
  refine Finset.sum_congr rfl fun s _ => ?_
  have hs := s.isLt
  have hn : 5 * (t.val / 5) + s.val < cfg3.N := by omega
  unfold addend3 tMul
  rw [dif_pos hn]
  refine Finset.sum_congr rfl fun k _ => ?_
  rw [l3_block V c ⟨_, hn⟩ (ix2 k (j 0)) (ix2 (tileRow s k) (i 0)) ?_ h0, r3_block V c ⟨_, hn⟩ (ix2 k (j 1)) (ix2 (tileRow s k) (i 1)) ?_ h1]
  · show s.val * 832 + k.val = (5 * (t.val / 5) + s.val) % 5 * 832 + k.val
    rw [Nat.mul_add_mod, Nat.mod_eq_of_lt hs]
  · show s.val * 832 + k.val = (5 * (t.val / 5) + s.val) % 5 * 832 + k.val
    rw [Nat.mul_add_mod, Nat.mod_eq_of_lt hs]

/-- Every entry of that array lies in the block some grid point writes. -/
theorem cover3 (i : S1024x2944.Idx) : ∃ t : Fin cfg3.N, (cfg3.win 2).flush t = true ∧ i ∈ ((cfg3.win 2).blk t).view.set := by
  have h0 : (i 0 : Nat) < 1024 := (i 0).isLt
  have h1 : (i 1 : Nat) < 2944 := (i 1).isLt
  have hN : cfg3.N = 5 := N_3
  obtain ⟨t, ht⟩ : ∃ t : Fin cfg3.N, t.val = 4 := ⟨⟨_, by omega⟩, rfl⟩
  refine ⟨t, (flush3_2 t).mpr (by omega), ?_⟩
  show i ∈ ((View.whole main_v3).slice (win3_2.rect t)).set
  rw [View.set_slice_whole, Rect.mem_set_unit]
  intro a
  match a with
  | ⟨0, _⟩ =>
    show win3_2.index t 0 * 1024 ≤ (i 0 : Nat) ∧ (i 0 : Nat) < win3_2.index t 0 * 1024 + 1024
    rw [(at3_2 t).1]; omega
  | ⟨1, _⟩ =>
    show win3_2.index t 1 * 2944 ≤ (i 1 : Nat) ∧ (i 1 : Nat) < win3_2.index t 1 * 2944 + 2944
    rw [(at3_2 t).2]; omega

/-- The gradient of the input projection's weights, as its kernel leaves it. -/
theorem dwin_array (c : Dev nD) :
    (dat3 V c).arrAt 2 cfg3.N = tMul (M := 1024) (K := 4160) (N := 2944) (V c main_arg0) (V c main_arg2) := by
  refine (dat3 V c).arrAt_eq_of_cover 2 _ (fun t hf => ?_) (cover3)
  have ht : t.val % 5 = 4 := (flush3_2 t).mp hf
  show (cfg3.win 2).cut (grid3.coords t) ((dat3 V c).after 2 t) = _
  rw [after3_2]
  funext j
  rw [View.read_apply]
  have h0 : ((((cfg3.win 2).blk t).view.emb j) 0).val = (j 0).val := by
    show win3_2.index t 0 * 1024 + 1 * (j 0).val = _; rw [(at3_2 t).1]; omega
  have h1 : ((((cfg3.win 2).blk t).view.emb j) 1).val = (j 1).val := by
    show win3_2.index t 1 * 2944 + 1 * (j 1).val = _; rw [(at3_2 t).2]; omega
  generalize ((cfg3.win 2).blk t).view.emb j = i at h0 h1 ⊢
  exact (run3_sum V c t ht j).trans (addends3 V c t j i h0 h1)

end Cert.ProjIdeal.Own

end
-- ==== Proof.ProjRun.lean ====
/- One run of the projections' program over any floats, and what its memory holds at the end. -/
module

public import proofs.«01_k».proof.Proof.Gen.ProjIdeal.Frame

@[expose] public section

set_option maxRecDepth 16384

noncomputable section

namespace Cert.ProjIdeal.Own

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program run from any memory with its counters at zero: the five result arrays end at what the last of the five
    kernels' boundaries holds of them, and the arguments end as launched. -/
theorem run : θ_run defs (onTc (τ := τ) (main (F := F))) ⟨m, fun _ => 0, ρ⟩ (fun r => ∀ c : Dev nD,
      r.2.mem ((c.tc : Thread nD τ).loc main_v0) = W5 m ρ c main_v0
      ∧ r.2.mem ((c.tc : Thread nD τ).loc main_v3) = W5 m ρ c main_v3
      ∧ r.2.mem ((c.tc : Thread nD τ).loc main_v4) = W5 m ρ c main_v4
      ∧ r.2.mem ((c.tc : Thread nD τ).loc main_v1) = W5 m ρ c main_v1
      ∧ r.2.mem ((c.tc : Thread nD τ).loc main_v2) = W5 m ρ c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v0 (by decide)),
       h c _ (mem_uc main_v3 (by decide)),
       h c _ (mem_uc main_v4 (by decide)),
       h c _ (mem_uc main_v1 (by decide)),
       h c _ (mem_uc main_v2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.ProjIdeal.Own

end
-- ==== Proof.ProjEq.lean ====
/- The projections' program computes what the plainly written projections and their gradients compute. -/
module

public import proofs.«01_k».proof.Defs
public import proofs.«01_k».proof.Proof.ProjRef
public import proofs.«01_k».proof.Proof.ProjWeights
public import proofs.«01_k».proof.Proof.ProjRun

@[expose] public section

noncomputable section

namespace Cert.ProjIdeal.Own

open Idealize.ShloMosaic Idealize.ShloMosaic.TcCoe Idealize.SL.Sem Cert.ProjIdeal Cert.ProjIdeal.Gen
open Cert.FfnIdeal.Own (Mat mul mulT tMul)

section
variable (m : (ℓ : Loc nD τ Cert.ProjIdeal.sig) → Buf (Elt Ideal) ℓ) (ρ : Dev nD → PrngReg) (c : Dev nD)

abbrev aH : Mat 4160 1024 := m ((c.tc : Thread nD τ).loc main_arg0)
abbrev aWin : Mat 1024 2944 := m ((c.tc : Thread nD τ).loc main_arg1)
abbrev aDp : Mat 4160 2944 := m ((c.tc : Thread nD τ).loc main_arg2)
abbrev aR : Mat 4160 1024 := m ((c.tc : Thread nD τ).loc main_arg3)
abbrev aCat : Mat 4160 1024 := m ((c.tc : Thread nD τ).loc main_arg4)
abbrev aWout : Mat 1024 1024 := m ((c.tc : Thread nD τ).loc main_arg5)
abbrev aDy : Mat 4160 1024 := m ((c.tc : Thread nD τ).loc main_arg6)

/-- The input projection at the end of the run. -/
theorem proj_end : (W5 m ρ c main_v0 : Mat 4160 2944) = mul (aH m c) (aWin m c) :=
  (W5_of m ρ c main_v0 (by decide)).trans ((W4_of m ρ c main_v0 (by decide)).trans ((W3_of m ρ c main_v0 (by decide)).trans
    ((W2_of m ρ c main_v0 (by decide)).trans ((W1_arr m ρ c 2).trans (proj_array (V0 m ρ) c)))))

/-- The gradient of the output projection's weights at the end of the run. -/
theorem dwout_end : (W5 m ρ c main_v1 : Mat 1024 1024) = tMul (aCat m c) (aDy m c) := by
  refine (W5_of m ρ c main_v1 (by decide)).trans ((W4_of m ρ c main_v1 (by decide)).trans ((W3_of m ρ c main_v1 (by decide)).trans
    ((W2_arr m ρ c 2).trans ((dwout_array (V1 m ρ) c).trans ?_))))
  rw [show V1 m ρ c main_arg4 = _ from W1_args m ρ c main_arg4 (by decide), show V1 m ρ c main_arg6 = _ from W1_args m ρ c main_arg6 (by decide)]

/-- The gradient of the output projection's input at the end of the run. -/
theorem dcat_end : (W5 m ρ c main_v2 : Mat 4160 1024) = mulT (aDy m c) (aWout m c) := by
  refine (W5_of m ρ c main_v2 (by decide)).trans ((W4_of m ρ c main_v2 (by decide)).trans ((W3_arr m ρ c 2).trans ((dcat_array (V2 m ρ) c).trans ?_)))
  rw [show V2 m ρ c main_arg6 = _ from W2_args m ρ c main_arg6 (by decide), show V2 m ρ c main_arg5 = _ from W2_args m ρ c main_arg5 (by decide)]

/-- The gradient of the input projection's weights at the end of the run. -/
theorem dwin_end : (W5 m ρ c main_v3 : Mat 1024 2944) = tMul (aH m c) (aDp m c) := by
  refine (W5_of m ρ c main_v3 (by decide)).trans ((W4_arr m ρ c 2).trans ((dwin_array (V3 m ρ) c).trans ?_))
  rw [show V3 m ρ c main_arg0 = _ from W3_args m ρ c main_arg0 (by decide), show V3 m ρ c main_arg2 = _ from W3_args m ρ c main_arg2 (by decide)]

/-- The gradient of the input projection's input at the end of the run. -/
theorem dh_end : (W5 m ρ c main_v4 : Mat 4160 1024) = addProd (aR m c) (aDp m c) (aWin m c) := by
  refine (W5_arr m ρ c 3).trans ((dh_array (V4 m ρ) c).trans ?_)
  rw [show V4 m ρ c main_arg3 = _ from W4_args m ρ c main_arg3 (by decide), show V4 m ρ c main_arg2 = _ from W4_args m ρ c main_arg2 (by decide),
    show V4 m ρ c main_arg1 = _ from W4_args m ρ c main_arg1 (by decide)]

end

open Cert.ProjRefIdeal.Own in
theorem algebraic : Cert.algebraic_ProjIdeal_ProjRefIdeal (hProjIdeal := Cert.ProjIdeal.Gen.facts) (hProjRefIdeal := Cert.ProjRefIdeal.Gen.facts) := by
  intro m ρ m' ρ' _ hargs
  refine ⟨fun c => W5 m ρ c _, fun c => W5 m ρ c _, fun c => W5 m ρ c _, fun c => W5 m ρ c _, fun c => W5 m ρ c _, run m ρ, ?_⟩
  refine (θ_run Cert.ProjRefIdeal.defs _ _).mono (fun s h c => ?_) (run_named m' ρ')
  obtain ⟨e0, e1, e2, e3, e4, k⟩ := h c
  obtain ⟨a0, a1, a2, a3, a4, a5, a6⟩ := hargs c
  have b0 : rH m' c = aH m c := a0
  have b1 : rWin m' c = aWin m c := a1
  have b2 : rDp m' c = aDp m c := a2
  have b3 : rR m' c = aR m c := a3
  have b4 : rCat m' c = aCat m c := a4
  have b5 : rWout m' c = aWout m c := a5
  have b6 : rDy m' c = aDy m c := a6
  rw [b0, b1, hProj_eq] at e0
  rw [b0, b2, hDwin_eq] at e1
  rw [b3, b2, b1, hDh_eq] at e2
  rw [b4, b6, hDwout_eq] at e3
  rw [b6, b5, hDcat_eq] at e4
  exact ⟨e0.trans (proj_end m ρ c).symm, e1.trans (dwin_end m ρ c).symm, e2.trans (dh_end m ρ c).symm, e3.trans (dwout_end m ρ c).symm,
    e4.trans (dcat_end m ρ c).symm, k⟩

end Cert.ProjIdeal.Own

end
-- ==== Proof.MixCells.lean ====
/- What one grid point of each of the two kernels at the output projection computes, entry by entry. -/
module

public import proofs.«01_k».proof.Proof.Gen.MixIdeal.Skeleton
public import proofs.«01_k».proof.Proof.NormMath
public import Idealize.ShloMosaic.Lib.Pointwise

@[expose] public section

noncomputable section

namespace Cert.MixIdeal.Own

open Idealize.ShloMosaic Cert.MixIdeal Cert.MixIdeal.Gen
open Cert.FfnIdeal.Own (Mat mul)
open Cert.NormIdeal.Own (Row alpha len eps mean cen rs nrm lnorm grad)

/-- The weight of the mixer's output in the residual sum, written as a float. -/
def unit : EReal := Ideal.ofBits .f32 0x3F800000#32

theorem unit_eq : unit = 1 := by
  simp [unit, Ideal.ofBits, Ideal.ieee, -EReal.coe_mul]; norm_num

/-- The residual sum of one entry. -/
def resid (h s : EReal) : EReal := alpha * h + unit * s

theorem alpha_named : Named.named (F := Ideal) Cert.MixIdeal.κ "alpha" (φ := .f32) 0x3FD744FD#32 = alpha :=
  IdealRules.named_const.ideal_named_scalar _ _ _ _ rfl

theorem resid_cell (h : Vec Ideal S832x1024 .f32) (a : Vec Ideal S832x1024 .bf16) (w : Vec Ideal S1024x1024 .bf16) (j : S832x1024.Idx) :
    k0_pay1 h a w j = resid (h j) (mul (M := 832) (K := 1024) (N := 1024) a w j) := by
  rw [resid, ← alpha_named]
  pointwise [k0_pay1, mul, unit]

theorem lnorm_cell (h : Vec Ideal S832x1024 .f32) (a : Vec Ideal S832x1024 .bf16) (w : Vec Ideal S1024x1024 .bf16)
    (g b : Vec Ideal S1x1024 .f32) (j : S832x1024.Idx) :
    k0_pay2 h a w g b j = lnorm (fun k => k0_pay1 h a w (ix2 (j 0) k)) (fun k => g (ix2 0 k)) (fun k => b (ix2 0 k)) (j 1) := by
  pointwise [k0_pay2, lnorm, nrm, rs, cen, mean, len, eps]

theorem lnorm_low_cell (h : Vec Ideal S832x1024 .f32) (a : Vec Ideal S832x1024 .bf16) (w : Vec Ideal S1024x1024 .bf16)
    (g b : Vec Ideal S1x1024 .f32) (j : S832x1024.Idx) :
    k0_pay3 h a w g b j = k0_pay2 h a w g b j := by
  pointwise [k0_pay3]

theorem cen_cell (y : Vec Ideal S832x1024 .f32) (j : S832x1024.Idx) : k1_pay7 y j = cen (fun k => y (ix2 (j 0) k)) (j 1) := by
  pointwise [k1_pay7, cen, mean, len, shapeCast_self]

theorem rs_cell (y : Vec Ideal S832x1024 .f32) (j : S832x1.Idx) : k1_pay8 y j = rs (fun k => y (ix2 (j 0) k)) := by
  pointwise [k1_pay8, rs, mean, len, eps, cen_cell]

theorem nrm_cell (y : Vec Ideal S832x1024 .f32) (j : S832x1024.Idx) : k1_pay9 y j = nrm (fun k => y (ix2 (j 0) k)) (j 1) := by
  pointwise [k1_pay9, nrm, rs_cell, cen_cell]

theorem grad_cell (y d : Vec Ideal S832x1024 .f32) (g : Vec Ideal S1x1024 .f32) (j : S832x1024.Idx) :
    k1_pay10 y d g j = grad (fun k => y (ix2 (j 0) k)) (fun k => d (ix2 (j 0) k) * g (ix2 0 k)) (j 1) := by
  pointwise [k1_pay10, grad, mean, len, rs_cell, nrm_cell]

theorem scaled_cell (y : FVec Ideal S832x1024 .f32) (j : S832x1024.Idx) : k1_pay1 y j = alpha * y j := by
  rw [← alpha_named]
  pointwise [k1_pay1]

theorem weighed_cell (y : FVec Ideal S832x1024 .f32) (j : S832x1024.Idx) : k1_pay2 y j = unit * y j := by
  pointwise [k1_pay2, unit]

theorem gain_cell (d : Vec Ideal S832x1024 .f32) (x : FVec Ideal S832x1024 .f32) (acc : Vec Ideal S1x1024 .f32) (j : S1x1024.Idx) :
    k1_pay3 d x acc j = acc j + ∑ k : Fin 832, d (ix2 k (j 1)) * x (ix2 k (j 1)) := by
  pointwise [k1_pay3, shapeCast_self]

theorem bias_cell (d : Vec Ideal S832x1024 .f32) (acc : Vec Ideal S1x1024 .f32) (j : S1x1024.Idx) :
    k1_pay4 d acc j = acc j + ∑ k : Fin 832, d (ix2 k (j 1)) := by
  pointwise [k1_pay4, shapeCast_self]

theorem zero_gain_cell (j : S1x1024.Idx) : k1_pay5 (F := Ideal) j = 0 := by
  pointwise [k1_pay5]

theorem zero_bias_cell (j : S1x1024.Idx) : k1_pay6 (F := Ideal) j = 0 := by
  pointwise [k1_pay6]

end Cert.MixIdeal.Own

end
-- ==== Proof.MixFwd.lean ====
/- The output projection's kernel, which adds the residual and normalizes, as whole arrays. -/
module

public import proofs.«01_k».proof.Proof.Gen.MixIdeal.Frame
public import proofs.«01_k».proof.Proof.MixCells
public import proofs.«01_k».proof.Proof.NormBwd
public import proofs.«01_k».proof.Proof.FfnUp

@[expose] public section

noncomputable section

namespace Cert.MixIdeal.Own

open Idealize.ShloMosaic Idealize.ShloMosaic.TcCoe Cert.MixIdeal Cert.MixIdeal.Gen
open Idealize.ShloMosaic.Pipeline (Dat)
open Cert.FfnIdeal.Own (Mat mul hz)
open Cert.NormIdeal.Own (Row alpha len eps mean cen rs nrm lnorm grad lnormOf)

variable (V : (c : Dev nD) → (b : Ref Cert.MixIdeal.sig .tc) → Buf (Elt Ideal) ((c : Thread nD τ).loc b))

/-! Where the windows stand at grid point `t`. -/

theorem at0_0 (t : Fin cfg0.N) : win0_0.index t 0 = t.val ∧ win0_0.index t 1 = 0 := by
  revert t; decide +kernel
theorem at0_1 (t : Fin cfg0.N) : win0_1.index t 0 = 0 ∧ win0_1.index t 1 = 0 := by
  revert t; decide +kernel
theorem at0_2 (t : Fin cfg0.N) : win0_2.index t 0 = t.val ∧ win0_2.index t 1 = 0 := by
  revert t; decide +kernel
theorem at0_3 (t : Fin cfg0.N) : win0_3.index t 0 = 0 ∧ win0_3.index t 1 = 0 := by
  revert t; decide +kernel
theorem at0_4 (t : Fin cfg0.N) : win0_4.index t 0 = 0 ∧ win0_4.index t 1 = 0 := by
  revert t; decide +kernel
theorem at0_5 (t : Fin cfg0.N) : win0_5.index t 0 = t.val ∧ win0_5.index t 1 = 0 := by
  revert t; decide +kernel
theorem at0_6 (t : Fin cfg0.N) : win0_6.index t 0 = t.val ∧ win0_6.index t 1 = 0 := by
  revert t; decide +kernel
theorem at0_7 (t : Fin cfg0.N) : win0_7.index t 0 = t.val ∧ win0_7.index t 1 = 0 := by
  revert t; decide +kernel

theorem a0_block (c : Dev nD) (t : Fin cfg0.N) (j : S832x1024.Idx) (i : S4160x1024.Idx)
    (h0 : (i 0).val = t.val * 832 + (j 0).val) (h1 : (i 1).val = (j 1).val) :
    (iblk0 V c 0 t : Vec Ideal S832x1024 .bf16) j = (V c main_arg0 : Mat 4160 1024) i := by
  unfold iblk0
  rw [View.read_apply]
  show V c main_arg0 _ = V c main_arg0 _
  congr 1
  funext a
  apply Fin.ext
  match a with
  | ⟨0, _⟩ => show win0_0.index t 0 * 832 + 1 * (j 0).val = (i 0).val; rw [(at0_0 t).1, h0]; omega
  | ⟨1, _⟩ => show win0_0.index t 1 * 1024 + 1 * (j 1).val = (i 1).val; rw [(at0_0 t).2, h1]; omega

theorem w0_block (c : Dev nD) (t : Fin cfg0.N) (j : S1024x1024.Idx) (i : S1024x1024.Idx)
    (h0 : (i 0).val = (j 0).val) (h1 : (i 1).val = (j 1).val) :
    (iblk0 V c 1 t : Vec Ideal S1024x1024 .bf16) j = (V c main_arg1 : Mat 1024 1024) i := by
  unfold iblk0
  rw [View.read_apply]
  show V c main_arg1 _ = V c main_arg1 _
  congr 1
  funext a
  apply Fin.ext
  match a with
  | ⟨0, _⟩ => show win0_1.index t 0 * 1024 + 1 * (j 0).val = (i 0).val; rw [(at0_1 t).1, h0]; omega
  | ⟨1, _⟩ => show win0_1.index t 1 * 1024 + 1 * (j 1).val = (i 1).val; rw [(at0_1 t).2, h1]; omega

theorem h0_block (c : Dev nD) (t : Fin cfg0.N) (j : S832x1024.Idx) (i : S4160x1024.Idx)
    (h0 : (i 0).val = t.val * 832 + (j 0).val) (h1 : (i 1).val = (j 1).val) :
    (iblk0 V c 2 t : Vec Ideal S832x1024 .f32) j = (V c main_arg2 : Mat 4160 1024) i := by
  unfold iblk0
  rw [View.read_apply]
  show V c main_arg2 _ = V c main_arg2 _
  congr 1
  funext a
  apply Fin.ext
  match a with
  | ⟨0, _⟩ => show win0_2.index t 0 * 832 + 1 * (j 0).val = (i 0).val; rw [(at0_2 t).1, h0]; omega
  | ⟨1, _⟩ => show win0_2.index t 1 * 1024 + 1 * (j 1).val = (i 1).val; rw [(at0_2 t).2, h1]; omega

theorem g0_block (c : Dev nD) (t : Fin cfg0.N) (j : S1x1024.Idx) (i : S1x1024.Idx)
    (h0 : (i 0).val = (j 0).val) (h1 : (i 1).val = (j 1).val) :
    (iblk0 V c 3 t : Vec Ideal S1x1024 .f32) j = (V c main_arg3 : Mat 1 1024) i := by
  unfold iblk0
  rw [View.read_apply]
  show V c main_arg3 _ = V c main_arg3 _
  congr 1
  funext a
  apply Fin.ext
  match a with
  | ⟨0, _⟩ => show win0_3.index t 0 * 1 + 1 * (j 0).val = (i 0).val; rw [(at0_3 t).1, h0]; omega
  | ⟨1, _⟩ => show win0_3.index t 1 * 1024 + 1 * (j 1).val = (i 1).val; rw [(at0_3 t).2, h1]; omega

theorem b0_block (c : Dev nD) (t : Fin cfg0.N) (j : S1x1024.Idx) (i : S1x1024.Idx)
    (h0 : (i 0).val = (j 0).val) (h1 : (i 1).val = (j 1).val) :
    (iblk0 V c 4 t : Vec Ideal S1x1024 .f32) j = (V c main_arg4 : Mat 1 1024) i := by
  unfold iblk0
  rw [View.read_apply]
  show V c main_arg4 _ = V c main_arg4 _
  congr 1
  funext a
  apply Fin.ext
  match a with
  | ⟨0, _⟩ => show win0_4.index t 0 * 1 + 1 * (j 0).val = (i 0).val; rw [(at0_4 t).1, h0]; omega
  | ⟨1, _⟩ => show win0_4.index t 1 * 1024 + 1 * (j 1).val = (i 1).val; rw [(at0_4 t).2, h1]; omega

/-- The residual sum of a whole array. -/
def residOf (h : Mat 4160 1024) (a : Mat 4160 1024) (w : Mat 1024 1024) : Mat 4160 1024 := fun i => resid (h i) (mul a w i)

theorem resid_after (c : Dev nD) (t : Fin cfg0.N) (j : S832x1024.Idx) (i : S4160x1024.Idx)
    (h0 : (i 0).val = t.val * 832 + (j 0).val) (h1 : (i 1).val = (j 1).val) :
    k0_pay1 (F := Ideal) (iblk0 V c 2 t) (iblk0 V c 0 t) (iblk0 V c 1 t) j = residOf (V c main_arg2) (V c main_arg0) (V c main_arg1) i := by
  refine (resid_cell (iblk0 V c 2 t) (iblk0 V c 0 t) (iblk0 V c 1 t) j).trans ?_
  unfold residOf mul
  refine congrArg₂ resid (h0_block V c t j i h0 h1) (Finset.sum_congr rfl fun k _ => ?_)
  rw [a0_block V c t (ix2 (j 0) k) (ix2 (i 0) k) h0 rfl, w0_block V c t (ix2 k (j 1)) (ix2 k (i 1)) rfl h1]

theorem lnorm_after (c : Dev nD) (t : Fin cfg0.N) (j : S832x1024.Idx) (i : S4160x1024.Idx)
    (h0 : (i 0).val = t.val * 832 + (j 0).val) (h1 : (i 1).val = (j 1).val) :
    k0_pay2 (F := Ideal) (iblk0 V c 2 t) (iblk0 V c 0 t) (iblk0 V c 1 t) (iblk0 V c 3 t) (iblk0 V c 4 t) j
      = lnormOf (residOf (V c main_arg2) (V c main_arg0) (V c main_arg1)) (V c main_arg3) (V c main_arg4) i := by
  refine (lnorm_cell (iblk0 V c 2 t) (iblk0 V c 0 t) (iblk0 V c 1 t) (iblk0 V c 3 t) (iblk0 V c 4 t) j).trans ?_
  unfold lnormOf
  rw [show (j 1 : Fin 1024) = i 1 from Fin.ext h1.symm,
    show (fun k => k0_pay1 (F := Ideal) (iblk0 V c 2 t) (iblk0 V c 0 t) (iblk0 V c 1 t) (ix2 (j 0) k))
        = fun k => residOf (V c main_arg2) (V c main_arg0) (V c main_arg1) (ix2 (i 0) k)
      from funext fun k => resid_after V c t (ix2 (j 0) k) (ix2 (i 0) k) h0 rfl,
    show (fun k => (iblk0 V c 3 t : Vec Ideal S1x1024 .f32) (ix2 0 k)) = fun k => (V c main_arg3 : Mat 1 1024) (ix2 0 k)
      from funext fun k => g0_block V c t (ix2 0 k) (ix2 0 k) rfl rfl,
    show (fun k => (iblk0 V c 4 t : Vec Ideal S1x1024 .f32) (ix2 0 k)) = fun k => (V c main_arg4 : Mat 1 1024) (ix2 0 k)
      from funext fun k => b0_block V c t (ix2 0 k) (ix2 0 k) rfl rfl]

theorem out0_5_eq (a : Vec Ideal S832x1024 .bf16) (w : Vec Ideal S1024x1024 .bf16) (h : Vec Ideal S832x1024 .f32) (g b : Vec Ideal S1x1024 .f32) :
    out0_5 a w h g b = k0_pay1 h a w := by
  unfold out0_5
  rw [View.canon_unit_zero hz]
  simp only [View.ld_unit_zero (S := S832x1024) hz, View.ld_unit_zero (S := S1024x1024) hz, View.ld_unit_zero (S := S1x1024) hz]

theorem out0_6_eq (a : Vec Ideal S832x1024 .bf16) (w : Vec Ideal S1024x1024 .bf16) (h : Vec Ideal S832x1024 .f32) (g b : Vec Ideal S1x1024 .f32) :
    out0_6 a w h g b = k0_pay2 h a w g b := by
  unfold out0_6
  rw [View.canon_unit_zero hz]
  simp only [View.ld_unit_zero (S := S832x1024) hz, View.ld_unit_zero (S := S1024x1024) hz, View.ld_unit_zero (S := S1x1024) hz]

theorem out0_7_eq (a : Vec Ideal S832x1024 .bf16) (w : Vec Ideal S1024x1024 .bf16) (h : Vec Ideal S832x1024 .f32) (g b : Vec Ideal S1x1024 .f32) :
    out0_7 a w h g b = k0_pay3 h a w g b := by
  unfold out0_7
  rw [View.canon_unit_zero hz]
  simp only [View.ld_unit_zero (S := S832x1024) hz, View.ld_unit_zero (S := S1024x1024) hz, View.ld_unit_zero (S := S1x1024) hz]

/-- Every entry of that array lies in the block some grid point writes. -/
theorem cover0_5_all (i : S4160x1024.Idx) : ∃ t : Fin cfg0.N, (cfg0.win 5).flush t = true ∧ i ∈ ((cfg0.win 5).blk t).view.set := by
  have h0 : (i 0 : Nat) < 4160 := (i 0).isLt
  have h1 : (i 1 : Nat) < 1024 := (i 1).isLt
  have hN : cfg0.N = 5 := N_0
  obtain ⟨t, ht⟩ : ∃ t : Fin cfg0.N, t.val = (i 0).val / 832 := ⟨⟨_, by omega⟩, rfl⟩
  refine ⟨t, flush0_5 t, ?_⟩
  show i ∈ ((View.whole main_v0_0).slice (win0_5.rect t)).set
  rw [View.set_slice_whole, Rect.mem_set_unit]
  intro a
  match a with
  | ⟨0, _⟩ =>
    show win0_5.index t 0 * 832 ≤ (i 0 : Nat) ∧ (i 0 : Nat) < win0_5.index t 0 * 832 + 832
    rw [(at0_5 t).1]; omega
  | ⟨1, _⟩ =>
    show win0_5.index t 1 * 1024 ≤ (i 1 : Nat) ∧ (i 1 : Nat) < win0_5.index t 1 * 1024 + 1024
    rw [(at0_5 t).2]; omega

/-- Every entry of that array lies in the block some grid point writes. -/
theorem cover0_6_all (i : S4160x1024.Idx) : ∃ t : Fin cfg0.N, (cfg0.win 6).flush t = true ∧ i ∈ ((cfg0.win 6).blk t).view.set := by
  have h0 : (i 0 : Nat) < 4160 := (i 0).isLt
  have h1 : (i 1 : Nat) < 1024 := (i 1).isLt
  have hN : cfg0.N = 5 := N_0
  obtain ⟨t, ht⟩ : ∃ t : Fin cfg0.N, t.val = (i 0).val / 832 := ⟨⟨_, by omega⟩, rfl⟩
  refine ⟨t, flush0_6 t, ?_⟩
  show i ∈ ((View.whole main_v0_1).slice (win0_6.rect t)).set
  rw [View.set_slice_whole, Rect.mem_set_unit]
  intro a
  match a with
  | ⟨0, _⟩ =>
    show win0_6.index t 0 * 832 ≤ (i 0 : Nat) ∧ (i 0 : Nat) < win0_6.index t 0 * 832 + 832
    rw [(at0_6 t).1]; omega
  | ⟨1, _⟩ =>
    show win0_6.index t 1 * 1024 ≤ (i 1 : Nat) ∧ (i 1 : Nat) < win0_6.index t 1 * 1024 + 1024
    rw [(at0_6 t).2]; omega

/-- Every entry of that array lies in the block some grid point writes. -/
theorem cover0_7_all (i : S4160x1024.Idx) : ∃ t : Fin cfg0.N, (cfg0.win 7).flush t = true ∧ i ∈ ((cfg0.win 7).blk t).view.set := by
  have h0 : (i 0 : Nat) < 4160 := (i 0).isLt
  have h1 : (i 1 : Nat) < 1024 := (i 1).isLt
  have hN : cfg0.N = 5 := N_0
  obtain ⟨t, ht⟩ : ∃ t : Fin cfg0.N, t.val = (i 0).val / 832 := ⟨⟨_, by omega⟩, rfl⟩
  refine ⟨t, flush0_7 t, ?_⟩
  show i ∈ ((View.whole main_v0_2).slice (win0_7.rect t)).set
  rw [View.set_slice_whole, Rect.mem_set_unit]
  intro a
  match a with
  | ⟨0, _⟩ =>
    show win0_7.index t 0 * 832 ≤ (i 0 : Nat) ∧ (i 0 : Nat) < win0_7.index t 0 * 832 + 832
    rw [(at0_7 t).1]; omega
  | ⟨1, _⟩ =>
    show win0_7.index t 1 * 1024 ≤ (i 1 : Nat) ∧ (i 1 : Nat) < win0_7.index t 1 * 1024 + 1024
    rw [(at0_7 t).2]; omega

/-- The residual sums, as that kernel leaves them. -/
theorem y_array (c : Dev nD) : (dat0 V c).arrAt 5 cfg0.N = residOf (V c main_arg2) (V c main_arg0) (V c main_arg1) := by
  refine (dat0 V c).arrAt_eq_of_cover 5 _ (fun t _ => ?_) cover0_5_all
  show (cfg0.win 5).cut (grid0.coords t) ((dat0 V c).after 5 t) = _
  rw [after0_5, out0_5_eq]
  funext j
  rw [View.read_apply]
  have h0 : ((((cfg0.win 5).blk t).view.emb j) 0).val = t.val * 832 + (j 0).val := by
    show win0_5.index t 0 * 832 + 1 * (j 0).val = _; rw [(at0_5 t).1]; omega
  have h1 : ((((cfg0.win 5).blk t).view.emb j) 1).val = (j 1).val := by
    show win0_5.index t 1 * 1024 + 1 * (j 1).val = _; rw [(at0_5 t).2]; omega
  generalize ((cfg0.win 5).blk t).view.emb j = i at h0 h1 ⊢
  exact resid_after V c t j i h0 h1

/-- The normalized rows, as that kernel leaves them. -/
theorem o_array (c : Dev nD) : (dat0 V c).arrAt 6 cfg0.N = lnormOf (residOf (V c main_arg2) (V c main_arg0) (V c main_arg1)) (V c main_arg3) (V c main_arg4) := by
  refine (dat0 V c).arrAt_eq_of_cover 6 _ (fun t _ => ?_) cover0_6_all
  show (cfg0.win 6).cut (grid0.coords t) ((dat0 V c).after 6 t) = _
  rw [after0_6, out0_6_eq]
  funext j
  rw [View.read_apply]
  have h0 : ((((cfg0.win 6).blk t).view.emb j) 0).val = t.val * 832 + (j 0).val := by
    show win0_6.index t 0 * 832 + 1 * (j 0).val = _; rw [(at0_6 t).1]; omega
  have h1 : ((((cfg0.win 6).blk t).view.emb j) 1).val = (j 1).val := by
    show win0_6.index t 1 * 1024 + 1 * (j 1).val = _; rw [(at0_6 t).2]; omega
  generalize ((cfg0.win 6).blk t).view.emb j = i at h0 h1 ⊢
  exact lnorm_after V c t j i h0 h1

/-- The normalized rows at the narrower width, as that kernel leaves them. -/
theorem ob_array (c : Dev nD) : (dat0 V c).arrAt 7 cfg0.N = lnormOf (residOf (V c main_arg2) (V c main_arg0) (V c main_arg1)) (V c main_arg3) (V c main_arg4) := by
  refine (dat0 V c).arrAt_eq_of_cover 7 _ (fun t _ => ?_) cover0_7_all
  show (cfg0.win 7).cut (grid0.coords t) ((dat0 V c).after 7 t) = _
  rw [after0_7, out0_7_eq]
  funext j
  rw [View.read_apply]
  have h0 : ((((cfg0.win 7).blk t).view.emb j) 0).val = t.val * 832 + (j 0).val := by
    show win0_7.index t 0 * 832 + 1 * (j 0).val = _; rw [(at0_7 t).1]; omega
  have h1 : ((((cfg0.win 7).blk t).view.emb j) 1).val = (j 1).val := by
    show win0_7.index t 1 * 1024 + 1 * (j 1).val = _; rw [(at0_7 t).2]; omega
  generalize ((cfg0.win 7).blk t).view.emb j = i at h0 h1 ⊢
  exact (lnorm_low_cell (iblk0 V c 2 t) (iblk0 V c 0 t) (iblk0 V c 1 t) (iblk0 V c 3 t) (iblk0 V c 4 t) j).trans (lnorm_after V c t j i h0 h1)

end Cert.MixIdeal.Own

end
-- ==== Proof.MixBwd.lean ====
/- The kernel of the gradient of the normalization after a mixer, as whole arrays. -/
module

public import proofs.«01_k».proof.Proof.MixFwd
public import proofs.«01_k».proof.Proof.FfnWd

@[expose] public section

noncomputable section

namespace Cert.MixIdeal.Own

open Idealize.ShloMosaic Idealize.ShloMosaic.TcCoe Cert.MixIdeal Cert.MixIdeal.Gen
open Idealize.ShloMosaic.Pipeline (Dat)
open Cert.FfnIdeal.Own (Mat hz tileRow rows_by_tile)
open Cert.NormIdeal.Own (Row alpha len eps mean cen rs nrm lnorm grad gradOf gainGradOf biasGradOf)

variable (V : (c : Dev nD) → (b : Ref Cert.MixIdeal.sig .tc) → Buf (Elt Ideal) ((c : Thread nD τ).loc b))

/-! Where the windows stand at grid point `t`. -/

theorem at1_0 (t : Fin cfg1.N) : win1_0.index t 0 = t.val ∧ win1_0.index t 1 = 0 := by
  revert t; decide +kernel
theorem at1_1 (t : Fin cfg1.N) : win1_1.index t 0 = t.val ∧ win1_1.index t 1 = 0 := by
  revert t; decide +kernel
theorem at1_2 (t : Fin cfg1.N) : win1_2.index t 0 = 0 ∧ win1_2.index t 1 = 0 := by
  revert t; decide +kernel
theorem at1_3 (t : Fin cfg1.N) : win1_3.index t 0 = t.val ∧ win1_3.index t 1 = 0 := by
  revert t; decide +kernel
theorem at1_4 (t : Fin cfg1.N) : win1_4.index t 0 = t.val ∧ win1_4.index t 1 = 0 := by
  revert t; decide +kernel
theorem at1_5 (t : Fin cfg1.N) : win1_5.index t 0 = 0 ∧ win1_5.index t 1 = 0 := by
  revert t; decide +kernel
theorem at1_6 (t : Fin cfg1.N) : win1_6.index t 0 = 0 ∧ win1_6.index t 1 = 0 := by
  revert t; decide +kernel

theorem y1_block (c : Dev nD) (t : Fin cfg1.N) (j : S832x1024.Idx) (i : S4160x1024.Idx)
    (h0 : (i 0).val = t.val * 832 + (j 0).val) (h1 : (i 1).val = (j 1).val) :
    (iblk1 V c 0 t : Vec Ideal S832x1024 .f32) j = (V c main_v0_0 : Mat 4160 1024) i := by
  unfold iblk1
  rw [View.read_apply]
  show V c main_v0_0 _ = V c main_v0_0 _
  congr 1
  funext a
  apply Fin.ext
  match a with
  | ⟨0, _⟩ => show win1_0.index t 0 * 832 + 1 * (j 0).val = (i 0).val; rw [(at1_0 t).1, h0]; omega
  | ⟨1, _⟩ => show win1_0.index t 1 * 1024 + 1 * (j 1).val = (i 1).val; rw [(at1_0 t).2, h1]; omega

theorem d1_block (c : Dev nD) (t : Fin cfg1.N) (j : S832x1024.Idx) (i : S4160x1024.Idx)
    (h0 : (i 0).val = t.val * 832 + (j 0).val) (h1 : (i 1).val = (j 1).val) :
    (iblk1 V c 1 t : Vec Ideal S832x1024 .f32) j = (V c main_arg5 : Mat 4160 1024) i := by
  unfold iblk1
  rw [View.read_apply]
  show V c main_arg5 _ = V c main_arg5 _
  congr 1
  funext a
  apply Fin.ext
  match a with
  | ⟨0, _⟩ => show win1_1.index t 0 * 832 + 1 * (j 0).val = (i 0).val; rw [(at1_1 t).1, h0]; omega
  | ⟨1, _⟩ => show win1_1.index t 1 * 1024 + 1 * (j 1).val = (i 1).val; rw [(at1_1 t).2, h1]; omega

theorem g1_block (c : Dev nD) (t : Fin cfg1.N) (j : S1x1024.Idx) (i : S1x1024.Idx)
    (h0 : (i 0).val = (j 0).val) (h1 : (i 1).val = (j 1).val) :
    (iblk1 V c 2 t : Vec Ideal S1x1024 .f32) j = (V c main_arg3 : Mat 1 1024) i := by
  unfold iblk1
  rw [View.read_apply]
  show V c main_arg3 _ = V c main_arg3 _
  congr 1
  funext a
  apply Fin.ext
  match a with
  | ⟨0, _⟩ => show win1_2.index t 0 * 1 + 1 * (j 0).val = (i 0).val; rw [(at1_2 t).1, h0]; omega
  | ⟨1, _⟩ => show win1_2.index t 1 * 1024 + 1 * (j 1).val = (i 1).val; rw [(at1_2 t).2, h1]; omega

theorem out1_B_3_eq (c : Dev nD) (i : grid1.Coords)
    (a0 : Memref Cert.MixIdeal.sig .tc .vmem S832x1024 .f32) (h0 : a0.IsWhole)
    (a1 : Memref Cert.MixIdeal.sig .tc .vmem S832x1024 .f32) (h1 : a1.IsWhole)
    (a2 : Memref Cert.MixIdeal.sig .tc .vmem S1x1024 .f32) (h2 : a2.IsWhole)
    (a3 : Memref Cert.MixIdeal.sig .tc .vmem S832x1024 .f32) (h3 : a3.IsWhole)
    (a4 : Memref Cert.MixIdeal.sig .tc .vmem S832x1024 .bf16) (h4 : a4.IsWhole)
    (a5 : Memref Cert.MixIdeal.sig .tc .vmem S1x1024 .f32) (h5 : a5.IsWhole)
    (a6 : Memref Cert.MixIdeal.sig .tc .vmem S1x1024 .f32) (h6 : a6.IsWhole)
    (hc : ¬cond1_0 i) (y d : Vec Ideal S832x1024 .f32) (g : Vec Ideal S1x1024 .f32) (p5 p6 : Vec Ideal S1x1024 .f32) :
    out1_B_3 c i a0 h0 a1 h1 a2 h2 a3 h3 a4 h4 a5 h5 a6 h6 hc y d g p5 p6 = k1_pay1 (k1_pay10 y d g) := by
  unfold out1_B_3
  rw [View.read_writes_eq_canon _ _ _ (cover1_B_3 c i a0 h0 a1 h1 a2 h2 a3 h3 a4 h4 a5 h5 a6 h6 hc y d g p5 p6)]
  unfold kernelRun1_B
  dsimp only
  sl_unfold_words
  rw [View.canon_unit_zero hz]
  simp only [View.readAt_eq_ld, h0.read_unread, h1.read_unread, h2.read_unread, h3.read_unread, h4.read_unread, h5.read_unread, h6.read_unread, View.ld_unit_zero (S := S832x1024) hz, View.ld_unit_zero (S := S1x1024) hz]

theorem out1_B_4_eq (c : Dev nD) (i : grid1.Coords)
    (a0 : Memref Cert.MixIdeal.sig .tc .vmem S832x1024 .f32) (h0 : a0.IsWhole)
    (a1 : Memref Cert.MixIdeal.sig .tc .vmem S832x1024 .f32) (h1 : a1.IsWhole)
    (a2 : Memref Cert.MixIdeal.sig .tc .vmem S1x1024 .f32) (h2 : a2.IsWhole)
    (a3 : Memref Cert.MixIdeal.sig .tc .vmem S832x1024 .f32) (h3 : a3.IsWhole)
    (a4 : Memref Cert.MixIdeal.sig .tc .vmem S832x1024 .bf16) (h4 : a4.IsWhole)
    (a5 : Memref Cert.MixIdeal.sig .tc .vmem S1x1024 .f32) (h5 : a5.IsWhole)
    (a6 : Memref Cert.MixIdeal.sig .tc .vmem S1x1024 .f32) (h6 : a6.IsWhole)
    (hc : ¬cond1_0 i) (y d : Vec Ideal S832x1024 .f32) (g : Vec Ideal S1x1024 .f32) (p5 p6 : Vec Ideal S1x1024 .f32) :
    out1_B_4 c i a0 h0 a1 h1 a2 h2 a3 h3 a4 h4 a5 h5 a6 h6 hc y d g p5 p6 = k1_pay2 (k1_pay10 y d g) := by
  unfold out1_B_4
  rw [View.read_writes_eq_canon _ _ _ (cover1_B_4 c i a0 h0 a1 h1 a2 h2 a3 h3 a4 h4 a5 h5 a6 h6 hc y d g p5 p6)]
  unfold kernelRun1_B
  dsimp only
  sl_unfold_words
  rw [View.canon_unit_zero hz]
  simp only [View.readAt_eq_ld, h0.read_unread, h1.read_unread, h2.read_unread, h3.read_unread, h4.read_unread, h5.read_unread, h6.read_unread, View.ld_unit_zero (S := S832x1024) hz, View.ld_unit_zero (S := S1x1024) hz]

theorem out1_B_5_eq (c : Dev nD) (i : grid1.Coords)
    (a0 : Memref Cert.MixIdeal.sig .tc .vmem S832x1024 .f32) (h0 : a0.IsWhole)
    (a1 : Memref Cert.MixIdeal.sig .tc .vmem S832x1024 .f32) (h1 : a1.IsWhole)
    (a2 : Memref Cert.MixIdeal.sig .tc .vmem S1x1024 .f32) (h2 : a2.IsWhole)
    (a3 : Memref Cert.MixIdeal.sig .tc .vmem S832x1024 .f32) (h3 : a3.IsWhole)
    (a4 : Memref Cert.MixIdeal.sig .tc .vmem S832x1024 .bf16) (h4 : a4.IsWhole)
    (a5 : Memref Cert.MixIdeal.sig .tc .vmem S1x1024 .f32) (h5 : a5.IsWhole)
    (a6 : Memref Cert.MixIdeal.sig .tc .vmem S1x1024 .f32) (h6 : a6.IsWhole)
    (hc : ¬cond1_0 i) (y d : Vec Ideal S832x1024 .f32) (g : Vec Ideal S1x1024 .f32) (p5 p6 : Vec Ideal S1x1024 .f32) :
    out1_B_5 c i a0 h0 a1 h1 a2 h2 a3 h3 a4 h4 a5 h5 a6 h6 hc y d g p5 p6 = k1_pay3 d (k1_pay9 y) p5 := by
  unfold out1_B_5
  rw [View.read_writes_eq_canon _ _ _ (cover1_B_5 c i a0 h0 a1 h1 a2 h2 a3 h3 a4 h4 a5 h5 a6 h6 hc y d g p5 p6)]
  unfold kernelRun1_B
  dsimp only
  sl_unfold_words
  rw [View.canon_unit_zero hz]
  simp only [View.readAt_eq_ld, h0.read_unread, h1.read_unread, h2.read_unread, h3.read_unread, h4.read_unread, h5.read_unread, h6.read_unread, View.ld_unit_zero (S := S832x1024) hz, View.ld_unit_zero (S := S1x1024) hz]

theorem out1_B_6_eq (c : Dev nD) (i : grid1.Coords)
    (a0 : Memref Cert.MixIdeal.sig .tc .vmem S832x1024 .f32) (h0 : a0.IsWhole)
    (a1 : Memref Cert.MixIdeal.sig .tc .vmem S832x1024 .f32) (h1 : a1.IsWhole)
    (a2 : Memref Cert.MixIdeal.sig .tc .vmem S1x1024 .f32) (h2 : a2.IsWhole)
    (a3 : Memref Cert.MixIdeal.sig .tc .vmem S832x1024 .f32) (h3 : a3.IsWhole)
    (a4 : Memref Cert.MixIdeal.sig .tc .vmem S832x1024 .bf16) (h4 : a4.IsWhole)
    (a5 : Memref Cert.MixIdeal.sig .tc .vmem S1x1024 .f32) (h5 : a5.IsWhole)
    (a6 : Memref Cert.MixIdeal.sig .tc .vmem S1x1024 .f32) (h6 : a6.IsWhole)
    (hc : ¬cond1_0 i) (y d : Vec Ideal S832x1024 .f32) (g : Vec Ideal S1x1024 .f32) (p5 p6 : Vec Ideal S1x1024 .f32) :
    out1_B_6 c i a0 h0 a1 h1 a2 h2 a3 h3 a4 h4 a5 h5 a6 h6 hc y d g p5 p6 = k1_pay4 d p6 := by
  unfold out1_B_6
  rw [View.read_writes_eq_canon _ _ _ (cover1_B_6 c i a0 h0 a1 h1 a2 h2 a3 h3 a4 h4 a5 h5 a6 h6 hc y d g p5 p6)]
  unfold kernelRun1_B
  dsimp only
  sl_unfold_words
  rw [View.canon_unit_zero hz]
  simp only [View.readAt_eq_ld, h0.read_unread, h1.read_unread, h2.read_unread, h3.read_unread, h4.read_unread, h5.read_unread, h6.read_unread, View.ld_unit_zero (S := S832x1024) hz, View.ld_unit_zero (S := S1x1024) hz]

theorem out1_A_3_eq (c : Dev nD) (i : grid1.Coords)
    (a0 : Memref Cert.MixIdeal.sig .tc .vmem S832x1024 .f32) (h0 : a0.IsWhole)
    (a1 : Memref Cert.MixIdeal.sig .tc .vmem S832x1024 .f32) (h1 : a1.IsWhole)
    (a2 : Memref Cert.MixIdeal.sig .tc .vmem S1x1024 .f32) (h2 : a2.IsWhole)
    (a3 : Memref Cert.MixIdeal.sig .tc .vmem S832x1024 .f32) (h3 : a3.IsWhole)
    (a4 : Memref Cert.MixIdeal.sig .tc .vmem S832x1024 .bf16) (h4 : a4.IsWhole)
    (a5 : Memref Cert.MixIdeal.sig .tc .vmem S1x1024 .f32) (h5 : a5.IsWhole)
    (a6 : Memref Cert.MixIdeal.sig .tc .vmem S1x1024 .f32) (h6 : a6.IsWhole)
    (hc : cond1_0 i) (y d : Vec Ideal S832x1024 .f32) (g : Vec Ideal S1x1024 .f32) :
    out1_A_3 c i a0 h0 a1 h1 a2 h2 a3 h3 a4 h4 a5 h5 a6 h6 hc y d g = k1_pay1 (k1_pay10 y d g) := by
  unfold out1_A_3
  rw [View.read_writes_eq_canon _ _ _ (cover1_A_3 c i a0 h0 a1 h1 a2 h2 a3 h3 a4 h4 a5 h5 a6 h6 hc y d g)]
  unfold kernelRun1_A
  dsimp only
  sl_unfold_words
  rw [View.canon_unit_zero hz]
  simp only [View.readAt_eq_ld, h0.read_unread, h1.read_unread, h2.read_unread, h3.read_unread, h4.read_unread, h5.read_unread, h6.read_unread, View.ld_unit_zero (S := S832x1024) hz, View.ld_unit_zero (S := S1x1024) hz]

theorem out1_A_4_eq (c : Dev nD) (i : grid1.Coords)
    (a0 : Memref Cert.MixIdeal.sig .tc .vmem S832x1024 .f32) (h0 : a0.IsWhole)
    (a1 : Memref Cert.MixIdeal.sig .tc .vmem S832x1024 .f32) (h1 : a1.IsWhole)
    (a2 : Memref Cert.MixIdeal.sig .tc .vmem S1x1024 .f32) (h2 : a2.IsWhole)
    (a3 : Memref Cert.MixIdeal.sig .tc .vmem S832x1024 .f32) (h3 : a3.IsWhole)
    (a4 : Memref Cert.MixIdeal.sig .tc .vmem S832x1024 .bf16) (h4 : a4.IsWhole)
    (a5 : Memref Cert.MixIdeal.sig .tc .vmem S1x1024 .f32) (h5 : a5.IsWhole)
    (a6 : Memref Cert.MixIdeal.sig .tc .vmem S1x1024 .f32) (h6 : a6.IsWhole)
    (hc : cond1_0 i) (y d : Vec Ideal S832x1024 .f32) (g : Vec Ideal S1x1024 .f32) :
    out1_A_4 c i a0 h0 a1 h1 a2 h2 a3 h3 a4 h4 a5 h5 a6 h6 hc y d g = k1_pay2 (k1_pay10 y d g) := by
  unfold out1_A_4
  rw [View.read_writes_eq_canon _ _ _ (cover1_A_4 c i a0 h0 a1 h1 a2 h2 a3 h3 a4 h4 a5 h5 a6 h6 hc y d g)]
  unfold kernelRun1_A
  dsimp only
  sl_unfold_words
  rw [View.canon_unit_zero hz]
  simp only [View.readAt_eq_ld, h0.read_unread, h1.read_unread, h2.read_unread, h3.read_unread, h4.read_unread, h5.read_unread, h6.read_unread, View.ld_unit_zero (S := S832x1024) hz, View.ld_unit_zero (S := S1x1024) hz]

theorem out1_A_5_eq (c : Dev nD) (i : grid1.Coords)
    (a0 : Memref Cert.MixIdeal.sig .tc .vmem S832x1024 .f32) (h0 : a0.IsWhole)
    (a1 : Memref Cert.MixIdeal.sig .tc .vmem S832x1024 .f32) (h1 : a1.IsWhole)
    (a2 : Memref Cert.MixIdeal.sig .tc .vmem S1x1024 .f32) (h2 : a2.IsWhole)
    (a3 : Memref Cert.MixIdeal.sig .tc .vmem S832x1024 .f32) (h3 : a3.IsWhole)
    (a4 : Memref Cert.MixIdeal.sig .tc .vmem S832x1024 .bf16) (h4 : a4.IsWhole)
    (a5 : Memref Cert.MixIdeal.sig .tc .vmem S1x1024 .f32) (h5 : a5.IsWhole)
    (a6 : Memref Cert.MixIdeal.sig .tc .vmem S1x1024 .f32) (h6 : a6.IsWhole)
    (hc : cond1_0 i) (y d : Vec Ideal S832x1024 .f32) (g : Vec Ideal S1x1024 .f32) :
    out1_A_5 c i a0 h0 a1 h1 a2 h2 a3 h3 a4 h4 a5 h5 a6 h6 hc y d g = k1_pay3 d (k1_pay9 y) (k1_pay5 (F := Ideal)) := by
  unfold out1_A_5
  rw [View.read_writes_eq_canon _ _ _ (cover1_A_5 c i a0 h0 a1 h1 a2 h2 a3 h3 a4 h4 a5 h5 a6 h6 hc y d g)]
  unfold kernelRun1_A
  dsimp only
  sl_unfold_words
  rw [View.canon_cons_unit_zero (S := S1x1024) hz, View.readCov_unit_zero (S := S1x1024) _ hz]
  simp only [View.readAt_eq_ld, h0.read_unread, h1.read_unread, h2.read_unread, h3.read_unread, h4.read_unread, h5.read_unread, h6.read_unread, View.ld_unit_zero (S := S832x1024) hz, View.ld_unit_zero (S := S1x1024) hz]

theorem out1_A_6_eq (c : Dev nD) (i : grid1.Coords)
    (a0 : Memref Cert.MixIdeal.sig .tc .vmem S832x1024 .f32) (h0 : a0.IsWhole)
    (a1 : Memref Cert.MixIdeal.sig .tc .vmem S832x1024 .f32) (h1 : a1.IsWhole)
    (a2 : Memref Cert.MixIdeal.sig .tc .vmem S1x1024 .f32) (h2 : a2.IsWhole)
    (a3 : Memref Cert.MixIdeal.sig .tc .vmem S832x1024 .f32) (h3 : a3.IsWhole)
    (a4 : Memref Cert.MixIdeal.sig .tc .vmem S832x1024 .bf16) (h4 : a4.IsWhole)
    (a5 : Memref Cert.MixIdeal.sig .tc .vmem S1x1024 .f32) (h5 : a5.IsWhole)
    (a6 : Memref Cert.MixIdeal.sig .tc .vmem S1x1024 .f32) (h6 : a6.IsWhole)
    (hc : cond1_0 i) (y d : Vec Ideal S832x1024 .f32) (g : Vec Ideal S1x1024 .f32) :
    out1_A_6 c i a0 h0 a1 h1 a2 h2 a3 h3 a4 h4 a5 h5 a6 h6 hc y d g = k1_pay4 d (k1_pay6 (F := Ideal)) := by
  unfold out1_A_6
  rw [View.read_writes_eq_canon _ _ _ (cover1_A_6 c i a0 h0 a1 h1 a2 h2 a3 h3 a4 h4 a5 h5 a6 h6 hc y d g)]
  unfold kernelRun1_A
  dsimp only
  sl_unfold_words
  rw [View.canon_cons_unit_zero (S := S1x1024) hz, View.readCov_unit_zero (S := S1x1024) _ hz]
  simp only [View.readAt_eq_ld, h0.read_unread, h1.read_unread, h2.read_unread, h3.read_unread, h4.read_unread, h5.read_unread, h6.read_unread, View.ld_unit_zero (S := S832x1024) hz, View.ld_unit_zero (S := S1x1024) hz]

theorem row1 (c : Dev nD) (t : Fin cfg1.N) (p : Fin 832) (q : Fin 4160) (hq : q.val = t.val * 832 + p.val) :
    (fun k => (iblk1 V c 0 t : Vec Ideal S832x1024 .f32) (ix2 p k)) = fun k => (V c main_v0_0 : Mat 4160 1024) (ix2 q k) :=
  funext fun k => y1_block V c t (ix2 p k) (ix2 q k) hq rfl

theorem grad_after (c : Dev nD) (t : Fin cfg1.N) (j : S832x1024.Idx) (i : S4160x1024.Idx)
    (h0 : (i 0).val = t.val * 832 + (j 0).val) (h1 : (i 1).val = (j 1).val) :
    k1_pay10 (F := Ideal) (iblk1 V c 0 t) (iblk1 V c 1 t) (iblk1 V c 2 t) j = gradOf (V c main_v0_0) (V c main_arg5) (V c main_arg3) i := by
  refine (grad_cell (iblk1 V c 0 t) (iblk1 V c 1 t) (iblk1 V c 2 t) j).trans ?_
  unfold gradOf
  rw [show (j 1 : Fin 1024) = i 1 from Fin.ext h1.symm, row1 V c t (j 0) (i 0) h0]
  exact congrArg (fun d => grad _ d _) (funext fun k => congrArg₂ (fun a b : EReal => a * b)
    (d1_block V c t (ix2 (j 0) k) (ix2 (i 0) k) h0 rfl) (g1_block V c t (ix2 0 k) (ix2 0 k) rfl rfl))

theorem outs3 (c : Dev nD) (t : Fin cfg1.N) :
    (outsAt1 V c t.val t.isLt).1 = k1_pay1 (k1_pay10 (F := Ideal) (iblk1 V c 0 t) (iblk1 V c 1 t) (iblk1 V c 2 t)) := by
  by_cases h : t.val % 5 = 0
  · rw [outsAt1_A V c t h]; dsimp only; exact out1_A_3_eq ..
  · rw [outsAt1_B V c t h]; dsimp only; exact out1_B_3_eq ..

theorem outs4 (c : Dev nD) (t : Fin cfg1.N) :
    (outsAt1 V c t.val t.isLt).2.1 = k1_pay2 (k1_pay10 (F := Ideal) (iblk1 V c 0 t) (iblk1 V c 1 t) (iblk1 V c 2 t)) := by
  by_cases h : t.val % 5 = 0
  · rw [outsAt1_A V c t h]; dsimp only; exact out1_A_4_eq ..
  · rw [outsAt1_B V c t h]; dsimp only; exact out1_B_4_eq ..

theorem outs5_first (c : Dev nD) (n : Nat) (h : n < cfg1.N) (h0 : n % 5 = 0) :
    (outsAt1 V c n h).2.2.1 = k1_pay3 (iblk1 V c 1 ⟨n, h⟩) (k1_pay9 (F := Ideal) (iblk1 V c 0 ⟨n, h⟩)) (k1_pay5 (F := Ideal)) := by
  rw [show outsAt1 V c n h = _ from outsAt1_A V c ⟨n, h⟩ h0]; dsimp only; exact out1_A_5_eq ..

theorem outs6_first (c : Dev nD) (n : Nat) (h : n < cfg1.N) (h0 : n % 5 = 0) :
    (outsAt1 V c n h).2.2.2 = k1_pay4 (F := Ideal) (iblk1 V c 1 ⟨n, h⟩) (k1_pay6 (F := Ideal)) := by
  rw [show outsAt1 V c n h = _ from outsAt1_A V c ⟨n, h⟩ h0]; dsimp only; exact out1_A_6_eq ..

theorem outs5_next (c : Dev nD) (n : Nat) (h : n + 1 < cfg1.N) (h0 : ¬(n + 1) % 5 = 0) :
    (outsAt1 V c (n + 1) h).2.2.1
      = k1_pay3 (iblk1 V c 1 ⟨n + 1, h⟩) (k1_pay9 (F := Ideal) (iblk1 V c 0 ⟨n + 1, h⟩)) (outsAt1 V c n (Nat.lt_of_succ_lt h)).2.2.1 := by
  rw [show outsAt1 V c (n + 1) h = _ from outsAt1_B V c ⟨n + 1, h⟩ h0]; dsimp only; exact out1_B_5_eq ..

theorem outs6_next (c : Dev nD) (n : Nat) (h : n + 1 < cfg1.N) (h0 : ¬(n + 1) % 5 = 0) :
    (outsAt1 V c (n + 1) h).2.2.2 = k1_pay4 (F := Ideal) (iblk1 V c 1 ⟨n + 1, h⟩) (outsAt1 V c n (Nat.lt_of_succ_lt h)).2.2.2 := by
  rw [show outsAt1 V c (n + 1) h = _ from outsAt1_B V c ⟨n + 1, h⟩ h0]; dsimp only; exact out1_B_6_eq ..

/-- One tile's part of the scale's gradient. -/
def gainPart (d x : Vec Ideal S832x1024 .f32) : Mat 1 1024 := fun j => ∑ k : Fin 832, d (ix2 k (j 1)) * x (ix2 k (j 1))

/-- One tile's part of the shift's gradient. -/
def biasPart (d : Vec Ideal S832x1024 .f32) : Mat 1 1024 := fun j => ∑ k : Fin 832, d (ix2 k (j 1))

/-- What point `n` adds to the scale's gradient, as a function of every number. -/
def gainAt (c : Dev nD) (n : Nat) : Mat 1 1024 := fun j =>
  if h : n < cfg1.N then gainPart (iblk1 V c 1 ⟨n, h⟩) (k1_pay9 (F := Ideal) (iblk1 V c 0 ⟨n, h⟩)) j else 0

/-- What point `n` adds to the shift's gradient, as a function of every number. -/
def biasAt (c : Dev nD) (n : Nat) : Mat 1 1024 := fun j =>
  if h : n < cfg1.N then biasPart (iblk1 V c 1 ⟨n, h⟩) j else 0

/-- After the last point that buffer holds the sum of the five points' parts. -/
theorem gain_sum (c : Dev nD) (t : Fin cfg1.N) (ht : t.val % 5 = 4) (j : S1x1024.Idx) :
    (outsAt1 V c t.val t.isLt).2.2.1 j = ∑ s ∈ Finset.range 5, gainAt V c s j := by
  have hN : cfg1.N = 5 := N_1
  have ht' := t.isLt
  have hz0 : 5 * (t.val / 5) = 0 := by omega
  refine (congrFun (Pipeline.eq_accAt_of_mod (fun n h => (outsAt1 V c n h).2.2.1) 5
    (fun n h => k1_pay3 (iblk1 V c 1 ⟨n, h⟩) (k1_pay9 (F := Ideal) (iblk1 V c 0 ⟨n, h⟩)) (k1_pay5 (F := Ideal)))
    (fun n h acc => k1_pay3 (iblk1 V c 1 ⟨n, h⟩) (k1_pay9 (F := Ideal) (iblk1 V c 0 ⟨n, h⟩)) acc)
    (fun n h h0 => outs5_first V c n h h0)
    (fun n h h0 => outs5_next V c n h h0)
    (by omega) t.val t.isLt (by omega)) j).trans ?_
  refine (Pipeline.accAt_add_apply _ _ (fun _ => 0) (gainAt V c) (5 * (t.val / 5)) 4 ?_ ?_ (t.val % 5) (by omega) (by omega) j).trans ?_
  · intro h i
    rw [gain_cell, zero_gain_cell]
    unfold gainAt
    rw [dif_pos h]
    rfl
  · intro n h acc i _ _
    rw [gain_cell]
    unfold gainAt
    rw [dif_pos h]
    rfl
  · rw [ht, zero_add, hz0]
    simp only [zero_add]

/-- After the last point that buffer holds the sum of the five points' parts. -/
theorem bias_sum (c : Dev nD) (t : Fin cfg1.N) (ht : t.val % 5 = 4) (j : S1x1024.Idx) :
    (outsAt1 V c t.val t.isLt).2.2.2 j = ∑ s ∈ Finset.range 5, biasAt V c s j := by
  have hN : cfg1.N = 5 := N_1
  have ht' := t.isLt
  have hz0 : 5 * (t.val / 5) = 0 := by omega
  refine (congrFun (Pipeline.eq_accAt_of_mod (fun n h => (outsAt1 V c n h).2.2.2) 5
    (fun n h => k1_pay4 (iblk1 V c 1 ⟨n, h⟩) (k1_pay6 (F := Ideal)))
    (fun n h acc => k1_pay4 (iblk1 V c 1 ⟨n, h⟩) acc)
    (fun n h h0 => outs6_first V c n h h0)
    (fun n h h0 => outs6_next V c n h h0)
    (by omega) t.val t.isLt (by omega)) j).trans ?_
  refine (Pipeline.accAt_add_apply _ _ (fun _ => 0) (biasAt V c) (5 * (t.val / 5)) 4 ?_ ?_ (t.val % 5) (by omega) (by omega) j).trans ?_
  · intro h i
    rw [bias_cell, zero_bias_cell]
    unfold biasAt
    rw [dif_pos h]
    rfl
  · intro n h acc i _ _
    rw [bias_cell]
    unfold biasAt
    rw [dif_pos h]
    rfl
  · rw [ht, zero_add, hz0]
    simp only [zero_add]

/-- The five points' parts make the sum over all rows. -/
theorem gain_rows (c : Dev nD) (j i : S1x1024.Idx) (h1 : (i 1).val = (j 1).val) :
    ∑ s ∈ Finset.range 5, gainAt V c s j = gainGradOf (V c main_v0_0) (V c main_arg5) i := by
  have hN : cfg1.N = 5 := N_1
  unfold gainGradOf
  rw [rows_by_tile, Finset.sum_range]
  refine Finset.sum_congr rfl fun s _ => ?_
  have hn : s.val < cfg1.N := by have := s.isLt; omega
  unfold gainAt gainPart
  rw [dif_pos hn]
  refine Finset.sum_congr rfl fun k _ => ?_
  refine congrArg₂ (· * ·) (d1_block V c ⟨_, hn⟩ (ix2 k (j 1)) (ix2 (tileRow s k) (i 1)) rfl h1) ?_
  refine (nrm_cell (iblk1 V c 0 ⟨_, hn⟩) (ix2 k (j 1))).trans ?_
  exact congrArg₂ nrm (row1 V c ⟨_, hn⟩ k (tileRow s k) rfl) (Fin.ext h1.symm)

/-- The five points' parts make the sum over all rows. -/
theorem bias_rows (c : Dev nD) (j i : S1x1024.Idx) (h1 : (i 1).val = (j 1).val) :
    ∑ s ∈ Finset.range 5, biasAt V c s j = biasGradOf (V c main_arg5) i := by
  have hN : cfg1.N = 5 := N_1
  unfold biasGradOf
  rw [rows_by_tile, Finset.sum_range]
  refine Finset.sum_congr rfl fun s _ => ?_
  have hn : s.val < cfg1.N := by have := s.isLt; omega
  unfold biasAt biasPart
  rw [dif_pos hn]
  refine Finset.sum_congr rfl fun k _ => ?_
  exact d1_block V c ⟨_, hn⟩ (ix2 k (j 1)) (ix2 (tileRow s k) (i 1)) rfl h1

/-- Every entry of that array lies in the block some grid point writes. -/
theorem cover1_3_all (i : S4160x1024.Idx) : ∃ t : Fin cfg1.N, (cfg1.win 3).flush t = true ∧ i ∈ ((cfg1.win 3).blk t).view.set := by
  have h0 : (i 0 : Nat) < 4160 := (i 0).isLt
  have h1 : (i 1 : Nat) < 1024 := (i 1).isLt
  have hN : cfg1.N = 5 := N_1
  obtain ⟨t, ht⟩ : ∃ t : Fin cfg1.N, t.val = (i 0).val / 832 := ⟨⟨_, by omega⟩, rfl⟩
  refine ⟨t, flush1_3 t, ?_⟩
  show i ∈ ((View.whole main_v1_0).slice (win1_3.rect t)).set
  rw [View.set_slice_whole, Rect.mem_set_unit]
  intro a
  match a with
  | ⟨0, _⟩ =>
    show win1_3.index t 0 * 832 ≤ (i 0 : Nat) ∧ (i 0 : Nat) < win1_3.index t 0 * 832 + 832
    rw [(at1_3 t).1]; omega
  | ⟨1, _⟩ =>
    show win1_3.index t 1 * 1024 ≤ (i 1 : Nat) ∧ (i 1 : Nat) < win1_3.index t 1 * 1024 + 1024
    rw [(at1_3 t).2]; omega

/-- Every entry of that array lies in the block some grid point writes. -/
theorem cover1_4_all (i : S4160x1024.Idx) : ∃ t : Fin cfg1.N, (cfg1.win 4).flush t = true ∧ i ∈ ((cfg1.win 4).blk t).view.set := by
  have h0 : (i 0 : Nat) < 4160 := (i 0).isLt
  have h1 : (i 1 : Nat) < 1024 := (i 1).isLt
  have hN : cfg1.N = 5 := N_1
  obtain ⟨t, ht⟩ : ∃ t : Fin cfg1.N, t.val = (i 0).val / 832 := ⟨⟨_, by omega⟩, rfl⟩
  refine ⟨t, flush1_4 t, ?_⟩
  show i ∈ ((View.whole main_v1_1).slice (win1_4.rect t)).set
  rw [View.set_slice_whole, Rect.mem_set_unit]
  intro a
  match a with
  | ⟨0, _⟩ =>
    show win1_4.index t 0 * 832 ≤ (i 0 : Nat) ∧ (i 0 : Nat) < win1_4.index t 0 * 832 + 832
    rw [(at1_4 t).1]; omega
  | ⟨1, _⟩ =>
    show win1_4.index t 1 * 1024 ≤ (i 1 : Nat) ∧ (i 1 : Nat) < win1_4.index t 1 * 1024 + 1024
    rw [(at1_4 t).2]; omega

/-- Every entry of that array lies in the block the last grid point writes. -/
theorem cover1_5_all (i : S1x1024.Idx) : ∃ t : Fin cfg1.N, (cfg1.win 5).flush t = true ∧ i ∈ ((cfg1.win 5).blk t).view.set := by
  have h0 : (i 0 : Nat) < 1 := (i 0).isLt
  have h1 : (i 1 : Nat) < 1024 := (i 1).isLt
  have hN : cfg1.N = 5 := N_1
  obtain ⟨t, ht⟩ : ∃ t : Fin cfg1.N, t.val = 4 := ⟨⟨_, by omega⟩, rfl⟩
  refine ⟨t, (flush1_5 t).mpr (by omega), ?_⟩
  show i ∈ ((View.whole main_v1_2).slice (win1_5.rect t)).set
  rw [View.set_slice_whole, Rect.mem_set_unit]
  intro a
  match a with
  | ⟨0, _⟩ =>
    show win1_5.index t 0 * 1 ≤ (i 0 : Nat) ∧ (i 0 : Nat) < win1_5.index t 0 * 1 + 1
    rw [(at1_5 t).1]; omega
  | ⟨1, _⟩ =>
    show win1_5.index t 1 * 1024 ≤ (i 1 : Nat) ∧ (i 1 : Nat) < win1_5.index t 1 * 1024 + 1024
    rw [(at1_5 t).2]; omega

/-- Every entry of that array lies in the block the last grid point writes. -/
theorem cover1_6_all (i : S1x1024.Idx) : ∃ t : Fin cfg1.N, (cfg1.win 6).flush t = true ∧ i ∈ ((cfg1.win 6).blk t).view.set := by
  have h0 : (i 0 : Nat) < 1 := (i 0).isLt
  have h1 : (i 1 : Nat) < 1024 := (i 1).isLt
  have hN : cfg1.N = 5 := N_1
  obtain ⟨t, ht⟩ : ∃ t : Fin cfg1.N, t.val = 4 := ⟨⟨_, by omega⟩, rfl⟩
  refine ⟨t, (flush1_6 t).mpr (by omega), ?_⟩
  show i ∈ ((View.whole main_v1_3).slice (win1_6.rect t)).set
  rw [View.set_slice_whole, Rect.mem_set_unit]
  intro a
  match a with
  | ⟨0, _⟩ =>
    show win1_6.index t 0 * 1 ≤ (i 0 : Nat) ∧ (i 0 : Nat) < win1_6.index t 0 * 1 + 1
    rw [(at1_6 t).1]; omega
  | ⟨1, _⟩ =>
    show win1_6.index t 1 * 1024 ≤ (i 1 : Nat) ∧ (i 1 : Nat) < win1_6.index t 1 * 1024 + 1024
    rw [(at1_6 t).2]; omega

/-- The part of the gradient that goes to the residual input, as that kernel leaves it. -/
theorem dres_array (c : Dev nD) : (dat1 V c).arrAt 3 cfg1.N = fun i : S4160x1024.Idx => alpha * gradOf (V c main_v0_0) (V c main_arg5) (V c main_arg3) i := by
  refine (dat1 V c).arrAt_eq_of_cover 3 _ (fun t _ => ?_) cover1_3_all
  show (cfg1.win 3).cut (grid1.coords t) ((dat1 V c).after 3 t) = _
  rw [after1_3, outs3]
  funext j
  rw [View.read_apply]
  have h0 : ((((cfg1.win 3).blk t).view.emb j) 0).val = t.val * 832 + (j 0).val := by
    show win1_3.index t 0 * 832 + 1 * (j 0).val = _; rw [(at1_3 t).1]; omega
  have h1 : ((((cfg1.win 3).blk t).view.emb j) 1).val = (j 1).val := by
    show win1_3.index t 1 * 1024 + 1 * (j 1).val = _; rw [(at1_3 t).2]; omega
  generalize ((cfg1.win 3).blk t).view.emb j = i at h0 h1 ⊢
  exact (scaled_cell _ j).trans (congrArg (alpha * ·) (grad_after V c t j i h0 h1))

/-- The part of the gradient that goes to the layer's output, as that kernel leaves it. -/
theorem dyb_array (c : Dev nD) : (dat1 V c).arrAt 4 cfg1.N = fun i : S4160x1024.Idx => unit * gradOf (V c main_v0_0) (V c main_arg5) (V c main_arg3) i := by
  refine (dat1 V c).arrAt_eq_of_cover 4 _ (fun t _ => ?_) cover1_4_all
  show (cfg1.win 4).cut (grid1.coords t) ((dat1 V c).after 4 t) = _
  rw [after1_4, outs4]
  funext j
  rw [View.read_apply]
  have h0 : ((((cfg1.win 4).blk t).view.emb j) 0).val = t.val * 832 + (j 0).val := by
    show win1_4.index t 0 * 832 + 1 * (j 0).val = _; rw [(at1_4 t).1]; omega
  have h1 : ((((cfg1.win 4).blk t).view.emb j) 1).val = (j 1).val := by
    show win1_4.index t 1 * 1024 + 1 * (j 1).val = _; rw [(at1_4 t).2]; omega
  generalize ((cfg1.win 4).blk t).view.emb j = i at h0 h1 ⊢
  exact (weighed_cell _ j).trans (congrArg (unit * ·) (grad_after V c t j i h0 h1))

/-- The scale's gradient, as that kernel leaves it. -/
theorem gain_array (c : Dev nD) : (dat1 V c).arrAt 5 cfg1.N = gainGradOf (V c main_v0_0) (V c main_arg5) := by
  refine (dat1 V c).arrAt_eq_of_cover 5 _ (fun t hf => ?_) cover1_5_all
  have ht : t.val % 5 = 4 := (flush1_5 t).mp hf
  show (cfg1.win 5).cut (grid1.coords t) ((dat1 V c).after 5 t) = _
  rw [after1_5]
  funext j
  rw [View.read_apply]
  have h1 : ((((cfg1.win 5).blk t).view.emb j) 1).val = (j 1).val := by
    show win1_5.index t 1 * 1024 + 1 * (j 1).val = _; rw [(at1_5 t).2]; omega
  generalize ((cfg1.win 5).blk t).view.emb j = i at h1 ⊢
  exact (gain_sum V c t ht j).trans (gain_rows V c j i h1)

/-- The shift's gradient, as that kernel leaves it. -/
theorem bias_array (c : Dev nD) : (dat1 V c).arrAt 6 cfg1.N = biasGradOf (V c main_arg5) := by
  refine (dat1 V c).arrAt_eq_of_cover 6 _ (fun t hf => ?_) cover1_6_all
  have ht : t.val % 5 = 4 := (flush1_6 t).mp hf
  show (cfg1.win 6).cut (grid1.coords t) ((dat1 V c).after 6 t) = _
  rw [after1_6]
  funext j
  rw [View.read_apply]
  have h1 : ((((cfg1.win 6).blk t).view.emb j) 1).val = (j 1).val := by
    show win1_6.index t 1 * 1024 + 1 * (j 1).val = _; rw [(at1_6 t).2]; omega
  generalize ((cfg1.win 6).blk t).view.emb j = i at h1 ⊢
  exact (bias_sum V c t ht j).trans (bias_rows V c j i h1)

end Cert.MixIdeal.Own

end
-- ==== Proof.MixRef.lean ====
/- The normalization after a mixer and its gradient as written plainly: its arrays, entry by entry, and its run. -/
module

public import proofs.«01_k».proof.Proof.Gen.MixRefIdeal.Run
public import proofs.«01_k».proof.Proof.NormRule
public import proofs.«01_k».proof.Proof.MixBwd
public import Idealize.ShloMosaic.Lib.Pointwise
public import Idealize.ShloMosaic.Lib.Quiescent

@[expose] public section

noncomputable section

namespace Cert.MixRefIdeal.Own

open Idealize.ShloMosaic Idealize.SL.Sem Cert.MixRefIdeal Cert.MixRefIdeal.Gen Cert.MixRefIdeal.Facts
open Cert.FfnIdeal.Own (Mat mul IsReal)
open Cert.NormIdeal.Own (alpha len eps two minusHalf mean cen rs nrm lnorm ve varGrad cenGrad chainGrad grad lnormOf gradOf gainGradOf biasGradOf)
open Cert.MixIdeal.Own (residOf resid unit unit_eq)

def hAlpha : FVec Ideal S_ .f32 := Host.sqrt (Host.sqrt (constant S_ .f32 0x41000000#32))

theorem hAlpha_eq (j : S_.Idx) : hAlpha j = alpha := by
  have h8 : Ideal.ofBits .f32 0x41000000#32 = ((8 : ℝ) : EReal) := by simp [Ideal.ofBits, Ideal.ieee, -EReal.coe_mul]; norm_num
  show Ideal.sqrt (Ideal.sqrt (Ideal.ofBits .f32 0x41000000#32)) = alpha
  rw [h8, Ideal.sqrt_coe, if_neg (by norm_num), Ideal.sqrt_coe, if_neg (not_lt.mpr (Real.sqrt_nonneg _))]
  rfl

def hLen : FVec Ideal S4160x1 .f32 := broadcastInDim S4160x1 ![] bcast_S_S4160x1 (constant S_ .f32 0x44800000#32)
def wide (x : FVec Ideal S4160x1 .f32) : FVec Ideal S4160x1024 .f32 := broadcastInDim S4160x1024 ![0, 1] bcast_S4160x1_S4160x1024_0_1 x
def rowWide (x : FVec Ideal S1x1024 .f32) : FVec Ideal S4160x1024 .f32 := broadcastInDim S4160x1024 ![0, 1] bcast_S1x1024_S4160x1024_0_1 x
def alphaWide : FVec Ideal S4160x1024 .f32 := broadcastInDim S4160x1024 ![] bcast_S_S4160x1024 hAlpha
def rowSum (x : FVec Ideal S4160x1024 .f32) : FVec Ideal S4160 .f32 := Host.reduceAdd x (constant S_ .f32 0x00000000#32) reducesTo_S4160x1024_S4160_d1 h_S_
def colSum (x : FVec Ideal S4160x1024 .f32) : FVec Ideal S1x1024 .f32 :=
  shapeCast _ (Host.reduceAdd x (constant S_ .f32 0x00000000#32) reducesTo_S4160x1024_S1024_d0 h_S_) shapeCasts_S1024_S1x1024

theorem colSum_apply (x : FVec Ideal S4160x1024 .f32) (j : S1x1024.Idx) : colSum x j = ∑ r : Fin 4160, x (ix2 r (j 1)) := by
  pointwise [colSum]

/-! The residual sum and the normalization. -/

def hResid (h : FVec Ideal S4160x1024 .f32) (a : FVec Ideal S4160x1024 .bf16) (w : FVec Ideal S1024x1024 .bf16) : FVec Ideal S4160x1024 .f32 :=
  addf (mulf alphaWide h) (Host.dotGeneral dot_S4160x1024_S1024x1024_S4160x1024_1_0_0_1_n_n none (extf .f32 a bitsLt_bf16_f32) (extf .f32 w bitsLt_bf16_f32))

theorem hResid_eq (h : FVec Ideal S4160x1024 .f32) (a : FVec Ideal S4160x1024 .bf16) (w : FVec Ideal S1024x1024 .bf16) : hResid h a w = residOf h a w := by
  funext j
  unfold residOf resid
  rw [unit_eq, one_mul]
  pointwise [hResid, alphaWide, hAlpha_eq, mul]

def hMean (y : FVec Ideal S4160x1024 .f32) : FVec Ideal S4160x1 .f32 := Host.divf (broadcastInDim S4160x1 ![0] bcast_S4160_S4160x1_0 (rowSum y)) hLen

theorem hMean_apply (y : FVec Ideal S4160x1024 .f32) (j : S4160x1.Idx) : hMean y j = mean (fun k => y (ix2 (j 0) k)) := by
  pointwise [hMean, rowSum, hLen, mean, len]

def hCen (y : FVec Ideal S4160x1024 .f32) : FVec Ideal S4160x1024 .f32 := subf y (wide (hMean y))

theorem hCen_apply (y : FVec Ideal S4160x1024 .f32) (j : S4160x1024.Idx) : hCen y j = cen (fun k => y (ix2 (j 0) k)) (j 1) := by
  pointwise [hCen, wide, hMean_apply, cen]

def hVe (y : FVec Ideal S4160x1024 .f32) : FVec Ideal S4160x1 .f32 :=
  addf (Host.divf (broadcastInDim S4160x1 ![0] bcast_S4160_S4160x1_0 (rowSum (mulf (hCen y) (hCen y)))) hLen)
    (broadcastInDim S4160x1 ![] bcast_S_S4160x1 (constant S_ .f32 0x3727C5AC#32))

theorem hVe_apply (y : FVec Ideal S4160x1024 .f32) (j : S4160x1.Idx) : hVe y j = ve (fun k => y (ix2 (j 0) k)) := by
  pointwise [hVe, rowSum, hLen, hCen_apply, ve, mean, len, eps]

def hRs (y : FVec Ideal S4160x1024 .f32) : FVec Ideal S4160x1 .f32 := Host.rsqrt (hVe y)

theorem hRs_apply (y : FVec Ideal S4160x1024 .f32) (j : S4160x1.Idx) : hRs y j = rs (fun k => y (ix2 (j 0) k)) := by
  show Ideal.rsqrt (hVe y j) = _
  rw [hVe_apply]
  rfl

def hNrm (y : FVec Ideal S4160x1024 .f32) : FVec Ideal S4160x1024 .f32 := mulf (hCen y) (wide (hRs y))

theorem hNrm_apply (y : FVec Ideal S4160x1024 .f32) (j : S4160x1024.Idx) : hNrm y j = nrm (fun k => y (ix2 (j 0) k)) (j 1) := by
  pointwise [hNrm, wide, hCen_apply, hRs_apply, nrm]

def hLn (y : FVec Ideal S4160x1024 .f32) (g b : FVec Ideal S1x1024 .f32) : FVec Ideal S4160x1024 .f32 := addf (mulf (hNrm y) (rowWide g)) (rowWide b)

theorem hLn_eq (y : FVec Ideal S4160x1024 .f32) (g b : FVec Ideal S1x1024 .f32) : hLn y g b = lnormOf y g b := by
  funext j
  pointwise [hLn, rowWide, hNrm_apply, lnormOf, lnorm]

/-! The gradient. -/

def hSame (d : FVec Ideal S4160x1024 .f32) : FVec Ideal S4160x1024 .f32 := shapeCast _ d shapeCasts_S4160x1024_S4160x1024

theorem hSame_eq (d : FVec Ideal S4160x1024 .f32) : hSame d = d := by
  unfold hSame
  exact shapeCast_self ..

def hGain (y d : FVec Ideal S4160x1024 .f32) : FVec Ideal S1x1024 .f32 := colSum (mulf (hNrm y) (hSame d))

theorem hGain_eq (y d : FVec Ideal S4160x1024 .f32) : hGain y d = gainGradOf y d := by
  funext j
  unfold hGain gainGradOf
  rw [hSame_eq, colSum_apply]
  refine Finset.sum_congr rfl fun r _ => ?_
  show hNrm y (ix2 r (j 1)) * d (ix2 r (j 1)) = _
  rw [hNrm_apply]
  exact mul_comm _ _

theorem hBias_eq (d : FVec Ideal S4160x1024 .f32) : colSum d = biasGradOf d := by
  funext j
  exact colSum_apply d j

def column (x : FVec Ideal S4160 .f32) : FVec Ideal S4160x1 .f32 := shapeCast _ x shapeCasts_S4160_S4160x1

def colWide (x : FVec Ideal S4160x1 .f32) : FVec Ideal S4160x1024 .f32 :=
  broadcastInDim S4160x1024 ![0] bcast_S4160_S4160x1024_0 (Host.reduceAdd x (constant S_ .f32 0x00000000#32) reducesTo_S4160x1_S4160_d1 h_S_)

theorem colWide_apply (x : FVec Ideal S4160x1 .f32) (j : S4160x1024.Idx) : colWide x j = x (ix2 (j 0) 0) := by
  pointwise [colWide]
  exact Fin.sum_univ_one _

def hVarGrad (y d : FVec Ideal S4160x1024 .f32) : FVec Ideal S4160x1 .f32 :=
  Host.divf (mulf (column (rowSum (mulf (hCen y) d))) (mulf (broadcastInDim S4160x1 ![] bcast_S_S4160x1 (constant S_ .f32 0xBF000000#32)) (Host.divf (hRs y) (hVe y)))) hLen

theorem hVarGrad_apply (y d : FVec Ideal S4160x1024 .f32) (j : S4160x1.Idx) :
    hVarGrad y d j = varGrad (fun k => y (ix2 (j 0) k)) (fun k => d (ix2 (j 0) k)) := by
  pointwise [hVarGrad, column, rowSum, hCen_apply, hRs_apply, hVe_apply, hLen, varGrad, len, minusHalf]

def hScaled (y d : FVec Ideal S4160x1024 .f32) : FVec Ideal S4160x1024 .f32 := mulf d (wide (hRs y))

def hSquares (y d : FVec Ideal S4160x1024 .f32) : FVec Ideal S4160x1024 .f32 :=
  mulf (colWide (hVarGrad y d)) (mulf (broadcastInDim S4160x1024 ![] bcast_S_S4160x1024 (constant S_ .f32 0x40000000#32)) (hCen y))

theorem hScaled_apply (y d : FVec Ideal S4160x1024 .f32) (j : S4160x1024.Idx) : hScaled y d j = d j * rs (fun k => y (ix2 (j 0) k)) := by
  pointwise [hScaled, wide, hRs_apply]

theorem hSquares_apply (y d : FVec Ideal S4160x1024 .f32) (j : S4160x1024.Idx) :
    hSquares y d j = varGrad (fun k => y (ix2 (j 0) k)) (fun k => d (ix2 (j 0) k)) * (two * cen (fun k => y (ix2 (j 0) k)) (j 1)) := by
  pointwise [hSquares, colWide_apply, hVarGrad_apply, hCen_apply, two]

def hChain (y d : FVec Ideal S4160x1024 .f32) : FVec Ideal S4160x1024 .f32 :=
  addf (addf (hScaled y d) (hSquares y d))
    (colWide (Host.divf (addf (column (rowSum (Host.negf (hScaled y d)))) (column (rowSum (Host.negf (hSquares y d))))) hLen))

theorem hChain_apply (y d : FVec Ideal S4160x1024 .f32) (j : S4160x1024.Idx) :
    hChain y d j = chainGrad (fun k => y (ix2 (j 0) k)) (fun k => d (ix2 (j 0) k)) (j 1) := by
  pointwise [hChain, colWide_apply, column, rowSum, hScaled_apply, hSquares_apply, hLen, chainGrad, cenGrad, len]

def hGrad (y d : FVec Ideal S4160x1024 .f32) (g : FVec Ideal S1x1024 .f32) : FVec Ideal S4160x1024 .f32 := hChain y (mulf (hSame d) (rowWide g))

theorem hGrad_apply (y d : FVec Ideal S4160x1024 .f32) (g : FVec Ideal S1x1024 .f32) (j : S4160x1024.Idx) :
    hGrad y d g j = chainGrad (fun k => y (ix2 (j 0) k)) (fun k => d (ix2 (j 0) k) * g (ix2 0 k)) (j 1) := by
  unfold hGrad
  rw [hSame_eq, hChain_apply]
  refine congrArg (fun r => chainGrad _ r (j 1)) (funext fun k => ?_)
  pointwise [rowWide]

/-- For a real gain and a real incoming gradient, the gradient as the chain rule writes it is the kernel's. -/
theorem hGrad_eq (y d : FVec Ideal S4160x1024 .f32) (g : FVec Ideal S1x1024 .f32) (hd : ∀ i, IsReal (d i)) (hg : ∀ i, IsReal (g i)) :
    hGrad y d g = gradOf y d g := by
  funext j
  rw [hGrad_apply]
  exact Cert.NormIdeal.Own.chain_rule _ _ (fun k => (hd _).mul (hg _)) (j 1)

def hDres (G : FVec Ideal S4160x1024 .f32) : FVec Ideal S4160x1024 .f32 := mulf alphaWide G
def hDyb (G : FVec Ideal S4160x1024 .f32) : FVec Ideal S4160x1024 .bf16 := truncf .bf16 G bitsLt_bf16_f32
def hLow (o : FVec Ideal S4160x1024 .f32) : FVec Ideal S4160x1024 .bf16 := truncf .bf16 o bitsLt_bf16_f32

theorem hDres_eq (G : FVec Ideal S4160x1024 .f32) : hDres G = fun i => alpha * G i := by
  funext j
  pointwise [hDres, alphaWide, hAlpha_eq]

theorem hDyb_eq (G : FVec Ideal S4160x1024 .f32) : (hDyb G : Mat 4160 1024) = fun i => unit * G i := by
  funext j
  rw [unit_eq, one_mul]
  rfl

theorem hLow_eq (o : FVec Ideal S4160x1024 .f32) : (hLow o : Mat 4160 1024) = o := rfl

variable (m : (ℓ : Loc nD τ Cert.MixRefIdeal.sig) → Buf (Elt Ideal) ℓ) (ρ : Dev nD → PrngReg)

abbrev rA (c : Dev nD) : Mat 4160 1024 := m ((c.tc : Thread nD τ).loc main_arg0)
abbrev rW (c : Dev nD) : Mat 1024 1024 := m ((c.tc : Thread nD τ).loc main_arg1)
abbrev rH (c : Dev nD) : Mat 4160 1024 := m ((c.tc : Thread nD τ).loc main_arg2)
abbrev rG (c : Dev nD) : Mat 1 1024 := m ((c.tc : Thread nD τ).loc main_arg3)
abbrev rB (c : Dev nD) : Mat 1 1024 := m ((c.tc : Thread nD τ).loc main_arg4)
abbrev rD (c : Dev nD) : Mat 4160 1024 := m ((c.tc : Thread nD τ).loc main_arg5)

set_option maxRecDepth 8192 in
/-- The reference's run: its six results as named arrays. -/
theorem run_named :
    θ_run defs (onTc (τ := τ) (main (F := Ideal))) ⟨m, fun _ => 0, ρ⟩ fun r => ∀ c : Dev nD,
      r.2.mem ((c.tc : Thread nD τ).loc main_v34) = hLn (hResid (rH m c) (rA m c) (rW m c)) (rG m c) (rB m c)
      ∧ r.2.mem ((c.tc : Thread nD τ).loc main_v69) = hLow (hLn (hResid (rH m c) (rA m c) (rW m c)) (rG m c) (rB m c))
      ∧ r.2.mem ((c.tc : Thread nD τ).loc main_v68) = hDres (hGrad (hResid (rH m c) (rA m c) (rW m c)) (rD m c) (rG m c))
      ∧ r.2.mem ((c.tc : Thread nD τ).loc main_v70) = hDyb (hGrad (hResid (rH m c) (rA m c) (rW m c)) (rD m c) (rG m c))
      ∧ r.2.mem ((c.tc : Thread nD τ).loc main_v40) = hGain (hResid (rH m c) (rA m c) (rW m c)) (rD m c)
      ∧ r.2.mem ((c.tc : Thread nD τ).loc main_v37) = colSum (rD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.MixRefIdeal.Value.run (F := Ideal) m ρ

/-- The reference's run with its counters: the program names none. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2.2.2.2.2, sem_eq_zero_of_no_sems rfl r.2⟩) (Cert.MixRefIdeal.Value.run (F := Ideal) m ρ)

end Cert.MixRefIdeal.Own

end
-- ==== Proof.MixPre.lean ====
/- What the precondition of the gradient of the normalization after a mixer says: every entry of the gain and of the incoming gradient is a real number. -/
module

public import proofs.«01_k».proof.Pre_finite_mix
public import proofs.«01_k».proof.Proof.FfnPre

@[expose] public section

noncomputable section

namespace Cert.Pre_finite_mix.Own

open Idealize.ShloMosaic Cert.Pre_finite_mix
open Cert.FfnIdeal.Own (IsReal)
open Cert.Pre_finite.Own (and_ones all_real)

/-- The shape relations the precondition's operations take. -/
instance facts : Cert.Pre_finite_mix.Facts where
  bcast_S_S1x1024 := by decide
  reducesTo_S1x1024_S_d0_1 := by decide
  h_S_ := by decide
  bcast_S_S4160x1024 := by decide
  reducesTo_S4160x1024_S_d0_1 := by decide

theorem reals (a : FVec Ideal S4160x1024 .bf16) (w : FVec Ideal S1024x1024 .bf16) (h : FVec Ideal S4160x1024 .f32) (g b : FVec Ideal S1x1024 .f32)
    (d : FVec Ideal S4160x1024 .f32) (hp : fn (F := Ideal) a w h g b d = fun _ => 1#1) :
    (∀ i, IsReal (g i)) ∧ (∀ i, IsReal (d i)) := by
  have j : S_.Idx := fun k => k.elim0
  obtain ⟨hg, hd⟩ := and_ones _ _ (congrFun hp j)
  exact ⟨all_real _ _ _ _ j hg, all_real _ _ _ _ j hd⟩

end Cert.Pre_finite_mix.Own

end
-- ==== Proof.MixRun.lean ====
/- One run of the program of the normalization after a mixer over any floats, and what its memory holds at the end. -/
module

public import proofs.«01_k».proof.Proof.Gen.MixIdeal.Frame

@[expose] public section

set_option maxRecDepth 16384

noncomputable section

namespace Cert.MixIdeal.Own

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program run from any memory with its counters at zero: the six result arrays end at what the last of the two
    kernels' boundaries holds of them, and the arguments end as launched. -/
theorem run : θ_run defs (onTc (τ := τ) (main (F := F))) ⟨m, fun _ => 0, ρ⟩ (fun r => ∀ c : Dev nD,
      r.2.mem ((c.tc : Thread nD τ).loc main_v0_1) = W2 m ρ c main_v0_1
      ∧ r.2.mem ((c.tc : Thread nD τ).loc main_v0_2) = W2 m ρ c main_v0_2
      ∧ r.2.mem ((c.tc : Thread nD τ).loc main_v1_0) = W2 m ρ c main_v1_0
      ∧ r.2.mem ((c.tc : Thread nD τ).loc main_v1_1) = W2 m ρ c main_v1_1
      ∧ r.2.mem ((c.tc : Thread nD τ).loc main_v1_2) = W2 m ρ c main_v1_2
      ∧ r.2.mem ((c.tc : Thread nD τ).loc main_v1_3) = W2 m ρ c main_v1_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => fun c =>
      ⟨h c _ (mem_uc main_v0_1 (by decide)),
       h c _ (mem_uc main_v0_2 (by decide)),
       h c _ (mem_uc main_v1_0 (by decide)),
       h c _ (mem_uc main_v1_1 (by decide)),
       h c _ (mem_uc main_v1_2 (by decide)),
       h c _ (mem_uc main_v1_3 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Cert.MixIdeal.Own

end
-- ==== Proof.MixEq.lean ====
/- The program of the normalization after a mixer computes what the plainly written normalization and its gradient compute. -/
module

public import proofs.«01_k».proof.Defs
public import proofs.«01_k».proof.Proof.MixFwd
public import proofs.«01_k».proof.Proof.MixRef
public import proofs.«01_k».proof.Proof.MixPre
public import proofs.«01_k».proof.Proof.MixRun

@[expose] public section

noncomputable section

namespace Cert.MixIdeal.Own

open Idealize.ShloMosaic Idealize.ShloMosaic.TcCoe Idealize.SL.Sem Cert.MixIdeal Cert.MixIdeal.Gen
open Cert.FfnIdeal.Own (Mat mul IsReal)
open Cert.NormIdeal.Own (alpha lnormOf gradOf gainGradOf biasGradOf)

section
variable (m : (ℓ : Loc nD τ Cert.MixIdeal.sig) → Buf (Elt Ideal) ℓ) (ρ : Dev nD → PrngReg) (c : Dev nD)

abbrev aA : Mat 4160 1024 := m ((c.tc : Thread nD τ).loc main_arg0)
abbrev aW : Mat 1024 1024 := m ((c.tc : Thread nD τ).loc main_arg1)
abbrev aH : Mat 4160 1024 := m ((c.tc : Thread nD τ).loc main_arg2)
abbrev aG : Mat 1 1024 := m ((c.tc : Thread nD τ).loc main_arg3)
abbrev aB : Mat 1 1024 := m ((c.tc : Thread nD τ).loc main_arg4)
abbrev aD : Mat 4160 1024 := m ((c.tc : Thread nD τ).loc main_arg5)

/-- The residual sum. -/
abbrev yA : Mat 4160 1024 := residOf (aH m c) (aA m c) (aW m c)

theorem y_at1 : (W1 m ρ c main_v0_0 : Mat 4160 1024) = yA m c :=
  (W1_arr m ρ c 5).trans (y_array (V0 m ρ) c)

/-- The normalization at the end of the run. -/
theorem o_end : (W2 m ρ c main_v0_1 : Mat 4160 1024) = lnormOf (yA m c) (aG m c) (aB m c) :=
  (W2_of m ρ c main_v0_1 (by decide)).trans ((W1_arr m ρ c 6).trans (o_array (V0 m ρ) c))

/-- The normalization's copy in the shorter format at the end of the run. -/
theorem ob_end : (W2 m ρ c main_v0_2 : Mat 4160 1024) = lnormOf (yA m c) (aG m c) (aB m c) :=
  (W2_of m ρ c main_v0_2 (by decide)).trans ((W1_arr m ρ c 7).trans (ob_array (V0 m ρ) c))

/-- The gradient of the residual stream at the end of the run. -/
theorem dres_end : (W2 m ρ c main_v1_0 : Mat 4160 1024) = fun i => alpha * gradOf (yA m c) (aD m c) (aG m c) i := by
  refine (W2_arr m ρ c 3).trans ((dres_array (V1 m ρ) c).trans ?_)
  rw [show V1 m ρ c main_v0_0 = _ from y_at1 m ρ c, show V1 m ρ c main_arg5 = _ from W1_args m ρ c main_arg5 (by decide),
    show V1 m ρ c main_arg3 = _ from W1_args m ρ c main_arg3 (by decide)]

/-- The gradient of the product at the end of the run. -/
theorem dyb_end : (W2 m ρ c main_v1_1 : Mat 4160 1024) = fun i => unit * gradOf (yA m c) (aD m c) (aG m c) i := by
  refine (W2_arr m ρ c 4).trans ((dyb_array (V1 m ρ) c).trans ?_)
  rw [show V1 m ρ c main_v0_0 = _ from y_at1 m ρ c, show V1 m ρ c main_arg5 = _ from W1_args m ρ c main_arg5 (by decide),
    show V1 m ρ c main_arg3 = _ from W1_args m ρ c main_arg3 (by decide)]

/-- The gain's gradient at the end of the run. -/
theorem gain_end : (W2 m ρ c main_v1_2 : Mat 1 1024) = gainGradOf (yA m c) (aD m c) := by
  refine (W2_arr m ρ c 5).trans ((gain_array (V1 m ρ) c).trans ?_)
  rw [show V1 m ρ c main_v0_0 = _ from y_at1 m ρ c, show V1 m ρ c main_arg5 = _ from W1_args m ρ c main_arg5 (by decide)]

/-- The bias's gradient at the end of the run. -/
theorem bias_end : (W2 m ρ c main_v1_3 : Mat 1 1024) = biasGradOf (aD m c) := by
  refine (W2_arr m ρ c 6).trans ((bias_array (V1 m ρ) c).trans ?_)
  rw [show V1 m ρ c main_arg5 = _ from W1_args m ρ c main_arg5 (by decide)]

end

open Cert.MixRefIdeal.Own in
theorem algebraic : Cert.algebraic_MixIdeal_MixRefIdeal_pre_finite_mix (hMixIdeal := Cert.MixIdeal.Gen.facts)
    (hMixRefIdeal := Cert.MixRefIdeal.Gen.facts) (hPre_finite_mix := Cert.Pre_finite_mix.Own.facts) := by
  intro m ρ m' ρ' hpre hargs
  refine ⟨fun c => W2 m ρ c _, fun c => W2 m ρ c _, fun c => W2 m ρ c _, fun c => W2 m ρ c _, fun c => W2 m ρ c _, fun c => W2 m ρ c _, run m ρ, ?_⟩
  refine (θ_run Cert.MixRefIdeal.defs _ _).mono (fun s h c => ?_) (run_named m' ρ')
  obtain ⟨e0, e1, e2, e3, e4, e5, k⟩ := h c
  obtain ⟨a0, a1, a2, a3, a4, a5⟩ := hargs c
  obtain ⟨hg, hd⟩ := Cert.Pre_finite_mix.Own.reals _ _ _ _ _ _ (hpre c)
  have b0 : rA m' c = aA m c := a0
  have b1 : rW m' c = aW m c := a1
  have b2 : rH m' c = aH m c := a2
  have b3 : rG m' c = aG m c := a3
  have b4 : rB m' c = aB m c := a4
  have b5 : rD m' c = aD m c := a5
  rw [b0, b1, b2, b3, b4, hResid_eq, hLn_eq] at e0
  rw [b0, b1, b2, b3, b4, hResid_eq, hLn_eq] at e1
  rw [b0, b1, b2, b3, b5, hResid_eq, hGrad_eq _ _ _ hd hg, hDres_eq] at e2
  rw [b0, b1, b2, b3, b5, hResid_eq, hGrad_eq _ _ _ hd hg] at e3
  rw [b0, b1, b2, b5, hResid_eq, hGain_eq] at e4
  rw [b5, hBias_eq] at e5
  exact ⟨e0.trans (o_end m ρ c).symm, (e1.trans (hLow_eq _)).trans (ob_end m ρ c).symm, e2.trans (dres_end m ρ c).symm,
    (e3.trans (hDyb_eq _)).trans (dyb_end m ρ c).symm, e4.trans (gain_end m ρ c).symm, e5.trans (bias_end m ρ c).symm, k⟩

end Cert.MixIdeal.Own

end
-- ==== Proof.lean ====
/- The claims of the certificate, put together from the modules under Proof/. -/
module

public import proofs.«01_k».proof.Defs
public import proofs.«01_k».proof.Proof.Gen.Kernel
public import proofs.«01_k».proof.Proof.Gen.KernelIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.KernelRun
public import proofs.«01_k».proof.Proof.SameText
public import proofs.«01_k».proof.Proof.FfnEq
public import proofs.«01_k».proof.Proof.NormEq
public import proofs.«01_k».proof.Proof.ProjEq
public import proofs.«01_k».proof.Proof.MixEq

@[expose] public section

noncomputable section

namespace Cert.Proof

open Idealize.ShloMosaic Idealize.SL.Sem

/-- What a run of the recurrence's program ends with, the results forgotten. -/
theorem args_of_ends {F : FTy → Type} [FloatOps F] {m : (ℓ : Loc Cert.KernelIdeal.nD Cert.KernelIdeal.τ Cert.KernelIdeal.sig) → Buf (Elt F) ℓ}
    {s : MemSt Cert.KernelIdeal.nD Cert.KernelIdeal.τ Cert.KernelIdeal.sig (Elt F)} {c : Dev Cert.KernelIdeal.nD}
    (h : Cert.KernelIdeal.Own.EndsAt m s c) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ s.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ s.mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ s.mem ((c.tc : Thread Cert.KernelIdeal.nD Cert.KernelIdeal.τ).loc Cert.KernelIdeal.main_arg7) = m ((c.tc : Thread Cert.KernelIdeal.nD Cert.KernelIdeal.τ).loc Cert.KernelIdeal.main_arg7) := by
  unfold Cert.KernelIdeal.Own.EndsAt at h
  obtain ⟨h0, h1, h2, h3, h4, h5, h6, h7, -⟩ := h
  exact ⟨h0, h1, h2, h3, h4, h5, h6, h7⟩

/-- The recurrence's program runs, at machine floats: both prints have the same text. -/
theorem frame_kernel : Cert.quiescent_Kernel (hKernel := Cert.Kernel.Gen.facts) :=
  frame_same.mp fun m ρ _ =>
    (θ_run Cert.KernelIdeal.defs _ _).mono (fun _ h => ⟨fun c => args_of_ends (h.1 c), h.2⟩) (Cert.KernelIdeal.Own.run_main (F := Bits) m ρ)

/-- The recurrence's program runs, over the reals. -/
theorem frame_kernelIdeal : Cert.quiescent_KernelIdeal (hKernelIdeal := Cert.KernelIdeal.Gen.facts) := fun m ρ _ =>
  (θ_run Cert.KernelIdeal.defs _ _).mono (fun _ h => ⟨fun c => args_of_ends (h.1 c), h.2⟩) (Cert.KernelIdeal.Own.run_main (F := Ideal) m ρ)

/-- Every claim of the certificate. -/
theorem claim : Cert.Claim :=
  ⟨Cert.Kernel.Gen.facts, Cert.KernelIdeal.Gen.facts, Cert.Ffn.Gen.facts, Cert.FfnIdeal.Gen.facts, Cert.FfnRefIdeal.Gen.facts,
    Cert.Norm.Gen.facts, Cert.NormIdeal.Gen.facts, Cert.NormRefIdeal.Gen.facts,
    Cert.Proj.Gen.facts, Cert.ProjIdeal.Gen.facts, Cert.ProjRefIdeal.Gen.facts, Cert.Mix.Gen.facts, Cert.MixIdeal.Gen.facts, Cert.MixRefIdeal.Gen.facts,
    Cert.Pre_finite.Own.facts, Cert.Pre_finite_norm.Own.facts, Cert.Pre_finite_mix.Own.facts,
    frame_kernel, frame_kernelIdeal, fun m ρ _ => Cert.Ffn.Gen.frame m ρ, fun m ρ _ => Cert.FfnIdeal.Gen.frame m ρ,
    fun m ρ _ => Cert.FfnIdeal.Gen.frame m ρ, fun m ρ _ => Cert.FfnRefIdeal.Own.frame m ρ, fun m ρ _ => Cert.FfnRefIdeal.Own.frame m ρ,
    fun m ρ _ => Cert.Norm.Gen.frame m ρ, fun m ρ _ => Cert.NormIdeal.Gen.frame m ρ, fun m ρ _ => Cert.NormIdeal.Gen.frame m ρ,
    fun m ρ _ => Cert.NormRefIdeal.Own.frame m ρ, fun m ρ _ => Cert.NormRefIdeal.Own.frame m ρ,
    fun m ρ _ => Cert.Proj.Gen.frame m ρ, fun m ρ _ => Cert.ProjIdeal.Gen.frame m ρ, fun m ρ _ => Cert.ProjRefIdeal.Own.frame m ρ,
    fun m ρ _ => Cert.Mix.Gen.frame m ρ, fun m ρ _ => Cert.MixIdeal.Gen.frame m ρ, fun m ρ _ => Cert.MixIdeal.Gen.frame m ρ,
    fun m ρ _ => Cert.MixRefIdeal.Own.frame m ρ, fun m ρ _ => Cert.MixRefIdeal.Own.frame m ρ,
    trivial, trivial, Cert.FfnIdeal.Own.algebraic, IdealRules.named_const.statement _ _ _ _ _ rfl, Cert.NormIdeal.Own.algebraic,
    trivial, Cert.ProjIdeal.Own.algebraic, IdealRules.named_const.statement _ _ _ _ _ rfl, Cert.MixIdeal.Own.algebraic⟩

end Cert.Proof

end
